-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def preserves_Kernel_KernelIdeal : Prop :=
  IdealRules.named_const.Statement Cert.KernelIdeal.κ "log_zero" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "no_weight" .f32 0xF149F2CA#32 ⊥

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v0_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v0_0) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v75) = v0 c
          ∧ r.2.mem ((c.tc : Thread Cert.Reference17Ideal.nD Cert.Reference17Ideal.τ).loc Cert.Reference17Ideal.main_v74) = v1 c
          ∧ r.2.mem ((c.tc : Thread Cert.Reference17Ideal.nD Cert.Reference17Ideal.τ).loc Cert.Reference17Ideal.main_v73) = v2 c
          ∧ r.2.mem ((c.tc : Thread Cert.Reference17Ideal.nD Cert.Reference17Ideal.τ).loc Cert.Reference17Ideal.main_v48) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v10) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)) (v4 : (c : Dev Cert.Kernel30Ideal.nD) → Buf (Elt Ideal) ((c.tc : Thread Cert.Kernel30Ideal.nD Cert.Kernel30Ideal.τ).loc Cert.Kernel30Ideal.main_v0_4)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_v0_4) = v4 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v37) = v0 c
          ∧ r.2.mem ((c.tc : Thread Cert.Reference30Ideal.nD Cert.Reference30Ideal.τ).loc Cert.Reference30Ideal.main_v38) = v1 c
          ∧ r.2.mem ((c.tc : Thread Cert.Reference30Ideal.nD Cert.Reference30Ideal.τ).loc Cert.Reference30Ideal.main_v39) = v2 c
          ∧ r.2.mem ((c.tc : Thread Cert.Reference30Ideal.nD Cert.Reference30Ideal.τ).loc Cert.Reference30Ideal.main_v40) = v3 c
          ∧ r.2.mem ((c.tc : Thread Cert.Reference30Ideal.nD Cert.Reference30Ideal.τ).loc Cert.Reference30Ideal.main_v41) = v4 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8192x512 : Shape := ⟨2, ![8192, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)

variable [Facts]

def fn {F : FTy → Type} [FloatOps F] (main_arg0 : FVec F S8192x512 .bf16) (main_arg1 : FVec F S8192x512 .bf16) (main_arg2 : FVec F S8192x512 .bf16) (main_arg3 : FVec F S8192x512 .bf16) : IVec S8192x512 1 × IVec S8192x512 1 × IVec S8192x512 1 × IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  (main_v3, main_v7, main_v11, main_v15)
-- ==== Pre_finite17.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S8192x1024 .bf16) (main_arg2 : FVec F S8192x512 .bf16) (main_arg3 : FVec F S8192x512 .bf16) : IVec S8192x1024 1 × IVec S8192x1024 1 × IVec S8192x512 1 × IVec S8192x512 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  (main_v3, main_v7, main_v11, main_v15)
-- ==== Kernel.lean ====
abbrev S8192x512 : Shape := ⟨2, ![8192, 512]⟩
abbrev S256x256 : Shape := ⟨2, ![256, 256]⟩
abbrev S128x512 : Shape := ⟨2, ![128, 512]⟩
abbrev S512x128 : Shape := ⟨2, ![512, 128]⟩
abbrev S8192x128 : Shape := ⟨2, ![8192, 128]⟩
abbrev S8x128 : Shape := ⟨2, ![8, 128]⟩
abbrev S512x1 : Shape := ⟨2, ![512, 1]⟩
abbrev S256x128 : Shape := ⟨2, ![256, 128]⟩
abbrev S512x256 : Shape := ⟨2, ![512, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 22
  | .vmem => 33
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S8192x512, .f32⟩
  | .hbm, ⟨9, _⟩ => ⟨S8192x512, .f32⟩
  | .hbm, ⟨10, _⟩ => ⟨S128x512, .f32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .bf16⟩
  | .hbm, ⟨19, _⟩ => ⟨S8192x512, .f32⟩
  | .hbm, ⟨20, _⟩ => ⟨S8192x512, .f32⟩
  | .hbm, ⟨21, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x128, .f32⟩
  | .local _ .vmem, ⟨12, _⟩ => ⟨S8x128, .f32⟩
  | .local _ .vmem, ⟨13, _⟩ => ⟨S512x128, .bf16⟩
  | .local _ .vmem, ⟨14, _⟩ => ⟨S512x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S512x128, .f32⟩
  | .local _ .vmem, ⟨20, _⟩ => ⟨S512x128, .f32⟩
  | .local _ .vmem, ⟨21, _⟩ => ⟨S8x128, .f32⟩
  | .local _ .vmem, ⟨22, _⟩ => ⟨S8x128, .f32⟩
  | .local _ .vmem, ⟨23, _⟩ => ⟨S512x128, .bf16⟩
  | .local _ .vmem, ⟨24, _⟩ => ⟨S512x128, .bf16⟩
  | .local _ .vmem, ⟨25, _⟩ => ⟨S256x256, .bf16⟩
  | .local _ .vmem, ⟨26, _⟩ => ⟨S256x256, .bf16⟩
  | .local _ .vmem, ⟨27, _⟩ => ⟨S512x128, .f32⟩
  | .local _ .vmem, ⟨28, _⟩ => ⟨S512x128, .f32⟩
  | .local _ .vmem, ⟨29, _⟩ => ⟨S8192x128, .f32⟩
  | .local _ .vmem, ⟨30, _⟩ => ⟨S8192x128, .f32⟩
  | .local _ .vmem, ⟨31, _⟩ => ⟨S8192x128, .f32⟩
  | .local _ .vmem, ⟨32, _⟩ => ⟨S8192x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  let c256_i32 : BitVec 32 := 256#32
  let v6 : BitVec 32 := Scalar.addi v5 c256_i32
  v6
def k0_off1 (i : grid0.Coords) (c256_i32 : BitVec 32) : Fin 2 → Nat :=
  let arg1 : BitVec 32 := BitVec.ofNat 32 (i 1).val
  let c512_i32 : BitVec 32 := 512#32
  let v5 : BitVec 32 := Scalar.muli arg1 c512_i32
  let v6 : BitVec 32 := Scalar.addi v5 c256_i32
  let v7 : BitVec 32 := v6
  let v8 : Index := Scalar.indexCast v7
  let c0_4 : Index := 0#32
  ![v8.toNat, 0]
def k0_mult2 (i : grid0.Coords) : BitVec 32 :=
  let arg1 : BitVec 32 := BitVec.ofNat 32 (i 1).val
  let c512_i32_20 : BitVec 32 := 512#32
  let v59 : BitVec 32 := Scalar.muli arg1 c512_i32_20
  let c0_i32 : BitVec 32 := 0#32
  let v60 : BitVec 32 := Scalar.addi v59 c0_i32
  v60
def k0_mult3 (i : grid0.Coords) (arg9 : BitVec 32) : BitVec 32 :=
  let arg1 : BitVec 32 := BitVec.ofNat 32 (i 1).val
  let c2_i32 : BitVec 32 := 2#32
  let v113 : BitVec 32 := Scalar.muli arg1 c2_i32
  let c1_i32 : BitVec 32 := 1#32
  let v122 : BitVec 32 := Scalar.subi v113 c1_i32
  let v123 : BitVec 32 := Scalar.subi v122 arg9
  let c256_i32_44 : BitVec 32 := 256#32
  let v124 : BitVec 32 := Scalar.muli v123 c256_i32_44
  v124

def k0_off2 (i : grid0.Coords) (arg9 : BitVec 32) : Fin 2 → Nat :=
  let arg1 : BitVec 32 := BitVec.ofNat 32 (i 1).val
  let c2_i32 : BitVec 32 := 2#32
  let v113 : BitVec 32 := Scalar.muli arg1 c2_i32
  let c1_i32 : BitVec 32 := 1#32
  let v122 : BitVec 32 := Scalar.subi v113 c1_i32
  let v123 : BitVec 32 := Scalar.subi v122 arg9
  let c256_i32_44 : BitVec 32 := 256#32
  let v124 : BitVec 32 := Scalar.muli v123 c256_i32_44
  let v125 : BitVec 32 := v124
  let v126 : Index := Scalar.indexCast v125
  let c0_45 : Index := 0#32
  ![v126.toNat, 0]

def k0_chk1 (i : grid0.Coords) (arg9 : BitVec 32) : Prop :=
  (256 ∣ (k0_mult3 i arg9).toNat) ∧
  (∀ a, (k0_off2 i arg9) a + S256x128.size a ≤ S8192x128.size a)
theorem k0_mult3_dvd : ∀ (i : grid0.Coords) (arg9 : BitVec 32) (k0_hw1 : k0_chk1 i arg9), 256 ∣ (k0_mult3 i arg9).toNat := fun i arg9 k0_hw1 => k0_hw1.1
theorem k0_off2_inb : ∀ (i : grid0.Coords) (arg9 : BitVec 32) (k0_hw1 : k0_chk1 i arg9), ∀ a, (k0_off2 i arg9) a + S256x128.size a ≤ S8192x128.size a := fun i arg9 k0_hw1 => k0_hw1.2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 16], ![false, false]⟩

@[reducible] def k1_t1_loop (i : grid1.Coords) (v19 : BitVec 32) : Scf.Loop 32 :=
  let arg1 : BitVec 32 := BitVec.ofNat 32 (i 1).val
  let c2_i32 : BitVec 32 := 2#32
  let v12 : BitVec 32 := Scalar.muli arg1 c2_i32
  let v20 : BitVec 32 := Scalar.subi v12 v19
  let c2_i32_13 : BitVec 32 := 2#32
  let v21 : BitVec 32 := Scalar.muli arg1 c2_i32_13
  let v23 : BitVec 32 := Scalar.subi v21 v20
  let c1_i32 : BitVec 32 := 1#32
  let v25 : BitVec 32 := Scalar.divsi v23 c1_i32
  let v26 : BitVec 32 := Scalar.muli v25 c1_i32
  let v27 : BitVec 32 := Scalar.addi v20 v26
  let c1_i32_15 : BitVec 32 := 1#32
  ⟨v20, v27, c1_i32_15⟩

def k1_mult1 (i : grid1.Coords) (v19 : BitVec 32) (k1_t1 : Fin (k1_t1_loop i v19).trips) : BitVec 32 :=
  let arg1 : BitVec 32 := BitVec.ofNat 32 (i 1).val
  let c2_i32 : BitVec 32 := 2#32
  let v12 : BitVec 32 := Scalar.muli arg1 c2_i32
  let v20 : BitVec 32 := Scalar.subi v12 v19
  let c1_i32_15 : BitVec 32 := 1#32
  let arg13 : BitVec 32 := Scf.iv v20 c1_i32_15 k1_t1
  let c256_i32_83 : BitVec 32 := 256#32
  let v225 : BitVec 32 := Scalar.muli arg13 c256_i32_83
  v225
def k1_off1 (i : grid1.Coords) (v19 : BitVec 32) (k1_t1 : Fin (k1_t1_loop i v19).trips) : Fin 2 → Nat :=
  let arg1 : BitVec 32 := BitVec.ofNat 32 (i 1).val
  let c2_i32 : BitVec 32 := 2#32
  let v12 : BitVec 32 := Scalar.muli arg1 c2_i32
  let v20 : BitVec 32 := Scalar.subi v12 v19
  let c1_i32_15 : BitVec 32 := 1#32
  let arg13 : BitVec 32 := Scf.iv v20 c1_i32_15 k1_t1
  let c256_i32_83 : BitVec 32 := 256#32
  let v225 : BitVec 32 := Scalar.muli arg13 c256_i32_83
  let v226 : BitVec 32 := v225
  let v227 : Index := Scalar.indexCast v226
  let c0_84 : Index := 0#32
  ![v227.toNat, 0]
@[reducible] def k1_t2_loop (i : grid1.Coords) (v19 : BitVec 32) : Scf.Loop 32 :=
  let arg1 : BitVec 32 := BitVec.ofNat 32 (i 1).val
  let c2_i32 : BitVec 32 := 2#32
  let v12 : BitVec 32 := Scalar.muli arg1 c2_i32
  let v20 : BitVec 32 := Scalar.subi v12 v19
  let c2_i32_13 : BitVec 32 := 2#32
  let v21 : BitVec 32 := Scalar.muli arg1 c2_i32_13
  let v23 : BitVec 32 := Scalar.subi v21 v20
  let c1_i32 : BitVec 32 := 1#32
  let v25 : BitVec 32 := Scalar.divsi v23 c1_i32
  let v26 : BitVec 32 := Scalar.muli v25 c1_i32
  let v27 : BitVec 32 := Scalar.addi v20 v26
  let v24 : BitVec 32 := Scalar.addi v20 v23
  let c1_i32_16 : BitVec 32 := 1#32
  ⟨v27, v24, c1_i32_16⟩
def k1_mult2 (i : grid1.Coords) (v19 : BitVec 32) (k1_t2 : Fin (k1_t2_loop i v19).trips) : BitVec 32 :=
  let arg1 : BitVec 32 := BitVec.ofNat 32 (i 1).val
  let c2_i32 : BitVec 32 := 2#32
  let v12 : BitVec 32 := Scalar.muli arg1 c2_i32
  let v20 : BitVec 32 := Scalar.subi v12 v19
  let c2_i32_13 : BitVec 32 := 2#32
  let v21 : BitVec 32 := Scalar.muli arg1 c2_i32_13
  let v23 : BitVec 32 := Scalar.subi v21 v20
  let c1_i32 : BitVec 32 := 1#32
  let v25 : BitVec 32 := Scalar.divsi v23 c1_i32
  let v26 : BitVec 32 := Scalar.muli v25 c1_i32
  let v27 : BitVec 32 := Scalar.addi v20 v26
  let c1_i32_16 : BitVec 32 := 1#32
  let arg13 : BitVec 32 := Scf.iv v27 c1_i32_16 k1_t2
  let c256_i32_83 : BitVec 32 := 256#32
  let v225 : BitVec 32 := Scalar.muli arg13 c256_i32_83
  v225
def k1_off2 (i : grid1.Coords) (v19 : BitVec 32) (k1_t2 : Fin (k1_t2_loop i v19).trips) : Fin 2 → Nat :=
  let arg1 : BitVec 32 := BitVec.ofNat 32 (i 1).val
  let c2_i32 : BitVec 32 := 2#32
  let v12 : BitVec 32 := Scalar.muli arg1 c2_i32
  let v20 : BitVec 32 := Scalar.subi v12 v19
  let c2_i32_13 : BitVec 32 := 2#32
  let v21 : BitVec 32 := Scalar.muli arg1 c2_i32_13
  let v23 : BitVec 32 := Scalar.subi v21 v20
  let c1_i32 : BitVec 32 := 1#32
  let v25 : BitVec 32 := Scalar.divsi v23 c1_i32
  let v26 : BitVec 32 := Scalar.muli v25 c1_i32
  let v27 : BitVec 32 := Scalar.addi v20 v26
  let c1_i32_16 : BitVec 32 := 1#32
  let arg13 : BitVec 32 := Scf.iv v27 c1_i32_16 k1_t2
  let c256_i32_83 : BitVec 32 := 256#32
  let v225 : BitVec 32 := Scalar.muli arg13 c256_i32_83
  let v226 : BitVec 32 := v225
  let v227 : Index := Scalar.indexCast v226
  let c0_84 : Index := 0#32
  ![v227.toNat, 0]

def k1_chk1 (i : grid1.Coords) (v19 : BitVec 32) : Prop :=
  ((k1_t1_loop i v19).OK) ∧
  (∀ k1_t1 : Fin (k1_t1_loop i v19).trips, 256 ∣ (k1_mult1 i v19 k1_t1).toNat) ∧
  (∀ k1_t1 : Fin (k1_t1_loop i v19).trips, ∀ a, (k1_off1 i v19 k1_t1) a + S256x128.size a ≤ S8192x128.size a) ∧
  ((k1_t2_loop i v19).OK) ∧
  (∀ k1_t2 : Fin (k1_t2_loop i v19).trips, 256 ∣ (k1_mult2 i v19 k1_t2).toNat) ∧
  (∀ k1_t2 : Fin (k1_t2_loop i v19).trips, ∀ a, (k1_off2 i v19 k1_t2) a + S256x128.size a ≤ S8192x128.size a)
theorem k1_t1_ok : ∀ (i : grid1.Coords) (v19 : BitVec 32) (k1_hw1 : k1_chk1 i v19), (k1_t1_loop i v19).OK := fun i v19 k1_hw1 => k1_hw1.1
theorem k1_mult1_dvd : ∀ (i : grid1.Coords) (v19 : BitVec 32) (k1_hw1 : k1_chk1 i v19) (k1_t1 : Fin (k1_t1_loop i v19).trips), 256 ∣ (k1_mult1 i v19 k1_t1).toNat := fun i v19 k1_hw1 k1_t1 => k1_hw1.2.1 k1_t1
theorem k1_off1_inb : ∀ (i : grid1.Coords) (v19 : BitVec 32) (k1_hw1 : k1_chk1 i v19) (k1_t1 : Fin (k1_t1_loop i v19).trips), ∀ a, (k1_off1 i v19 k1_t1) a + S256x128.size a ≤ S8192x128.size a := fun i v19 k1_hw1 k1_t1 => k1_hw1.2.2.1 k1_t1
theorem k1_t2_ok : ∀ (i : grid1.Coords) (v19 : BitVec 32) (k1_hw1 : k1_chk1 i v19), (k1_t2_loop i v19).OK := fun i v19 k1_hw1 => k1_hw1.2.2.2.1
theorem k1_mult2_dvd : ∀ (i : grid1.Coords) (v19 : BitVec 32) (k1_hw1 : k1_chk1 i v19) (k1_t2 : Fin (k1_t2_loop i v19).trips), 256 ∣ (k1_mult2 i v19 k1_t2).toNat := fun i v19 k1_hw1 k1_t2 => k1_hw1.2.2.2.2.1 k1_t2
theorem k1_off2_inb : ∀ (i : grid1.Coords) (v19 : BitVec 32) (k1_hw1 : k1_chk1 i v19) (k1_t2 : Fin (k1_t2_loop i v19).trips), ∀ a, (k1_off2 i v19 k1_t2) a + S256x128.size a ≤ S8192x128.size a := fun i v19 k1_hw1 k1_t2 => k1_hw1.2.2.2.2.2 k1_t2

def k1_mult3 (i : grid1.Coords) : BitVec 32 :=
  let arg1 : BitVec 32 := BitVec.ofNat 32 (i 1).val
  let c512_i32 : BitVec 32 := 512#32
  let v30 : BitVec 32 := Scalar.muli arg1 c512_i32
  let c0_i32_17 : BitVec 32 := 0#32
  let v31 : BitVec 32 := Scalar.addi v30 c0_i32_17
  v31
def k1_off3 (i : grid1.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v33 : Index := Scalar.indexCast v32
  let c0_18 : Index := 0#32
  ![v33.toNat, 0]
def k1_mult4 (i : grid1.Coords) : BitVec 32 :=
  let arg1 : BitVec 32 := BitVec.ofNat 32 (i 1).val
  let c512_i32_50 : BitVec 32 := 512#32
  let v130 : BitVec 32 := Scalar.muli arg1 c512_i32_50
  let c256_i32 : BitVec 32 := 256#32
  let v131 : BitVec 32 := Scalar.addi v130 c256_i32
  v131
def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8192x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S8192x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== KernelIdeal.lean ====
variable {F : FTy → Type} [FloatOps F] [Named F]
def κ : String → Option EReal := fun
  | "log_zero" => some ⊥
  | _ => none
-- ==== ReferenceIdeal.lean ====
abbrev S8192x512 : Shape := ⟨2, ![8192, 512]⟩
abbrev S8192x4x128 : Shape := ⟨3, ![8192, 4, 128]⟩
abbrev S8192x8192 : Shape := ⟨2, ![8192, 8192]⟩
abbrev S4x8192x8192 : Shape := ⟨3, ![4, 8192, 8192]⟩
abbrev S_ : Shape := ⟨0, ![]⟩
abbrev S4x128x8192 : Shape := ⟨3, ![4, 128, 8192]⟩
abbrev S4x8192x128 : Shape := ⟨3, ![4, 8192, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x4x128, .f32⟩
  | .hbm, ⟨9, _⟩ => ⟨S8192x4x128, .f32⟩
  | .hbm, ⟨10, _⟩ => ⟨S8192x4x128, .f32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .i1⟩
  | .hbm, ⟨15, _⟩ => ⟨S8192x8192, .f32⟩
  | .hbm, ⟨16, _⟩ => ⟨S4x8192x8192, .f32⟩
  | .hbm, ⟨17, _⟩ => ⟨S_, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192x8192, .f32⟩
  | .hbm, ⟨36, _⟩ => ⟨S4x8192x8192, .i1⟩
  | .hbm, ⟨37, _⟩ => ⟨S_, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192x8192, .f32⟩
  | .hbm, ⟨42, _⟩ => ⟨S4x8192x8192, .i1⟩
  | .hbm, ⟨43, _⟩ => ⟨S_, .f32⟩
  | .hbm, ⟨44, _⟩ => ⟨S4x8192x8192, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4x8192x8192, .f32⟩
  | .hbm, ⟨56, _⟩ => ⟨S4x8192x8192, .i1⟩
  | .hbm, ⟨57, _⟩ => ⟨S_, .f32⟩
  | .hbm, ⟨58, _⟩ => ⟨S4x8192x8192, .f32⟩
  | .hbm, ⟨59, _⟩ => ⟨S4x8192x8192, .f32⟩
  | .hbm, ⟨60, _⟩ => ⟨S4x8192x8192, .f32⟩
  | .hbm, ⟨61, _⟩ => ⟨S4x8192x8192, .f32⟩
  | .hbm, ⟨62, _⟩ => ⟨S4x8192x8192, .f32⟩
  | .hbm, ⟨63, _⟩ => ⟨S_, .f32⟩
  | .hbm, ⟨64, _⟩ => ⟨S4x8192x8192, .f32⟩
  | .hbm, ⟨65, _⟩ => ⟨S4x8192x8192, .f32⟩
  | .hbm, ⟨66, _⟩ => ⟨S4x8192x8192, .f32⟩
  | .hbm, ⟨67, _⟩ => ⟨S_, .f32⟩
  | .hbm, ⟨68, _⟩ => ⟨S_, .f32⟩
  | .hbm, ⟨69, _⟩ => ⟨S4x8192x8192, .i1⟩
  | .hbm, ⟨70, _⟩ => ⟨S4x8192x8192, .f32⟩
  | .hbm, ⟨71, _⟩ => ⟨S4x8192x8192, .f32⟩
  | .hbm, ⟨72, _⟩ => ⟨S_, .f32⟩
  | .hbm, ⟨73, _⟩ => ⟨S4x8192x8192, .f32⟩
  | .hbm, ⟨74, _⟩ => ⟨S4x8192x8192, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S_, .f32⟩
  | .hbm, ⟨79, _⟩ => ⟨S4x8192x8192, .i1⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x128x8192, .f32⟩
  | .hbm, ⟨86, _⟩ => ⟨S8192x4x128, .f32⟩
  | .hbm, ⟨87, _⟩ => ⟨S8192x512, .f32⟩
  | .hbm, ⟨88, _⟩ => ⟨S8192x4x128, .f32⟩
  | .hbm, ⟨89, _⟩ => ⟨S4x128x8192, .f32⟩
  | .hbm, ⟨90, _⟩ => ⟨S4x8192x8192, .f32⟩
  | .hbm, ⟨91, _⟩ => ⟨S4x128x8192, .f32⟩
  | .hbm, ⟨92, _⟩ => ⟨S8192x4x128, .f32⟩
  | .hbm, ⟨93, _⟩ => ⟨S4x8192x8192, .f32⟩
  | .hbm, ⟨94, _⟩ => ⟨S_, .f32⟩
  | .hbm, ⟨95, _⟩ => ⟨S4x8192x8192, .f32⟩
  | .hbm, ⟨96, _⟩ => ⟨S4x8192x8192, .f32⟩
  | .hbm, ⟨97, _⟩ => ⟨S4x8192x8192, .f32⟩
  | .hbm, ⟨98, _⟩ => ⟨S4x8192x8192, .f32⟩
  | .hbm, ⟨99, _⟩ => ⟨S_, .f32⟩
  | .hbm, ⟨100, _⟩ => ⟨S4x8192x8192, .f32⟩
  | .hbm, ⟨101, _⟩ => ⟨S4x8192x8192, .f32⟩
  | .hbm, ⟨102, _⟩ => ⟨S4x8192x8192, .f32⟩
  | .hbm, ⟨103, _⟩ => ⟨S4x8192x8192, .f32⟩
  | .hbm, ⟨104, _⟩ => ⟨S4x8192x8192, .f32⟩
  | .hbm, ⟨105, _⟩ => ⟨S_, .f32⟩
  | .hbm, ⟨106, _⟩ => ⟨S4x8192x8192, .f32⟩
  | .hbm, ⟨107, _⟩ => ⟨S4x8192x8192, .f32⟩
  | .hbm, ⟨108, _⟩ => ⟨S4x8192x128, .f32⟩
  | .hbm, ⟨109, _⟩ => ⟨S8192x4x128, .f32⟩
  | .hbm, ⟨110, _⟩ => ⟨S4x8192x128, .f32⟩
  | .hbm, ⟨111, _⟩ => ⟨S8192x4x128, .f32⟩
  | .hbm, ⟨112, _⟩ => ⟨S8192x512, .f32⟩
  | .hbm, ⟨113, _⟩ => ⟨S8192x512, .f32⟩
  | .hbm, ⟨114, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v15_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v15_2 : Ref sig .tc := ⟨.hbm, 65, rfl⟩
abbrev main_v16 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_1 : Ref sig .tc := ⟨.hbm, 77, rfl⟩
abbrev main_call2_v0 : Ref sig .tc := ⟨.hbm, 78, rfl⟩
abbrev main_v21_1 : Ref sig .tc := ⟨.hbm, 79, rfl⟩
abbrev main_call2_v2 : Ref sig .tc := ⟨.hbm, 80, rfl⟩
abbrev main_v21_0 : Ref sig .tc := ⟨.hbm, 81, rfl⟩
abbrev main_call2_cst : Ref sig .tc := ⟨.hbm, 82, rfl⟩
abbrev main_v21_2 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_call3_cst : Ref sig .tc := ⟨.hbm, 94, rfl⟩
abbrev main_call3_v0 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_cst : Ref sig .tc := ⟨.hbm, 99, rfl⟩
abbrev main_call4_v0 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_2 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩

abbrev nD : Nat := 1
abbrev τ : Topo := Topo.v7x

variable {F : FTy → Type} [FloatOps F]
-- ==== Kernel2.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S_, .f32⟩
  | .hbm, ⟨3, _⟩ => ⟨S8192x1024, .f32⟩
  | .hbm, ⟨4, _⟩ => ⟨S_, .f32⟩
  | .hbm, ⟨5, _⟩ => ⟨S8192x2048, .f32⟩
  | .hbm, ⟨6, _⟩ => ⟨S2048x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x2048, .f32⟩
  | .hbm, ⟨16, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x2048, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S1024x2048, .f32⟩
  | .hbm, ⟨16, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel6.lean ====
abbrev S8192x1024 : Shape := ⟨2, ![8192, 1024]⟩
abbrev S8192x8192 : Shape := ⟨2, ![8192, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x8192 : Shape := ⟨2, ![8192, 8192]⟩
abbrev S1024x8192 : Shape := ⟨2, ![1024, 8192]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x8192 : Shape := ⟨2, ![8192, 8192]⟩
abbrev S1024x8192 : Shape := ⟨2, ![1024, 8192]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S_, .f32⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S8192x1024, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x1024 : Shape := ⟨2, ![2048, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x1024 : Shape := ⟨2, ![8192, 1024]⟩
abbrev S1024x8192 : Shape := ⟨2, ![1024, 8192]⟩
abbrev S8192x8192 : Shape := ⟨2, ![8192, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x1024, .f32⟩
  | .hbm, ⟨3, _⟩ => ⟨S1024x8192, .f32⟩
  | .hbm, ⟨4, _⟩ => ⟨S8192x8192, .f32⟩
  | .hbm, ⟨5, _⟩ => ⟨S8192x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S8192x512 : Shape := ⟨2, ![8192, 512]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S512x256 : Shape := ⟨2, ![512, 256]⟩
abbrev S512x128 : Shape := ⟨2, ![512, 128]⟩
abbrev S1024x512 : Shape := ⟨2, ![1024, 512]⟩

abbrev nBuf : Space → Nat
  | .hbm => 9
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S8192x256, .bf16⟩
  | .local _ .vmem, ⟨13, _⟩ => ⟨S8192x256, .bf16⟩
  | .local _ .vmem, ⟨14, _⟩ => ⟨S8192x128, .bf16⟩
  | .local _ .vmem, ⟨15, _⟩ => ⟨S8192x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .bf16⟩
  | .local _ .vmem, ⟨19, _⟩ => ⟨S1024x128, .bf16⟩
  | .local _ .vmem, ⟨20, _⟩ => ⟨S1024x128, .f32⟩
  | .local _ .vmem, ⟨21, _⟩ => ⟨S1024x128, .f32⟩
  | .local _ .vmem, ⟨22, _⟩ => ⟨S1024x256, .f32⟩
  | .local _ .vmem, ⟨23, _⟩ => ⟨S1024x256, .f32⟩
  | .local _ .vmem, ⟨24, _⟩ => ⟨S8192x256, .f32⟩
  | .local _ .vmem, ⟨25, _⟩ => ⟨S8192x256, .f32⟩
  | .local _ .vmem, ⟨26, _⟩ => ⟨S8192x128, .f32⟩
  | .local _ .vmem, ⟨27, _⟩ => ⟨S8192x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_33 : BitVec 32 := 1024#32
  let v102 : BitVec 32 := Scalar.muli arg7 c1024_i32_33
  v102
def k0_off1 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_33 : BitVec 32 := 1024#32
  let v102 : BitVec 32 := Scalar.muli arg7 c1024_i32_33
  let v103 : BitVec 32 := v102
  let v104 : Index := Scalar.indexCast v103
  let c0_34 : Index := 0#32
  ![v104.toNat, 0]
def k0_off2 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c1024_i32_33 : BitVec 32 := 1024#32
  let v102 : BitVec 32 := Scalar.muli arg7 c1024_i32_33
  let v103 : BitVec 32 := v102
  let v106 : Index := Scalar.indexCast v103
  let c0_35 : Index := 0#32
  ![v106.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_33 : BitVec 32 := 1024#32
  let v102 : BitVec 32 := Scalar.muli arg7 c1024_i32_33
  v102
def k0_off3 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_33 : BitVec 32 := 1024#32
  let v102 : BitVec 32 := Scalar.muli arg7 c1024_i32_33
  let v103 : BitVec 32 := v102
  let v104 : Index := Scalar.indexCast v103
  let c0_34 : Index := 0#32
  ![v104.toNat, 0]
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg7 : BitVec 32 := Scf.iv v9 c1_i32_5 k0_t2
  let c1024_i32_33 : BitVec 32 := 1024#32
  let v102 : BitVec 32 := Scalar.muli arg7 c1024_i32_33
  let v103 : BitVec 32 := v102
  let v106 : Index := Scalar.indexCast v103
  let c0_35 : Index := 0#32
  ![v106.toNat, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  v13
def k0_off5 (i : grid0.Coords) : Fin 2 → Nat :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let v14 : BitVec 32 := v13
  let v15 : Index := Scalar.indexCast v14
  let c0_7 : Index := 0#32
  ![v15.toNat, 0]
def k0_off6 (i : grid0.Coords) : Fin 2 → Nat :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let v14 : BitVec 32 := v13
  let v17 : Index := Scalar.indexCast v14
  let c0_8 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

@[reducible] def k1_t1_loop (i : grid1.Coords) : Scf.Loop 32 :=
  let c0_i32_11 : BitVec 32 := 0#32
  let arg1 : BitVec 32 := BitVec.ofNat 32 (i 1).val
  let c2_i32 : BitVec 32 := 2#32
  let v15 : BitVec 32 := Scalar.muli arg1 c2_i32
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_12 : BitVec 32 := 1#32
  ⟨c0_i32_11, v20, c1_i32_12⟩
def k1_mult1 (i : grid1.Coords) (k1_t1 : Fin (k1_t1_loop i).trips) : BitVec 32 :=
  let c0_i32_11 : BitVec 32 := 0#32
  let c1_i32_12 : BitVec 32 := 1#32
  let arg11 : BitVec 32 := Scf.iv c0_i32_11 c1_i32_12 k1_t1
  let c512_i32_75 : BitVec 32 := 512#32
  let v208 : BitVec 32 := Scalar.muli arg11 c512_i32_75
  v208
def k1_off1 (i : grid1.Coords) (k1_t1 : Fin (k1_t1_loop i).trips) : Fin 2 → Nat :=
  let c0_i32_11 : BitVec 32 := 0#32
  let c1_i32_12 : BitVec 32 := 1#32
  let arg11 : BitVec 32 := Scf.iv c0_i32_11 c1_i32_12 k1_t1
  let c512_i32_75 : BitVec 32 := 512#32
  let v208 : BitVec 32 := Scalar.muli arg11 c512_i32_75
  let v209 : BitVec 32 := v208
  let v210 : Index := Scalar.indexCast v209
  let c0_76 : Index := 0#32
  ![v210.toNat, 0]
def k1_off2 (i : grid1.Coords) (k1_t1 : Fin (k1_t1_loop i).trips) : Fin 2 → Nat :=
  let c0_i32_11 : BitVec 32 := 0#32
  let c1_i32_12 : BitVec 32 := 1#32
  let arg11 : BitVec 32 := Scf.iv c0_i32_11 c1_i32_12 k1_t1
  let c512_i32_75 : BitVec 32 := 512#32
  let v208 : BitVec 32 := Scalar.muli arg11 c512_i32_75
  let v209 : BitVec 32 := v208
  let v212 : Index := Scalar.indexCast v209
  let c0_77 : Index := 0#32
  ![v212.toNat, 0]
@[reducible] def k1_t2_loop (i : grid1.Coords) : Scf.Loop 32 :=
  let c0_i32_11 : BitVec 32 := 0#32
  let arg1 : BitVec 32 := BitVec.ofNat 32 (i 1).val
  let c2_i32 : BitVec 32 := 2#32
  let v15 : BitVec 32 := Scalar.muli arg1 c2_i32
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let v17 : BitVec 32 := Scalar.addi c0_i32_11 v16
  let c1_i32_13 : BitVec 32 := 1#32
  ⟨v20, v17, c1_i32_13⟩
def k1_mult2 (i : grid1.Coords) (k1_t2 : Fin (k1_t2_loop i).trips) : BitVec 32 :=
  let c0_i32_11 : BitVec 32 := 0#32
  let arg1 : BitVec 32 := BitVec.ofNat 32 (i 1).val
  let c2_i32 : BitVec 32 := 2#32
  let v15 : BitVec 32 := Scalar.muli arg1 c2_i32
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg11 : BitVec 32 := Scf.iv v20 c1_i32_13 k1_t2
  let c512_i32_75 : BitVec 32 := 512#32
  let v208 : BitVec 32 := Scalar.muli arg11 c512_i32_75
  v208
def k1_off3 (i : grid1.Coords) (k1_t2 : Fin (k1_t2_loop i).trips) : Fin 2 → Nat :=
  let c0_i32_11 : BitVec 32 := 0#32
  let arg1 : BitVec 32 := BitVec.ofNat 32 (i 1).val
  let c2_i32 : BitVec 32 := 2#32
  let v15 : BitVec 32 := Scalar.muli arg1 c2_i32
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg11 : BitVec 32 := Scf.iv v20 c1_i32_13 k1_t2
  let c512_i32_75 : BitVec 32 := 512#32
  let v208 : BitVec 32 := Scalar.muli arg11 c512_i32_75
  let v209 : BitVec 32 := v208
  let v210 : Index := Scalar.indexCast v209
  let c0_76 : Index := 0#32
  ![v210.toNat, 0]
def k1_off4 (i : grid1.Coords) (k1_t2 : Fin (k1_t2_loop i).trips) : Fin 2 → Nat :=
  let c0_i32_11 : BitVec 32 := 0#32
  let arg1 : BitVec 32 := BitVec.ofNat 32 (i 1).val
  let c2_i32 : BitVec 32 := 2#32
  let v15 : BitVec 32 := Scalar.muli arg1 c2_i32
  let v16 : BitVec 32 := Scalar.subi v15 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg11 : BitVec 32 := Scf.iv v20 c1_i32_13 k1_t2
  let c512_i32_75 : BitVec 32 := 512#32
  let v208 : BitVec 32 := Scalar.muli arg11 c512_i32_75
  let v209 : BitVec 32 := v208
  let v212 : Index := Scalar.indexCast v209
  let c0_77 : Index := 0#32
  ![v212.toNat, 0]
def k1_mult3 (i : grid1.Coords) : BitVec 32 :=
  let arg1 : BitVec 32 := BitVec.ofNat 32 (i 1).val
  let c1024_i32 : BitVec 32 := 1024#32
  let v23 : BitVec 32 := Scalar.muli arg1 c1024_i32
  let c0_i32_14 : BitVec 32 := 0#32
  let v24 : BitVec 32 := Scalar.addi v23 c0_i32_14
  v24
def k1_off5 (i : grid1.Coords) (c0_i32_14 : BitVec 32) : Fin 2 → Nat :=
  let arg1 : BitVec 32 := BitVec.ofNat 32 (i 1).val
  let c1024_i32 : BitVec 32 := 1024#32
  let v23 : BitVec 32 := Scalar.muli arg1 c1024_i32
  let v24 : BitVec 32 := Scalar.addi v23 c0_i32_14
  let v25 : BitVec 32 := v24
  let v26 : Index := Scalar.indexCast v25
  let c0_15 : Index := 0#32
  ![v26.toNat, 0]
def k1_off6 (i : grid1.Coords) (c0_i32_14 : BitVec 32) : Fin 2 → Nat :=
  let arg1 : BitVec 32 := BitVec.ofNat 32 (i 1).val
  let c1024_i32 : BitVec 32 := 1024#32
  let v23 : BitVec 32 := Scalar.muli arg1 c1024_i32
  let v24 : BitVec 32 := Scalar.addi v23 c0_i32_14
  let v25 : BitVec 32 := v24
  let v28 : Index := Scalar.indexCast v25
  let c0_16 : Index := 0#32
  ![v28.toNat, 0]
def k1_mult4 (i : grid1.Coords) : BitVec 32 :=
  let arg1 : BitVec 32 := BitVec.ofNat 32 (i 1).val
  let c1024_i32_43 : BitVec 32 := 1024#32
  let v115 : BitVec 32 := Scalar.muli arg1 c1024_i32_43
  let c512_i32 : BitVec 32 := 512#32
  let v116 : BitVec 32 := Scalar.addi v115 c512_i32
  v116
def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8192x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Kernel17Ideal.lean ====
variable {F : FTy → Type} [FloatOps F] [Named F]
def κ : String → Option EReal := fun
  | "no_weight" => some ⊥
  | _ => none
-- ==== Reference17Ideal.lean ====
abbrev S8192x1024 : Shape := ⟨2, ![8192, 1024]⟩
abbrev S8192x512 : Shape := ⟨2, ![8192, 512]⟩
abbrev S8192x4x256 : Shape := ⟨3, ![8192, 4, 256]⟩
abbrev S8192x4x128 : Shape := ⟨3, ![8192, 4, 128]⟩
abbrev S8192x8192 : Shape := ⟨2, ![8192, 8192]⟩
abbrev S_ : Shape := ⟨0, ![]⟩
abbrev S4x8192x8192 : Shape := ⟨3, ![4, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x256 : Shape := ⟨3, ![4, 8192, 256]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x4x256, .f32⟩
  | .hbm, ⟨9, _⟩ => ⟨S8192x4x256, .f32⟩
  | .hbm, ⟨10, _⟩ => ⟨S8192x4x128, .f32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S4x8192x8192, .i1⟩
  | .hbm, ⟨27, _⟩ => ⟨S4x8192x8192, .f32⟩
  | .hbm, ⟨28, _⟩ => ⟨S4x8192x8192, .f32⟩
  | .hbm, ⟨29, _⟩ => ⟨S_, .f32⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .i1⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S4x8192, .f32⟩
  | .hbm, ⟨42, _⟩ => ⟨S_, .f32⟩
  | .hbm, ⟨43, _⟩ => ⟨S4x8192, .f32⟩
  | .hbm, ⟨44, _⟩ => ⟨S4x8192, .i1⟩
  | .hbm, ⟨45, _⟩ => ⟨S_, .f32⟩
  | .hbm, ⟨46, _⟩ => ⟨S4x8192, .f32⟩
  | .hbm, ⟨47, _⟩ => ⟨S4x8192, .i1⟩
  | .hbm, ⟨48, _⟩ => ⟨S_, .f32⟩
  | .hbm, ⟨49, _⟩ => ⟨S4x8192, .f32⟩
  | .hbm, ⟨50, _⟩ => ⟨S_, .f32⟩
  | .hbm, ⟨51, _⟩ => ⟨S4x8192, .f32⟩
  | .hbm, ⟨52, _⟩ => ⟨S_, .f32⟩
  | .hbm, ⟨53, _⟩ => ⟨S4x8192, .f32⟩
  | .hbm, ⟨54, _⟩ => ⟨S4x8192, .f32⟩
  | .hbm, ⟨55, _⟩ => ⟨S4x8192, .f32⟩
  | .hbm, ⟨56, _⟩ => ⟨S4x8192x1, .f32⟩
  | .hbm, ⟨57, _⟩ => ⟨S4x8192x8192, .f32⟩
  | .hbm, ⟨58, _⟩ => ⟨S4x8192x8192, .f32⟩
  | .hbm, ⟨59, _⟩ => ⟨S4x8192x8192, .f32⟩
  | .hbm, ⟨60, _⟩ => ⟨S_, .f32⟩
  | .hbm, ⟨61, _⟩ => ⟨S4x8192, .f32⟩
  | .hbm, ⟨62, _⟩ => ⟨S4x8192x1, .f32⟩
  | .hbm, ⟨63, _⟩ => ⟨S4x8192x8192, .f32⟩
  | .hbm, ⟨64, _⟩ => ⟨S4x8192x8192, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S4x128x8192, .f32⟩
  | .hbm, ⟨70, _⟩ => ⟨S8192x4x128, .f32⟩
  | .hbm, ⟨71, _⟩ => ⟨S8192x512, .f32⟩
  | .hbm, ⟨72, _⟩ => ⟨S8192x4x128, .f32⟩
  | .hbm, ⟨73, _⟩ => ⟨S4x128x8192, .f32⟩
  | .hbm, ⟨74, _⟩ => ⟨S4x8192x8192, .f32⟩
  | .hbm, ⟨75, _⟩ => ⟨S4x128x8192, .f32⟩
  | .hbm, ⟨76, _⟩ => ⟨S8192x4x128, .f32⟩
  | .hbm, ⟨77, _⟩ => ⟨S4x8192x8192, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S4x8192x1, .f32⟩
  | .hbm, ⟨84, _⟩ => ⟨S4x8192x8192, .f32⟩
  | .hbm, ⟨85, _⟩ => ⟨S4x8192x8192, .f32⟩
  | .hbm, ⟨86, _⟩ => ⟨S_, .f32⟩
  | .hbm, ⟨87, _⟩ => ⟨S4x8192, .f32⟩
  | .hbm, ⟨88, _⟩ => ⟨S4x8192x8192, .f32⟩
  | .hbm, ⟨89, _⟩ => ⟨S4x8192x8192, .f32⟩
  | .hbm, ⟨90, _⟩ => ⟨S4x8192x8192, .f32⟩
  | .hbm, ⟨91, _⟩ => ⟨S_, .f32⟩
  | .hbm, ⟨92, _⟩ => ⟨S4x8192x8192, .f32⟩
  | .hbm, ⟨93, _⟩ => ⟨S4x8192x8192, .f32⟩
  | .hbm, ⟨94, _⟩ => ⟨S_, .f32⟩
  | .hbm, ⟨95, _⟩ => ⟨S4x8192x8192, .f32⟩
  | .hbm, ⟨96, _⟩ => ⟨S4x8192x8192, .f32⟩
  | .hbm, ⟨97, _⟩ => ⟨S4x8192x256, .f32⟩
  | .hbm, ⟨98, _⟩ => ⟨S8192x4x256, .f32⟩
  | .hbm, ⟨99, _⟩ => ⟨S4x8192x256, .f32⟩
  | .hbm, ⟨100, _⟩ => ⟨S8192x4x256, .f32⟩
  | .hbm, ⟨101, _⟩ => ⟨S8192x512, .f32⟩
  | .hbm, ⟨102, _⟩ => ⟨S8192x1024, .f32⟩
  | .hbm, ⟨103, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_v17_1 : Ref sig .tc := ⟨.hbm, 26, rfl⟩
abbrev main_call0_v2 : Ref sig .tc := ⟨.hbm, 27, rfl⟩
abbrev main_v17_0 : Ref sig .tc := ⟨.hbm, 28, rfl⟩
abbrev main_call0_cst : Ref sig .tc := ⟨.hbm, 29, rfl⟩
abbrev main_v17_2 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_cst : Ref sig .tc := ⟨.hbm, 91, rfl⟩
abbrev main_call1_v0 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Kernel18.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4096x1936 : Shape := ⟨2, ![4096, 1936]⟩
abbrev S256x1936 : Shape := ⟨2, ![256, 1936]⟩

abbrev nBuf : Space → Nat
  | .hbm => 7
  | .vmem => 14
  | .smem => 0
  | _ => 0

abbrev bufTy : (tb : Table) → Fin (tcTables nBuf tb) → BufTy
  | .hbm, ⟨0, _⟩ => ⟨S4096x1936, .f32⟩
  | .hbm, ⟨1, _⟩ => ⟨S4096x1936, .f32⟩
  | .hbm, ⟨2, _⟩ => ⟨S4096x1936, .f32⟩
  | .hbm, ⟨3, _⟩ => ⟨S4096x1936, .f32⟩
  | .hbm, ⟨4, _⟩ => ⟨S4096x1936, .f32⟩
  | .hbm, ⟨5, _⟩ => ⟨S4096x1936, .f32⟩
  | .hbm, ⟨6, _⟩ => ⟨S4096x1936, .f32⟩
  | .local _ .vmem, ⟨0, _⟩ => ⟨S256x1936, .f32⟩
  | .local _ .vmem, ⟨1, _⟩ => ⟨S256x1936, .f32⟩
  | .local _ .vmem, ⟨2, _⟩ => ⟨S256x1936, .f32⟩
  | .local _ .vmem, ⟨3, _⟩ => ⟨S256x1936, .f32⟩
  | .local _ .vmem, ⟨4, _⟩ => ⟨S256x1936, .f32⟩
  | .local _ .vmem, ⟨5, _⟩ => ⟨S256x1936, .f32⟩
  | .local _ .vmem, ⟨6, _⟩ => ⟨S256x1936, .f32⟩
  | .local _ .vmem, ⟨7, _⟩ => ⟨S256x1936, .f32⟩
  | .local _ .vmem, ⟨8, _⟩ => ⟨S256x1936, .f32⟩
  | .local _ .vmem, ⟨9, _⟩ => ⟨S256x1936, .f32⟩
  | .local _ .vmem, ⟨10, _⟩ => ⟨S256x1936, .f32⟩
  | .local _ .vmem, ⟨11, _⟩ => ⟨S256x1936, .f32⟩
  | .local _ .vmem, ⟨12, _⟩ => ⟨S256x1936, .f32⟩
  | .local _ .vmem, ⟨13, _⟩ => ⟨S256x1936, .f32⟩
  | _, _ => ⟨S4096x1936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1936 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1936 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1936 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1936 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1936 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1936 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1936 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
abbrev S4096x1936 : Shape := ⟨2, ![4096, 1936]⟩
abbrev S256x1936 : Shape := ⟨2, ![256, 1936]⟩

abbrev nBuf : Space → Nat
  | .hbm => 7
  | .vmem => 14
  | .smem => 0
  | _ => 0

abbrev bufTy : (tb : Table) → Fin (tcTables nBuf tb) → BufTy
  | .hbm, ⟨0, _⟩ => ⟨S4096x1936, .f32⟩
  | .hbm, ⟨1, _⟩ => ⟨S4096x1936, .f32⟩
  | .hbm, ⟨2, _⟩ => ⟨S4096x1936, .f32⟩
  | .hbm, ⟨3, _⟩ => ⟨S4096x1936, .f32⟩
  | .hbm, ⟨4, _⟩ => ⟨S4096x1936, .f32⟩
  | .hbm, ⟨5, _⟩ => ⟨S4096x1936, .f32⟩
  | .hbm, ⟨6, _⟩ => ⟨S4096x1936, .f32⟩
  | .local _ .vmem, ⟨0, _⟩ => ⟨S256x1936, .f32⟩
  | .local _ .vmem, ⟨1, _⟩ => ⟨S256x1936, .f32⟩
  | .local _ .vmem, ⟨2, _⟩ => ⟨S256x1936, .f32⟩
  | .local _ .vmem, ⟨3, _⟩ => ⟨S256x1936, .f32⟩
  | .local _ .vmem, ⟨4, _⟩ => ⟨S256x1936, .f32⟩
  | .local _ .vmem, ⟨5, _⟩ => ⟨S256x1936, .f32⟩
  | .local _ .vmem, ⟨6, _⟩ => ⟨S256x1936, .f32⟩
  | .local _ .vmem, ⟨7, _⟩ => ⟨S256x1936, .f32⟩
  | .local _ .vmem, ⟨8, _⟩ => ⟨S256x1936, .f32⟩
  | .local _ .vmem, ⟨9, _⟩ => ⟨S256x1936, .f32⟩
  | .local _ .vmem, ⟨10, _⟩ => ⟨S256x1936, .f32⟩
  | .local _ .vmem, ⟨11, _⟩ => ⟨S256x1936, .f32⟩
  | .local _ .vmem, ⟨12, _⟩ => ⟨S256x1936, .f32⟩
  | .local _ .vmem, ⟨13, _⟩ => ⟨S256x1936, .f32⟩
  | _, _ => ⟨S4096x1936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1936 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1936 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1936 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1936 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1936 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1936 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1936 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4096x1936 : Shape := ⟨2, ![4096, 1936]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1936, .f32⟩
  | .hbm, ⟨1, _⟩ => ⟨S4096x1936, .f32⟩
  | .hbm, ⟨2, _⟩ => ⟨S4096x1936, .f32⟩
  | .hbm, ⟨3, _⟩ => ⟨S4096x1936, .f32⟩
  | .hbm, ⟨4, _⟩ => ⟨S_, .f32⟩
  | .hbm, ⟨5, _⟩ => ⟨S4096x1936, .f32⟩
  | .hbm, ⟨6, _⟩ => ⟨S4096x1936, .f32⟩
  | .hbm, ⟨7, _⟩ => ⟨S_, .f32⟩
  | .hbm, ⟨8, _⟩ => ⟨S4096x1936, .f32⟩
  | .hbm, ⟨9, _⟩ => ⟨S4096x1936, .f32⟩
  | .hbm, ⟨10, _⟩ => ⟨S4096x1936, .f32⟩
  | .hbm, ⟨11, _⟩ => ⟨S_, .f32⟩
  | .hbm, ⟨12, _⟩ => ⟨S4096x1936, .f32⟩
  | .hbm, ⟨13, _⟩ => ⟨S4096x1936, .f32⟩
  | .hbm, ⟨14, _⟩ => ⟨S4096x1936, .f32⟩
  | .hbm, ⟨15, _⟩ => ⟨S_, .f32⟩
  | .hbm, ⟨16, _⟩ => ⟨S4096x1936, .f32⟩
  | .hbm, ⟨17, _⟩ => ⟨S4096x1936, .f32⟩
  | .hbm, ⟨18, _⟩ => ⟨S4096x1936, .f32⟩
  | .hbm, ⟨19, _⟩ => ⟨S_, .f32⟩
  | .hbm, ⟨20, _⟩ => ⟨S4096x1936, .f32⟩
  | .hbm, ⟨21, _⟩ => ⟨S4096x1936, .f32⟩
  | .hbm, ⟨22, _⟩ => ⟨S_, .f32⟩
  | .hbm, ⟨23, _⟩ => ⟨S4096x1936, .f32⟩
  | .hbm, ⟨24, _⟩ => ⟨S4096x1936, .f32⟩
  | .hbm, ⟨25, _⟩ => ⟨S4096x1936, .f32⟩
  | .hbm, ⟨26, _⟩ => ⟨S_, .f32⟩
  | .hbm, ⟨27, _⟩ => ⟨S4096x1936, .f32⟩
  | .hbm, ⟨28, _⟩ => ⟨S4096x1936, .f32⟩
  | .hbm, ⟨29, _⟩ => ⟨S4096x1936, .f32⟩
  | .hbm, ⟨30, _⟩ => ⟨S_, .f32⟩
  | .hbm, ⟨31, _⟩ => ⟨S4096x1936, .f32⟩
  | .hbm, ⟨32, _⟩ => ⟨S4096x1936, .f32⟩
  | .hbm, ⟨33, _⟩ => ⟨S4096x1936, .f32⟩
  | .hbm, ⟨34, _⟩ => ⟨S_, .f32⟩
  | .hbm, ⟨35, _⟩ => ⟨S4096x1936, .f32⟩
  | .hbm, ⟨36, _⟩ => ⟨S4096x1936, .f32⟩
  | _, _ => ⟨S4096x1936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S124x128 : Shape := ⟨2, ![124, 128]⟩

abbrev nBuf : Space → Nat
  | .hbm => 7
  | .vmem => 7
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S124x128, .f32⟩
  | .hbm, ⟨6, _⟩ => ⟨S124x128, .f32⟩
  | .local _ .vmem, ⟨0, _⟩ => ⟨S124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | _, _ => ⟨S124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S124x128 : Shape := ⟨2, ![124, 128]⟩

abbrev nBuf : Space → Nat
  | .hbm => 7
  | .vmem => 7
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S124x128, .f32⟩
  | .hbm, ⟨6, _⟩ => ⟨S124x128, .f32⟩
  | .local _ .vmem, ⟨0, _⟩ => ⟨S124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | _, _ => ⟨S124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S124x128 : Shape := ⟨2, ![124, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S_, .f32⟩
  | .hbm, ⟨5, _⟩ => ⟨S124x128, .f32⟩
  | .hbm, ⟨6, _⟩ => ⟨S124x128, .f32⟩
  | .hbm, ⟨7, _⟩ => ⟨S_, .f32⟩
  | .hbm, ⟨8, _⟩ => ⟨S124x128, .f32⟩
  | .hbm, ⟨9, _⟩ => ⟨S124x128, .f32⟩
  | .hbm, ⟨10, _⟩ => ⟨S124x128, .f32⟩
  | .hbm, ⟨11, _⟩ => ⟨S_, .f32⟩
  | .hbm, ⟨12, _⟩ => ⟨S124x128, .f32⟩
  | .hbm, ⟨13, _⟩ => ⟨S124x128, .f32⟩
  | .hbm, ⟨14, _⟩ => ⟨S124x128, .f32⟩
  | .hbm, ⟨15, _⟩ => ⟨S_, .f32⟩
  | .hbm, ⟨16, _⟩ => ⟨S124x128, .f32⟩
  | .hbm, ⟨17, _⟩ => ⟨S124x128, .f32⟩
  | .hbm, ⟨18, _⟩ => ⟨S124x128, .f32⟩
  | .hbm, ⟨19, _⟩ => ⟨S_, .f32⟩
  | .hbm, ⟨20, _⟩ => ⟨S124x128, .f32⟩
  | .hbm, ⟨21, _⟩ => ⟨S124x128, .f32⟩
  | .hbm, ⟨22, _⟩ => ⟨S_, .f32⟩
  | .hbm, ⟨23, _⟩ => ⟨S124x128, .f32⟩
  | .hbm, ⟨24, _⟩ => ⟨S124x128, .f32⟩
  | .hbm, ⟨25, _⟩ => ⟨S124x128, .f32⟩
  | .hbm, ⟨26, _⟩ => ⟨S_, .f32⟩
  | .hbm, ⟨27, _⟩ => ⟨S124x128, .f32⟩
  | .hbm, ⟨28, _⟩ => ⟨S124x128, .f32⟩
  | .hbm, ⟨29, _⟩ => ⟨S124x128, .f32⟩
  | .hbm, ⟨30, _⟩ => ⟨S_, .f32⟩
  | .hbm, ⟨31, _⟩ => ⟨S124x128, .f32⟩
  | .hbm, ⟨32, _⟩ => ⟨S124x128, .f32⟩
  | .hbm, ⟨33, _⟩ => ⟨S124x128, .f32⟩
  | .hbm, ⟨34, _⟩ => ⟨S_, .f32⟩
  | .hbm, ⟨35, _⟩ => ⟨S124x128, .f32⟩
  | .hbm, ⟨36, _⟩ => ⟨S124x128, .f32⟩
  | _, _ => ⟨S124x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024x192 : Shape := ⟨2, ![1024, 192]⟩
abbrev S256x192 : Shape := ⟨2, ![256, 192]⟩

abbrev nBuf : Space → Nat
  | .hbm => 7
  | .vmem => 14
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
abbrev S1024x192 : Shape := ⟨2, ![1024, 192]⟩
abbrev S256x192 : Shape := ⟨2, ![256, 192]⟩

abbrev nBuf : Space → Nat
  | .hbm => 7
  | .vmem => 14
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S1024x192 : Shape := ⟨2, ![1024, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S_, .f32⟩
  | .hbm, ⟨5, _⟩ => ⟨S1024x192, .f32⟩
  | .hbm, ⟨6, _⟩ => ⟨S1024x192, .f32⟩
  | .hbm, ⟨7, _⟩ => ⟨S_, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S_, .f32⟩
  | .hbm, ⟨12, _⟩ => ⟨S1024x192, .f32⟩
  | .hbm, ⟨13, _⟩ => ⟨S1024x192, .f32⟩
  | .hbm, ⟨14, _⟩ => ⟨S1024x192, .f32⟩
  | .hbm, ⟨15, _⟩ => ⟨S_, .f32⟩
  | .hbm, ⟨16, _⟩ => ⟨S1024x192, .f32⟩
  | .hbm, ⟨17, _⟩ => ⟨S1024x192, .f32⟩
  | .hbm, ⟨18, _⟩ => ⟨S1024x192, .f32⟩
  | .hbm, ⟨19, _⟩ => ⟨S_, .f32⟩
  | .hbm, ⟨20, _⟩ => ⟨S1024x192, .f32⟩
  | .hbm, ⟨21, _⟩ => ⟨S1024x192, .f32⟩
  | .hbm, ⟨22, _⟩ => ⟨S_, .f32⟩
  | .hbm, ⟨23, _⟩ => ⟨S1024x192, .f32⟩
  | .hbm, ⟨24, _⟩ => ⟨S1024x192, .f32⟩
  | .hbm, ⟨25, _⟩ => ⟨S1024x192, .f32⟩
  | .hbm, ⟨26, _⟩ => ⟨S_, .f32⟩
  | .hbm, ⟨27, _⟩ => ⟨S1024x192, .f32⟩
  | .hbm, ⟨28, _⟩ => ⟨S1024x192, .f32⟩
  | .hbm, ⟨29, _⟩ => ⟨S1024x192, .f32⟩
  | .hbm, ⟨30, _⟩ => ⟨S_, .f32⟩
  | .hbm, ⟨31, _⟩ => ⟨S1024x192, .f32⟩
  | .hbm, ⟨32, _⟩ => ⟨S1024x192, .f32⟩
  | .hbm, ⟨33, _⟩ => ⟨S1024x192, .f32⟩
  | .hbm, ⟨34, _⟩ => ⟨S_, .f32⟩
  | .hbm, ⟨35, _⟩ => ⟨S1024x192, .f32⟩
  | .hbm, ⟨36, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel24Ideal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8192x256 : Shape := ⟨2, ![8192, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel25Ideal.lean ====
abbrev S8192x256 : Shape := ⟨2, ![8192, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S8192x256 : Shape := ⟨2, ![8192, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S224x128 : Shape := ⟨2, ![224, 128]⟩

abbrev nBuf : Space → Nat
  | .hbm => 7
  | .vmem => 7
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S224x128, .f32⟩
  | .hbm, ⟨5, _⟩ => ⟨S224x128, .f32⟩
  | .hbm, ⟨6, _⟩ => ⟨S224x128, .f32⟩
  | .local _ .vmem, ⟨0, _⟩ => ⟨S224x128, .f32⟩
  | .local _ .vmem, ⟨1, _⟩ => ⟨S224x128, .f32⟩
  | .local _ .vmem, ⟨2, _⟩ => ⟨S224x128, .f32⟩
  | .local _ .vmem, ⟨3, _⟩ => ⟨S224x128, .f32⟩
  | .local _ .vmem, ⟨4, _⟩ => ⟨S224x128, .f32⟩
  | .local _ .vmem, ⟨5, _⟩ => ⟨S224x128, .f32⟩
  | .local _ .vmem, ⟨6, _⟩ => ⟨S224x128, .f32⟩
  | _, _ => ⟨S224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S224x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S224x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S224x128 : Shape := ⟨2, ![224, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S_, .f32⟩
  | .hbm, ⟨5, _⟩ => ⟨S224x128, .f32⟩
  | .hbm, ⟨6, _⟩ => ⟨S224x128, .f32⟩
  | .hbm, ⟨7, _⟩ => ⟨S_, .f32⟩
  | .hbm, ⟨8, _⟩ => ⟨S224x128, .f32⟩
  | .hbm, ⟨9, _⟩ => ⟨S224x128, .f32⟩
  | .hbm, ⟨10, _⟩ => ⟨S224x128, .f32⟩
  | .hbm, ⟨11, _⟩ => ⟨S_, .f32⟩
  | .hbm, ⟨12, _⟩ => ⟨S224x128, .f32⟩
  | .hbm, ⟨13, _⟩ => ⟨S224x128, .f32⟩
  | .hbm, ⟨14, _⟩ => ⟨S224x128, .f32⟩
  | .hbm, ⟨15, _⟩ => ⟨S_, .f32⟩
  | .hbm, ⟨16, _⟩ => ⟨S224x128, .f32⟩
  | .hbm, ⟨17, _⟩ => ⟨S224x128, .f32⟩
  | .hbm, ⟨18, _⟩ => ⟨S224x128, .f32⟩
  | .hbm, ⟨19, _⟩ => ⟨S_, .f32⟩
  | .hbm, ⟨20, _⟩ => ⟨S224x128, .f32⟩
  | .hbm, ⟨21, _⟩ => ⟨S224x128, .f32⟩
  | .hbm, ⟨22, _⟩ => ⟨S_, .f32⟩
  | .hbm, ⟨23, _⟩ => ⟨S224x128, .f32⟩
  | .hbm, ⟨24, _⟩ => ⟨S224x128, .f32⟩
  | .hbm, ⟨25, _⟩ => ⟨S224x128, .f32⟩
  | .hbm, ⟨26, _⟩ => ⟨S_, .f32⟩
  | .hbm, ⟨27, _⟩ => ⟨S224x128, .f32⟩
  | .hbm, ⟨28, _⟩ => ⟨S224x128, .f32⟩
  | .hbm, ⟨29, _⟩ => ⟨S224x128, .f32⟩
  | .hbm, ⟨30, _⟩ => ⟨S_, .f32⟩
  | .hbm, ⟨31, _⟩ => ⟨S224x128, .f32⟩
  | .hbm, ⟨32, _⟩ => ⟨S224x128, .f32⟩
  | .hbm, ⟨33, _⟩ => ⟨S224x128, .f32⟩
  | .hbm, ⟨34, _⟩ => ⟨S_, .f32⟩
  | .hbm, ⟨35, _⟩ => ⟨S224x128, .f32⟩
  | .hbm, ⟨36, _⟩ => ⟨S224x128, .f32⟩
  | _, _ => ⟨S224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S8192x4096 : Shape := ⟨2, ![8192, 4096]⟩
abbrev S8192x2048 : Shape := ⟨2, ![8192, 2048]⟩
abbrev S512x2048 : Shape := ⟨2, ![512, 2048]⟩

abbrev nBuf : Space → Nat
  | .hbm => 2
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel28.lean ====
abbrev S8192x4096 : Shape := ⟨2, ![8192, 4096]⟩
abbrev S8192x2048 : Shape := ⟨2, ![8192, 2048]⟩
abbrev S256x2048 : Shape := ⟨2, ![256, 2048]⟩
abbrev S256x4096 : Shape := ⟨2, ![256, 4096]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x4096, .bf16⟩
  | .local _ .vmem, ⟨7, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x4096, .f32⟩
  | .hbm, ⟨27, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel29.lean ====
abbrev S8192x8192 : Shape := ⟨2, ![8192, 8192]⟩
abbrev S8192x1024 : Shape := ⟨2, ![8192, 1024]⟩
abbrev S256x1024 : Shape := ⟨2, ![256, 1024]⟩

abbrev nBuf : Space → Nat
  | .hbm => 6
  | .vmem => 18
  | .smem => 0
  | _ => 0

abbrev bufTy : (tb : Table) → Fin (tcTables nBuf tb) → BufTy
  | .hbm, ⟨0, _⟩ => ⟨S8192x8192, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference29Ideal.lean ====
abbrev S8192x8192 : Shape := ⟨2, ![8192, 8192]⟩
abbrev S8192x1024 : Shape := ⟨2, ![8192, 1024]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x4096, .bf16⟩
  | .hbm, ⟨6, _⟩ => ⟨S8192x4096, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel30.lean ====
abbrev S8192x8192 : Shape := ⟨2, ![8192, 8192]⟩
abbrev S8192x1024 : Shape := ⟨2, ![8192, 1024]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 11
  | .vmem => 28
  | .smem => 0
  | _ => 0

abbrev bufTy : (tb : Table) → Fin (tcTables nBuf tb) → BufTy
  | .hbm, ⟨0, _⟩ => ⟨S8192x8192, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x4096, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference30Ideal.lean ====
abbrev S8192x8192 : Shape := ⟨2, ![8192, 8192]⟩
abbrev S8192x1024 : Shape := ⟨2, ![8192, 1024]⟩
abbrev S8192x4096 : Shape := ⟨2, ![8192, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x4096, .bf16⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x4096, .f32⟩
  | .hbm, ⟨45, _⟩ => ⟨S8192x4096, .f32⟩
  | .hbm, ⟨46, _⟩ => ⟨S8192x4096, .bf16⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Proof.Ffn.Entries.lean ====
/-
  Matrices as functions of a row and a column, with entries in the extended reals.
-/
module

public import proofs.«01_k».proof.Defs
public import Idealize.ShloMosaic.Lib.Tactic
public import Idealize.ShloMosaic.Lib.Pipeline.ValueKit.Geometry
public import Idealize.ShloMosaic.Lib.Pointwise
public import Idealize.ShloMosaic.Lib.Quiescent
public import Idealize.ShloMosaic.PureOps.Ideal
public import Idealize.ShloMosaic.PureOps.Ideal.Laws

@[expose] public section

noncomputable section

namespace Cert.Proof.Ffn

open Idealize.ShloMosaic Finset

/-- The matrix `X` has the entries `f`. -/
def Has {m n : ℕ} (X : (⟨2, ![m, n]⟩ : Shape).Idx → EReal) (f : ℕ → ℕ → EReal) : Prop :=
  ∀ i, X i = f (i 0).val (i 1).val

/-- The entry at row `a` and column `b`. -/
def ent {m n : ℕ} [NeZero m] [NeZero n] (X : (⟨2, ![m, n]⟩ : Shape).Idx → EReal) (a b : ℕ) : EReal :=
  X fun ax => match ax with
    | ⟨0, _⟩ => (Fin.ofNat m a : Fin m)
    | ⟨1, _⟩ => (Fin.ofNat n b : Fin n)

/-- The entry whose row and column are an index's is the entry at the index. -/
theorem ent_of {m n : ℕ} [NeZero m] [NeZero n] (X : (⟨2, ![m, n]⟩ : Shape).Idx → EReal) (i : (⟨2, ![m, n]⟩ : Shape).Idx) {a b : ℕ}
    (ha : (i 0).val = a) (hb : (i 1).val = b) : X i = ent X a b := by
  subst ha hb
  unfold ent
  congr 1
  funext ax
  match ax with
  | ⟨0, _⟩ => exact Fin.ext (Nat.mod_eq_of_lt (i 0).isLt).symm
  | ⟨1, _⟩ => exact Fin.ext (Nat.mod_eq_of_lt (i 1).isLt).symm

theorem has_ent {m n : ℕ} [NeZero m] [NeZero n] (X : (⟨2, ![m, n]⟩ : Shape).Idx → EReal) : Has X (ent X) := fun i => ent_of X i rfl rfl

section Ops

variable {m n : ℕ} {f g : ℕ → ℕ → EReal}

/-- Matrices of the same entries are equal. -/
theorem Has.eq {X Y : (⟨2, ![m, n]⟩ : Shape).Idx → EReal} (hX : Has X f) (hY : Has Y f) : X = Y :=
  funext fun i => (hX i).trans (hY i).symm

theorem Has.add {X Y : FVec Ideal ⟨2, ![m, n]⟩ .f32} (hX : Has X f) (hY : Has Y g) : Has (addf X Y) (fun x y => f x y + g x y) := fun i => by
  show X i + Y i = _
  rw [hX i, hY i]

theorem Has.congr {X : (⟨2, ![m, n]⟩ : Shape).Idx → EReal} (hX : Has X f) (h : ∀ x y, x < m → y < n → f x y = g x y) : Has X g := fun i =>
  (hX i).trans (h _ _ (i 0).isLt (i 1).isLt)

end Ops

/-- A sum over the first `a * (r + 1)` places is the sum over the first `a * r` and the sum over the next `a`. -/
theorem sum_more (f : ℕ → EReal) (a r : ℕ) :
    ∑ k ∈ range (a * (r + 1)), f k = ∑ k ∈ range (a * r), f k + ∑ y ∈ range a, f (a * r + y) := by
  rw [Nat.mul_succ, sum_range_add]

/-- A nonnegative real factor of the second operands comes out of a sum of products. -/
theorem sum_mul_left {c : ℝ} (hc : 0 ≤ c) (f g : ℕ → EReal) (n : ℕ) :
    ∑ k ∈ range n, f k * ((c : EReal) * g k) = (∑ k ∈ range n, f k * g k) * (c : EReal) := by
  induction n with
  | zero => simp
  | succ n ih =>
    rw [sum_range_succ, sum_range_succ, ih, EReal.right_distrib_of_nonneg_of_ne_top (EReal.coe_nonneg.mpr hc) (EReal.coe_ne_top c)]
    congr 1
    rw [mul_comm (c : EReal), mul_assoc]

/-- The same with the factor on the first operands. -/
theorem sum_mul_right {c : ℝ} (hc : 0 ≤ c) (f g : ℕ → EReal) (n : ℕ) :
    ∑ k ∈ range n, (c : EReal) * f k * g k = (∑ k ∈ range n, f k * g k) * (c : EReal) := by
  rw [← sum_congr rfl fun k _ => mul_comm (g k) (f k), ← sum_mul_left hc]
  exact sum_congr rfl fun k _ => mul_comm _ _

/-- The matrix with the entries `f`. -/
def mat (m n : ℕ) (f : ℕ → ℕ → EReal) : (⟨2, ![m, n]⟩ : Shape).Idx → EReal := fun i => f (i 0).val (i 1).val

theorem has_mat (m n : ℕ) (f : ℕ → ℕ → EReal) : Has (mat m n f) f := fun _ => rfl

/-- The constant one half. -/
theorem ofBits_half : (FloatOps.ofBits .f32 0x3F000000#32 : Ideal .f32) = ((1 / 2 : ℝ) : EReal) := by
  show Ideal.ofBits .f32 0x3F000000#32 = _
  simp [Ideal.ofBits, Ideal.ieee]
  norm_cast
  norm_num

theorem half_nonneg : (0 : ℝ) ≤ 1 / 2 := by norm_num

/-- The offsets of a store that covers its buffer. -/
theorem offsets_zero : (![0, 0] : Fin 2 → Nat) = fun _ => 0 := funext fun a => by fin_cases a <;> rfl

/-- A block accumulated over `K` consecutive points, each adding a sum of `a` terms, and written out at the last of them:
    the terms `G b x y k` of block `b` are summed over all `a * K` places `k`, and `w` is what the writing does to the sum. -/
theorem accumulated {m n N a K : ℕ} (sc out : ∀ p, p < N → (⟨2, ![m, n]⟩ : Shape).Idx → EReal) (G : ℕ → ℕ → ℕ → ℕ → EReal) (w : EReal → EReal)
    (hK : 1 < K)
    (start : ∀ p h, p % K = 0 → Has (sc p h) fun x y => ∑ k ∈ range a, G (p / K) x y (a * (p % K) + k))
    (more : ∀ p (h : p < N) h', (p + 1) % K ≠ 0 → (p + 1) % K ≠ K - 1 → ∀ f, Has (sc p h) f →
      Has (sc (p + 1) h') fun x y => f x y + ∑ k ∈ range a, G ((p + 1) / K) x y (a * ((p + 1) % K) + k))
    (last : ∀ p (h : p < N) h', (p + 1) % K = K - 1 → ∀ f, Has (sc p h) f →
      Has (out (p + 1) h') fun x y => w (f x y + ∑ k ∈ range a, G ((p + 1) / K) x y (a * ((p + 1) % K) + k))) :
    ∀ p h, p % K = K - 1 → Has (out p h) fun x y => w (∑ k ∈ range (a * K), G (p / K) x y k) := by
  have upto : ∀ p h, p % K ≠ K - 1 → Has (sc p h) fun x y => ∑ k ∈ range (a * (p % K + 1)), G (p / K) x y k := by
    intro p
    induction p with
    | zero =>
      intro h _
      refine (start 0 h (Nat.zero_mod K)).congr fun x y _ _ => ?_
      simp only [Nat.zero_mod, Nat.mul_zero, Nat.zero_add, Nat.mul_one]
    | succ p ih =>
      intro h h1
      by_cases h0 : (p + 1) % K = 0
      · refine (start (p + 1) h h0).congr fun x y _ _ => ?_
        simp only [h0, Nat.mul_zero, Nat.zero_add, Nat.mul_one]
      · obtain ⟨hd, hm⟩ := before p h0
        refine (more p (Nat.lt_of_succ_lt h) h h0 h1 _ (ih (Nat.lt_of_succ_lt h) (early hK p h0))).congr fun x y _ _ => ?_
        rw [hd, hm, sum_more _ a (p % K + 1)]
  intro p h h1
  cases p with
  | zero => rw [Nat.zero_mod] at h1; omega
  | succ p =>
    have h0 : (p + 1) % K ≠ 0 := fun e => by rw [h1] at e; omega
    obtain ⟨hd, hm⟩ := before p h0
    refine (last p (Nat.lt_of_succ_lt h) h h1 _ (upto p (Nat.lt_of_succ_lt h) (early hK p h0))).congr fun x y _ _ => ?_
    rw [show a * K = a * (p % K + 1 + 1) by rw [← hm, h1, Nat.sub_add_cancel (Nat.le_of_lt hK)], hd, hm, sum_more _ a (p % K + 1)]
where
  /-- A point that does not start a block has the block of the point before. -/
  before {K : ℕ} (p : ℕ) (h0 : (p + 1) % K ≠ 0) : (p + 1) / K = p / K ∧ (p + 1) % K = p % K + 1 := by
    have hd : (p + 1) / K = p / K := by
      rw [Nat.succ_div, if_neg fun h => h0 (Nat.mod_eq_zero_of_dvd h), Nat.add_zero]
    have e1 := Nat.div_add_mod (p + 1) K
    have e2 := Nat.div_add_mod p K
    rw [hd] at e1
    exact ⟨hd, by omega⟩
  /-- And the point before is not the last of its block. -/
  early {K : ℕ} (hK : 1 < K) (p : ℕ) (h0 : (p + 1) % K ≠ 0) : p % K ≠ K - 1 := fun e => by
    have hl := Nat.mod_lt (p + 1) (Nat.lt_of_succ_lt hK)
    rw [(before p h0).2, e] at hl
    omega

end Cert.Proof.Ffn

end
-- ==== Proof.Ffn.Da.lean ====
/-
  The gradient of the feed-forward block's gated product: `dy · w_outᵀ / 2`.
-/
module

public import proofs.«01_k».proof.Proof.Ffn.Entries
public import proofs.«01_k».proof.Proof.Gen.Kernel2Ideal.Value
public import proofs.«01_k».proof.Proof.Gen.Reference2Ideal.Read
public import proofs.«01_k».proof.Proof.Gen.Kernel2.Frame

@[expose] public section

set_option maxRecDepth 16384

noncomputable section

namespace Cert.Proof.Ffn.Da

open Cert.Kernel2Ideal Cert.Kernel2Ideal.Gen Cert.Kernel2Ideal.Value Cert.Reference2Ideal.Read
open Idealize.ShloMosaic Idealize.ShloMosaic.TcCoe Idealize.SL.Sem Finset Cert.Proof.Ffn

/-! ## What a point leaves in the result's block -/

section Point

variable {F : FTy → Type} [FloatOps F]

/-- A point writes its product. -/
theorem out_A (c i a3 h3 a4 h4 a5 h5 a6 h6) (x0 : Vec F S1024x1024 .f32) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread, View.ld_unit_zero (S := S1024x1024) offsets_zero, shapeCast_self]

end Point

/-! ## The blocks a point reads -/

variable (m : (ℓ : Loc nD τ sig) → Buf (Elt Ideal) ℓ) (c : Dev nD)

/-- The entries of the arguments. -/
abbrev dy : ℕ → ℕ → EReal := ent (m ((c.tc : Thread nD τ).loc main_arg0) : S8192x1024.Idx → EReal)
abbrev ww : ℕ → ℕ → EReal := ent (m ((c.tc : Thread nD τ).loc main_arg1) : S2048x1024.Idx → EReal)

theorem idx0 : ∀ t : Fin cfg0.N, win0_0.index t = ![t.val / 2, 0] :=
  (by decide +kernel : ∀ t : Fin grid0.N, _)
theorem idx1 : ∀ t : Fin cfg0.N, win0_1.index t = ![t.val % 2, 0] :=
  (by decide +kernel : ∀ t : Fin grid0.N, _)
theorem idx2 : ∀ t : Fin cfg0.N, win0_2.index t = ![t.val / 2, t.val % 2] :=
  (by decide +kernel : ∀ t : Fin grid0.N, _)

theorem blk0 (t : Fin cfg0.N) : Has (iblk m c 0 t : S1024x1024.Idx → EReal) (fun x y => dy m c (1024 * (t.val / 2) + x) (y)) := by
  intro j
  blk_simp [iblk]
  exact ent_of _ _ (by blk_simp [idx0 t] <;> omega) (by blk_simp [idx0 t] <;> omega)
theorem blk1 (t : Fin cfg0.N) : Has (iblk m c 1 t : S1024x1024.Idx → EReal) (fun x y => ww m c (1024 * (t.val % 2) + x) (y)) := by
  intro j
  blk_simp [iblk]
  exact ent_of _ _ (by blk_simp [idx1 t] <;> omega) (by blk_simp [idx1 t] <;> omega)

/-- What a point writes of blocks with given entries. -/
theorem prod {f g : ℕ → ℕ → EReal} {A : Vec Ideal S1024x1024 .f32} {B : Vec Ideal S1024x1024 .bf16}
    (hA : Has (A : S1024x1024.Idx → EReal) f) (hB : Has (B : S1024x1024.Idx → EReal) g) :
    Has (k0_pay1 A B : S1024x1024.Idx → EReal) (fun x y => (∑ k ∈ range 1024, f x k * g y k) * ((1 / 2 : ℝ) : EReal)) := by
  intro i
  unfold k0_pay1
  pointwise []
  refine congrArg₂ (· * ·) ?_ ofBits_half
  rw [← Fin.sum_univ_eq_sum_range (fun k => f (i 0).val k * g (i 1).val k)]
  exact Finset.sum_congr rfl fun e _ => by rw [hA _, hB _]; rfl

/-! ## The result -/

/-- The result of the arguments. -/
def G : S8192x2048.Idx → EReal := mat 8192 2048 fun x y => (∑ k ∈ range 1024, dy m c x k * ww m c y k) * ((1 / 2 : ℝ) : EReal)

/-- What a point writes back is its block of the result. -/
theorem written (t : Fin cfg0.N) : (dats m 0 c).flushed 2 t = ((cfg0.win 2).blk t).view.read (Elt Ideal) (G m c) := by
  rw [flushed2_A, out_A]
  funext y
  have e0 : (((cfg0.win 2).blk t).view.emb y 0).val = 1024 * (t.val / 2) + (y 0).val := by blk_simp [idx2 t] <;> omega
  have e1 : (((cfg0.win 2).blk t).view.emb y 1).val = 1024 * (t.val % 2) + (y 1).val := by blk_simp [idx2 t] <;> omega
  refine (prod (blk0 m c t) (blk1 m c t) ((cfg0.win 2).xinj (grid0.coords t) y)).trans ?_
  rw [View.read_apply]
  unfold G mat
  rw [e0, e1]
  rfl

/-- The whole result: its blocks cover it. -/
theorem final : (dats m 0 c).arrAt 2 cfg0.N = G m c :=
  (dats m 0 c).arrAt_eq_of_cover 2 (G m c) (fun t _ => written m c t) ((by decide +kernel : win0_2.Covers).cover _ (Memref.isWhole_whole _))

/-- The reference's result is the same. -/
theorem ref (x0 : S8192x1024.Idx → EReal) (x1 : S2048x1024.Idx → EReal) :
    Has (val_main_v10 (F := Ideal) x0 x1 : S8192x2048.Idx → EReal) (fun x y => (∑ k ∈ range 1024, ent x0 x k * ent x1 y k) * ((1 / 2 : ℝ) : EReal)) := by
  intro i
  dsimp only
  rw [← sum_mul_right half_nonneg, val_main_v10_apply, val_main_v9_apply, ← Fin.sum_univ_eq_sum_range (fun k => ((1 / 2 : ℝ) : EReal) * ent x0 (i 0).val k * ent x1 (i 1).val k)]
  refine Finset.sum_congr rfl fun k _ => ?_
  rw [val_main_v8_apply, val_main_v2_apply, val_main_v7_apply, val_main_cst_2_apply]
  refine congrArg₂ (· * ·) ?_ (ent_of x1 _ rfl rfl)
  exact congrArg₂ (· * ·) ofBits_half (ent_of x0 _ rfl rfl)

/-! ## The claims -/

/-- The reference declares no semaphore and its operations leave the arguments as launched. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's ideal program and the reference compute the same gradient. -/
theorem algebraic : Cert.algebraic_Kernel2Ideal_Reference2Ideal := by
  intro m g m' g' _ hm
  refine ⟨fun c => G m c, (θ_run _ _ _).mono (fun _ h c => ⟨(h c).1.trans (final m c), (h c).2⟩) (Cert.Kernel2Ideal.Value.run_blocks m g), ?_⟩
  refine (θ_run _ _ _).mono (fun _ h c => ?_) (Cert.Reference2Ideal.Value.run (F := Ideal) m' g')
  obtain ⟨hv, k0, k1⟩ := h c
  obtain ⟨e0, e1⟩ := hm c
  refine ⟨hv.trans ?_, k0, k1⟩
  rw [val_main_v10_eq, e0, e1]
  exact (ref _ _).eq (has_mat _ _ _)

end Cert.Proof.Ffn.Da

end
-- ==== Proof.Ffn.Dwin.lean ====
/-
  The gradient of the feed-forward block's first weight: `hᵀ · du`, the rows summed in four blocks of 2048.
-/
module

public import proofs.«01_k».proof.Proof.Ffn.Entries
public import proofs.«01_k».proof.Proof.Gen.Kernel3Ideal.Value
public import proofs.«01_k».proof.Proof.Gen.Reference3Ideal.Read
public import proofs.«01_k».proof.Proof.Gen.Kernel3.Frame

@[expose] public section

set_option maxRecDepth 16384

noncomputable section

namespace Cert.Proof.Ffn.Dwin

open Cert.Kernel3Ideal Cert.Kernel3Ideal.Gen Cert.Kernel3Ideal.Value Cert.Reference3Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 x1 : Vec F S2048x1024 .bf16) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S2048x1024) offsets_zero, shapeCast_self]

/-- a later one adds its product, -/
theorem acc_B (c i a3 h3 a4 h4 a5 h5 a6 h6 c0 c1 c2) (x0 x1 : Vec F S2048x1024 .bf16) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero offsets_zero]
  unfold k0_pay3
  simp only [View.readAt_eq_ld, h3.read_unread, h4.read_unread, h6.read_unread, View.ld_unit_zero (S := S2048x1024) offsets_zero, View.ld_unit_zero (S := S1024x1024) offsets_zero, shapeCast_self]

/-- and the last one writes the sum to the result. -/
theorem out_C (c i a3 h3 a4 h4 a5 h5 a6 h6 c0 c1 c2) (x0 x1 : Vec F S2048x1024 .bf16) (xs : Vec F S1024x1024 .f32) :
    out0_C_2 c i a3 h3 a4 h4 a5 h5 a6 h6 c0 c1 c2 x0 x1 xs = addf xs (k0_pay1 x0 x1) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S2048x1024) offsets_zero, View.ld_unit_zero (S := S1024x1024) offsets_zero, shapeCast_self]

end Point

/-! ## The blocks a point reads -/

variable (m : (ℓ : Loc nD τ sig) → Buf (Elt Ideal) ℓ) (c : Dev nD)

/-- The entries of the two arguments. -/
abbrev hh : ℕ → ℕ → EReal := ent (m ((c.tc : Thread nD τ).loc main_arg0) : S8192x1024.Idx → EReal)
abbrev dd : ℕ → ℕ → EReal := ent (m ((c.tc : Thread nD τ).loc main_arg1) : S8192x4096.Idx → EReal)

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

theorem blk0 (t : Fin cfg0.N) : Has (iblk m c 0 t : S2048x1024.Idx → EReal) (fun x y => hh m c (2048 * (t.val % 4) + x) (y)) := by
  intro j
  blk_simp [iblk]
  exact ent_of _ _ (by blk_simp [idx0 t] <;> omega) (by blk_simp [idx0 t] <;> omega)
theorem blk1 (t : Fin cfg0.N) : Has (iblk m c 1 t : S2048x1024.Idx → EReal) (fun x y => dd m c (2048 * (t.val % 4) + x) (1024 * (t.val / 4) + y)) := by
  intro j
  blk_simp [iblk]
  exact ent_of _ _ (by blk_simp [idx1 t] <;> omega) (by blk_simp [idx1 t] <;> omega)

/-- The product of two blocks, columns by columns. -/
theorem prod {f g : ℕ → ℕ → EReal} {A : Vec Ideal S2048x1024 .bf16} {B : Vec Ideal S2048x1024 .bf16} (hA : Has (A : S2048x1024.Idx → EReal) f) (hB : Has (B : S2048x1024.Idx → EReal) g) :
    Has (k0_pay1 A B : S1024x1024.Idx → EReal) (fun x y => ∑ k ∈ range 2048, f k x * g k y) := by
  intro i
  unfold k0_pay1
  pointwise []
  rw [← Fin.sum_univ_eq_sum_range (fun k => f k (i 0).val * g k (i 1).val)]
  exact Finset.sum_congr rfl fun e _ => by rw [hA _, hB _]; rfl

/-! ## The accumulator after a point, and the result -/

/-- A term of an entry of block `b` of the result. -/
def part (b x y k : ℕ) : EReal := hh m c k x * dd m c k (1024 * b + y)

theorem pay1 (t : Fin cfg0.N) : Has (k0_pay1 (iblk m c 0 t) (iblk m c 1 t) : S1024x1024.Idx → EReal)
    (fun x y => ∑ k ∈ range 2048, part m c (t.val / 4) x y (2048 * (t.val % 4) + k)) := prod (blk0 m c t) (blk1 m c t)

theorem sums : ∀ p (h : p < cfg0.N), p % 4 = 3 → Has ((outsAt0 m c p h).1 : S1024x1024.Idx → EReal)
    (fun x y => ∑ k ∈ range 8192, part m c (p / 4) x y k) :=
  accumulated (a := 2048) (K := 4) (fun p h => (outsAt0 m c p h).2) (fun p h => (outsAt0 m c p h).1) (part m c) id (by decide)
    (fun p h h0 => by
      rw [outsAt0_A m c ⟨p, h⟩ h0 (by dsimp only; omega) (by dsimp only; omega)]
      dsimp only
      rw [acc_A]
      exact pay1 m c ⟨p, h⟩)
    (fun p h h' h0 h1 f hf => by
      rw [outsAt0_B m c ⟨p + 1, h'⟩ h0 (by dsimp only; omega) h1]
      dsimp only
      rw [acc_B]
      exact hf.add (pay1 m c ⟨p + 1, h'⟩))
    (fun p h h' h1 f hf => by
      rw [outsAt0_C m c ⟨p + 1, h'⟩ (by dsimp only; omega) (by dsimp only; omega) h1]
      dsimp only
      rw [out_C]
      exact hf.add (pay1 m c ⟨p + 1, h'⟩))

/-- The kernel's result is the product. -/
theorem value : Has (G2 m c : S1024x4096.Idx → EReal) (fun x y => ∑ k ∈ range 8192, hh m c k x * dd m c k y) := by
  intro i
  have hi : (i 0).val < 1024 := (i 0).isLt
  have hj : (i 1).val < 4096 := (i 1).isLt
  have hN : cfg0.N = 16 := N_0
  have hp : pt2Of i = 4 * ((i 1).val / 1024) + 3 := by simp only [pt2Of, run2Of]; omega
  have h : pt2Of i < cfg0.N := by omega
  unfold G2
  rw [dif_pos h, ← outsAt0_sweep m c _ h, sums m c _ h (by omega) (loc2Of i)]
  have e0 : (i 0).val % 1024 = (i 0).val := by omega
  have e1 : 1024 * (pt2Of i / 4) + (i 1).val % 1024 = (i 1).val := by omega
  show ∑ k ∈ range 8192, hh m c k ((i 0).val % 1024) * dd m c k (1024 * (pt2Of i / 4) + (i 1).val % 1024) = _
  rw [e0, e1]

/-- The reference's result is the product, its two factors in the other order. -/
theorem ref (x0 : S8192x1024.Idx → EReal) (x1 : S8192x4096.Idx → EReal) :
    Has (val_main_v5 (F := Ideal) x0 x1 : S1024x4096.Idx → EReal) (fun x y => ∑ k ∈ range 8192, ent x0 k x * ent x1 k y) := by
  intro i
  dsimp only
  rw [val_main_v5_apply, val_main_v4_apply, ← Fin.sum_univ_eq_sum_range (fun k => ent x0 k (i 0).val * ent x1 k (i 1).val)]
  refine Finset.sum_congr rfl fun k _ => (mul_comm _ _).trans ?_
  rw [val_main_v1_apply, val_main_v3_apply]
  exact congrArg₂ (· * ·) (ent_of x0 _ rfl rfl) (ent_of x1 _ rfl rfl)

/-! ## The claims -/

/-- The reference declares no semaphore and its operations leave the arguments as launched. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's ideal program and the reference compute the same gradient. -/
theorem algebraic : Cert.algebraic_Kernel3Ideal_Reference3Ideal := by
  intro m g m' g' _ hm
  refine ⟨fun c => G2 m c, Cert.Kernel3Ideal.Value.run m g, ?_⟩
  refine (θ_run _ _ _).mono (fun _ h c => ?_) (Cert.Reference3Ideal.Value.run (F := Ideal) m' g')
  obtain ⟨hv, k0, k1⟩ := h c
  obtain ⟨e0, e1⟩ := hm c
  refine ⟨hv.trans ?_, k0, k1⟩
  rw [val_main_v5_eq, e0, e1]
  exact (ref _ _).eq (value m c)

end Cert.Proof.Ffn.Dwin

end
-- ==== Proof.Ffn.Dh.lean ====
/-
  The gradient of the feed-forward block's input: `du · w_inᵀ`, the hidden width summed in two blocks of 2048.
-/
module

public import proofs.«01_k».proof.Proof.Ffn.Entries
public import proofs.«01_k».proof.Proof.Gen.Kernel4Ideal.Value
public import proofs.«01_k».proof.Proof.Gen.Reference4Ideal.Read
public import proofs.«01_k».proof.Proof.Gen.Kernel4.Frame

@[expose] public section

set_option maxRecDepth 16384

noncomputable section

namespace Cert.Proof.Ffn.Dh

open Cert.Kernel4Ideal Cert.Kernel4Ideal.Gen Cert.Kernel4Ideal.Value Cert.Reference4Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 x1 : Vec F S1024x2048 .bf16) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S1024x2048) offsets_zero, shapeCast_self]

/-- and the last one writes the sum to the result. -/
theorem out_B (c i a3 h3 a4 h4 a5 h5 a6 h6 c0 c1 c2) (x0 x1 : Vec F S1024x2048 .bf16) (xs : Vec F S1024x1024 .f32) :
    out0_B_2 c i a3 h3 a4 h4 a5 h5 a6 h6 c0 c1 c2 x0 x1 xs = k0_pay4 (addf xs (k0_pay1 x0 x1)) := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S1024x2048) offsets_zero, View.ld_unit_zero (S := S1024x1024) offsets_zero, shapeCast_self]

end Point

/-! ## The blocks a point reads -/

variable (m : (ℓ : Loc nD τ sig) → Buf (Elt Ideal) ℓ) (c : Dev nD)

/-- The entries of the two arguments. -/
abbrev dd : ℕ → ℕ → EReal := ent (m ((c.tc : Thread nD τ).loc main_arg0) : S8192x4096.Idx → EReal)
abbrev ww : ℕ → ℕ → EReal := ent (m ((c.tc : Thread nD τ).loc main_arg1) : S1024x4096.Idx → EReal)

theorem idx0 : ∀ t : Fin cfg0.N, win0_0.index t = ![t.val / 2, t.val % 2] :=
  (by decide +kernel : ∀ t : Fin grid0.N, _)
theorem idx1 : ∀ t : Fin cfg0.N, win0_1.index t = ![0, t.val % 2] :=
  (by decide +kernel : ∀ t : Fin grid0.N, _)

theorem blk0 (t : Fin cfg0.N) : Has (iblk m c 0 t : S1024x2048.Idx → EReal) (fun x y => dd m c (1024 * (t.val / 2) + x) (2048 * (t.val % 2) + y)) := by
  intro j
  blk_simp [iblk]
  exact ent_of _ _ (by blk_simp [idx0 t] <;> omega) (by blk_simp [idx0 t] <;> omega)
theorem blk1 (t : Fin cfg0.N) : Has (iblk m c 1 t : S1024x2048.Idx → EReal) (fun x y => ww m c (x) (2048 * (t.val % 2) + y)) := by
  intro j
  blk_simp [iblk]
  exact ent_of _ _ (by blk_simp [idx1 t] <;> omega) (by blk_simp [idx1 t] <;> omega)

/-- The product of two blocks, rows by rows. -/
theorem prod {f g : ℕ → ℕ → EReal} {A : Vec Ideal S1024x2048 .bf16} {B : Vec Ideal S1024x2048 .bf16} (hA : Has (A : S1024x2048.Idx → EReal) f) (hB : Has (B : S1024x2048.Idx → EReal) g) :
    Has (k0_pay1 A B : S1024x1024.Idx → EReal) (fun x y => ∑ k ∈ range 2048, f x k * g y k) := by
  intro i
  unfold k0_pay1
  pointwise []
  rw [← Fin.sum_univ_eq_sum_range (fun k => f (i 0).val k * g (i 1).val k)]
  exact Finset.sum_congr rfl fun e _ => by rw [hA _, hB _]; rfl

/-- The last point's rounding changes no value here. -/
theorem written {f : ℕ → ℕ → EReal} {X : Vec Ideal S1024x1024 .f32} (hX : Has (X : S1024x1024.Idx → EReal) f) :
    Has (k0_pay4 X : S1024x1024.Idx → EReal) f := fun i => by
  unfold k0_pay4
  exact hX i

/-! ## The accumulator after a point, and the result -/

/-- A term of an entry of block `b` of the result. -/
def part (b x y k : ℕ) : EReal := dd m c (1024 * b + x) k * ww m c y k

theorem pay1 (t : Fin cfg0.N) : Has (k0_pay1 (iblk m c 0 t) (iblk m c 1 t) : S1024x1024.Idx → EReal)
    (fun x y => ∑ k ∈ range 2048, part m c (t.val / 2) x y (2048 * (t.val % 2) + k)) := prod (blk0 m c t) (blk1 m c t)

theorem sums : ∀ p (h : p < cfg0.N), p % 2 = 1 → Has ((outsAt0 m c p h).1 : S1024x1024.Idx → EReal)
    (fun x y => ∑ k ∈ range 4096, part m c (p / 2) x y k) :=
  accumulated (a := 2048) (K := 2) (fun p h => (outsAt0 m c p h).2) (fun p h => (outsAt0 m c p h).1) (part m c) id (by decide)
    (fun p h h0 => by
      rw [outsAt0_A m c ⟨p, h⟩ h0 (by dsimp only; omega) (by dsimp only; omega)]
      dsimp only
      rw [acc_A]
      exact pay1 m c ⟨p, h⟩)
    (fun p h h' h0 h1 => absurd (Nat.mod_two_eq_zero_or_one (p + 1)) (by omega))
    (fun p h h' h1 f hf => by
      rw [outsAt0_B m c ⟨p + 1, h'⟩ (by dsimp only; omega) (by dsimp only; omega) h1]
      dsimp only
      rw [out_B]
      exact written (hf.add (pay1 m c ⟨p + 1, h'⟩)))

/-- The kernel's result is the product. -/
theorem value : Has (G2 m c : S8192x1024.Idx → EReal) (fun x y => ∑ k ∈ range 4096, dd m c x k * ww m c y k) := by
  intro i
  have hi : (i 0).val < 8192 := (i 0).isLt
  have hj : (i 1).val < 1024 := (i 1).isLt
  have hN : cfg0.N = 16 := N_0
  have hp : pt2Of i = 2 * ((i 0).val / 1024) + 1 := by simp only [pt2Of, run2Of]; omega
  have h : pt2Of i < cfg0.N := by omega
  unfold G2
  rw [dif_pos h, ← outsAt0_sweep m c _ h, sums m c _ h (by omega) (loc2Of i)]
  have e0 : 1024 * (pt2Of i / 2) + (i 0).val % 1024 = (i 0).val := by omega
  have e1 : (i 1).val % 1024 = (i 1).val := by omega
  show ∑ k ∈ range 4096, dd m c (1024 * (pt2Of i / 2) + (i 0).val % 1024) k * ww m c ((i 1).val % 1024) k = _
  rw [e0, e1]

/-- The reference's result is the same. -/
theorem ref (x0 : S8192x4096.Idx → EReal) (x1 : S1024x4096.Idx → EReal) :
    Has (val_main_v5 (F := Ideal) x0 x1 : S8192x1024.Idx → EReal) (fun x y => ∑ k ∈ range 4096, ent x0 x k * ent x1 y k) := by
  intro i
  dsimp only
  rw [val_main_v5_apply, val_main_v4_apply, ← Fin.sum_univ_eq_sum_range (fun k => ent x0 (i 0).val k * ent x1 (i 1).val k)]
  refine Finset.sum_congr rfl fun k _ => ?_
  rw [val_main_v3_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's ideal program and the reference compute the same gradient. -/
theorem algebraic : Cert.algebraic_Kernel4Ideal_Reference4Ideal := by
  intro m g m' g' _ hm
  refine ⟨fun c => G2 m c, Cert.Kernel4Ideal.Value.run m g, ?_⟩
  refine (θ_run _ _ _).mono (fun _ h c => ?_) (Cert.Reference4Ideal.Value.run (F := Ideal) m' g')
  obtain ⟨hv, k0, k1⟩ := h c
  obtain ⟨e0, e1⟩ := hm c
  refine ⟨hv.trans ?_, k0, k1⟩
  rw [val_main_v5_eq, e0, e1]
  exact (ref _ _).eq (value m c)

end Cert.Proof.Ffn.Dh

end
-- ==== Proof.Ffn.Dwout.lean ====
/-
  The gradient of the feed-forward block's second weight: `aᵀ · dy / 2`, the rows summed in four blocks of 2048.
-/
module

public import proofs.«01_k».proof.Proof.Ffn.Entries
public import proofs.«01_k».proof.Proof.Gen.Kernel5Ideal.Value
public import proofs.«01_k».proof.Proof.Gen.Reference5Ideal.Read
public import proofs.«01_k».proof.Proof.Gen.Kernel5.Frame

@[expose] public section

set_option maxRecDepth 16384

noncomputable section

namespace Cert.Proof.Ffn.Dwout

open Cert.Kernel5Ideal Cert.Kernel5Ideal.Gen Cert.Kernel5Ideal.Value Cert.Reference5Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 : Vec F S2048x1024 .bf16) (x1 : Vec F S2048x1024 .f32) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S2048x1024) offsets_zero, shapeCast_self]

/-- a later one adds its product, -/
theorem acc_B (c i a3 h3 a4 h4 a5 h5 a6 h6 c0 c1 c2) (x0 : Vec F S2048x1024 .bf16) (x1 : Vec F S2048x1024 .f32) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero offsets_zero]
  unfold k0_pay3
  simp only [View.readAt_eq_ld, h3.read_unread, h4.read_unread, h6.read_unread, View.ld_unit_zero (S := S2048x1024) offsets_zero, View.ld_unit_zero (S := S1024x1024) offsets_zero, shapeCast_self]

/-- and the last one writes the sum to the result. -/
theorem out_C (c i a3 h3 a4 h4 a5 h5 a6 h6 c0 c1 c2) (x0 : Vec F S2048x1024 .bf16) (x1 : Vec F S2048x1024 .f32) (xs : Vec F S1024x1024 .f32) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S2048x1024) offsets_zero, View.ld_unit_zero (S := S1024x1024) offsets_zero, shapeCast_self]

end Point

/-! ## The blocks a point reads -/

variable (m : (ℓ : Loc nD τ sig) → Buf (Elt Ideal) ℓ) (c : Dev nD)

/-- The entries of the two arguments. -/
abbrev aa : ℕ → ℕ → EReal := ent (m ((c.tc : Thread nD τ).loc main_arg0) : S8192x2048.Idx → EReal)
abbrev dy : ℕ → ℕ → EReal := ent (m ((c.tc : Thread nD τ).loc main_arg1) : S8192x1024.Idx → EReal)

theorem idx0 : ∀ t : Fin cfg0.N, win0_0.index t = ![t.val % 4, t.val / 4] :=
  (by decide +kernel : ∀ t : Fin grid0.N, _)
theorem idx1 : ∀ t : Fin cfg0.N, win0_1.index t = ![t.val % 4, 0] :=
  (by decide +kernel : ∀ t : Fin grid0.N, _)

theorem blk0 (t : Fin cfg0.N) : Has (iblk m c 0 t : S2048x1024.Idx → EReal) (fun x y => aa m c (2048 * (t.val % 4) + x) (1024 * (t.val / 4) + y)) := by
  intro j
  blk_simp [iblk]
  exact ent_of _ _ (by blk_simp [idx0 t] <;> omega) (by blk_simp [idx0 t] <;> omega)
theorem blk1 (t : Fin cfg0.N) : Has (iblk m c 1 t : S2048x1024.Idx → EReal) (fun x y => dy m c (2048 * (t.val % 4) + x) (y)) := by
  intro j
  blk_simp [iblk]
  exact ent_of _ _ (by blk_simp [idx1 t] <;> omega) (by blk_simp [idx1 t] <;> omega)

/-- The product of two blocks, columns by columns. -/
theorem prod {f g : ℕ → ℕ → EReal} {A : Vec Ideal S2048x1024 .bf16} {B : Vec Ideal S2048x1024 .f32} (hA : Has (A : S2048x1024.Idx → EReal) f) (hB : Has (B : S2048x1024.Idx → EReal) g) :
    Has (k0_pay1 A B : S1024x1024.Idx → EReal) (fun x y => ∑ k ∈ range 2048, f k x * g k y) := by
  intro i
  unfold k0_pay1
  pointwise []
  rw [← Fin.sum_univ_eq_sum_range (fun k => f k (i 0).val * g k (i 1).val)]
  exact Finset.sum_congr rfl fun e _ => by rw [hA _, hB _]; rfl

/-- The last point's factor of one half. -/
theorem written {f : ℕ → ℕ → EReal} {X : Vec Ideal S1024x1024 .f32} (hX : Has (X : S1024x1024.Idx → EReal) f) :
    Has (k0_pay4 X : S1024x1024.Idx → EReal) (fun x y => f x y * ((1 / 2 : ℝ) : EReal)) := by
  intro i
  unfold k0_pay4
  show X i * (FloatOps.ofBits .f32 0x3F000000#32 : Ideal .f32) = _
  rw [hX i, ofBits_half]

/-! ## The accumulator after a point, and the result -/

/-- A term of an entry of block `b` of the result. -/
def part (b x y k : ℕ) : EReal := aa m c k (1024 * b + x) * dy m c k y

theorem pay1 (t : Fin cfg0.N) : Has (k0_pay1 (iblk m c 0 t) (iblk m c 1 t) : S1024x1024.Idx → EReal)
    (fun x y => ∑ k ∈ range 2048, part m c (t.val / 4) x y (2048 * (t.val % 4) + k)) := prod (blk0 m c t) (blk1 m c t)

theorem sums : ∀ p (h : p < cfg0.N), p % 4 = 3 → Has ((outsAt0 m c p h).1 : S1024x1024.Idx → EReal)
    (fun x y => (∑ k ∈ range 8192, part m c (p / 4) x y k) * ((1 / 2 : ℝ) : EReal)) :=
  accumulated (a := 2048) (K := 4) (fun p h => (outsAt0 m c p h).2) (fun p h => (outsAt0 m c p h).1) (part m c) (· * ((1 / 2 : ℝ) : EReal)) (by decide)
    (fun p h h0 => by
      rw [outsAt0_A m c ⟨p, h⟩ h0 (by dsimp only; omega) (by dsimp only; omega)]
      dsimp only
      rw [acc_A]
      exact pay1 m c ⟨p, h⟩)
    (fun p h h' h0 h1 f hf => by
      rw [outsAt0_B m c ⟨p + 1, h'⟩ h0 (by dsimp only; omega) h1]
      dsimp only
      rw [acc_B]
      exact hf.add (pay1 m c ⟨p + 1, h'⟩))
    (fun p h h' h1 f hf => by
      rw [outsAt0_C m c ⟨p + 1, h'⟩ (by dsimp only; omega) (by dsimp only; omega) h1]
      dsimp only
      rw [out_C]
      exact written (hf.add (pay1 m c ⟨p + 1, h'⟩)))

/-- The kernel's result is the product. -/
theorem value : Has (G2 m c : S2048x1024.Idx → EReal) (fun x y => (∑ k ∈ range 8192, aa m c k x * dy m c k y) * ((1 / 2 : ℝ) : EReal)) := by
  intro i
  have hi : (i 0).val < 2048 := (i 0).isLt
  have hj : (i 1).val < 1024 := (i 1).isLt
  have hN : cfg0.N = 8 := N_0
  have hp : pt2Of i = 4 * ((i 0).val / 1024) + 3 := by simp only [pt2Of, run2Of]; omega
  have h : pt2Of i < cfg0.N := by omega
  unfold G2
  rw [dif_pos h, ← outsAt0_sweep m c _ h, sums m c _ h (by omega) (loc2Of i)]
  have e0 : 1024 * (pt2Of i / 4) + (i 0).val % 1024 = (i 0).val := by omega
  have e1 : (i 1).val % 1024 = (i 1).val := by omega
  show (∑ k ∈ range 8192, aa m c k (1024 * (pt2Of i / 4) + (i 0).val % 1024) * dy m c k ((i 1).val % 1024)) * ((1 / 2 : ℝ) : EReal) = _
  rw [e0, e1]

/-- The reference's result is the product, its two factors in the other order. -/
theorem ref (x0 : S8192x2048.Idx → EReal) (x1 : S8192x1024.Idx → EReal) :
    Has (val_main_v10 (F := Ideal) x0 x1 : S2048x1024.Idx → EReal) (fun x y => (∑ k ∈ range 8192, ent x0 k x * ent x1 k y) * ((1 / 2 : ℝ) : EReal)) := by
  intro i
  dsimp only
  rw [← sum_mul_left half_nonneg, val_main_v10_apply, val_main_v9_apply,
    ← Fin.sum_univ_eq_sum_range (fun k => ent x0 k (i 0).val * (((1 / 2 : ℝ) : EReal) * ent x1 k (i 1).val))]
  refine Finset.sum_congr rfl fun k _ => (mul_comm _ _).trans ?_
  rw [val_main_v2_apply, val_main_v8_apply, val_main_v7_apply, val_main_cst_2_apply]
  refine congrArg₂ (· * ·) (ent_of x0 _ rfl rfl) ?_
  exact congrArg₂ (· * ·) ofBits_half (ent_of x1 _ rfl rfl)

/-! ## The claims -/

/-- The reference declares no semaphore and its operations leave the arguments as launched. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's ideal program and the reference compute the same gradient. -/
theorem algebraic : Cert.algebraic_Kernel5Ideal_Reference5Ideal := by
  intro m g m' g' _ hm
  refine ⟨fun c => G2 m c, Cert.Kernel5Ideal.Value.run m g, ?_⟩
  refine (θ_run _ _ _).mono (fun _ h c => ?_) (Cert.Reference5Ideal.Value.run (F := Ideal) m' g')
  obtain ⟨hv, k0, k1⟩ := h c
  obtain ⟨e0, e1⟩ := hm c
  refine ⟨hv.trans ?_, k0, k1⟩
  rw [val_main_v10_eq, e0, e1]
  exact (ref _ _).eq (value m c)

end Cert.Proof.Ffn.Dwout

end
-- ==== Proof.Mix.Dwin.lean ====
/-
  The gradient of the mixing block's first weight: `hᵀ · du`, the rows summed in four blocks of 2048.
-/
module

public import proofs.«01_k».proof.Proof.Ffn.Entries
public import proofs.«01_k».proof.Proof.Gen.Kernel6Ideal.Value
public import proofs.«01_k».proof.Proof.Gen.Reference6Ideal.Read
public import proofs.«01_k».proof.Proof.Gen.Kernel6.Frame

@[expose] public section

set_option maxRecDepth 16384

noncomputable section

namespace Cert.Proof.Mix.Dwin

open Cert.Kernel6Ideal Cert.Kernel6Ideal.Gen Cert.Kernel6Ideal.Value Cert.Reference6Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 x1 : Vec F S2048x1024 .bf16) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S2048x1024) offsets_zero, shapeCast_self]

/-- a later one adds its product, -/
theorem acc_B (c i a3 h3 a4 h4 a5 h5 a6 h6 c0 c1 c2) (x0 x1 : Vec F S2048x1024 .bf16) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero offsets_zero]
  unfold k0_pay3
  simp only [View.readAt_eq_ld, h3.read_unread, h4.read_unread, h6.read_unread, View.ld_unit_zero (S := S2048x1024) offsets_zero, View.ld_unit_zero (S := S1024x1024) offsets_zero, shapeCast_self]

/-- and the last one writes the sum to the result. -/
theorem out_C (c i a3 h3 a4 h4 a5 h5 a6 h6 c0 c1 c2) (x0 x1 : Vec F S2048x1024 .bf16) (xs : Vec F S1024x1024 .f32) :
    out0_C_2 c i a3 h3 a4 h4 a5 h5 a6 h6 c0 c1 c2 x0 x1 xs = addf xs (k0_pay1 x0 x1) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S2048x1024) offsets_zero, View.ld_unit_zero (S := S1024x1024) offsets_zero, shapeCast_self]

end Point

/-! ## The blocks a point reads -/

variable (m : (ℓ : Loc nD τ sig) → Buf (Elt Ideal) ℓ) (c : Dev nD)

/-- The entries of the two arguments. -/
abbrev hh : ℕ → ℕ → EReal := ent (m ((c.tc : Thread nD τ).loc main_arg0) : S8192x1024.Idx → EReal)
abbrev dd : ℕ → ℕ → EReal := ent (m ((c.tc : Thread nD τ).loc main_arg1) : S8192x8192.Idx → EReal)

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

theorem blk0 (t : Fin cfg0.N) : Has (iblk m c 0 t : S2048x1024.Idx → EReal) (fun x y => hh m c (2048 * (t.val % 4) + x) (y)) := by
  intro j
  blk_simp [iblk]
  exact ent_of _ _ (by blk_simp [idx0 t] <;> omega) (by blk_simp [idx0 t] <;> omega)
theorem blk1 (t : Fin cfg0.N) : Has (iblk m c 1 t : S2048x1024.Idx → EReal) (fun x y => dd m c (2048 * (t.val % 4) + x) (1024 * (t.val / 4) + y)) := by
  intro j
  blk_simp [iblk]
  exact ent_of _ _ (by blk_simp [idx1 t] <;> omega) (by blk_simp [idx1 t] <;> omega)

/-- The product of two blocks, columns by columns. -/
theorem prod {f g : ℕ → ℕ → EReal} {A : Vec Ideal S2048x1024 .bf16} {B : Vec Ideal S2048x1024 .bf16} (hA : Has (A : S2048x1024.Idx → EReal) f) (hB : Has (B : S2048x1024.Idx → EReal) g) :
    Has (k0_pay1 A B : S1024x1024.Idx → EReal) (fun x y => ∑ k ∈ range 2048, f k x * g k y) := by
  intro i
  unfold k0_pay1
  pointwise []
  rw [← Fin.sum_univ_eq_sum_range (fun k => f k (i 0).val * g k (i 1).val)]
  exact Finset.sum_congr rfl fun e _ => by rw [hA _, hB _]; rfl

/-! ## The accumulator after a point, and the result -/

/-- A term of an entry of block `b` of the result. -/
def part (b x y k : ℕ) : EReal := hh m c k x * dd m c k (1024 * b + y)

theorem pay1 (t : Fin cfg0.N) : Has (k0_pay1 (iblk m c 0 t) (iblk m c 1 t) : S1024x1024.Idx → EReal)
    (fun x y => ∑ k ∈ range 2048, part m c (t.val / 4) x y (2048 * (t.val % 4) + k)) := prod (blk0 m c t) (blk1 m c t)

theorem sums : ∀ p (h : p < cfg0.N), p % 4 = 3 → Has ((outsAt0 m c p h).1 : S1024x1024.Idx → EReal)
    (fun x y => ∑ k ∈ range 8192, part m c (p / 4) x y k) :=
  accumulated (a := 2048) (K := 4) (fun p h => (outsAt0 m c p h).2) (fun p h => (outsAt0 m c p h).1) (part m c) id (by decide)
    (fun p h h0 => by
      rw [outsAt0_A m c ⟨p, h⟩ h0 (by dsimp only; omega) (by dsimp only; omega)]
      dsimp only
      rw [acc_A]
      exact pay1 m c ⟨p, h⟩)
    (fun p h h' h0 h1 f hf => by
      rw [outsAt0_B m c ⟨p + 1, h'⟩ h0 (by dsimp only; omega) h1]
      dsimp only
      rw [acc_B]
      exact hf.add (pay1 m c ⟨p + 1, h'⟩))
    (fun p h h' h1 f hf => by
      rw [outsAt0_C m c ⟨p + 1, h'⟩ (by dsimp only; omega) (by dsimp only; omega) h1]
      dsimp only
      rw [out_C]
      exact hf.add (pay1 m c ⟨p + 1, h'⟩))

/-- The kernel's result is the product. -/
theorem value : Has (G2 m c : S1024x8192.Idx → EReal) (fun x y => ∑ k ∈ range 8192, hh m c k x * dd m c k y) := by
  intro i
  have hi : (i 0).val < 1024 := (i 0).isLt
  have hj : (i 1).val < 8192 := (i 1).isLt
  have hN : cfg0.N = 32 := N_0
  have hp : pt2Of i = 4 * ((i 1).val / 1024) + 3 := by simp only [pt2Of, run2Of]; omega
  have h : pt2Of i < cfg0.N := by omega
  unfold G2
  rw [dif_pos h, ← outsAt0_sweep m c _ h, sums m c _ h (by omega) (loc2Of i)]
  have e0 : (i 0).val % 1024 = (i 0).val := by omega
  have e1 : 1024 * (pt2Of i / 4) + (i 1).val % 1024 = (i 1).val := by omega
  show ∑ k ∈ range 8192, hh m c k ((i 0).val % 1024) * dd m c k (1024 * (pt2Of i / 4) + (i 1).val % 1024) = _
  rw [e0, e1]

/-- The reference's result is the product, its two factors in the other order. -/
theorem ref (x0 : S8192x1024.Idx → EReal) (x1 : S8192x8192.Idx → EReal) :
    Has (val_main_v5 (F := Ideal) x0 x1 : S1024x8192.Idx → EReal) (fun x y => ∑ k ∈ range 8192, ent x0 k x * ent x1 k y) := by
  intro i
  dsimp only
  rw [val_main_v5_apply, val_main_v4_apply, ← Fin.sum_univ_eq_sum_range (fun k => ent x0 k (i 0).val * ent x1 k (i 1).val)]
  refine Finset.sum_congr rfl fun k _ => (mul_comm _ _).trans ?_
  rw [val_main_v1_apply, val_main_v3_apply]
  exact congrArg₂ (· * ·) (ent_of x0 _ rfl rfl) (ent_of x1 _ rfl rfl)

/-! ## The claims -/

/-- The reference declares no semaphore and its operations leave the arguments as launched. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's ideal program and the reference compute the same gradient. -/
theorem algebraic : Cert.algebraic_Kernel6Ideal_Reference6Ideal := by
  intro m g m' g' _ hm
  refine ⟨fun c => G2 m c, Cert.Kernel6Ideal.Value.run m g, ?_⟩
  refine (θ_run _ _ _).mono (fun _ h c => ?_) (Cert.Reference6Ideal.Value.run (F := Ideal) m' g')
  obtain ⟨hv, k0, k1⟩ := h c
  obtain ⟨e0, e1⟩ := hm c
  refine ⟨hv.trans ?_, k0, k1⟩
  rw [val_main_v5_eq, e0, e1]
  exact (ref _ _).eq (value m c)

end Cert.Proof.Mix.Dwin

end
-- ==== Proof.Mix.Dh.lean ====
/-
  The gradient of the mixing block's input: `du · w_inᵀ`, the width of the six projections summed in four blocks of 2048.
-/
module

public import proofs.«01_k».proof.Proof.Ffn.Entries
public import proofs.«01_k».proof.Proof.Gen.Kernel7Ideal.Value
public import proofs.«01_k».proof.Proof.Gen.Reference7Ideal.Read
public import proofs.«01_k».proof.Proof.Gen.Kernel7.Frame

@[expose] public section

set_option maxRecDepth 16384

noncomputable section

namespace Cert.Proof.Mix.Dh

open Cert.Kernel7Ideal Cert.Kernel7Ideal.Gen Cert.Kernel7Ideal.Value Cert.Reference7Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 x1 : Vec F S1024x2048 .bf16) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S1024x2048) offsets_zero, shapeCast_self]

/-- a later one adds its product, -/
theorem acc_B (c i a3 h3 a4 h4 a5 h5 a6 h6 c0 c1 c2) (x0 x1 : Vec F S1024x2048 .bf16) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero offsets_zero]
  unfold k0_pay3
  simp only [View.readAt_eq_ld, h3.read_unread, h4.read_unread, h6.read_unread, View.ld_unit_zero (S := S1024x2048) offsets_zero, View.ld_unit_zero (S := S1024x1024) offsets_zero, shapeCast_self]

/-- and the last one writes the sum to the result. -/
theorem out_C (c i a3 h3 a4 h4 a5 h5 a6 h6 c0 c1 c2) (x0 x1 : Vec F S1024x2048 .bf16) (xs : Vec F S1024x1024 .f32) :
    out0_C_2 c i a3 h3 a4 h4 a5 h5 a6 h6 c0 c1 c2 x0 x1 xs = k0_pay4 (addf xs (k0_pay1 x0 x1)) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S1024x2048) offsets_zero, View.ld_unit_zero (S := S1024x1024) offsets_zero, shapeCast_self]

end Point

/-! ## The blocks a point reads -/

variable (m : (ℓ : Loc nD τ sig) → Buf (Elt Ideal) ℓ) (c : Dev nD)

/-- The entries of the two arguments. -/
abbrev dd : ℕ → ℕ → EReal := ent (m ((c.tc : Thread nD τ).loc main_arg0) : S8192x8192.Idx → EReal)
abbrev ww : ℕ → ℕ → EReal := ent (m ((c.tc : Thread nD τ).loc main_arg1) : S1024x8192.Idx → EReal)

theorem idx0 : ∀ t : Fin cfg0.N, win0_0.index t = ![t.val / 4, t.val % 4] :=
  (by decide +kernel : ∀ t : Fin grid0.N, _)
theorem idx1 : ∀ t : Fin cfg0.N, win0_1.index t = ![0, t.val % 4] :=
  (by decide +kernel : ∀ t : Fin grid0.N, _)

theorem blk0 (t : Fin cfg0.N) : Has (iblk m c 0 t : S1024x2048.Idx → EReal) (fun x y => dd m c (1024 * (t.val / 4) + x) (2048 * (t.val % 4) + y)) := by
  intro j
  blk_simp [iblk]
  exact ent_of _ _ (by blk_simp [idx0 t] <;> omega) (by blk_simp [idx0 t] <;> omega)
theorem blk1 (t : Fin cfg0.N) : Has (iblk m c 1 t : S1024x2048.Idx → EReal) (fun x y => ww m c (x) (2048 * (t.val % 4) + y)) := by
  intro j
  blk_simp [iblk]
  exact ent_of _ _ (by blk_simp [idx1 t] <;> omega) (by blk_simp [idx1 t] <;> omega)

/-- The product of two blocks, rows by rows. -/
theorem prod {f g : ℕ → ℕ → EReal} {A : Vec Ideal S1024x2048 .bf16} {B : Vec Ideal S1024x2048 .bf16} (hA : Has (A : S1024x2048.Idx → EReal) f) (hB : Has (B : S1024x2048.Idx → EReal) g) :
    Has (k0_pay1 A B : S1024x1024.Idx → EReal) (fun x y => ∑ k ∈ range 2048, f x k * g y k) := by
  intro i
  unfold k0_pay1
  pointwise []
  rw [← Fin.sum_univ_eq_sum_range (fun k => f (i 0).val k * g (i 1).val k)]
  exact Finset.sum_congr rfl fun e _ => by rw [hA _, hB _]; rfl

/-- The last point's rounding changes no value here. -/
theorem written {f : ℕ → ℕ → EReal} {X : Vec Ideal S1024x1024 .f32} (hX : Has (X : S1024x1024.Idx → EReal) f) :
    Has (k0_pay4 X : S1024x1024.Idx → EReal) f := fun i => by
  unfold k0_pay4
  exact hX i

/-! ## The accumulator after a point, and the result -/

/-- A term of an entry of block `b` of the result. -/
def part (b x y k : ℕ) : EReal := dd m c (1024 * b + x) k * ww m c y k

theorem pay1 (t : Fin cfg0.N) : Has (k0_pay1 (iblk m c 0 t) (iblk m c 1 t) : S1024x1024.Idx → EReal)
    (fun x y => ∑ k ∈ range 2048, part m c (t.val / 4) x y (2048 * (t.val % 4) + k)) := prod (blk0 m c t) (blk1 m c t)

theorem sums : ∀ p (h : p < cfg0.N), p % 4 = 3 → Has ((outsAt0 m c p h).1 : S1024x1024.Idx → EReal)
    (fun x y => ∑ k ∈ range 8192, part m c (p / 4) x y k) :=
  accumulated (a := 2048) (K := 4) (fun p h => (outsAt0 m c p h).2) (fun p h => (outsAt0 m c p h).1) (part m c) id (by decide)
    (fun p h h0 => by
      rw [outsAt0_A m c ⟨p, h⟩ h0 (by dsimp only; omega) (by dsimp only; omega)]
      dsimp only
      rw [acc_A]
      exact pay1 m c ⟨p, h⟩)
    (fun p h h' h0 h1 f hf => by
      rw [outsAt0_B m c ⟨p + 1, h'⟩ h0 (by dsimp only; omega) h1]
      dsimp only
      rw [acc_B]
      exact hf.add (pay1 m c ⟨p + 1, h'⟩))
    (fun p h h' h1 f hf => by
      rw [outsAt0_C m c ⟨p + 1, h'⟩ (by dsimp only; omega) (by dsimp only; omega) h1]
      dsimp only
      rw [out_C]
      exact written (hf.add (pay1 m c ⟨p + 1, h'⟩)))

/-- The kernel's result is the product. -/
theorem value : Has (G2 m c : S8192x1024.Idx → EReal) (fun x y => ∑ k ∈ range 8192, dd m c x k * ww m c y k) := by
  intro i
  have hi : (i 0).val < 8192 := (i 0).isLt
  have hj : (i 1).val < 1024 := (i 1).isLt
  have hN : cfg0.N = 32 := N_0
  have hp : pt2Of i = 4 * ((i 0).val / 1024) + 3 := by simp only [pt2Of, run2Of]; omega
  have h : pt2Of i < cfg0.N := by omega
  unfold G2
  rw [dif_pos h, ← outsAt0_sweep m c _ h, sums m c _ h (by omega) (loc2Of i)]
  have e0 : 1024 * (pt2Of i / 4) + (i 0).val % 1024 = (i 0).val := by omega
  have e1 : (i 1).val % 1024 = (i 1).val := by omega
  show ∑ k ∈ range 8192, dd m c (1024 * (pt2Of i / 4) + (i 0).val % 1024) k * ww m c ((i 1).val % 1024) k = _
  rw [e0, e1]

/-- The reference's result is the same. -/
theorem ref (x0 : S8192x8192.Idx → EReal) (x1 : S1024x8192.Idx → EReal) :
    Has (val_main_v5 (F := Ideal) x0 x1 : S8192x1024.Idx → EReal) (fun x y => ∑ k ∈ range 8192, ent x0 x k * ent x1 y k) := by
  intro i
  dsimp only
  rw [val_main_v5_apply, val_main_v4_apply, ← Fin.sum_univ_eq_sum_range (fun k => ent x0 (i 0).val k * ent x1 (i 1).val k)]
  refine Finset.sum_congr rfl fun k _ => ?_
  rw [val_main_v3_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's ideal program and the reference compute the same gradient. -/
theorem algebraic : Cert.algebraic_Kernel7Ideal_Reference7Ideal := by
  intro m g m' g' _ hm
  refine ⟨fun c => G2 m c, Cert.Kernel7Ideal.Value.run m g, ?_⟩
  refine (θ_run _ _ _).mono (fun _ h c => ?_) (Cert.Reference7Ideal.Value.run (F := Ideal) m' g')
  obtain ⟨hv, k0, k1⟩ := h c
  obtain ⟨e0, e1⟩ := hm c
  refine ⟨hv.trans ?_, k0, k1⟩
  rw [val_main_v5_eq, e0, e1]
  exact (ref _ _).eq (value m c)

end Cert.Proof.Mix.Dh

end
-- ==== Proof.Mix.Dwout.lean ====
/-
  The gradient of the mixing block's output weight: `mergedᵀ · dy`, the rows summed in four blocks of 2048.
-/
module

public import proofs.«01_k».proof.Proof.Ffn.Entries
public import proofs.«01_k».proof.Proof.Gen.Kernel8Ideal.Value
public import proofs.«01_k».proof.Proof.Gen.Reference8Ideal.Read
public import proofs.«01_k».proof.Proof.Gen.Kernel8.Frame

@[expose] public section

set_option maxRecDepth 16384

noncomputable section

namespace Cert.Proof.Mix.Dwout

open Cert.Kernel8Ideal Cert.Kernel8Ideal.Gen Cert.Kernel8Ideal.Value Cert.Reference8Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 : Vec F S2048x1024 .bf16) (x1 : Vec F S2048x1024 .f32) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S2048x1024) offsets_zero, shapeCast_self]

/-- a later one adds its product, -/
theorem acc_B (c i a3 h3 a4 h4 a5 h5 a6 h6 c0 c1 c2) (x0 : Vec F S2048x1024 .bf16) (x1 : Vec F S2048x1024 .f32) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero offsets_zero]
  unfold k0_pay3
  simp only [View.readAt_eq_ld, h3.read_unread, h4.read_unread, h6.read_unread, View.ld_unit_zero (S := S2048x1024) offsets_zero, View.ld_unit_zero (S := S1024x1024) offsets_zero, shapeCast_self]

/-- and the last one writes the sum to the result. -/
theorem out_C (c i a3 h3 a4 h4 a5 h5 a6 h6 c0 c1 c2) (x0 : Vec F S2048x1024 .bf16) (x1 : Vec F S2048x1024 .f32) (xs : Vec F S1024x1024 .f32) :
    out0_C_2 c i a3 h3 a4 h4 a5 h5 a6 h6 c0 c1 c2 x0 x1 xs = addf xs (k0_pay1 x0 x1) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S2048x1024) offsets_zero, View.ld_unit_zero (S := S1024x1024) offsets_zero, shapeCast_self]

end Point

/-! ## The blocks a point reads -/

variable (m : (ℓ : Loc nD τ sig) → Buf (Elt Ideal) ℓ) (c : Dev nD)

/-- The entries of the two arguments. -/
abbrev mm : ℕ → ℕ → EReal := ent (m ((c.tc : Thread nD τ).loc main_arg0) : S8192x1024.Idx → EReal)
abbrev dy : ℕ → ℕ → EReal := ent (m ((c.tc : Thread nD τ).loc main_arg1) : S8192x1024.Idx → EReal)

theorem idx0 : ∀ t : Fin cfg0.N, win0_0.index t = ![t.val % 4, 0] :=
  (by decide +kernel : ∀ t : Fin grid0.N, _)
theorem idx1 : ∀ t : Fin cfg0.N, win0_1.index t = ![t.val % 4, 0] :=
  (by decide +kernel : ∀ t : Fin grid0.N, _)

theorem blk0 (t : Fin cfg0.N) : Has (iblk m c 0 t : S2048x1024.Idx → EReal) (fun x y => mm m c (2048 * (t.val % 4) + x) (y)) := by
  intro j
  blk_simp [iblk]
  exact ent_of _ _ (by blk_simp [idx0 t] <;> omega) (by blk_simp [idx0 t] <;> omega)
theorem blk1 (t : Fin cfg0.N) : Has (iblk m c 1 t : S2048x1024.Idx → EReal) (fun x y => dy m c (2048 * (t.val % 4) + x) (y)) := by
  intro j
  blk_simp [iblk]
  exact ent_of _ _ (by blk_simp [idx1 t] <;> omega) (by blk_simp [idx1 t] <;> omega)

/-- The product of two blocks, columns by columns. -/
theorem prod {f g : ℕ → ℕ → EReal} {A : Vec Ideal S2048x1024 .bf16} {B : Vec Ideal S2048x1024 .f32} (hA : Has (A : S2048x1024.Idx → EReal) f) (hB : Has (B : S2048x1024.Idx → EReal) g) :
    Has (k0_pay1 A B : S1024x1024.Idx → EReal) (fun x y => ∑ k ∈ range 2048, f k x * g k y) := by
  intro i
  unfold k0_pay1
  pointwise []
  rw [← Fin.sum_univ_eq_sum_range (fun k => f k (i 0).val * g k (i 1).val)]
  exact Finset.sum_congr rfl fun e _ => by rw [hA _, hB _]; rfl

/-! ## The accumulator after a point, and the result -/

/-- A term of an entry of block `b` of the result. -/
def part (_ x y k : ℕ) : EReal := mm m c k x * dy m c k y

theorem pay1 (t : Fin cfg0.N) : Has (k0_pay1 (iblk m c 0 t) (iblk m c 1 t) : S1024x1024.Idx → EReal)
    (fun x y => ∑ k ∈ range 2048, part m c (t.val / 4) x y (2048 * (t.val % 4) + k)) := prod (blk0 m c t) (blk1 m c t)

theorem sums : ∀ p (h : p < cfg0.N), p % 4 = 3 → Has ((outsAt0 m c p h).1 : S1024x1024.Idx → EReal)
    (fun x y => ∑ k ∈ range 8192, part m c (p / 4) x y k) :=
  accumulated (a := 2048) (K := 4) (fun p h => (outsAt0 m c p h).2) (fun p h => (outsAt0 m c p h).1) (part m c) id (by decide)
    (fun p h h0 => by
      rw [outsAt0_A m c ⟨p, h⟩ h0 (by have hN : cfg0.N = 4 := N_0; dsimp only; omega) (by dsimp only; omega)]
      dsimp only
      rw [acc_A]
      exact pay1 m c ⟨p, h⟩)
    (fun p h h' h0 h1 f hf => by
      rw [outsAt0_B m c ⟨p + 1, h'⟩ h0 (by dsimp only; omega) h1]
      dsimp only
      rw [acc_B]
      exact hf.add (pay1 m c ⟨p + 1, h'⟩))
    (fun p h h' h1 f hf => by
      rw [outsAt0_C m c ⟨p + 1, h'⟩ (by dsimp only; omega) (by dsimp only; omega) h1]
      dsimp only
      rw [out_C]
      exact hf.add (pay1 m c ⟨p + 1, h'⟩))

/-- The kernel's result is the product. -/
theorem value : Has (G2 m c : S1024x1024.Idx → EReal) (fun x y => ∑ k ∈ range 8192, mm m c k x * dy m c k y) := by
  intro i
  have hi : (i 0).val < 1024 := (i 0).isLt
  have hj : (i 1).val < 1024 := (i 1).isLt
  have hN : cfg0.N = 4 := N_0
  have hp : pt2Of i = 3 := by simp only [pt2Of, run2Of]; omega
  have h : pt2Of i < cfg0.N := by omega
  unfold G2
  rw [dif_pos h, ← outsAt0_sweep m c _ h, sums m c _ h (by omega) (loc2Of i)]
  have e0 : (i 0).val % 1024 = (i 0).val := by omega
  have e1 : (i 1).val % 1024 = (i 1).val := by omega
  show ∑ k ∈ range 8192, mm m c k ((i 0).val % 1024) * dy m c k ((i 1).val % 1024) = _
  rw [e0, e1]

/-- The reference's result is the product, its two factors in the other order. -/
theorem ref (x0 : S8192x1024.Idx → EReal) (x1 : S8192x1024.Idx → EReal) :
    Has (val_main_v4 (F := Ideal) x0 x1 : S1024x1024.Idx → EReal) (fun x y => ∑ k ∈ range 8192, ent x0 k x * ent x1 k y) := by
  intro i
  dsimp only
  rw [val_main_v4_apply, val_main_v3_apply, ← Fin.sum_univ_eq_sum_range (fun k => ent x0 k (i 0).val * ent x1 k (i 1).val)]
  refine Finset.sum_congr rfl fun k _ => (mul_comm _ _).trans ?_
  rw [val_main_v1_apply]
  exact congrArg₂ (· * ·) (ent_of x0 _ rfl rfl) (ent_of x1 _ rfl rfl)

/-! ## The claims -/

/-- The reference declares no semaphore and its operations leave the arguments as launched. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's ideal program and the reference compute the same gradient. -/
theorem algebraic : Cert.algebraic_Kernel8Ideal_Reference8Ideal := by
  intro m g m' g' _ hm
  refine ⟨fun c => G2 m c, Cert.Kernel8Ideal.Value.run m g, ?_⟩
  refine (θ_run _ _ _).mono (fun _ h c => ?_) (Cert.Reference8Ideal.Value.run (F := Ideal) m' g')
  obtain ⟨hv, k0, k1⟩ := h c
  obtain ⟨e0, e1⟩ := hm c
  refine ⟨hv.trans ?_, k0, k1⟩
  rw [val_main_v4_eq, e0, e1]
  exact (ref _ _).eq (value m c)

end Cert.Proof.Mix.Dwout

end
-- ==== Proof.Mix.Dmerged.lean ====
/-
  The gradient of the mixing block's merged branches: `dy · w_outᵀ`.
-/
module

public import proofs.«01_k».proof.Proof.Ffn.Entries
public import proofs.«01_k».proof.Proof.Gen.Kernel9Ideal.Value
public import proofs.«01_k».proof.Proof.Gen.Reference9Ideal.Read
public import proofs.«01_k».proof.Proof.Gen.Kernel9.Frame

@[expose] public section

set_option maxRecDepth 16384

noncomputable section

namespace Cert.Proof.Mix.Dmerged

open Cert.Kernel9Ideal Cert.Kernel9Ideal.Gen Cert.Kernel9Ideal.Value Cert.Reference9Ideal.Read
open Idealize.ShloMosaic Idealize.ShloMosaic.TcCoe Idealize.SL.Sem Finset Cert.Proof.Ffn

/-! ## What a point leaves in the result's block -/

section Point

variable {F : FTy → Type} [FloatOps F]

/-- A point writes its product. -/
theorem out_A (c i a3 h3 a4 h4 a5 h5 a6 h6) (x0 : Vec F S1024x1024 .f32) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread, View.ld_unit_zero (S := S1024x1024) offsets_zero, shapeCast_self]

end Point

/-! ## The blocks a point reads -/

variable (m : (ℓ : Loc nD τ sig) → Buf (Elt Ideal) ℓ) (c : Dev nD)

/-- The entries of the arguments. -/
abbrev dy : ℕ → ℕ → EReal := ent (m ((c.tc : Thread nD τ).loc main_arg0) : S8192x1024.Idx → EReal)
abbrev ww : ℕ → ℕ → EReal := ent (m ((c.tc : Thread nD τ).loc main_arg1) : S1024x1024.Idx → EReal)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem blk0 (t : Fin cfg0.N) : Has (iblk m c 0 t : S1024x1024.Idx → EReal) (fun x y => dy m c (1024 * t.val + x) (y)) := by
  intro j
  blk_simp [iblk]
  exact ent_of _ _ (by blk_simp [idx0 t] <;> omega) (by blk_simp [idx0 t] <;> omega)
theorem blk1 (t : Fin cfg0.N) : Has (iblk m c 1 t : S1024x1024.Idx → EReal) (fun x y => ww m c (x) (y)) := by
  intro j
  blk_simp [iblk]
  exact ent_of _ _ (by blk_simp [idx1 t] <;> omega) (by blk_simp [idx1 t] <;> omega)

/-- What a point writes of blocks with given entries. -/
theorem prod {f g : ℕ → ℕ → EReal} {A : Vec Ideal S1024x1024 .f32} {B : Vec Ideal S1024x1024 .bf16}
    (hA : Has (A : S1024x1024.Idx → EReal) f) (hB : Has (B : S1024x1024.Idx → EReal) g) :
    Has (k0_pay1 A B : S1024x1024.Idx → EReal) (fun x y => ∑ k ∈ range 1024, f x k * g y k) := by
  intro i
  unfold k0_pay1
  pointwise []
  rw [← Fin.sum_univ_eq_sum_range (fun k => f (i 0).val k * g (i 1).val k)]
  exact Finset.sum_congr rfl fun e _ => by rw [hA _, hB _]; rfl

/-! ## The result -/

/-- The result of the arguments. -/
def G : S8192x1024.Idx → EReal := mat 8192 1024 fun x y => ∑ k ∈ range 1024, dy m c x k * ww m c y k

/-- What a point writes back is its block of the result. -/
theorem written (t : Fin cfg0.N) : (dats m 0 c).flushed 2 t = ((cfg0.win 2).blk t).view.read (Elt Ideal) (G m c) := by
  rw [flushed2_A, out_A]
  funext y
  have e0 : (((cfg0.win 2).blk t).view.emb y 0).val = 1024 * t.val + (y 0).val := by blk_simp [idx2 t] <;> omega
  have e1 : (((cfg0.win 2).blk t).view.emb y 1).val = (y 1).val := by blk_simp [idx2 t] <;> omega
  refine (prod (blk0 m c t) (blk1 m c t) ((cfg0.win 2).xinj (grid0.coords t) y)).trans ?_
  rw [View.read_apply]
  unfold G mat
  rw [e0, e1]
  rfl

/-- The whole result: its blocks cover it. -/
theorem final : (dats m 0 c).arrAt 2 cfg0.N = G m c :=
  (dats m 0 c).arrAt_eq_of_cover 2 (G m c) (fun t _ => written m c t) ((by decide +kernel : win0_2.Covers).cover _ (Memref.isWhole_whole _))

/-- The reference's result is the same. -/
theorem ref (x0 : S8192x1024.Idx → EReal) (x1 : S1024x1024.Idx → EReal) :
    Has (val_main_v4 (F := Ideal) x0 x1 : S8192x1024.Idx → EReal) (fun x y => ∑ k ∈ range 1024, ent x0 x k * ent x1 y k) := by
  intro i
  dsimp only
  rw [val_main_v4_apply, val_main_v3_apply, ← Fin.sum_univ_eq_sum_range (fun k => ent x0 (i 0).val k * ent x1 (i 1).val k)]
  refine Finset.sum_congr rfl fun k _ => ?_
  rw [val_main_v1_apply]
  exact congrArg₂ (· * ·) (ent_of x0 _ rfl rfl) (ent_of x1 _ rfl rfl)

/-! ## The claims -/

/-- The reference declares no semaphore and its operations leave the arguments as launched. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel's ideal program and the reference compute the same gradient. -/
theorem algebraic : Cert.algebraic_Kernel9Ideal_Reference9Ideal := by
  intro m g m' g' _ hm
  refine ⟨fun c => G m c, (θ_run _ _ _).mono (fun _ h c => ⟨(h c).1.trans (final m c), (h c).2⟩) (Cert.Kernel9Ideal.Value.run_blocks m g), ?_⟩
  refine (θ_run _ _ _).mono (fun _ h c => ?_) (Cert.Reference9Ideal.Value.run (F := Ideal) m' g')
  obtain ⟨hv, k0, k1⟩ := h c
  obtain ⟨e0, e1⟩ := hm c
  refine ⟨hv.trans ?_, k0, k1⟩
  rw [val_main_v4_eq, e0, e1]
  exact (ref _ _).eq (has_mat _ _ _)

end Cert.Proof.Mix.Dmerged

end
-- ==== Proof.Mix.Dwbranch.lean ====
/-
  The gradient of a branch's output weight: `branchᵀ · dproj`, the rows summed in four blocks of 2048.
-/
module

public import proofs.«01_k».proof.Proof.Ffn.Entries
public import proofs.«01_k».proof.Proof.Gen.Kernel10Ideal.Value
public import proofs.«01_k».proof.Proof.Gen.Reference10Ideal.Read
public import proofs.«01_k».proof.Proof.Gen.Kernel10.Frame

@[expose] public section

set_option maxRecDepth 16384

noncomputable section

namespace Cert.Proof.Mix.Dwbranch

open Cert.Kernel10Ideal Cert.Kernel10Ideal.Gen Cert.Kernel10Ideal.Value Cert.Reference10Ideal.Read
open Idealize.ShloMosaic Idealize.ShloMosaic.TcCoe Idealize.SL.Sem Finset Cert.Proof.Ffn

/-! ## What a point leaves in the accumulator and in the result's block -/

section Point

variable {F : FTy → Type} [FloatOps F]

/-- The first point of a block leaves its product, -/
theorem acc_A (c i a3 h3 a4 h4 a5 h5 a6 h6 c0 c1 c2) (x0 : Vec F S2048x512 .bf16) (x1 : Vec F S2048x1024 .bf16) :
    sout0_A_0 c i a3 h3 a4 h4 a5 h5 a6 h6 c0 c1 c2 x0 x1 = k0_pay1 x0 x1 := by
  unfold sout0_A_0
  rw [View.read_writes_eq_canon _ _ _ (scover0_A_0 c i a3 h3 a4 h4 a5 h5 a6 h6 c0 c1 c2 x0 x1)]
  unfold kernelRun0_A
  dsimp only
  rw [View.canon_unit_zero offsets_zero]
  unfold k0_pay2
  simp only [View.readAt_eq_ld, h3.read_unread, h4.read_unread, View.ld_unit_zero (S := S2048x512) offsets_zero, View.ld_unit_zero (S := S2048x1024) offsets_zero, shapeCast_self]

/-- a later one adds its product, -/
theorem acc_B (c i a3 h3 a4 h4 a5 h5 a6 h6 c0 c1 c2) (x0 : Vec F S2048x512 .bf16) (x1 : Vec F S2048x1024 .bf16) (xs : Vec F S512x1024 .f32) :
    sout0_B_0 c i a3 h3 a4 h4 a5 h5 a6 h6 c0 c1 c2 x0 x1 xs = addf xs (k0_pay1 x0 x1) := by
  unfold sout0_B_0
  rw [View.read_writes_eq_canon _ _ _ (scover0_B_0 c i a3 h3 a4 h4 a5 h5 a6 h6 c0 c1 c2 x0 x1 xs)]
  unfold kernelRun0_B
  dsimp only
  rw [View.canon_unit_zero offsets_zero]
  unfold k0_pay3
  simp only [View.readAt_eq_ld, h3.read_unread, h4.read_unread, h6.read_unread, View.ld_unit_zero (S := S2048x512) offsets_zero, View.ld_unit_zero (S := S2048x1024) offsets_zero, View.ld_unit_zero (S := S512x1024) offsets_zero, shapeCast_self]

/-- and the last one writes the sum to the result. -/
theorem out_C (c i a3 h3 a4 h4 a5 h5 a6 h6 c0 c1 c2) (x0 : Vec F S2048x512 .bf16) (x1 : Vec F S2048x1024 .bf16) (xs : Vec F S512x1024 .f32) :
    out0_C_2 c i a3 h3 a4 h4 a5 h5 a6 h6 c0 c1 c2 x0 x1 xs = addf xs (k0_pay1 x0 x1) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero offsets_zero, View.readCov_unit_zero (S := S512x1024) _ offsets_zero]
  unfold k0_pay3
  simp only [View.readAt_eq_ld, h3.read_unread, h4.read_unread, h6.read_unread, View.ld_unit_zero (S := S2048x512) offsets_zero, View.ld_unit_zero (S := S2048x1024) offsets_zero, View.ld_unit_zero (S := S512x1024) offsets_zero, shapeCast_self]

end Point

/-! ## The blocks a point reads -/

variable (m : (ℓ : Loc nD τ sig) → Buf (Elt Ideal) ℓ) (c : Dev nD)

/-- The entries of the two arguments. -/
abbrev bb : ℕ → ℕ → EReal := ent (m ((c.tc : Thread nD τ).loc main_arg0) : S8192x512.Idx → EReal)
abbrev dd : ℕ → ℕ → EReal := ent (m ((c.tc : Thread nD τ).loc main_arg1) : S8192x1024.Idx → EReal)

theorem idx0 : ∀ t : Fin cfg0.N, win0_0.index t = ![t.val % 4, 0] :=
  (by decide +kernel : ∀ t : Fin grid0.N, _)
theorem idx1 : ∀ t : Fin cfg0.N, win0_1.index t = ![t.val % 4, 0] :=
  (by decide +kernel : ∀ t : Fin grid0.N, _)

theorem blk0 (t : Fin cfg0.N) : Has (iblk m c 0 t : S2048x512.Idx → EReal) (fun x y => bb m c (2048 * (t.val % 4) + x) (y)) := by
  intro j
  blk_simp [iblk]
  exact ent_of _ _ (by blk_simp [idx0 t] <;> omega) (by blk_simp [idx0 t] <;> omega)
theorem blk1 (t : Fin cfg0.N) : Has (iblk m c 1 t : S2048x1024.Idx → EReal) (fun x y => dd m c (2048 * (t.val % 4) + x) (y)) := by
  intro j
  blk_simp [iblk]
  exact ent_of _ _ (by blk_simp [idx1 t] <;> omega) (by blk_simp [idx1 t] <;> omega)

/-- The product of two blocks, columns by columns. -/
theorem prod {f g : ℕ → ℕ → EReal} {A : Vec Ideal S2048x512 .bf16} {B : Vec Ideal S2048x1024 .bf16} (hA : Has (A : S2048x512.Idx → EReal) f) (hB : Has (B : S2048x1024.Idx → EReal) g) :
    Has (k0_pay1 A B : S512x1024.Idx → EReal) (fun x y => ∑ k ∈ range 2048, f k x * g k y) := by
  intro i
  unfold k0_pay1
  pointwise []
  rw [← Fin.sum_univ_eq_sum_range (fun k => f k (i 0).val * g k (i 1).val)]
  exact Finset.sum_congr rfl fun e _ => by rw [hA _, hB _]; rfl

/-! ## The accumulator after a point, and the result -/

/-- A term of an entry of block `b` of the result. -/
def part (_ x y k : ℕ) : EReal := bb m c k x * dd m c k y

theorem pay1 (t : Fin cfg0.N) : Has (k0_pay1 (iblk m c 0 t) (iblk m c 1 t) : S512x1024.Idx → EReal)
    (fun x y => ∑ k ∈ range 2048, part m c (t.val / 4) x y (2048 * (t.val % 4) + k)) := prod (blk0 m c t) (blk1 m c t)

theorem sums : ∀ p (h : p < cfg0.N), p % 4 = 3 → Has ((outsAt0 m c p h).1 : S512x1024.Idx → EReal)
    (fun x y => ∑ k ∈ range 8192, part m c (p / 4) x y k) :=
  accumulated (a := 2048) (K := 4) (fun p h => (outsAt0 m c p h).2) (fun p h => (outsAt0 m c p h).1) (part m c) id (by decide)
    (fun p h h0 => by
      rw [outsAt0_A m c ⟨p, h⟩ h0 (by have hN : cfg0.N = 4 := N_0; dsimp only; omega) (by dsimp only; omega)]
      dsimp only
      rw [acc_A]
      exact pay1 m c ⟨p, h⟩)
    (fun p h h' h0 h1 f hf => by
      rw [outsAt0_B m c ⟨p + 1, h'⟩ h0 (by dsimp only; omega) h1]
      dsimp only
      rw [acc_B]
      exact hf.add (pay1 m c ⟨p + 1, h'⟩))
    (fun p h h' h1 f hf => by
      rw [outsAt0_C m c ⟨p + 1, h'⟩ (by dsimp only; omega) (by dsimp only; omega) h1]
      dsimp only
      rw [out_C]
      exact hf.add (pay1 m c ⟨p + 1, h'⟩))

/-- The kernel's result is the product. -/
theorem value : Has (G2 m c : S512x1024.Idx → EReal) (fun x y => ∑ k ∈ range 8192, bb m c k x * dd m c k y) := by
  intro i
  have hi : (i 0).val < 512 := (i 0).isLt
  have hj : (i 1).val < 1024 := (i 1).isLt
  have hN : cfg0.N = 4 := N_0
  have hp : pt2Of i = 3 := by simp only [pt2Of, run2Of]; omega
  have h : pt2Of i < cfg0.N := by omega
  unfold G2
  rw [dif_pos h, ← outsAt0_sweep m c _ h, sums m c _ h (by omega) (loc2Of i)]
  have e0 : (i 0).val % 512 = (i 0).val := by omega
  have e1 : (i 1).val % 1024 = (i 1).val := by omega
  show ∑ k ∈ range 8192, bb m c k ((i 0).val % 512) * dd m c k ((i 1).val % 1024) = _
  rw [e0, e1]

/-- The reference's result is the product, its two factors in the other order. -/
theorem ref (x0 : S8192x512.Idx → EReal) (x1 : S8192x1024.Idx → EReal) :
    Has (val_main_v5 (F := Ideal) x0 x1 : S512x1024.Idx → EReal) (fun x y => ∑ k ∈ range 8192, ent x0 k x * ent x1 k y) := by
  intro i
  dsimp only
  rw [val_main_v5_apply, val_main_v4_apply, ← Fin.sum_univ_eq_sum_range (fun k => ent x0 k (i 0).val * ent x1 k (i 1).val)]
  refine Finset.sum_congr rfl fun k _ => (mul_comm _ _).trans ?_
  rw [val_main_v1_apply, val_main_v3_apply]
  exact congrArg₂ (· * ·) (ent_of x0 _ rfl rfl) (ent_of x1 _ rfl rfl)

/-! ## The claims -/

/-- The reference declares no semaphore and its operations leave the arguments as launched. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel's ideal program and the reference compute the same gradient. -/
theorem algebraic : Cert.algebraic_Kernel10Ideal_Reference10Ideal := by
  intro m g m' g' _ hm
  refine ⟨fun c => G2 m c, Cert.Kernel10Ideal.Value.run m g, ?_⟩
  refine (θ_run _ _ _).mono (fun _ h c => ?_) (Cert.Reference10Ideal.Value.run (F := Ideal) m' g')
  obtain ⟨hv, k0, k1⟩ := h c
  obtain ⟨e0, e1⟩ := hm c
  refine ⟨hv.trans ?_, k0, k1⟩
  rw [val_main_v5_eq, e0, e1]
  exact (ref _ _).eq (value m c)

end Cert.Proof.Mix.Dwbranch

end
-- ==== Proof.Mix.Dbranch.lean ====
/-
  The gradient of a branch: `dproj · w_branchᵀ`.
-/
module

public import proofs.«01_k».proof.Proof.Ffn.Entries
public import proofs.«01_k».proof.Proof.Gen.Kernel11Ideal.Value
public import proofs.«01_k».proof.Proof.Gen.Reference11Ideal.Read
public import proofs.«01_k».proof.Proof.Gen.Kernel11.Frame

@[expose] public section

set_option maxRecDepth 16384

noncomputable section

namespace Cert.Proof.Mix.Dbranch

open Cert.Kernel11Ideal Cert.Kernel11Ideal.Gen Cert.Kernel11Ideal.Value Cert.Reference11Ideal.Read
open Idealize.ShloMosaic Idealize.ShloMosaic.TcCoe Idealize.SL.Sem Finset Cert.Proof.Ffn

/-! ## What a point leaves in the result's block -/

section Point

variable {F : FTy → Type} [FloatOps F]

/-- A point writes its product. -/
theorem out_A (c i a3 h3 a4 h4 a5 h5 a6 h6) (x0 : Vec F S1024x1024 .bf16) (x1 : Vec F S512x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread, View.ld_unit_zero (S := S1024x1024) offsets_zero, View.ld_unit_zero (S := S512x1024) offsets_zero, shapeCast_self]

end Point

/-! ## The blocks a point reads -/

variable (m : (ℓ : Loc nD τ sig) → Buf (Elt Ideal) ℓ) (c : Dev nD)

/-- The entries of the arguments. -/
abbrev dd : ℕ → ℕ → EReal := ent (m ((c.tc : Thread nD τ).loc main_arg0) : S8192x1024.Idx → EReal)
abbrev ww : ℕ → ℕ → EReal := ent (m ((c.tc : Thread nD τ).loc main_arg1) : S512x1024.Idx → EReal)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem blk0 (t : Fin cfg0.N) : Has (iblk m c 0 t : S1024x1024.Idx → EReal) (fun x y => dd m c (1024 * t.val + x) (y)) := by
  intro j
  blk_simp [iblk]
  exact ent_of _ _ (by blk_simp [idx0 t] <;> omega) (by blk_simp [idx0 t] <;> omega)
theorem blk1 (t : Fin cfg0.N) : Has (iblk m c 1 t : S512x1024.Idx → EReal) (fun x y => ww m c (x) (y)) := by
  intro j
  blk_simp [iblk]
  exact ent_of _ _ (by blk_simp [idx1 t] <;> omega) (by blk_simp [idx1 t] <;> omega)

/-- What a point writes of blocks with given entries. -/
theorem prod {f g : ℕ → ℕ → EReal} {A : Vec Ideal S1024x1024 .bf16} {B : Vec Ideal S512x1024 .bf16}
    (hA : Has (A : S1024x1024.Idx → EReal) f) (hB : Has (B : S512x1024.Idx → EReal) g) :
    Has (k0_pay1 A B : S1024x512.Idx → EReal) (fun x y => ∑ k ∈ range 1024, f x k * g y k) := by
  intro i
  unfold k0_pay1
  pointwise []
  rw [← Fin.sum_univ_eq_sum_range (fun k => f (i 0).val k * g (i 1).val k)]
  exact Finset.sum_congr rfl fun e _ => by rw [hA _, hB _]; rfl

/-! ## The result -/

/-- The result of the arguments. -/
def G : S8192x512.Idx → EReal := mat 8192 512 fun x y => ∑ k ∈ range 1024, dd m c x k * ww m c y k

/-- What a point writes back is its block of the result. -/
theorem written (t : Fin cfg0.N) : (dats m 0 c).flushed 2 t = ((cfg0.win 2).blk t).view.read (Elt Ideal) (G m c) := by
  rw [flushed2_A, out_A]
  funext y
  have e0 : (((cfg0.win 2).blk t).view.emb y 0).val = 1024 * t.val + (y 0).val := by blk_simp [idx2 t] <;> omega
  have e1 : (((cfg0.win 2).blk t).view.emb y 1).val = (y 1).val := by blk_simp [idx2 t] <;> omega
  refine (prod (blk0 m c t) (blk1 m c t) ((cfg0.win 2).xinj (grid0.coords t) y)).trans ?_
  rw [View.read_apply]
  unfold G mat
  rw [e0, e1]
  rfl

/-- The whole result: its blocks cover it. -/
theorem final : (dats m 0 c).arrAt 2 cfg0.N = G m c :=
  (dats m 0 c).arrAt_eq_of_cover 2 (G m c) (fun t _ => written m c t) ((by decide +kernel : win0_2.Covers).cover _ (Memref.isWhole_whole _))

/-- The reference's result is the same. -/
theorem ref (x0 : S8192x1024.Idx → EReal) (x1 : S512x1024.Idx → EReal) :
    Has (val_main_v5 (F := Ideal) x0 x1 : S8192x512.Idx → EReal) (fun x y => ∑ k ∈ range 1024, ent x0 x k * ent x1 y k) := by
  intro i
  dsimp only
  rw [val_main_v5_apply, val_main_v4_apply, ← Fin.sum_univ_eq_sum_range (fun k => ent x0 (i 0).val k * ent x1 (i 1).val k)]
  refine Finset.sum_congr rfl fun k _ => ?_
  rw [val_main_v3_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel's ideal program and the reference compute the same gradient. -/
theorem algebraic : Cert.algebraic_Kernel11Ideal_Reference11Ideal := by
  intro m g m' g' _ hm
  refine ⟨fun c => G m c, (θ_run _ _ _).mono (fun _ h c => ⟨(h c).1.trans (final m c), (h c).2⟩) (Cert.Kernel11Ideal.Value.run_blocks m g), ?_⟩
  refine (θ_run _ _ _).mono (fun _ h c => ?_) (Cert.Reference11Ideal.Value.run (F := Ideal) m' g')
  obtain ⟨hv, k0, k1⟩ := h c
  obtain ⟨e0, e1⟩ := hm c
  refine ⟨hv.trans ?_, k0, k1⟩
  rw [val_main_v5_eq, e0, e1]
  exact (ref _ _).eq (has_mat _ _ _)

end Cert.Proof.Mix.Dbranch

end
-- ==== Proof.Ffn.In.lean ====
/-
  The feed-forward block's first product: `h · w_in`.
-/
module

public import proofs.«01_k».proof.Proof.Ffn.Entries
public import proofs.«01_k».proof.Proof.Gen.Kernel12Ideal.Value
public import proofs.«01_k».proof.Proof.Gen.Reference12Ideal.Read
public import proofs.«01_k».proof.Proof.Gen.Kernel12.Frame

@[expose] public section

set_option maxRecDepth 16384

noncomputable section

namespace Cert.Proof.Ffn.In

open Cert.Kernel12Ideal Cert.Kernel12Ideal.Gen Cert.Kernel12Ideal.Value Cert.Reference12Ideal.Read
open Idealize.ShloMosaic Idealize.ShloMosaic.TcCoe Idealize.SL.Sem Finset Cert.Proof.Ffn

/-! ## What a point leaves in the result's block -/

section Point

variable {F : FTy → Type} [FloatOps F]

/-- A point writes its product. -/
theorem out_A (c i a3 h3 a4 h4 a5 h5 a6 h6) (x0 x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread, View.ld_unit_zero (S := S1024x1024) offsets_zero, shapeCast_self]

end Point

/-! ## The blocks a point reads -/

variable (m : (ℓ : Loc nD τ sig) → Buf (Elt Ideal) ℓ) (c : Dev nD)

/-- The entries of the arguments. -/
abbrev hh : ℕ → ℕ → EReal := ent (m ((c.tc : Thread nD τ).loc main_arg0) : S8192x1024.Idx → EReal)
abbrev ww : ℕ → ℕ → EReal := ent (m ((c.tc : Thread nD τ).loc main_arg1) : S1024x4096.Idx → EReal)

theorem idx0 : ∀ t : Fin cfg0.N, win0_0.index t = ![t.val / 4, 0] :=
  (by decide +kernel : ∀ t : Fin grid0.N, _)
theorem idx1 : ∀ t : Fin cfg0.N, win0_1.index t = ![0, t.val % 4] :=
  (by decide +kernel : ∀ t : Fin grid0.N, _)
theorem idx2 : ∀ t : Fin cfg0.N, win0_2.index t = ![t.val / 4, t.val % 4] :=
  (by decide +kernel : ∀ t : Fin grid0.N, _)

theorem blk0 (t : Fin cfg0.N) : Has (iblk m c 0 t : S1024x1024.Idx → EReal) (fun x y => hh m c (1024 * (t.val / 4) + x) (y)) := by
  intro j
  blk_simp [iblk]
  exact ent_of _ _ (by blk_simp [idx0 t] <;> omega) (by blk_simp [idx0 t] <;> omega)
theorem blk1 (t : Fin cfg0.N) : Has (iblk m c 1 t : S1024x1024.Idx → EReal) (fun x y => ww m c (x) (1024 * (t.val % 4) + y)) := by
  intro j
  blk_simp [iblk]
  exact ent_of _ _ (by blk_simp [idx1 t] <;> omega) (by blk_simp [idx1 t] <;> omega)

/-- What a point writes of blocks with given entries. -/
theorem prod {f g : ℕ → ℕ → EReal} {A : Vec Ideal S1024x1024 .bf16} {B : Vec Ideal S1024x1024 .bf16}
    (hA : Has (A : S1024x1024.Idx → EReal) f) (hB : Has (B : S1024x1024.Idx → EReal) g) :
    Has (k0_pay1 A B : S1024x1024.Idx → EReal) (fun x y => ∑ k ∈ range 1024, f x k * g k y) := by
  intro i
  unfold k0_pay1
  pointwise []
  rw [← Fin.sum_univ_eq_sum_range (fun k => f (i 0).val k * g k (i 1).val)]
  exact Finset.sum_congr rfl fun e _ => by rw [hA _, hB _]; rfl

/-! ## The result -/

/-- The result of the arguments. -/
def G : S8192x4096.Idx → EReal := mat 8192 4096 fun x y => ∑ k ∈ range 1024, hh m c x k * ww m c k y

/-- What a point writes back is its block of the result. -/
theorem written (t : Fin cfg0.N) : (dats m 0 c).flushed 2 t = ((cfg0.win 2).blk t).view.read (Elt Ideal) (G m c) := by
  rw [flushed2_A, out_A]
  funext y
  have e0 : (((cfg0.win 2).blk t).view.emb y 0).val = 1024 * (t.val / 4) + (y 0).val := by blk_simp [idx2 t] <;> omega
  have e1 : (((cfg0.win 2).blk t).view.emb y 1).val = 1024 * (t.val % 4) + (y 1).val := by blk_simp [idx2 t] <;> omega
  refine (prod (blk0 m c t) (blk1 m c t) ((cfg0.win 2).xinj (grid0.coords t) y)).trans ?_
  rw [View.read_apply]
  unfold G mat
  rw [e0, e1]
  rfl

/-- The whole result: its blocks cover it. -/
theorem final : (dats m 0 c).arrAt 2 cfg0.N = G m c :=
  (dats m 0 c).arrAt_eq_of_cover 2 (G m c) (fun t _ => written m c t) ((by decide +kernel : win0_2.Covers).cover _ (Memref.isWhole_whole _))

/-- The reference's result is the same. -/
theorem ref (x0 : S8192x1024.Idx → EReal) (x1 : S1024x4096.Idx → EReal) :
    Has (val_main_v3 (F := Ideal) x0 x1 : S8192x4096.Idx → EReal) (fun x y => ∑ k ∈ range 1024, ent x0 x k * ent x1 k y) := by
  intro i
  dsimp only
  rw [val_main_v3_apply, val_main_v2_apply, ← Fin.sum_univ_eq_sum_range (fun k => ent x0 (i 0).val k * ent x1 k (i 1).val)]
  refine Finset.sum_congr rfl fun k _ => ?_
  rw [val_main_v0_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel's ideal program and the reference compute the same product. -/
theorem algebraic : Cert.algebraic_Kernel12Ideal_Reference12Ideal := by
  intro m g m' g' _ hm
  refine ⟨fun c => G m c, (θ_run _ _ _).mono (fun _ h c => ⟨(h c).1.trans (final m c), (h c).2⟩) (Cert.Kernel12Ideal.Value.run_blocks m g), ?_⟩
  refine (θ_run _ _ _).mono (fun _ h c => ?_) (Cert.Reference12Ideal.Value.run (F := Ideal) m' g')
  obtain ⟨hv, k0, k1⟩ := h c
  obtain ⟨e0, e1⟩ := hm c
  refine ⟨hv.trans ?_, k0, k1⟩
  rw [val_main_v3_eq, e0, e1]
  exact (ref _ _).eq (has_mat _ _ _)

end Cert.Proof.Ffn.In

end
-- ==== Proof.Ffn.Out.lean ====
/-
  The feed-forward block's second product with the residual: `x + a · w_out / 2`.
-/
module

public import proofs.«01_k».proof.Proof.Ffn.Entries
public import proofs.«01_k».proof.Proof.Gen.Kernel13Ideal.Value
public import proofs.«01_k».proof.Proof.Gen.Reference13Ideal.Read
public import proofs.«01_k».proof.Proof.Gen.Kernel13.Frame

@[expose] public section

set_option maxRecDepth 16384

noncomputable section

namespace Cert.Proof.Ffn.Out

open Cert.Kernel13Ideal Cert.Kernel13Ideal.Gen Cert.Kernel13Ideal.Value Cert.Reference13Ideal.Read
open Idealize.ShloMosaic Idealize.ShloMosaic.TcCoe Idealize.SL.Sem Finset Cert.Proof.Ffn

/-! ## What a point leaves in the result's block -/

section Point

variable {F : FTy → Type} [FloatOps F]

/-- A point writes its product and the block of the third argument, added. -/
theorem out_A (c i a3 h3 a4 h4 a5 h5 a6 h6 a7 h7) (x0 : Vec F S1024x2048 .bf16) (x1 : Vec F S2048x1024 .bf16) (x2 : Vec F S1024x1024 .f32) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero offsets_zero]
  simp only [View.readAt_eq_ld, h3.read_unread, h4.read_unread, h5.read_unread, View.ld_unit_zero (S := S1024x2048) offsets_zero, View.ld_unit_zero (S := S2048x1024) offsets_zero, View.ld_unit_zero (S := S1024x1024) offsets_zero, shapeCast_self]

end Point

/-! ## The blocks a point reads -/

variable (m : (ℓ : Loc nD τ sig) → Buf (Elt Ideal) ℓ) (c : Dev nD)

/-- The entries of the arguments. -/
abbrev aa : ℕ → ℕ → EReal := ent (m ((c.tc : Thread nD τ).loc main_arg0) : S8192x2048.Idx → EReal)
abbrev ww : ℕ → ℕ → EReal := ent (m ((c.tc : Thread nD τ).loc main_arg1) : S2048x1024.Idx → EReal)
abbrev xx : ℕ → ℕ → EReal := ent (m ((c.tc : Thread nD τ).loc main_arg2) : S8192x1024.Idx → EReal)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)
theorem idx3 : ∀ t : Fin cfg0.N, win0_3.index t = ![t.val, 0] :=
  (by decide +kernel : ∀ t : Fin grid0.N, _)

theorem blk0 (t : Fin cfg0.N) : Has (iblk m c 0 t : S1024x2048.Idx → EReal) (fun x y => aa m c (1024 * t.val + x) (y)) := by
  intro j
  blk_simp [iblk]
  exact ent_of _ _ (by blk_simp [idx0 t] <;> omega) (by blk_simp [idx0 t] <;> omega)
theorem blk1 (t : Fin cfg0.N) : Has (iblk m c 1 t : S2048x1024.Idx → EReal) (fun x y => ww m c (x) (y)) := by
  intro j
  blk_simp [iblk]
  exact ent_of _ _ (by blk_simp [idx1 t] <;> omega) (by blk_simp [idx1 t] <;> omega)
theorem blk2 (t : Fin cfg0.N) : Has (iblk m c 2 t : S1024x1024.Idx → EReal) (fun x y => xx m c (1024 * t.val + x) (y)) := by
  intro j
  blk_simp [iblk]
  exact ent_of _ _ (by blk_simp [idx2 t] <;> omega) (by blk_simp [idx2 t] <;> omega)

/-- What a point writes of blocks with given entries. -/
theorem prod {f g h : ℕ → ℕ → EReal} {A : Vec Ideal S1024x2048 .bf16} {B : Vec Ideal S2048x1024 .bf16} {C : Vec Ideal S1024x1024 .f32}
    (hA : Has (A : S1024x2048.Idx → EReal) f) (hB : Has (B : S2048x1024.Idx → EReal) g) (hC : Has (C : S1024x1024.Idx → EReal) h) :
    Has (k0_pay1 A B C : S1024x1024.Idx → EReal) (fun x y => h x y + (∑ k ∈ range 2048, f x k * g k y) * ((1 / 2 : ℝ) : EReal)) := by
  intro i
  unfold k0_pay1
  pointwise []
  refine congrArg₂ (· + ·) (hC i) (congrArg₂ (· * ·) ?_ ofBits_half)
  rw [← Fin.sum_univ_eq_sum_range (fun k => f (i 0).val k * g k (i 1).val)]
  exact Finset.sum_congr rfl fun e _ => by rw [hA _, hB _]; rfl

/-! ## The result -/

/-- The result of the arguments. -/
def G : S8192x1024.Idx → EReal := mat 8192 1024 fun x y => xx m c x y + (∑ k ∈ range 2048, aa m c x k * ww m c k y) * ((1 / 2 : ℝ) : EReal)

/-- What a point writes back is its block of the result. -/
theorem written (t : Fin cfg0.N) : (dats m 0 c).flushed 3 t = ((cfg0.win 3).blk t).view.read (Elt Ideal) (G m c) := by
  rw [flushed3_A, out_A]
  funext y
  have e0 : (((cfg0.win 3).blk t).view.emb y 0).val = 1024 * t.val + (y 0).val := by blk_simp [idx3 t] <;> omega
  have e1 : (((cfg0.win 3).blk t).view.emb y 1).val = (y 1).val := by blk_simp [idx3 t] <;> omega
  refine (prod (blk0 m c t) (blk1 m c t) (blk2 m c t) ((cfg0.win 3).xinj (grid0.coords t) y)).trans ?_
  rw [View.read_apply]
  unfold G mat
  rw [e0, e1]
  rfl

/-- The whole result: its blocks cover it. -/
theorem final : (dats m 0 c).arrAt 3 cfg0.N = G m c :=
  (dats m 0 c).arrAt_eq_of_cover 3 (G m c) (fun t _ => written m c t) ((by decide +kernel : win0_3.Covers).cover _ (Memref.isWhole_whole _))

/-- The reference's result is the same. -/
theorem ref (x0 : S8192x2048.Idx → EReal) (x1 : S2048x1024.Idx → EReal) (x2 : S8192x1024.Idx → EReal) :
    Has (val_main_v5 (F := Ideal) x0 x1 x2 : S8192x1024.Idx → EReal) (fun x y => ent x2 x y + (∑ k ∈ range 2048, ent x0 x k * ent x1 k y) * ((1 / 2 : ℝ) : EReal)) := by
  intro i
  dsimp only
  rw [val_main_v5_apply, val_main_v4_apply, val_main_v3_apply, val_main_cst_apply, val_main_v2_apply]
  refine congrArg₂ (· + ·) (ent_of x2 _ rfl rfl) ?_
  refine (mul_comm _ _).trans (congrArg₂ (· * ·) ?_ ofBits_half)
  rw [← Fin.sum_univ_eq_sum_range (fun k => ent x0 (i 0).val k * ent x1 k (i 1).val)]
  refine Finset.sum_congr rfl fun k _ => ?_
  rw [val_main_v0_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel's ideal program and the reference compute the same sum. -/
theorem algebraic : Cert.algebraic_Kernel13Ideal_Reference13Ideal := by
  intro m g m' g' _ hm
  refine ⟨fun c => G m c, (θ_run _ _ _).mono (fun _ h c => ⟨(h c).1.trans (final m c), (h c).2⟩) (Cert.Kernel13Ideal.Value.run_blocks m g), ?_⟩
  refine (θ_run _ _ _).mono (fun _ h c => ?_) (Cert.Reference13Ideal.Value.run (F := Ideal) m' g')
  obtain ⟨hv, k0, k1, k2⟩ := h c
  obtain ⟨e0, e1, e2⟩ := hm c
  refine ⟨hv.trans ?_, k0, k1, k2⟩
  rw [val_main_v5_eq, e0, e1, e2]
  exact (ref _ _ _).eq (has_mat _ _ _)

end Cert.Proof.Ffn.Out

end
-- ==== Proof.Mix.In.lean ====
/-
  The mixing block's first product: `h · w_in`, the six projections beside each other.
-/
module

public import proofs.«01_k».proof.Proof.Ffn.Entries
public import proofs.«01_k».proof.Proof.Gen.Kernel14Ideal.Value
public import proofs.«01_k».proof.Proof.Gen.Reference14Ideal.Read
public import proofs.«01_k».proof.Proof.Gen.Kernel14.Frame

@[expose] public section

set_option maxRecDepth 16384

noncomputable section

namespace Cert.Proof.Mix.In

open Cert.Kernel14Ideal Cert.Kernel14Ideal.Gen Cert.Kernel14Ideal.Value Cert.Reference14Ideal.Read
open Idealize.ShloMosaic Idealize.ShloMosaic.TcCoe Idealize.SL.Sem Finset Cert.Proof.Ffn

/-! ## What a point leaves in the result's block -/

section Point

variable {F : FTy → Type} [FloatOps F]

/-- A point writes its product. -/
theorem out_A (c i a3 h3 a4 h4 a5 h5 a6 h6) (x0 x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread, View.ld_unit_zero (S := S1024x1024) offsets_zero, shapeCast_self]

end Point

/-! ## The blocks a point reads -/

variable (m : (ℓ : Loc nD τ sig) → Buf (Elt Ideal) ℓ) (c : Dev nD)

/-- The entries of the arguments. -/
abbrev hh : ℕ → ℕ → EReal := ent (m ((c.tc : Thread nD τ).loc main_arg0) : S8192x1024.Idx → EReal)
abbrev ww : ℕ → ℕ → EReal := ent (m ((c.tc : Thread nD τ).loc main_arg1) : S1024x8192.Idx → EReal)

theorem idx0 : ∀ t : Fin cfg0.N, win0_0.index t = ![t.val / 8, 0] :=
  (by decide +kernel : ∀ t : Fin grid0.N, _)
theorem idx1 : ∀ t : Fin cfg0.N, win0_1.index t = ![0, t.val % 8] :=
  (by decide +kernel : ∀ t : Fin grid0.N, _)
theorem idx2 : ∀ t : Fin cfg0.N, win0_2.index t = ![t.val / 8, t.val % 8] :=
  (by decide +kernel : ∀ t : Fin grid0.N, _)

theorem blk0 (t : Fin cfg0.N) : Has (iblk m c 0 t : S1024x1024.Idx → EReal) (fun x y => hh m c (1024 * (t.val / 8) + x) (y)) := by
  intro j
  blk_simp [iblk]
  exact ent_of _ _ (by blk_simp [idx0 t] <;> omega) (by blk_simp [idx0 t] <;> omega)
theorem blk1 (t : Fin cfg0.N) : Has (iblk m c 1 t : S1024x1024.Idx → EReal) (fun x y => ww m c (x) (1024 * (t.val % 8) + y)) := by
  intro j
  blk_simp [iblk]
  exact ent_of _ _ (by blk_simp [idx1 t] <;> omega) (by blk_simp [idx1 t] <;> omega)

/-- What a point writes of blocks with given entries. -/
theorem prod {f g : ℕ → ℕ → EReal} {A : Vec Ideal S1024x1024 .bf16} {B : Vec Ideal S1024x1024 .bf16}
    (hA : Has (A : S1024x1024.Idx → EReal) f) (hB : Has (B : S1024x1024.Idx → EReal) g) :
    Has (k0_pay1 A B : S1024x1024.Idx → EReal) (fun x y => ∑ k ∈ range 1024, f x k * g k y) := by
  intro i
  unfold k0_pay1
  pointwise []
  rw [← Fin.sum_univ_eq_sum_range (fun k => f (i 0).val k * g k (i 1).val)]
  exact Finset.sum_congr rfl fun e _ => by rw [hA _, hB _]; rfl

/-! ## The result -/

/-- The result of the arguments. -/
def G : S8192x8192.Idx → EReal := mat 8192 8192 fun x y => ∑ k ∈ range 1024, hh m c x k * ww m c k y

/-- What a point writes back is its block of the result. -/
theorem written (t : Fin cfg0.N) : (dats m 0 c).flushed 2 t = ((cfg0.win 2).blk t).view.read (Elt Ideal) (G m c) := by
  rw [flushed2_A, out_A]
  funext y
  have e0 : (((cfg0.win 2).blk t).view.emb y 0).val = 1024 * (t.val / 8) + (y 0).val := by blk_simp [idx2 t] <;> omega
  have e1 : (((cfg0.win 2).blk t).view.emb y 1).val = 1024 * (t.val % 8) + (y 1).val := by blk_simp [idx2 t] <;> omega
  refine (prod (blk0 m c t) (blk1 m c t) ((cfg0.win 2).xinj (grid0.coords t) y)).trans ?_
  rw [View.read_apply]
  unfold G mat
  rw [e0, e1]
  rfl

/-- The whole result: its blocks cover it. -/
theorem final : (dats m 0 c).arrAt 2 cfg0.N = G m c :=
  (dats m 0 c).arrAt_eq_of_cover 2 (G m c) (fun t _ => written m c t) ((by decide +kernel : win0_2.Covers).cover _ (Memref.isWhole_whole _))

/-- The reference's result is the same. -/
theorem ref (x0 : S8192x1024.Idx → EReal) (x1 : S1024x8192.Idx → EReal) :
    Has (val_main_v3 (F := Ideal) x0 x1 : S8192x8192.Idx → EReal) (fun x y => ∑ k ∈ range 1024, ent x0 x k * ent x1 k y) := by
  intro i
  dsimp only
  rw [val_main_v3_apply, val_main_v2_apply, ← Fin.sum_univ_eq_sum_range (fun k => ent x0 (i 0).val k * ent x1 k (i 1).val)]
  refine Finset.sum_congr rfl fun k _ => ?_
  rw [val_main_v0_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The kernel's ideal program and the reference compute the same product. -/
theorem algebraic : Cert.algebraic_Kernel14Ideal_Reference14Ideal := by
  intro m g m' g' _ hm
  refine ⟨fun c => G m c, (θ_run _ _ _).mono (fun _ h c => ⟨(h c).1.trans (final m c), (h c).2⟩) (Cert.Kernel14Ideal.Value.run_blocks m g), ?_⟩
  refine (θ_run _ _ _).mono (fun _ h c => ?_) (Cert.Reference14Ideal.Value.run (F := Ideal) m' g')
  obtain ⟨hv, k0, k1⟩ := h c
  obtain ⟨e0, e1⟩ := hm c
  refine ⟨hv.trans ?_, k0, k1⟩
  rw [val_main_v3_eq, e0, e1]
  exact (ref _ _).eq (has_mat _ _ _)

end Cert.Proof.Mix.In

end
-- ==== Proof.Mix.Out.lean ====
/-
  The mixing block's output product with the residual: `x + merged · w_out`.
-/
module

public import proofs.«01_k».proof.Proof.Ffn.Entries
public import proofs.«01_k».proof.Proof.Gen.Kernel15Ideal.Value
public import proofs.«01_k».proof.Proof.Gen.Reference15Ideal.Read
public import proofs.«01_k».proof.Proof.Gen.Kernel15.Frame

@[expose] public section

set_option maxRecDepth 16384

noncomputable section

namespace Cert.Proof.Mix.Out

open Cert.Kernel15Ideal Cert.Kernel15Ideal.Gen Cert.Kernel15Ideal.Value Cert.Reference15Ideal.Read
open Idealize.ShloMosaic Idealize.ShloMosaic.TcCoe Idealize.SL.Sem Finset Cert.Proof.Ffn

/-! ## What a point leaves in the result's block -/

section Point

variable {F : FTy → Type} [FloatOps F]

/-- A point writes its product and the block of the third argument, added. -/
theorem out_A (c i a3 h3 a4 h4 a5 h5 a6 h6 a7 h7) (x0 x1 : Vec F S1024x1024 .bf16) (x2 : Vec F S1024x1024 .f32) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero offsets_zero]
  simp only [View.readAt_eq_ld, h3.read_unread, h4.read_unread, h5.read_unread, View.ld_unit_zero (S := S1024x1024) offsets_zero, shapeCast_self]

end Point

/-! ## The blocks a point reads -/

variable (m : (ℓ : Loc nD τ sig) → Buf (Elt Ideal) ℓ) (c : Dev nD)

/-- The entries of the arguments. -/
abbrev mm : ℕ → ℕ → EReal := ent (m ((c.tc : Thread nD τ).loc main_arg0) : S8192x1024.Idx → EReal)
abbrev ww : ℕ → ℕ → EReal := ent (m ((c.tc : Thread nD τ).loc main_arg1) : S1024x1024.Idx → EReal)
abbrev xx : ℕ → ℕ → EReal := ent (m ((c.tc : Thread nD τ).loc main_arg2) : S8192x1024.Idx → EReal)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)
theorem idx3 : ∀ t : Fin cfg0.N, win0_3.index t = ![t.val, 0] :=
  (by decide +kernel : ∀ t : Fin grid0.N, _)

theorem blk0 (t : Fin cfg0.N) : Has (iblk m c 0 t : S1024x1024.Idx → EReal) (fun x y => mm m c (1024 * t.val + x) (y)) := by
  intro j
  blk_simp [iblk]
  exact ent_of _ _ (by blk_simp [idx0 t] <;> omega) (by blk_simp [idx0 t] <;> omega)
theorem blk1 (t : Fin cfg0.N) : Has (iblk m c 1 t : S1024x1024.Idx → EReal) (fun x y => ww m c (x) (y)) := by
  intro j
  blk_simp [iblk]
  exact ent_of _ _ (by blk_simp [idx1 t] <;> omega) (by blk_simp [idx1 t] <;> omega)
theorem blk2 (t : Fin cfg0.N) : Has (iblk m c 2 t : S1024x1024.Idx → EReal) (fun x y => xx m c (1024 * t.val + x) (y)) := by
  intro j
  blk_simp [iblk]
  exact ent_of _ _ (by blk_simp [idx2 t] <;> omega) (by blk_simp [idx2 t] <;> omega)

/-- What a point writes of blocks with given entries. -/
theorem prod {f g h : ℕ → ℕ → EReal} {A : Vec Ideal S1024x1024 .bf16} {B : Vec Ideal S1024x1024 .bf16} {C : Vec Ideal S1024x1024 .f32}
    (hA : Has (A : S1024x1024.Idx → EReal) f) (hB : Has (B : S1024x1024.Idx → EReal) g) (hC : Has (C : S1024x1024.Idx → EReal) h) :
    Has (k0_pay1 A B C : S1024x1024.Idx → EReal) (fun x y => h x y + ∑ k ∈ range 1024, f x k * g k y) := by
  intro i
  unfold k0_pay1
  pointwise []
  refine congrArg₂ (· + ·) (hC i) ?_
  rw [← Fin.sum_univ_eq_sum_range (fun k => f (i 0).val k * g k (i 1).val)]
  exact Finset.sum_congr rfl fun e _ => by rw [hA _, hB _]; rfl

/-! ## The result -/

/-- The result of the arguments. -/
def G : S8192x1024.Idx → EReal := mat 8192 1024 fun x y => xx m c x y + ∑ k ∈ range 1024, mm m c x k * ww m c k y

/-- What a point writes back is its block of the result. -/
theorem written (t : Fin cfg0.N) : (dats m 0 c).flushed 3 t = ((cfg0.win 3).blk t).view.read (Elt Ideal) (G m c) := by
  rw [flushed3_A, out_A]
  funext y
  have e0 : (((cfg0.win 3).blk t).view.emb y 0).val = 1024 * t.val + (y 0).val := by blk_simp [idx3 t] <;> omega
  have e1 : (((cfg0.win 3).blk t).view.emb y 1).val = (y 1).val := by blk_simp [idx3 t] <;> omega
  refine (prod (blk0 m c t) (blk1 m c t) (blk2 m c t) ((cfg0.win 3).xinj (grid0.coords t) y)).trans ?_
  rw [View.read_apply]
  unfold G mat
  rw [e0, e1]
  rfl

/-- The whole result: its blocks cover it. -/
theorem final : (dats m 0 c).arrAt 3 cfg0.N = G m c :=
  (dats m 0 c).arrAt_eq_of_cover 3 (G m c) (fun t _ => written m c t) ((by decide +kernel : win0_3.Covers).cover _ (Memref.isWhole_whole _))

/-- The reference's result is the same. -/
theorem ref (x0 : S8192x1024.Idx → EReal) (x1 : S1024x1024.Idx → EReal) (x2 : S8192x1024.Idx → EReal) :
    Has (val_main_v3 (F := Ideal) x0 x1 x2 : S8192x1024.Idx → EReal) (fun x y => ent x2 x y + ∑ k ∈ range 1024, ent x0 x k * ent x1 k y) := by
  intro i
  dsimp only
  rw [val_main_v3_apply, val_main_v2_apply]
  refine congrArg₂ (· + ·) (ent_of x2 _ rfl rfl) ?_
  rw [← Fin.sum_univ_eq_sum_range (fun k => ent x0 (i 0).val k * ent x1 k (i 1).val)]
  refine Finset.sum_congr rfl fun k _ => ?_
  rw [val_main_v0_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The kernel's ideal program and the reference compute the same sum. -/
theorem algebraic : Cert.algebraic_Kernel15Ideal_Reference15Ideal := by
  intro m g m' g' _ hm
  refine ⟨fun c => G m c, (θ_run _ _ _).mono (fun _ h c => ⟨(h c).1.trans (final m c), (h c).2⟩) (Cert.Kernel15Ideal.Value.run_blocks m g), ?_⟩
  refine (θ_run _ _ _).mono (fun _ h c => ?_) (Cert.Reference15Ideal.Value.run (F := Ideal) m' g')
  obtain ⟨hv, k0, k1, k2⟩ := h c
  obtain ⟨e0, e1, e2⟩ := hm c
  refine ⟨hv.trans ?_, k0, k1, k2⟩
  rw [val_main_v3_eq, e0, e1, e2]
  exact (ref _ _ _).eq (has_mat _ _ _)

end Cert.Proof.Mix.Out

end
-- ==== Proof.Mix.Branch.lean ====
/-
  A branch's output product: `branch · w_branch`.
-/
module

public import proofs.«01_k».proof.Proof.Ffn.Entries
public import proofs.«01_k».proof.Proof.Gen.Kernel16Ideal.Value
public import proofs.«01_k».proof.Proof.Gen.Reference16Ideal.Read
public import proofs.«01_k».proof.Proof.Gen.Kernel16.Frame

@[expose] public section

set_option maxRecDepth 16384

noncomputable section

namespace Cert.Proof.Mix.Branch

open Cert.Kernel16Ideal Cert.Kernel16Ideal.Gen Cert.Kernel16Ideal.Value Cert.Reference16Ideal.Read
open Idealize.ShloMosaic Idealize.ShloMosaic.TcCoe Idealize.SL.Sem Finset Cert.Proof.Ffn

/-! ## What a point leaves in the result's block -/

section Point

variable {F : FTy → Type} [FloatOps F]

/-- A point writes its product. -/
theorem out_A (c i a3 h3 a4 h4 a5 h5 a6 h6) (x0 : Vec F S1024x512 .bf16) (x1 : Vec F S512x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero offsets_zero]
  simp only [View.readAt_eq_ld, h3.read_unread, h4.read_unread, View.ld_unit_zero (S := S1024x512) offsets_zero, View.ld_unit_zero (S := S512x1024) offsets_zero, shapeCast_self]

end Point

/-! ## The blocks a point reads -/

variable (m : (ℓ : Loc nD τ sig) → Buf (Elt Ideal) ℓ) (c : Dev nD)

/-- The entries of the arguments. -/
abbrev bb : ℕ → ℕ → EReal := ent (m ((c.tc : Thread nD τ).loc main_arg0) : S8192x512.Idx → EReal)
abbrev ww : ℕ → ℕ → EReal := ent (m ((c.tc : Thread nD τ).loc main_arg1) : S512x1024.Idx → EReal)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem blk0 (t : Fin cfg0.N) : Has (iblk m c 0 t : S1024x512.Idx → EReal) (fun x y => bb m c (1024 * t.val + x) (y)) := by
  intro j
  blk_simp [iblk]
  exact ent_of _ _ (by blk_simp [idx0 t] <;> omega) (by blk_simp [idx0 t] <;> omega)
theorem blk1 (t : Fin cfg0.N) : Has (iblk m c 1 t : S512x1024.Idx → EReal) (fun x y => ww m c (x) (y)) := by
  intro j
  blk_simp [iblk]
  exact ent_of _ _ (by blk_simp [idx1 t] <;> omega) (by blk_simp [idx1 t] <;> omega)

/-- What a point writes of blocks with given entries. -/
theorem prod {f g : ℕ → ℕ → EReal} {A : Vec Ideal S1024x512 .bf16} {B : Vec Ideal S512x1024 .bf16}
    (hA : Has (A : S1024x512.Idx → EReal) f) (hB : Has (B : S512x1024.Idx → EReal) g) :
    Has (k0_pay1 A B : S1024x1024.Idx → EReal) (fun x y => ∑ k ∈ range 512, f x k * g k y) := by
  intro i
  unfold k0_pay1
  pointwise []
  rw [← Fin.sum_univ_eq_sum_range (fun k => f (i 0).val k * g k (i 1).val)]
  exact Finset.sum_congr rfl fun e _ => by rw [hA _, hB _]; rfl

/-! ## The result -/

/-- The result of the arguments. -/
def G : S8192x1024.Idx → EReal := mat 8192 1024 fun x y => ∑ k ∈ range 512, bb m c x k * ww m c k y

/-- What a point writes back is its block of the result. -/
theorem written (t : Fin cfg0.N) : (dats m 0 c).flushed 2 t = ((cfg0.win 2).blk t).view.read (Elt Ideal) (G m c) := by
  rw [flushed2_A, out_A]
  funext y
  have e0 : (((cfg0.win 2).blk t).view.emb y 0).val = 1024 * t.val + (y 0).val := by blk_simp [idx2 t] <;> omega
  have e1 : (((cfg0.win 2).blk t).view.emb y 1).val = (y 1).val := by blk_simp [idx2 t] <;> omega
  refine (prod (blk0 m c t) (blk1 m c t) ((cfg0.win 2).xinj (grid0.coords t) y)).trans ?_
  rw [View.read_apply]
  unfold G mat
  rw [e0, e1]
  rfl

/-- The whole result: its blocks cover it. -/
theorem final : (dats m 0 c).arrAt 2 cfg0.N = G m c :=
  (dats m 0 c).arrAt_eq_of_cover 2 (G m c) (fun t _ => written m c t) ((by decide +kernel : win0_2.Covers).cover _ (Memref.isWhole_whole _))

/-- The reference's result is the same. -/
theorem ref (x0 : S8192x512.Idx → EReal) (x1 : S512x1024.Idx → EReal) :
    Has (val_main_v3 (F := Ideal) x0 x1 : S8192x1024.Idx → EReal) (fun x y => ∑ k ∈ range 512, ent x0 x k * ent x1 k y) := by
  intro i
  dsimp only
  rw [val_main_v3_apply, val_main_v2_apply, ← Fin.sum_univ_eq_sum_range (fun k => ent x0 (i 0).val k * ent x1 k (i 1).val)]
  refine Finset.sum_congr rfl fun k _ => ?_
  rw [val_main_v0_apply, val_main_v1_apply]
  exact congrArg₂ (· * ·) (ent_of x0 _ rfl rfl) (ent_of x1 _ rfl rfl)

/-! ## The claims -/

/-- The reference declares no semaphore and its operations leave the arguments as launched. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The kernel's ideal program and the reference compute the same product. -/
theorem algebraic : Cert.algebraic_Kernel16Ideal_Reference16Ideal := by
  intro m g m' g' _ hm
  refine ⟨fun c => G m c, (θ_run _ _ _).mono (fun _ h c => ⟨(h c).1.trans (final m c), (h c).2⟩) (Cert.Kernel16Ideal.Value.run_blocks m g), ?_⟩
  refine (θ_run _ _ _).mono (fun _ h c => ?_) (Cert.Reference16Ideal.Value.run (F := Ideal) m' g')
  obtain ⟨hv, k0, k1⟩ := h c
  obtain ⟨e0, e1⟩ := hm c
  refine ⟨hv.trans ?_, k0, k1⟩
  rw [val_main_v3_eq, e0, e1]
  exact (ref _ _).eq (has_mat _ _ _)

end Cert.Proof.Mix.Branch

end
-- ==== Proof.Common.lean ====
/-
  The vocabulary of the forward and backward kernels' proofs: the resource algebra, the 256-row tiles of an 8192-row
  slab, and the kernels' offsets as tile numbers.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Claim

@[expose] public section

noncomputable section

namespace Cert.Proof

open Cert.KernelIdeal Cert.KernelIdeal.Gen
open Idealize.ShloMosaic Idealize.ShloMosaic.TcCoe
open Idealize.SL Idealize.SL.Sem

variable {F : FTy → Type}

/-- The element of an 8192-row slab in row `256 j + x₀`, column `x₁`. -/
def tileIdx (j : ℕ) (x : S256x128.Idx) : S8192x128.Idx :=
  fun a => match a with
    | ⟨0, _⟩ => (Fin.ofNat 8192 (256 * j + (x 0).val) : Fin 8192)
    | ⟨1, _⟩ => (x 1 : Fin 128)

/-- Rows `256 j … 256 j + 255` of a slab. -/
def rows {e : EltTy} (X : Vec F S8192x128 e) (j : ℕ) : Vec F S256x128 e := fun x => X (tileIdx j x)

/-- Where a slab's element lies within its tile. -/
def inTile (y : S8192x128.Idx) : S256x128.Idx :=
  fun a => match a with
    | ⟨0, _⟩ => (Fin.ofNat 256 ((y 0).val % 256) : Fin 256)
    | ⟨1, _⟩ => (y 1 : Fin 128)

/-- The slab with rows `256 j … 256 j + 255` replaced. -/
def setRows {e : EltTy} (X : Vec F S8192x128 e) (j : ℕ) (w : Vec F S256x128 e) : Vec F S8192x128 e :=
  fun y => if (y 0).val / 256 = j then
      w (inTile y)
    else X y

/-- The rectangle of tile `j` sends `x` to `tileIdx j x`. -/
theorem emb_tile (off : Fin 2 → ℕ) (h : ∀ a, off a + S256x128.size a ≤ S8192x128.size a) (j : ℕ) (hoff : off = ![256 * j, 0])
    (x : S256x128.Idx) : (Rect.unit (s := S8192x128) off S256x128.size h).emb x = tileIdx j x := by
  subst hoff
  have h0 : 256 * j + 256 ≤ 8192 := h 0
  have hx : (x 0).val < 256 := (x 0).isLt
  funext a; apply Fin.ext
  match a with
  | ⟨0, _⟩ =>
    show 256 * j + 1 * (x 0).val = (256 * j + (x 0).val) % 8192
    rw [Nat.mod_eq_of_lt (by omega)]; omega
  | ⟨1, _⟩ => show 0 + 1 * (x 1).val = (x 1).val; omega

/-- A load of a slab at tile `j` reads the tile's rows. -/
theorem ld_tile {e : EltTy} (X : Vec F S8192x128 e) (off : Fin 2 → ℕ) (h : ∀ a, off a + S256x128.size a ≤ S8192x128.size a)
    (j : ℕ) (hoff : off = ![256 * j, 0]) :
    View.ld (Val := Elt F) X (Rect.unit (s := S8192x128) off S256x128.size h) = rows X j := by
  funext x
  show X ((Rect.unit (s := S8192x128) off S256x128.size h).emb x) = X (tileIdx j x)
  rw [emb_tile off h j hoff]

/-- A store over tile `j` replaces the tile's rows. -/
theorem overlay_tile {e : EltTy} (X : Vec F S8192x128 e) (off : Fin 2 → ℕ) (h : ∀ a, off a + S256x128.size a ≤ S8192x128.size a)
    (j : ℕ) (hoff : off = ![256 * j, 0]) (w : Vec F S256x128 e) :
    (Rect.unit (s := S8192x128) off S256x128.size h).overlay X w = setRows X j w := by
  funext y
  have h0 : 256 * j + 256 ≤ 8192 := by have := h 0; rw [hoff] at this; exact this
  by_cases hy : (y 0).val / 256 = j
  · have he : y = (Rect.unit (s := S8192x128) off S256x128.size h).emb
        (inTile y) := by
      rw [emb_tile off h j hoff]
      funext a; apply Fin.ext
      match a with
      | ⟨0, _⟩ =>
        show (y 0).val = (256 * j + (y 0).val % 256 % 256) % 8192
        have := (y 0).isLt
        have h8 : (y 0).val < 8192 := this
        omega
      | ⟨1, _⟩ => rfl
    refine (congrArg _ he).trans ((Rect.overlay_emb _ _ _ _).trans ?_)
    unfold setRows; rw [if_pos hy]
  · rw [Rect.overlay_of_not_mem]
    · unfold setRows; rw [if_neg hy]
    · intro hm
      rw [Rect.mem_set_unit] at hm
      have := hm 0
      rw [hoff] at this
      have h1 : 256 * j ≤ (y 0).val := this.1
      have h2 : (y 0).val < 256 * j + 256 := this.2
      exact hy (by omega)

/-- A load of a whole buffer reads the buffer. -/
theorem ld_whole {S : Shape} {e : EltTy} (X : Vec F S e) (off : Fin S.rank → ℕ) (hoff : off = fun _ => 0) (h) :
    View.ld (Val := Elt F) X (Rect.unit (s := S) off S.size h) = X := by
  funext x
  show X ((Rect.unit (s := S) off S.size h).emb x) = X x
  congr 1
  subst hoff
  funext a; apply Fin.ext
  show 0 + 1 * (x a).val = (x a).val
  omega

theorem zero2 : (![0, 0] : Fin 2 → ℕ) = fun _ => 0 := by funext a; fin_cases a <;> rfl

variable {sig : RefSig} {κ' : Kind} {sp : Space}

/-- Whole loads, at the shapes that the kernels load. -/
theorem read512x128 {e : EltTy} (v : View sig κ' sp S512x128 e) (f : v.ty.Contents (Elt F)) (h) :
    v.readAt (Elt F) (Rect.unit (s := S512x128) ![0, 0] ![512, 128] h).toLoadRect f = v.read (Elt F) f :=
  ld_whole _ _ zero2 h
theorem read256x256 {e : EltTy} (v : View sig κ' sp S256x256 e) (f : v.ty.Contents (Elt F)) (h) :
    v.readAt (Elt F) (Rect.unit (s := S256x256) ![0, 0] ![256, 256] h).toLoadRect f = v.read (Elt F) f :=
  ld_whole _ _ zero2 h
theorem read8x128 {e : EltTy} (v : View sig κ' sp S8x128 e) (f : v.ty.Contents (Elt F)) (h) :
    v.readAt (Elt F) (Rect.unit (s := S8x128) ![0, 0] ![8, 128] h).toLoadRect f = v.read (Elt F) f :=
  ld_whole _ _ zero2 h

/-- A load of a slab at tile `j`. -/
theorem readTile {e : EltTy} (v : View sig κ' sp S8192x128 e) (f : v.ty.Contents (Elt F)) (off : Fin 2 → ℕ) (h) (j : ℕ)
    (hoff : off = ![256 * j, 0]) :
    v.readAt (Elt F) (Rect.unit (s := S8192x128) off ![256, 128] h).toLoadRect f = rows (v.read (Elt F) f) j :=
  ld_tile _ _ h j hoff

/-- What a whole store leaves. -/
theorem writes_whole {S : Shape} {e : EltTy} (v : View sig κ' sp S e) (f : v.ty.Contents (Elt F)) (off : Fin S.rank → ℕ)
    (hoff : off = fun _ => 0) (h) (w : Vec F S e) :
    v.read (Elt F) (v.writes (Elt F) f [⟨Rect.unit (s := S) off S.size h, w⟩]) = w := by
  have hx : ∀ x, (Rect.unit (s := S) off S.size h).emb x = x := by
    intro x; subst hoff
    funext a; apply Fin.ext
    show 0 + 1 * (x a).val = (x a).val
    omega
  funext x
  conv_lhs => rw [← hx x]
  exact View.read_writes_cons_emb _ _ _ _ _ _

/-! ## Stores over a slab -/

/-- A store over tile `j` of a slab that held `X`. -/
theorem writes_tile {e : EltTy} (v : View sig κ' sp S8192x128 e) (f : v.ty.Contents (Elt F)) (off : Fin 2 → ℕ) (h)
    (j : ℕ) (hoff : off = ![256 * j, 0]) (w : Vec F S256x128 e) :
    v.read (Elt F) (v.writes (Elt F) f [⟨Rect.unit (s := S8192x128) off ![256, 128] h, w⟩]) = setRows (v.read (Elt F) f) j w := by
  rw [← overlay_tile (v.read (Elt F) f) off h j hoff w]
  funext y
  by_cases hy : y ∈ (Rect.unit (s := S8192x128) off ![256, 128] h).set
  · obtain ⟨x, rfl⟩ := (Rect.unit (s := S8192x128) off ![256, 128] h).exists_idx_of_mem hy
    exact (View.read_writes_cons_emb _ _ _ _ _ _).trans (Rect.overlay_emb _ _ _ _).symm
  · rw [Rect.overlay_of_not_mem _ _ _ hy]
    exact View.read_writes_apply_of_forall_not_mem _ _ _ _ (fun p hp => by
      rw [List.mem_singleton] at hp; subst hp; exact hy)

/-- Tile `j'`'s rows once tile `j` is replaced. -/
theorem rows_setRows_ne {e : EltTy} (X : Vec F S8192x128 e) (j j' : ℕ) (w : Vec F S256x128 e) (h : j' ≠ j) (hj : j' < 32) :
    rows (setRows X j w) j' = rows X j' := by
  funext x
  have hx : (x 0).val < 256 := (x 0).isLt
  refine if_neg ?_
  show (256 * j' + (x 0).val) % 8192 / 256 ≠ j
  omega

/-! ## Words -/

/-- A trip below `2 i` goes on, and the last one ends the walk. -/
theorem slt_more : ∀ (i : grid0.Coords) (t : Fin 30), t.val < 2 * (i 1).val →
    Scalar.cmpi .slt (BitVec.ofNat 32 t.val) (Scalar.muli (BitVec.ofNat 32 (i 1).val) 2#32) = 1#1 := by decide +kernel

theorem slt_done : ∀ (i : grid0.Coords),
    Scalar.cmpi .slt (BitVec.ofNat 32 (2 * (i 1).val)) (Scalar.muli (BitVec.ofNat 32 (i 1).val) 2#32) = 0#1 := by decide +kernel

theorem andi_one (x : BitVec 1) : Scalar.andi 1#1 x = x := by revert x; decide
theorem andi_zero (x : BitVec 1) : Scalar.andi 0#1 x = 0#1 := by revert x; decide

theorem addi_one (t : ℕ) : Scalar.addi (BitVec.ofNat 32 t) 1#32 = BitVec.ofNat 32 (t + 1) := by
  show BitVec.ofNat 32 t + 1#32 = _
  rw [BitVec.ofNat_add]

/-- A point's two coordinates tell it. -/
theorem ne_pair {a b : ℕ} (h : a ≠ b) : (![a % 16, a / 16] : Fin 2 → ℕ) ≠ ![b % 16, b / 16] := fun e => by
  have h0 : a % 16 = b % 16 := congrFun e 0
  have h1 : a / 16 = b / 16 := congrFun e 1
  omega

namespace Device

/-- The named constant's own bits: with them the definitions over the ideal program are the program's as written. -/
scoped instance asWritten {F : FTy → Type} [FloatOps F] : Named F := ⟨fun _ _ {φ} b => FloatOps.ofBits φ b⟩

end Device

end Cert.Proof

end
-- ==== Proof.Fwd.lean ====
/-
  The forward kernel's body: what it leaves in its three results from the blocks it reads, and its triple.
-/
module

public import proofs.«01_k».proof.Proof.Common

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (consume produce)

variable {F : FTy → Type} [FloatOps F] [Named F]

local notation "𝕄" => MT nD τ sig Unit (Elt F) ℕ (UR sig nD τ) ℕ

/-! ## What the body computes -/

/-- The masks' row numbers and column numbers. -/
def rowNo : IVec S512x256 32 := iota .tc S512x256 32 [0] iota_S512x256_d0_w32
def colNo : IVec S512x256 32 := iota .tc S512x256 32 [1] iota_S512x256_d1_w32

/-- The sum of the keep logarithms over the first diagonal tile (the tile of the rows' second half), -/
def fwdKeep1 (q : Vec F S512x128 .bf16) (k1 : Vec F S256x128 .bf16) : FVec F S512x1 .f32 :=
  k0_pay20 k0_pay12 (k0_pay15 q k1)

/-- the accumulator after it, -/
def fwdAcc1 (q : Vec F S512x128 .bf16) (m : Vec F S256x256 .bf16) (k1 v1 : Vec F S256x128 .bf16) : FVec F S512x128 .f32 :=
  k0_pay19 (k0_pay11 m) k0_pay12 k0_pay13 v1 (k0_pay16 q k1) (k0_pay17 q k1) (k0_pay18 q k1) (constant S512x256 .f32 0x00000000#32)

/-- and both after the second diagonal tile. -/
def fwdKeep0 (q : Vec F S512x128 .bf16) (k0 k1 : Vec F S256x128 .bf16) : FVec F S512x1 .f32 :=
  k0_pay3 (fwdKeep1 q k1) (k0_pay22 q k0) rowNo colNo 0#32
def fwdAcc0 (q : Vec F S512x128 .bf16) (m : Vec F S256x256 .bf16) (k0 v0 k1 v1 : Vec F S256x128 .bf16) : FVec F S512x128 .f32 :=
  k0_pay2 (k0_pay11 m) (fwdAcc1 q m k1 v1) (fwdKeep1 q k1) v0 (k0_pay21 q k0) (k0_pay22 q k0) rowNo colNo 0#32

/-- Whether some row's running sum is still above the logarithm of the smallest weight that counts. -/
def alive (l : FVec F S512x1 .f32) : Prop := Scalar.cmpf .ogt (k0_pay6 l) (Named.named κ "log_zero" 0xC2D00000#32) = 1#1

open Classical in
/-- The walk over the earlier tiles, `n` of them left, from tile `n - 1` down: at the number `t` of tiles done, the
    running sum and the accumulator. It stops when no row is alive. -/
def fwdGo (q : Vec F S512x128 .bf16) (m : Vec F S256x256 .bf16) (k v : Vec F S8192x128 .bf16) :
    ℕ → ℕ → FVec F S512x1 .f32 → FVec F S512x128 .f32 → ℕ × FVec F S512x1 .f32 × FVec F S512x128 .f32
  | 0, t, l, a => (t, l, a)
  | n + 1, t, l, a =>
    if alive l then fwdGo q m k v n (t + 1) (k0_pay10 q l (rows k n)) (k0_pay9 q (k0_pay11 m) l a (rows k n) (rows v n))
    else (t, l, a)

/-- What the body ends with at row block `i`: the number of tiles done, the running sum, the accumulator. -/
def fwdRes (i : ℕ) (q : Vec F S512x128 .bf16) (k v : Vec F S8192x128 .bf16) (m : Vec F S256x256 .bf16) :
    ℕ × FVec F S512x1 .f32 × FVec F S512x128 .f32 :=
  fwdGo q m k v (2 * i) 0 (fwdKeep0 q (rows k (2 * i)) (rows k (2 * i + 1)))
    (fwdAcc0 q m (rows k (2 * i)) (rows v (2 * i)) (rows k (2 * i + 1)) (rows v (2 * i + 1)))

/-- The three results' blocks: the accumulator, the sum, the count. -/
def fwdO (i : ℕ) (q : Vec F S512x128 .bf16) (k v : Vec F S8192x128 .bf16) (m : Vec F S256x256 .bf16) : Vec F S512x128 .f32 :=
  (fwdRes i q k v m).2.2
def fwdTot (i : ℕ) (q : Vec F S512x128 .bf16) (k v : Vec F S8192x128 .bf16) (m : Vec F S256x256 .bf16) : Vec F S512x128 .f32 :=
  k0_pay4 (fwdRes i q k v m).2.1
def fwdCnt (i : ℕ) (q : Vec F S512x128 .bf16) (k v : Vec F S8192x128 .bf16) (m : Vec F S256x256 .bf16) : Vec F S8x128 .f32 :=
  k0_pay5 (F := F) (BitVec.ofNat 32 (fwdRes i q k v m).1)

/-! ## The walk's offsets and conditions -/

theorem k0_off2_eq : ∀ (i : grid0.Coords) (t : Fin 30), t.val < 2 * (i 1).val →
    k0_off2 i (BitVec.ofNat 32 t.val) = ![256 * (2 * (i 1).val - 1 - t.val), 0] := by decide +kernel

theorem k0_chk1_of : ∀ (i : grid0.Coords) (t : Fin 30), t.val < 2 * (i 1).val → k0_chk1 i (BitVec.ofNat 32 t.val) := by
  decide +kernel

/-! ## The walk's label -/

/-- The walk's specification with `n` tiles left and `t` done: holding both slabs, it returns `fwdGo`'s values and both slabs. -/
def walkSpec (c : Dev nD) (arg3 arg4 : Memref sig .tc .vmem S8192x128 .bf16) (q : Vec F S512x128 .bf16) (m : Vec F S256x256 .bf16)
    (k v : Vec F S8192x128 .bf16) (n t : ℕ) (l : FVec F S512x1 .f32) (a : FVec F S512x128 .f32) :
    sWPT 𝕄 (BitVec 32 × FVec F S512x1 .f32 × FVec F S512x128 .f32) := do
  consume iprop(owns (c : Thread nD τ) arg3 fullShare k ∗ owns (c : Thread nD τ) arg4 fullShare v)
  produce iprop(owns (c : Thread nD τ) arg3 fullShare k ∗ owns (c : Thread nD τ) arg4 fullShare v)
  pure (BitVec.ofNat 32 (fwdGo q m k v n t l a).1, (fwdGo q m k v n t l a).2.1, (fwdGo q m k v n t l a).2.2)

theorem walkSpec_apply (c : Dev nD) (arg3 arg4 : Memref sig .tc .vmem S8192x128 .bf16) (q : Vec F S512x128 .bf16) (m : Vec F S256x256 .bf16)
    (k v : Vec F S8192x128 .bf16) (n t : ℕ) (l : FVec F S512x1 .f32) (a : FVec F S512x128 .f32)
    (K : BitVec 32 × FVec F S512x1 .f32 × FVec F S512x128 .f32 → sProp 𝕄) :
    walkSpec c arg3 arg4 q m k v n t l a K
      = iprop((owns (c : Thread nD τ) arg3 fullShare k ∗ owns (c : Thread nD τ) arg4 fullShare v)
          ∗ ((owns (c : Thread nD τ) arg3 fullShare k ∗ owns (c : Thread nD τ) arg4 fullShare v) -∗
              K (BitVec.ofNat 32 (fwdGo q m k v n t l a).1, (fwdGo q m k v n t l a).2.1, (fwdGo q m k v n t l a).2.2))) := rfl

/-- The walk's body meets its specification, by induction on the tiles left. -/
theorem walk_sound (c : Dev nD) (E : Set ℕ) (i : grid0.Coords) (arg3 : Memref sig .tc .vmem S8192x128 .bf16) (harg3 : arg3.IsWhole)
    (arg4 : Memref sig .tc .vmem S8192x128 .bf16) (harg4 : arg4.IsWhole) (q : Vec F S512x128 .bf16) (m : Vec F S256x256 .bf16)
    (k v : Vec F S8192x128 .bf16) :
    ∀ n t l a K, n + t = 2 * (i 1).val → walkSpec c arg3 arg4 q m k v n t l a K
      ⊢ wp frame (wpE (defs₀ (F := F)) Variants.nat (c : Thread nD τ) (some n)) E
          (defs₀ (F := F) .tc 2 ⟨i, arg3, harg3, arg4, harg4, q, k0_pay11 m, BitVec.ofNat 32 t, l, a⟩) K := by
  have hi : (i 1).val < 16 := (i 1).isLt
  intro n
  induction n with
  | zero =>
    intro t l a K hnt
    rw [walkSpec_apply]
    show _ ⊢ wp frame (wpE (defs₀ (F := F)) Variants.nat (c : Thread nD τ) (some 0)) E
      (cc0_while1 i arg3 harg3 arg4 harg4 q (k0_pay11 m) (BitVec.ofNat 32 t) l a) K
    rw [cc0_while1_eq_skeleton]; unfold cc0_while1_skel
    obtain rfl : t = 2 * (i 1).val := by omega
    simp only [slt_done, andi_zero, Prog.pure_eq_ret]
    rw [if_neg (by decide), show fwdGo q m k v 0 (2 * (i 1).val) l a = (2 * (i 1).val, l, a) from rfl]
    iintro ⟨H, Hk⟩
    rw [wp_ret]; imodintro
    iapply Hk; iexact H
  | succ n ih =>
    intro t l a K hnt
    rw [walkSpec_apply]
    show _ ⊢ wp frame (wpE (defs₀ (F := F)) Variants.nat (c : Thread nD τ) (some (n + 1))) E
      (cc0_while1 i arg3 harg3 arg4 harg4 q (k0_pay11 m) (BitVec.ofNat 32 t) l a) K
    rw [cc0_while1_eq_skeleton]; unfold cc0_while1_skel
    have hts : t < 30 := by omega
    have hlt : t < 2 * (i 1).val := by omega
    have hoff := k0_off2_eq i ⟨t, hts⟩ hlt
    have hchk := k0_chk1_of i ⟨t, hts⟩ hlt
    have hslt := slt_more i ⟨t, hts⟩ hlt
    simp only [Fin.val_mk] at hoff hchk hslt
    rw [show 2 * (i 1).val - 1 - t = n by omega] at hoff
    simp only [hslt, andi_one, addi_one, Prog.lift, Prog.bind_op, Prog.bind_ret, Prog.pure_eq_ret]
    by_cases hal : alive l
    · have hal' : Scalar.cmpf .ogt (k0_pay6 l) (Named.named κ "log_zero" 0xC2D00000#32) = 1#1 := hal
      rw [if_pos hal']
      rw [show fwdGo q m k v (n + 1) t l a
        = fwdGo q m k v n (t + 1) (k0_pay10 q l (rows k n)) (k0_pay9 q (k0_pay11 m) l a (rows k n) (rows v n)) from if_pos hal]
      unfold owns
      iintro ⟨⟨⟨%f3, %hf3, H3⟩, ⟨%f4, %hf4, H4⟩⟩, Hk⟩
      subst hf3 hf4
      iapply (wp_assume Variants.nat (c : Thread nD τ) (some (n + 1)) E hchk)
      iapply (wp_load Variants.nat (c : Thread nD τ) _ E (m := arg3) (View.setOn_subset_set _ _)) $$ H3; iintro H3
      iapply (wp_load Variants.nat (c : Thread nD τ) _ E (m := arg4) (View.setOn_subset_set _ _)) $$ H4; iintro H4
      rw [View.readAt_eq_ld, View.readAt_eq_ld, ld_tile _ _ _ _ hoff, ld_tile _ _ _ _ hoff]
      iapply (wp_call_spec Variants.nat (c : Thread nD τ) (some (n + 1)) E
        (walkSpec c arg3 arg4 q m (arg3.view.read (Elt F) f3) (arg4.view.read (Elt F) f4) n (t + 1) _ _) n
        (fun u hu => by cases hu; exact Nat.lt_succ_self n) (fun K => ih (t + 1) _ _ K (by omega)))
      rw [walkSpec_apply]
      unfold owns
      isplitl [H3 H4]
      · isplitl [H3]
        · iexists f3; isplitr; · ipureintro; rfl
          iexact H3
        · iexists f4; isplitr; · ipureintro; rfl
          iexact H4
      iintro H
      rw [wp_ret]; imodintro
      iapply Hk; iexact H
    · have hal' : ¬ Scalar.cmpf .ogt (k0_pay6 l) (Named.named κ "log_zero" 0xC2D00000#32) = 1#1 := hal
      rw [if_neg hal', show fwdGo q m k v (n + 1) t l a = (t, l, a) from if_neg hal]
      iintro ⟨H, Hk⟩
      rw [wp_ret]; imodintro
      iapply Hk; iexact H

/-! ## The body -/

/-- The diagonal tiles' offsets. -/
theorem off_fwd0 (i : grid0.Coords) : k0_off1 i 0#32 = ![256 * (2 * (i 1).val), 0] :=
  (k0_off1_eq i 0).trans (by
    show (![512 * (i 1).val + 0, 0] : Fin 2 → ℕ) = _
    rw [show 512 * (i 1).val + 0 = 256 * (2 * (i 1).val) by omega])
theorem off_fwd1 (i : grid0.Coords) : k0_off1 i 256#32 = ![256 * (2 * (i 1).val + 1), 0] :=
  (k0_off1_eq i 1).trans (by
    show (![512 * (i 1).val + 256, 0] : Fin 2 → ℕ) = _
    rw [show 512 * (i 1).val + 256 = 256 * (2 * (i 1).val + 1) by omega])

/-- The forward body at grid point `i`: from the blocks of `q`, `k`, `v` and the mask it leaves the three results' blocks. -/
theorem fwd_sound (c : Dev nD) (E : Set ℕ) (i : grid0.Coords) (arg2 : Memref sig .tc .vmem S512x128 .bf16) (harg2 : arg2.IsWhole)
    (arg3 : Memref sig .tc .vmem S8192x128 .bf16) (harg3 : arg3.IsWhole) (arg4 : Memref sig .tc .vmem S8192x128 .bf16) (harg4 : arg4.IsWhole)
    (arg5 : Memref sig .tc .vmem S256x256 .bf16) (harg5 : arg5.IsWhole) (arg6 : Memref sig .tc .vmem S512x128 .f32) (harg6 : arg6.IsWhole)
    (arg7 : Memref sig .tc .vmem S512x128 .f32) (harg7 : arg7.IsWhole) (arg8 : Memref sig .tc .vmem S8x128 .f32) (harg8 : arg8.IsWhole)
    (q : Vec F S512x128 .bf16) (k v : Vec F S8192x128 .bf16) (m : Vec F S256x256 .bf16) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare m ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare m ∗ owns (c : Thread nD τ) arg6 fullShare (fwdO (i 1).val q k v m)
            ∗ owns (c : Thread nD τ) arg7 fullShare (fwdTot (i 1).val q k v m)
            ∗ owns (c : Thread nD τ) arg8 fullShare (fwdCnt (i 1).val q k v m)) -∗ K ⟨⟩))
      ⊢ wp frame (wpE (defs₀ (F := F)) Variants.nat (c : Thread nD τ) none) E
          (cc0_sb i arg2 harg2 arg3 harg3 arg4 harg4 arg5 harg5 arg6 harg6 arg7 harg7 arg8 harg8) K := by
  simp only [cc0_sb_eq_skeleton, cc0_sb_skel, k0_part1_eq_skeleton, k0_part1_skel, k0_part2_eq_skeleton, k0_part2_skel,
    Prog.lift, Prog.bind_op, Prog.bind_ret, Prog.pure_eq_ret]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec
  sl_unfold_run_names
  simp only [read512x128, read256x256, readTile _ _ _ _ _ (off_fwd0 i), readTile _ _ _ _ _ (off_fwd1 i)]
  have hw := walk_sound c E i arg3 harg3 arg4 harg4 (arg2.view.read (Elt F) f2) (arg5.view.read (Elt F) f5)
    (arg3.view.read (Elt F) f3) (arg4.view.read (Elt F) f4) (2 * (i 1).val) 0
    (fwdKeep0 (arg2.view.read (Elt F) f2) (rows (arg3.view.read (Elt F) f3) (2 * (i 1).val)) (rows (arg3.view.read (Elt F) f3) (2 * (i 1).val + 1)))
    (fwdAcc0 (arg2.view.read (Elt F) f2) (arg5.view.read (Elt F) f5) (rows (arg3.view.read (Elt F) f3) (2 * (i 1).val))
      (rows (arg4.view.read (Elt F) f4) (2 * (i 1).val)) (rows (arg3.view.read (Elt F) f3) (2 * (i 1).val + 1))
      (rows (arg4.view.read (Elt F) f4) (2 * (i 1).val + 1)))
  iapply (wp_call_spec Variants.nat (c : Thread nD τ) none E _ (2 * (i 1).val) (fun u hu => by cases hu) (fun K => hw K (by omega)))
  rw [walkSpec_apply]
  unfold owns
  isplitl [H3 H4]
  · isplitl [H3]
    · iexists f3; isplitr; · ipureintro; rfl
      iexact H3
    · iexists f4; isplitr; · ipureintro; rfl
      iexact H4
  iintro ⟨H3, H4⟩
  sl_exec
  sl_step
  iapply Hk
  isplitl [H2]
  · iexists f2; isplitr; · ipureintro; rfl
    iexact H2
  isplitl [H3]; · iexact H3
  isplitl [H4]; · iexact H4
  isplitl [H5]
  · iexists f5; isplitr; · ipureintro; rfl
    iexact H5
  isplitl [H6]
  · iexists _; isplitr
    swap; · iexact H6
    ipureintro
    exact writes_whole _ _ _ zero2 _ _
  isplitl [H7]
  · iexists _; isplitr
    swap; · iexact H7
    ipureintro
    exact writes_whole _ _ _ zero2 _ _
  iexists _; isplitr
  swap; · iexact H8
  ipureintro
  exact writes_whole _ _ _ zero2 _ _

end Cert.Proof

end
-- ==== Proof.Region0.lean ====
/-
  The forward region's proof data and the body obligation at each of its points.
-/
module

public import proofs.«01_k».proof.Proof.Fwd
public import proofs.«01_k».proof.Proof.Gen.KernelIdeal.Points
public import proofs.«01_k».proof.Proof.Gen.KernelIdeal.Regions
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it. -/
def blk0 (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (W (Proc.devRef .tc (Pipeline.arrRef spec0 w)))

/-- What the forward body leaves at point `t`: the weighted sums, the row sums, the count. -/
def out0 (t : Fin (cfg0 (F := F)).N) : Vec F S512x128 .f32 :=
  fwdO (grid0.coords t 1).val (blk0 W 0 t) (blk0 W 1 t) (blk0 W 2 t) (blk0 W 3 t)
def tot0 (t : Fin (cfg0 (F := F)).N) : Vec F S512x128 .f32 :=
  fwdTot (grid0.coords t 1).val (blk0 W 0 t) (blk0 W 1 t) (blk0 W 2 t) (blk0 W 3 t)
def cnt0 (t : Fin (cfg0 (F := F)).N) : Vec F S8x128 .f32 :=
  fwdCnt (grid0.coords t 1).val (blk0 W 0 t) (blk0 W 1 t) (blk0 W 2 t) (blk0 W 3 t)

/-- The forward region's proof data: each operand's buffer keeps its block, each result's holds what the body leaves. -/
def dat0 (c : Dev nD) : Dat τ (Elt F) Unit ℕ (UR sig nD τ) ℕ (cfg0 (F := F)) c where
  A w := W (Proc.devRef .tc (Pipeline.arrRef spec0 w))
  after w t := match w with
    | ⟨0, _⟩ => blk0 W 0 t
    | ⟨1, _⟩ => blk0 W 1 t
    | ⟨2, _⟩ => blk0 W 2 t
    | ⟨3, _⟩ => blk0 W 3 t
    | ⟨4, _⟩ => out0 W t
    | ⟨5, _⟩ => tot0 W t
    | ⟨6, _⟩ => cnt0 W t
  Φ _ := Pipeline.scopedRest spec0 c
  q _ := fullShare
  owed _ := 0

theorem A0_eq (c : Dev nD) (w : Fin (cfg0 (F := F)).W) : (dat0 W c).A w = W (Proc.devRef .tc (Pipeline.arrRef spec0 w)) := by
  dsimp only [dat0]

variable (c : Dev nD) (t : Fin (cfg0 (F := F)).N)

theorem after0_0 : (dat0 W c).after 0 t = blk0 W 0 t := rfl
theorem after0_1 : (dat0 W c).after 1 t = blk0 W 1 t := rfl
theorem after0_2 : (dat0 W c).after 2 t = blk0 W 2 t := rfl
theorem after0_3 : (dat0 W c).after 3 t = blk0 W 3 t := rfl
theorem after0_4 : (dat0 W c).after 4 t = out0 W t := rfl
theorem after0_5 : (dat0 W c).after 5 t = tot0 W t := rfl
theorem after0_6 : (dat0 W c).after 6 t = cnt0 W t := rfl

theorem before0_0 (d) : (dat0 W c).before 0 t d = blk0 W 0 t :=
  (dat0 W c).before_in_eq_fetched 0 rfl (fun _ => rfl) (fun _ _ _ => rfl) (fun _ => rfl) t d
theorem before0_1 (d) : (dat0 W c).before 1 t d = blk0 W 1 t :=
  (dat0 W c).before_in_eq_fetched 1 rfl (fun _ => rfl) (fun _ _ _ => rfl) (fun _ => rfl) t d
theorem before0_2 (d) : (dat0 W c).before 2 t d = blk0 W 2 t :=
  (dat0 W c).before_in_eq_fetched 2 rfl (fun _ => rfl) (fun _ _ _ => rfl) (fun _ => rfl) t d
theorem before0_3 (d) : (dat0 W c).before 3 t d = blk0 W 3 t :=
  (dat0 W c).before_in_eq_fetched 3 rfl (fun _ => rfl) (fun _ _ _ => rfl) (fun _ => rfl) t d

/-- What the body is called with at point `t`, -/
def bodyPre0 : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d)))

/-- and what it returns. -/
def bodyPost0 : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t))

/-- The body at any point. -/
theorem sound_body0 (c : Dev nD) (t : Fin (cfg0 (F := F)).N) :
    bodyPre0 W c t ⊢ wp frame (wpE (defs₀ (F := F)) Variants.nat (c : Thread nD τ) none) Set.univ (bodyAt0 t) (fun _ => bodyPost0 W c t) := by
  unfold bodyPre0 bodyPost0 bodyAt0
  simp only [before0_0, before0_1, before0_2, before0_3]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (fwd_sound c Set.univ (grid0.coords t) _ _ _ _ _ _ _ _ _ _ _ _ _ _ (blk0 W 0 t) (blk0 W 1 t) (blk0 W 2 t) (blk0 W 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation0 (c : Dev nD) : BodyObligation (dat0 W c) (defs₀ (F := F)) Variants.nat () Set.univ := fun t => by
  rw [bigSep_W0, bigSep_W0, defs₀_row0]
  exact triple_restated (sound_body0 W c t) rfl .rfl fun _ => .rfl

end Cert.Proof

end
-- ==== Proof.Words.lean ====
/-
  The backward kernel's counted loop as tile numbers: at row block `i` and count `n` it walks `n` tiles from tile `2 i - n`.
-/
module

public import proofs.«01_k».proof.Proof.Common
public import Idealize.ShloMosaic.Lib.LoopRemainder

@[expose] public section

set_option maxRecDepth 16384

noncomputable section

namespace Cert.Proof

open Cert.KernelIdeal Cert.KernelIdeal.Gen
open Idealize.ShloMosaic

/-- The loop's trips. -/
theorem k1_t1_trips : ∀ (i : grid1.Coords) (n : Fin 31), n.val ≤ 2 * (i 1).val →
    (k1_t1_loop i (BitVec.ofNat 32 n.val)).trips = n.val := by decide +kernel

theorem k1_t1_OK : ∀ (i : grid1.Coords) (n : Fin 31), n.val ≤ 2 * (i 1).val →
    (k1_t1_loop i (BitVec.ofNat 32 n.val)).OK := by decide +kernel

theorem k1_t2_OK : ∀ (i : grid1.Coords) (n : Fin 31), n.val ≤ 2 * (i 1).val →
    (k1_t2_loop i (BitVec.ofNat 32 n.val)).OK := by decide +kernel

/-- Its remainder has none. -/
theorem k1_t2_trips (i : grid1.Coords) (w : BitVec 32) : (k1_t2_loop i w).trips = 0 := Scf.rem_trips _ _

/-- The row its trip `t` begins at, as a word and as an offset. -/
theorem k1_mult1_eq : ∀ (i : grid1.Coords) (n : Fin 31) (t : Fin 30), n.val ≤ 2 * (i 1).val → t.val < n.val →
    Scalar.muli (Scf.iv (Scalar.subi (Scalar.muli (BitVec.ofNat 32 (i 1).val) 2#32) (BitVec.ofNat 32 n.val)) 1#32 t) 256#32
      = BitVec.ofNat 32 (256 * (2 * (i 1).val - n.val + t.val)) := by decide +kernel

/-- The words as offsets. -/
theorem k1_mult1_val (i : grid1.Coords) (n : ℕ) (hn : n ≤ 2 * (i 1).val) (t : Fin (k1_t1_loop i (BitVec.ofNat 32 n)).trips) :
    k1_mult1 i (BitVec.ofNat 32 n) t = BitVec.ofNat 32 (256 * (2 * (i 1).val - n + t.val)) := by
  have hi : (i 1).val < 16 := (i 1).isLt
  have ht : t.val < n := lt_of_lt_of_eq t.isLt (k1_t1_trips i ⟨n, by omega⟩ hn)
  exact k1_mult1_eq i ⟨n, by omega⟩ ⟨t.val, by omega⟩ hn ht

theorem k1_mult1_nat (i : grid1.Coords) (n : ℕ) (hn : n ≤ 2 * (i 1).val) (t : Fin (k1_t1_loop i (BitVec.ofNat 32 n)).trips) :
    (k1_mult1 i (BitVec.ofNat 32 n) t).toNat = 256 * (2 * (i 1).val - n + t.val) := by
  have hi : (i 1).val < 16 := (i 1).isLt
  have ht : t.val < n := lt_of_lt_of_eq t.isLt (k1_t1_trips i ⟨n, by omega⟩ hn)
  rw [k1_mult1_val i n hn t, BitVec.toNat_ofNat]
  exact Nat.mod_eq_of_lt (by omega)

theorem k1_off1_eq (i : grid1.Coords) (n : ℕ) (hn : n ≤ 2 * (i 1).val) (t : Fin (k1_t1_loop i (BitVec.ofNat 32 n)).trips) :
    k1_off1 i (BitVec.ofNat 32 n) t = ![256 * (2 * (i 1).val - n + t.val), 0] := by
  have h : k1_off1 i (BitVec.ofNat 32 n) t = ![(k1_mult1 i (BitVec.ofNat 32 n) t).toNat, 0] := rfl
  rw [h, k1_mult1_nat i n hn t]

/-- The condition that the body assumes of the count holds of every count up to `2 i`. -/
theorem k1_chk1_of (i : grid1.Coords) (n : ℕ) (hn : n ≤ 2 * (i 1).val) : k1_chk1 i (BitVec.ofNat 32 n) := by
  have hi : (i 1).val < 16 := (i 1).isLt
  refine ⟨k1_t1_OK i ⟨n, by omega⟩ hn, fun t => ?_, fun t => ?_, k1_t2_OK i ⟨n, by omega⟩ hn, fun t => ?_, fun t => ?_⟩
  · rw [k1_mult1_nat i n hn t]; exact Nat.dvd_mul_right _ _
  · have ht : t.val < n := lt_of_lt_of_eq t.isLt (k1_t1_trips i ⟨n, by omega⟩ hn)
    rw [k1_off1_eq i n hn t]
    intro a
    match a with
    | ⟨0, _⟩ => show 256 * (2 * (i 1).val - n + t.val) + 256 ≤ 8192; omega
    | ⟨1, _⟩ => show 0 + 128 ≤ 128; omega
  · exact absurd (t.isLt.trans_eq (k1_t2_trips i _)) (Nat.not_lt_zero _)
  · exact absurd (t.isLt.trans_eq (k1_t2_trips i _)) (Nat.not_lt_zero _)

/-- The two diagonal tiles' offsets. -/
theorem off_bwd0 (i : grid1.Coords) : k1_off3 i 0#32 = ![256 * (2 * (i 1).val), 0] :=
  (k1_off3_eq i 0).trans (by
    show (![512 * (i 1).val + 0, 0] : Fin 2 → ℕ) = _
    rw [show 512 * (i 1).val + 0 = 256 * (2 * (i 1).val) by omega])
theorem off_bwd1 (i : grid1.Coords) : k1_off3 i 256#32 = ![256 * (2 * (i 1).val + 1), 0] :=
  (k1_off3_eq i 1).trans (by
    show (![512 * (i 1).val + 256, 0] : Fin 2 → ℕ) = _
    rw [show 512 * (i 1).val + 256 = 256 * (2 * (i 1).val + 1) by omega])

end Cert.Proof

end
-- ==== Proof.Bwd.lean ====
/-
  The backward kernel's body: what it leaves in its three results from the blocks it reads, and its triple.
-/
module

public import proofs.«01_k».proof.Proof.Words

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What the body computes -/

/-- The walk's state: the keep logarithms' running sum, the weighted gradients' running sum, the query gradient, and the key
    and value gradients' slabs. -/
structure BSt (F : FTy → Type) where
  keep : FVec F S512x1 .f32
  g : FVec F S512x1 .f32
  dq : FVec F S512x128 .f32
  dk : Vec F S8192x128 .f32
  dv : Vec F S8192x128 .f32

/-- Column 0 of a statistics block. -/
def col0 (X : Vec F S512x128 .f32) : Vec F S512x1 .f32 :=
  View.ld (Val := Elt F) X (Rect.unit (s := S512x128) ![0, 0] S512x1.size inb_S512x128_S512x1_0_0)

section Steps

variable (q dO : Vec F S512x128 .bf16) (mle mlt : Vec F S256x256 .bf16) (tot : Vec F S512x1 .f32) (k v : Vec F S8192x128 .bf16)

/-- One tile before the diagonal. -/
def bwdStep (j : ℕ) (s : BSt F) : BSt F where
  keep := k1_pay29 s.keep (k1_pay6 q (rows k j))
  g := k1_pay30 s.g (k1_pay9 q dO (k1_pay20 mle) (k1_pay22 tot) s.keep (rows k j) (rows v j))
  dq := k1_pay31 mlt s.g s.dq (rows k j) (k1_pay7 q (rows k j))
    (k1_pay9 q dO (k1_pay20 mle) (k1_pay22 tot) s.keep (rows k j) (rows v j))
    (k1_pay10 q dO (k1_pay20 mle) (k1_pay22 tot) s.keep (rows k j) (rows v j))
  dk := setRows s.dk j (k1_pay27 q mlt s.g (k1_pay7 q (rows k j))
    (k1_pay9 q dO (k1_pay20 mle) (k1_pay22 tot) s.keep (rows k j) (rows v j))
    (k1_pay10 q dO (k1_pay20 mle) (k1_pay22 tot) s.keep (rows k j) (rows v j)) (rows s.dk j))
  dv := setRows s.dv j (k1_pay28 dO (k1_pay8 q (k1_pay20 mle) (k1_pay22 tot) s.keep (rows k j)) (rows s.dv j))

/-- `n` tiles from tile `j₀` up. -/
def bwdGo (j₀ : ℕ) : ℕ → BSt F → BSt F
  | 0, s => s
  | n + 1, s => bwdStep q dO mle mlt tot k v (j₀ + n) (bwdGo j₀ n s)

/-- The first diagonal tile, -/
def bwdDiag0 (j : ℕ) (s : BSt F) : BSt F where
  keep := k1_pay49 s.keep (k1_pay41 q (rows k j))
  g := k1_pay50 s.g (k1_pay45 dO (rows v j) (k1_pay42 q (k1_pay20 mle) (k1_pay22 tot) s.keep (rows k j)) (k1_pay43 q (rows k j)))
  dq := k1_pay51 s.dq (rows k j) (k1_pay46 dO (k1_pay21 mlt) s.g (rows v j) (k1_pay40 q (rows k j))
    (k1_pay42 q (k1_pay20 mle) (k1_pay22 tot) s.keep (rows k j)) (k1_pay43 q (rows k j)))
  dk := setRows s.dk j (k1_pay47 q dO (k1_pay21 mlt) s.g (rows v j) (k1_pay40 q (rows k j))
    (k1_pay42 q (k1_pay20 mle) (k1_pay22 tot) s.keep (rows k j)) (k1_pay43 q (rows k j)) (rows s.dk j))
  dv := setRows s.dv j (k1_pay48 dO (k1_pay42 q (k1_pay20 mle) (k1_pay22 tot) s.keep (rows k j)) (k1_pay43 q (rows k j)) (rows s.dv j))

/-- and the second. -/
def bwdDiag1 (j : ℕ) (s : BSt F) : BSt F where
  keep := s.keep
  g := s.g
  dq := k1_pay3 s.dq (rows k j) (k1_pay58 dO (k1_pay20 mle) (k1_pay21 mlt) (k1_pay22 tot) s.keep s.g (rows v j)
    (k1_pay52 q (rows k j)) (k1_pay54 q (rows k j)) (k1_pay55 q (rows k j)) k1_pay56)
  dk := setRows s.dk j (k1_pay1 (k1_pay59 (rows s.dk j)) (k1_pay60 q dO (k1_pay20 mle) (k1_pay21 mlt) (k1_pay22 tot) s.keep s.g (rows v j)
    (k1_pay52 q (rows k j)) (k1_pay54 q (rows k j)) (k1_pay55 q (rows k j)) k1_pay56))
  dv := setRows s.dv j (k1_pay2 dO (k1_pay57 (k1_pay20 mle) (k1_pay22 tot) s.keep (k1_pay52 q (rows k j)) (k1_pay54 q (rows k j)) k1_pay56)
    (rows s.dv j))

/-- The state before the first tile, over the slabs' contents: at the first row block the slabs are cleared. -/
def bwdInit (i : ℕ) (dk dv : Vec F S8192x128 .f32) : BSt F :=
  ⟨k1_pay23, k1_pay23, k1_pay25, if i = 0 then k1_pay18 else dk, if i = 0 then k1_pay19 else dv⟩

/-- The state after the walk at row block `i` and count `n`, -/
def bwdWalk (i n : ℕ) (dk dv : Vec F S8192x128 .f32) : BSt F :=
  bwdGo q dO mle mlt tot k v (2 * i - n) n (bwdInit i dk dv)

/-- and what the body ends with. -/
def bwdRes (i n : ℕ) (dk dv : Vec F S8192x128 .f32) : BSt F :=
  bwdDiag1 q dO mle mlt tot k v (2 * i + 1) (bwdDiag0 q dO mle mlt tot k v (2 * i) (bwdWalk q dO mle mlt tot k v i n dk dv))

end Steps

/-! ## The body -/

/-- The walk's invariant at trip `t`: the carried values and the two slabs are `bwdGo`'s, the operands' slabs as they were. -/
def bwdInv (c : Dev nD) (arg3 arg4 : Memref sig .tc .vmem S8192x128 .bf16) (arg11 arg12 : Memref sig .tc .vmem S8192x128 .f32)
    (q dO : Vec F S512x128 .bf16) (mle mlt : Vec F S256x256 .bf16) (tot : Vec F S512x1 .f32) (k v : Vec F S8192x128 .bf16) (j₀ : ℕ) (s : BSt F)
    (t : ℕ) (acc : FVec F S512x1 .f32 × FVec F S512x1 .f32 × FVec F S512x128 .f32) : sProp 𝕄 :=
  iprop(⌜acc = ((bwdGo q dO mle mlt tot k v j₀ t s).keep, (bwdGo q dO mle mlt tot k v j₀ t s).g, (bwdGo q dO mle mlt tot k v j₀ t s).dq)⌝
    ∗ owns (c : Thread nD τ) arg3 fullShare k ∗ owns (c : Thread nD τ) arg4 fullShare v
    ∗ owns (c : Thread nD τ) arg11 fullShare (bwdGo q dO mle mlt tot k v j₀ t s).dk
    ∗ owns (c : Thread nD τ) arg12 fullShare (bwdGo q dO mle mlt tot k v j₀ t s).dv)

variable (c : Dev nD) (E : Set ℕ) (i : grid1.Coords) (arg2 : Memref sig .tc .vmem S512x128 .bf16) (harg2 : arg2.IsWhole)
    (arg3 : Memref sig .tc .vmem S8192x128 .bf16) (harg3 : arg3.IsWhole) (arg4 : Memref sig .tc .vmem S8192x128 .bf16) (harg4 : arg4.IsWhole)
    (arg5 : Memref sig .tc .vmem S512x128 .f32) (harg5 : arg5.IsWhole) (arg6 : Memref sig .tc .vmem S8x128 .f32) (harg6 : arg6.IsWhole)
    (arg7 : Memref sig .tc .vmem S512x128 .bf16) (harg7 : arg7.IsWhole) (arg8 : Memref sig .tc .vmem S256x256 .bf16) (harg8 : arg8.IsWhole)
    (arg9 : Memref sig .tc .vmem S256x256 .bf16) (harg9 : arg9.IsWhole) (arg10 : Memref sig .tc .vmem S512x128 .f32) (harg10 : arg10.IsWhole)
    (arg11 : Memref sig .tc .vmem S8192x128 .f32) (harg11 : arg11.IsWhole) (arg12 : Memref sig .tc .vmem S8192x128 .f32) (harg12 : arg12.IsWhole)

/-- One trip keeps it. -/
theorem bwd_trip (q dO : Vec F S512x128 .bf16) (mle mlt : Vec F S256x256 .bf16) (tot : Vec F S512x1 .f32) (k v : Vec F S8192x128 .bf16) (s : BSt F)
    (n : ℕ) (hn : n ≤ 2 * (i 1).val) (hw : k1_chk1 i (BitVec.ofNat 32 n)) (v20 : BitVec 32)
    (t : Fin (k1_t1_loop i (BitVec.ofNat 32 n)).trips) (acc : FVec F S512x1 .f32 × FVec F S512x1 .f32 × FVec F S512x128 .f32) :
    bwdInv c arg3 arg4 arg11 arg12 q dO mle mlt tot k v (2 * (i 1).val - n) s t.val acc
      ⊢ wp frame (wpE (defs₀ (F := F)) Variants.nat (c : Thread nD τ) none) E
          (k1_t1_body i arg2 harg2 arg3 harg3 arg4 harg4 arg5 harg5 arg6 harg6 arg7 harg7 arg8 harg8 arg9 harg9 arg10 harg10
            arg11 harg11 arg12 harg12 q dO mle mlt tot (BitVec.ofNat 32 n) hw v20 t acc)
          (bwdInv c arg3 arg4 arg11 arg12 q dO mle mlt tot k v (2 * (i 1).val - n) s (t.val + 1)) := by
  have hoff := k1_off1_eq i n hn t
  have hstep : bwdGo q dO mle mlt tot k v (2 * (i 1).val - n) (t.val + 1) s
    = bwdStep q dO mle mlt tot k v (2 * (i 1).val - n + t.val) (bwdGo q dO mle mlt tot k v (2 * (i 1).val - n) t.val s) := rfl
  unfold bwdInv
  rw [hstep]
  generalize bwdGo q dO mle mlt tot k v (2 * (i 1).val - n) t.val s = s'
  simp only [k1_t1_body, k1_part1_eq_skeleton, k1_part1_skel, Prog.lift, Prog.bind_op, Prog.bind_ret, Prog.pure_eq_ret]
  unfold owns
  iintro ⟨%hacc, ⟨%f3, %hf3, H3⟩, ⟨%f4, %hf4, H4⟩, ⟨%f11, %hf11, H11⟩, ⟨%f12, %hf12, H12⟩⟩
  subst hacc hf3 hf4
  sl_exec
  sl_unfold_run_names
  simp only [readTile _ _ _ _ _ hoff, hf11, hf12]
  sl_step
  isplitr; · ipureintro; rfl
  isplitl [H3]
  · iexists f3; isplitr; · ipureintro; rfl
    iexact H3
  isplitl [H4]
  · iexists f4; isplitr; · ipureintro; rfl
    iexact H4
  isplitl [H11]
  · iexists _; isplitr
    swap; · iexact H11
    ipureintro
    refine (writes_tile _ _ _ _ _ hoff _).trans ?_
    rw [hf11]; rfl
  iexists _; isplitr
  swap; · iexact H12
  ipureintro
  refine (writes_tile _ _ _ _ _ hoff _).trans ?_
  rw [hf12]; rfl

/-- What the first part returns. -/
abbrev Left (F : FTy → Type) [FloatOps F] := Σ' (arg1 : BitVec 32) (v3 : Vec F S512x128 .bf16) (v4 : Vec F S512x128 .bf16) (v6 : FVec F S256x256 .bf16) (v8 : FVec F S256x256 .bf16) (v10 : FVec F S512x1 .f32) (v29_0 : FVec F S512x1 .f32) (v29_1 : FVec F S512x1 .f32) (v29_2 : FVec F S512x128 .f32), BitVec 32

/-- What the first part does once the count's word `w` is read. -/
def bwdWord
    (v3 v4 : Vec F S512x128 .bf16) (v5 v7 : Vec F S256x256 .bf16) (v9 : Vec F S512x1 .f32) (w : BitVec 32) :
    Prog (TpuEff nD τ sig (Elt F) (Λ₀ F) .tc) (Left F) :=
  .op (.assume (k1_chk1 i w) (k1_chk1.dec i w)) fun hw => do
    let x ← Scf.Loop.for (k1_t1_loop i w) (k1_t1_ok i w hw.down) (k1_pay23 (F := F), k1_pay23 (F := F), k1_pay25 (F := F))
      (k1_t1_body i arg2 harg2 arg3 harg3 arg4 harg4 arg5 harg5 arg6 harg6 arg7 harg7 arg8 harg8 arg9 harg9 arg10 harg10 arg11 harg11 arg12 harg12
        v3 v4 v5 v7 v9 w hw.down (Scalar.subi (Scalar.muli (BitVec.ofNat 32 (i 1).val) 2#32) w))
    let x ← Scf.Loop.for (k1_t2_loop i w) (k1_t2_ok i w hw.down) (x.1, x.2.1, x.2.2)
      (k1_t2_body i arg2 harg2 arg3 harg3 arg4 harg4 arg5 harg5 arg6 harg6 arg7 harg7 arg8 harg8 arg9 harg9 arg10 harg10 arg11 harg11 arg12 harg12
        v3 v4 v5 v7 v9 w hw.down (Scalar.addi (Scalar.subi (Scalar.muli (BitVec.ofNat 32 (i 1).val) 2#32) w)
          (Scalar.muli (Scalar.divsi (Scalar.subi (Scalar.muli (BitVec.ofNat 32 (i 1).val) 2#32)
            (Scalar.subi (Scalar.muli (BitVec.ofNat 32 (i 1).val) 2#32) w)) 1#32) 1#32)))
    Prog.ret ⟨BitVec.ofNat 32 (i 1).val, v3, v4, k1_pay20 v5, k1_pay21 v7, k1_pay22 v9, x.1, x.2.1, x.2.2,
      Scalar.addi (Scalar.muli (BitVec.ofNat 32 (i 1).val) 512#32) 0#32⟩

/-- What it does once the slabs are settled. -/
def bwdRead :
    Prog (TpuEff nD τ sig (Elt F) (Λ₀ F) .tc) (Left F) :=
  .op (.load arg2 (Rect.unit (s := S512x128) ![0, 0] S512x128.size inb_S512x128_S512x128_0_0).toLoadRect (View.loadsAt_vmem h_S512x128)) fun v3 =>
  .op (.load arg7 (Rect.unit (s := S512x128) ![0, 0] S512x128.size inb_S512x128_S512x128_0_0).toLoadRect (View.loadsAt_vmem h_S512x128)) fun v4 =>
  .op (.load arg8 (Rect.unit (s := S256x256) ![0, 0] S256x256.size inb_S256x256_S256x256_0_0).toLoadRect (View.loadsAt_vmem h_S256x256)) fun v5 =>
  .op (.load arg9 (Rect.unit (s := S256x256) ![0, 0] S256x256.size inb_S256x256_S256x256_0_0).toLoadRect (View.loadsAt_vmem h_S256x256)) fun v7 =>
  .op (.load arg5 (Rect.unit (s := S512x128) ![0, 0] S512x1.size inb_S512x128_S512x1_0_0).toLoadRect (View.loadsAt_vmem h_S512x1)) fun v9 =>
  .op (.load arg6 (Rect.unit (s := S8x128) ![0, 0] S8x128.size inb_S8x128_S8x128_0_0).toLoadRect (View.loadsAt_vmem h_S8x128)) fun v13 =>
    bwdWord i arg2 harg2 arg3 harg3 arg4 harg4 arg5 harg5 arg6 harg6 arg7 harg7 arg8 harg8 arg9 harg9 arg10 harg10 arg11 harg11 arg12 harg12
      v3 v4 v5 v7 v9 (Scalar.fptosi 32 (k1_pay24 v13))

/-- The whole first part. -/
theorem k1_part3_eq :
    k1_part3 (F := F) i arg2 harg2 arg3 harg3 arg4 harg4 arg5 harg5 arg6 harg6 arg7 harg7 arg8 harg8 arg9 harg9 arg10 harg10 arg11 harg11 arg12 harg12
      = if Scalar.cmpi .ne (Scalar.extui (Scalar.cmpi .eq (BitVec.ofNat 32 (i 1).val) 0#32)) 0#32 = 1#1 then
          .op (.load arg11 (Rect.unit (s := S8192x128) ![0, 0] S8192x128.size inb_S8192x128_S8192x128_0_0).toLoadRect (View.loadsAt_vmem h_S8192x128)) fun _ =>
          .op (.store arg11 (Rect.unit (s := S8192x128) ![0, 0] S8192x128.size inb_S8192x128_S8192x128_0_0) (k1_pay18 (F := F)) Finset.univ (View.stores_vmem_bits_univ h_S8192x128 rfl) (.inl rfl)) fun _ =>
          .op (.load arg12 (Rect.unit (s := S8192x128) ![0, 0] S8192x128.size inb_S8192x128_S8192x128_0_0).toLoadRect (View.loadsAt_vmem h_S8192x128)) fun _ =>
          .op (.store arg12 (Rect.unit (s := S8192x128) ![0, 0] S8192x128.size inb_S8192x128_S8192x128_0_0) (k1_pay19 (F := F)) Finset.univ (View.stores_vmem_bits_univ h_S8192x128 rfl) (.inl rfl)) fun _ =>
            bwdRead i arg2 harg2 arg3 harg3 arg4 harg4 arg5 harg5 arg6 harg6 arg7 harg7 arg8 harg8 arg9 harg9 arg10 harg10 arg11 harg11 arg12 harg12
        else bwdRead i arg2 harg2 arg3 harg3 arg4 harg4 arg5 harg5 arg6 harg6 arg7 harg7 arg8 harg8 arg9 harg9 arg10 harg10 arg11 harg11 arg12 harg12 := by
  rw [k1_part3_eq_skeleton]
  rfl

/-- From the count's word on. -/
theorem bwd_word
    (q dO : Vec F S512x128 .bf16) (mle mlt : Vec F S256x256 .bf16) (tot : Vec F S512x1 .f32) (k v : Vec F S8192x128 .bf16)
    (i0 : ℕ) (dk dv : Vec F S8192x128 .f32) (w : BitVec 32) (n : ℕ) (hn : n ≤ 2 * (i 1).val) (hcw : w = BitVec.ofNat 32 n) (K : _ → sProp 𝕄) :
    iprop(owns (c : Thread nD τ) arg3 fullShare k ∗ owns (c : Thread nD τ) arg4 fullShare v
        ∗ owns (c : Thread nD τ) arg11 fullShare (bwdInit i0 dk dv).dk ∗ owns (c : Thread nD τ) arg12 fullShare (bwdInit i0 dk dv).dv
        ∗ (∀ r, ⌜r = bwdGo q dO mle mlt tot k v (2 * (i 1).val - n) n (bwdInit i0 dk dv)⌝ -∗
            owns (c : Thread nD τ) arg3 fullShare k -∗ owns (c : Thread nD τ) arg4 fullShare v
            -∗ owns (c : Thread nD τ) arg11 fullShare r.dk -∗ owns (c : Thread nD τ) arg12 fullShare r.dv -∗
              K ⟨BitVec.ofNat 32 (i 1).val, q, dO, k1_pay20 mle, k1_pay21 mlt, k1_pay22 tot, r.keep, r.g, r.dq,
                Scalar.addi (Scalar.muli (BitVec.ofNat 32 (i 1).val) 512#32) 0#32⟩))
      ⊢ wp frame (wpE (defs₀ (F := F)) Variants.nat (c : Thread nD τ) none) E
          (bwdWord i arg2 harg2 arg3 harg3 arg4 harg4 arg5 harg5 arg6 harg6 arg7 harg7 arg8 harg8 arg9 harg9 arg10 harg10 arg11 harg11 arg12 harg12 q dO mle mlt tot w) K := by
  unfold bwdWord
  subst hcw
  have hchk := k1_chk1_of i n hn
  have hi : (i 1).val < 16 := (i 1).isLt
  have htr : (k1_t1_loop i (BitVec.ofNat 32 n)).trips = n := k1_t1_trips i ⟨n, by omega⟩ hn
  rw [wp_assume_of Variants.nat (c : Thread nD τ) none E hchk]
  iintro ⟨H3, H4, H11, H12, Hk⟩
  iapply (Scf.wp_for_bind frame (wpE (defs₀ (F := F)) Variants.nat (c : Thread nD τ) none) E _ _ _
    (k1_t1_ok i (BitVec.ofNat 32 n) hchk) _ _
    (bwdInv c arg3 arg4 arg11 arg12 q dO mle mlt tot k v (2 * (i 1).val - n) (bwdInit i0 dk dv))
    (bwd_trip c E i arg2 harg2 arg3 harg3 arg4 harg4 arg5 harg5 arg6 harg6 arg7 harg7 arg8 harg8 arg9 harg9 arg10 harg10
      arg11 harg11 arg12 harg12 q dO mle mlt tot k v (bwdInit i0 dk dv) n hn hchk _)) $$ [H3 H4 H11 H12]
  · unfold bwdInv
    isplitr; · ipureintro; rfl
    isplitl [H3]; · iexact H3
    isplitl [H4]; · iexact H4
    isplitl [H11]; · iexact H11
    iexact H12
  iintro %acc Hinv
  rw [show Scf.Loop.for (k1_t2_loop i (BitVec.ofNat 32 n)) (k1_t2_ok i (BitVec.ofNat 32 n) hchk) (acc.1, acc.2.1, acc.2.2) _
    = .ret (acc.1, acc.2.1, acc.2.2) from Scf.for_eq_ret _ _ _ _ _ _ (k1_t2_trips i _)]
  rw [show Scf.trips (k1_t1_loop i (BitVec.ofNat 32 n)).lb (k1_t1_loop i (BitVec.ofNat 32 n)).ub (k1_t1_loop i (BitVec.ofNat 32 n)).st = n from htr]
  unfold bwdInv
  icases Hinv with ⟨%hacc, H3, H4, H11, H12⟩
  subst hacc
  simp only [Prog.bind_ret]
  rw [wp_ret]; imodintro
  ispecialize Hk $$ %(bwdGo q dO mle mlt tot k v (2 * (i 1).val - n) n (bwdInit i0 dk dv))
  iapply Hk $$ [] H3 H4 H11 H12
  ipureintro; rfl

/-- Over settled slabs it leaves the walk's state. -/
theorem bwd_read
    (q dO : Vec F S512x128 .bf16) (mle mlt : Vec F S256x256 .bf16) (tot : Vec F S512x128 .f32) (cnt : Vec F S8x128 .f32)
    (k v : Vec F S8192x128 .bf16) (dk dv : Vec F S8192x128 .f32) (n : ℕ) (hn : n ≤ 2 * (i 1).val)
    (hcnt : Scalar.fptosi 32 (k1_pay24 cnt) = BitVec.ofNat 32 n) (K : _ → sProp 𝕄) :
    iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt
        ∗ owns (c : Thread nD τ) arg11 fullShare (bwdInit (i 1).val dk dv).dk ∗ owns (c : Thread nD τ) arg12 fullShare (bwdInit (i 1).val dk dv).dv
        ∗ (iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt
        ∗ owns (c : Thread nD τ) arg11 fullShare (bwdWalk q dO mle mlt (col0 tot) k v (i 1).val n dk dv).dk ∗ owns (c : Thread nD τ) arg12 fullShare (bwdWalk q dO mle mlt (col0 tot) k v (i 1).val n dk dv).dv
) -∗
              K ⟨BitVec.ofNat 32 (i 1).val, q, dO, k1_pay20 mle, k1_pay21 mlt, k1_pay22 (col0 tot), (bwdWalk q dO mle mlt (col0 tot) k v (i 1).val n dk dv).keep, (bwdWalk q dO mle mlt (col0 tot) k v (i 1).val n dk dv).g, (bwdWalk q dO mle mlt (col0 tot) k v (i 1).val n dk dv).dq,
                Scalar.addi (Scalar.muli (BitVec.ofNat 32 (i 1).val) 512#32) 0#32⟩))
      ⊢ wp frame (wpE (defs₀ (F := F)) Variants.nat (c : Thread nD τ) none) E
          (bwdRead i arg2 harg2 arg3 harg3 arg4 harg4 arg5 harg5 arg6 harg6 arg7 harg7 arg8 harg8 arg9 harg9 arg10 harg10 arg11 harg11 arg12 harg12) K := by
  unfold bwdRead owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f11, %e11, H11⟩, ⟨%f12, %e12, H12⟩, Hk⟩
  subst hf2 hf3 hf4 hf5 hf6 hf7 hf8 hf9
  sl_step
  sl_step
  sl_step
  sl_step
  sl_step
  sl_step
  simp only [read512x128, read256x256, read8x128]
  rw [show arg5.view.readAt (Elt F) (Rect.unit (s := S512x128) ![0, 0] S512x1.size inb_S512x128_S512x1_0_0).toLoadRect f5
    = col0 (arg5.view.read (Elt F) f5) from rfl]
  iapply (bwd_word c E i arg2 harg2 arg3 harg3 arg4 harg4 arg5 harg5 arg6 harg6 arg7 harg7 arg8 harg8 arg9 harg9 arg10 harg10 arg11 harg11 arg12 harg12 _ _ _ _ _ (arg3.view.read (Elt F) f3) (arg4.view.read (Elt F) f4) (i 1).val dk dv _ n hn hcnt K)
  unfold owns
  isplitl [H3]
  · iexists f3; isplitr; · ipureintro; rfl
    iexact H3
  isplitl [H4]
  · iexists f4; isplitr; · ipureintro; rfl
    iexact H4
  isplitl [H11]
  · iexists f11; isplitr; · ipureintro; exact e11
    iexact H11
  isplitl [H12]
  · iexists f12; isplitr; · ipureintro; exact e12
    iexact H12
  iintro %r %hr H3 H4 H11 H12
  rw [show bwdGo (arg2.view.read (Elt F) f2) (arg7.view.read (Elt F) f7) (arg8.view.read (Elt F) f8) (arg9.view.read (Elt F) f9)
    (col0 (arg5.view.read (Elt F) f5)) (arg3.view.read (Elt F) f3) (arg4.view.read (Elt F) f4) (2 * (i 1).val - n) n (bwdInit (i 1).val dk dv)
    = bwdWalk (arg2.view.read (Elt F) f2) (arg7.view.read (Elt F) f7) (arg8.view.read (Elt F) f8) (arg9.view.read (Elt F) f9)
    (col0 (arg5.view.read (Elt F) f5)) (arg3.view.read (Elt F) f3) (arg4.view.read (Elt F) f4) (i 1).val n dk dv from rfl] at hr
  subst hr
  iapply Hk
  isplitl [H2]
  · iexists f2; isplitr; · ipureintro; rfl
    iexact H2
  isplitl [H3]; · iexact H3
  isplitl [H4]; · iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H11]; · iexact H11
  iexact H12

/-- The first part: at the first row block the slabs are cleared, then the walk over the earlier tiles. -/
theorem bwd_walk
    (q dO : Vec F S512x128 .bf16) (mle mlt : Vec F S256x256 .bf16) (tot : Vec F S512x128 .f32) (cnt : Vec F S8x128 .f32)
    (k v : Vec F S8192x128 .bf16) (dk dv : Vec F S8192x128 .f32) (n : ℕ) (hn : n ≤ 2 * (i 1).val)
    (hcnt : Scalar.fptosi 32 (k1_pay24 cnt) = BitVec.ofNat 32 n) (K : _ → sProp 𝕄) :
    iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt
        ∗ owns (c : Thread nD τ) arg11 fullShare dk ∗ owns (c : Thread nD τ) arg12 fullShare dv
        ∗ (iprop(owns (c : Thread nD τ) arg2 fullShare q ∗ owns (c : Thread nD τ) arg3 fullShare k ∗ owns (c : Thread nD τ) arg4 fullShare v
            ∗ owns (c : Thread nD τ) arg5 fullShare tot ∗ owns (c : Thread nD τ) arg6 fullShare cnt ∗ owns (c : Thread nD τ) arg7 fullShare dO
            ∗ owns (c : Thread nD τ) arg8 fullShare mle ∗ owns (c : Thread nD τ) arg9 fullShare mlt
            ∗ owns (c : Thread nD τ) arg11 fullShare (bwdWalk q dO mle mlt (col0 tot) k v (i 1).val n dk dv).dk
            ∗ owns (c : Thread nD τ) arg12 fullShare (bwdWalk q dO mle mlt (col0 tot) k v (i 1).val n dk dv).dv) -∗
              K ⟨BitVec.ofNat 32 (i 1).val, q, dO, k1_pay20 mle, k1_pay21 mlt, k1_pay22 (col0 tot),
                (bwdWalk q dO mle mlt (col0 tot) k v (i 1).val n dk dv).keep, (bwdWalk q dO mle mlt (col0 tot) k v (i 1).val n dk dv).g,
                (bwdWalk q dO mle mlt (col0 tot) k v (i 1).val n dk dv).dq,
                Scalar.addi (Scalar.muli (BitVec.ofNat 32 (i 1).val) 512#32) 0#32⟩))
      ⊢ wp frame (wpE (defs₀ (F := F)) Variants.nat (c : Thread nD τ) none) E
          (k1_part3 i arg2 harg2 arg3 harg3 arg4 harg4 arg5 harg5 arg6 harg6 arg7 harg7 arg8 harg8 arg9 harg9 arg10 harg10
            arg11 harg11 arg12 harg12) K := by
  rw [k1_part3_eq]
  have hi : (i 1).val < 16 := (i 1).isLt
  by_cases h0 : (i 1).val = 0
  · rw [if_pos (by rw [h0]; decide)]
    unfold owns
    iintro ⟨H2, H3, H4, H5, H6, H7, H8, H9, ⟨%f11, %hf11, H11⟩, ⟨%f12, %hf12, H12⟩, Hk⟩
    sl_step
    sl_step
    sl_step
    sl_step
    iapply (bwd_read c E i arg2 harg2 arg3 harg3 arg4 harg4 arg5 harg5 arg6 harg6 arg7 harg7 arg8 harg8 arg9 harg9 arg10 harg10 arg11 harg11 arg12 harg12 q dO mle mlt tot cnt k v dk dv n hn hcnt K)
    unfold owns
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]
    · iexists _; isplitr
      swap; · iexact H11
      ipureintro
      exact (writes_whole _ _ _ zero2 inb_S8192x128_S8192x128_0_0 _).trans (if_pos h0).symm
    isplitl [H12]
    · iexists _; isplitr
      swap; · iexact H12
      ipureintro
      exact (writes_whole _ _ _ zero2 inb_S8192x128_S8192x128_0_0 _).trans (if_pos h0).symm
    iexact Hk
  · rw [if_neg (by
      have := fun (j : Fin 16) => (by decide +revert : j.val ≠ 0 →
        ¬ Scalar.cmpi .ne ((Scalar.extui (Scalar.cmpi .eq (BitVec.ofNat 32 j.val) 0#32) : BitVec 32)) 0#32 = 1#1)
      exact this ⟨(i 1).val, hi⟩ h0)]
    have h := bwd_read c E i arg2 harg2 arg3 harg3 arg4 harg4 arg5 harg5 arg6 harg6 arg7 harg7 arg8 harg8 arg9 harg9 arg10 harg10 arg11 harg11 arg12 harg12 q dO mle mlt tot cnt k v dk dv n hn hcnt K
    rw [show (bwdInit (i 1).val dk dv).dk = dk from if_neg h0, show (bwdInit (i 1).val dk dv).dv = dv from if_neg h0] at h
    exact h

/-- The backward body at grid point `i`. -/
theorem bwd_sound
    (q dO : Vec F S512x128 .bf16) (mle mlt : Vec F S256x256 .bf16) (tot : Vec F S512x128 .f32) (cnt : Vec F S8x128 .f32)
    (k v : Vec F S8192x128 .bf16) (dk dv : Vec F S8192x128 .f32) (n : ℕ) (hn : n ≤ 2 * (i 1).val)
    (hcnt : Scalar.fptosi 32 (k1_pay24 cnt) = BitVec.ofNat 32 n) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt ∗ (∃ d, owns (c : Thread nD τ) arg10 fullShare d)
        ∗ owns (c : Thread nD τ) arg11 fullShare dk ∗ owns (c : Thread nD τ) arg12 fullShare dv
        ∗ (iprop(owns (c : Thread nD τ) arg2 fullShare q ∗ owns (c : Thread nD τ) arg3 fullShare k ∗ owns (c : Thread nD τ) arg4 fullShare v
            ∗ owns (c : Thread nD τ) arg5 fullShare tot ∗ owns (c : Thread nD τ) arg6 fullShare cnt ∗ owns (c : Thread nD τ) arg7 fullShare dO
            ∗ owns (c : Thread nD τ) arg8 fullShare mle ∗ owns (c : Thread nD τ) arg9 fullShare mlt
            ∗ owns (c : Thread nD τ) arg10 fullShare (bwdRes q dO mle mlt (col0 tot) k v (i 1).val n dk dv).dq
            ∗ owns (c : Thread nD τ) arg11 fullShare (bwdRes q dO mle mlt (col0 tot) k v (i 1).val n dk dv).dk
            ∗ owns (c : Thread nD τ) arg12 fullShare (bwdRes q dO mle mlt (col0 tot) k v (i 1).val n dk dv).dv) -∗ K ⟨⟩))
      ⊢ wp frame (wpE (defs₀ (F := F)) Variants.nat (c : Thread nD τ) none) E
          (cc1_dsb i arg2 harg2 arg3 harg3 arg4 harg4 arg5 harg5 arg6 harg6 arg7 harg7 arg8 harg8 arg9 harg9 arg10 harg10
            arg11 harg11 arg12 harg12) K := by
  have hi : (i 1).val < 16 := (i 1).isLt
  simp only [cc1_dsb_eq_skeleton, cc1_dsb_skel, Prog.lift, Prog.bind_op, Prog.bind_ret, Prog.pure_eq_ret]
  rw [wp_bind]
  iintro ⟨H2, H3, H4, H5, H6, H7, H8, H9, ⟨%d10, H10⟩, H11, H12, Hk⟩
  iapply (bwd_walk c E i arg2 harg2 arg3 harg3 arg4 harg4 arg5 harg5 arg6 harg6 arg7 harg7 arg8 harg8 arg9 harg9 arg10 harg10 arg11 harg11 arg12 harg12 q dO mle mlt tot cnt k v dk dv n hn hcnt)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  unfold owns bwdRes
  generalize bwdWalk q dO mle mlt (col0 tot) k v (i 1).val n dk dv = s
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f11, %hf11, H11⟩, ⟨%f12, %hf12, H12⟩⟩
  icases H10 with ⟨%f10, %hf10, H10⟩
  subst hf2 hf3 hf4 hf5 hf6 hf7 hf8 hf9
  simp only [k1_part4_eq_skeleton, k1_part4_skel, k1_part5_eq_skeleton, k1_part5_skel, k1_part6_eq_skeleton, k1_part6_skel,
    k1_part7_eq_skeleton, k1_part7_skel, Prog.lift, Prog.bind_op, Prog.bind_ret, Prog.pure_eq_ret]
  sl_exec
  sl_unfold_run_names
  simp only [readTile _ _ _ _ _ (off_bwd0 i), readTile _ _ _ _ _ (off_bwd1 i), hf11, hf12]
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro; exact writes_whole _ _ _ zero2 _ _
  isplitl [H11]
  · iexists _; isplitr
    swap; · iexact H11
    ipureintro
    refine (writes_tile arg11.view (arg11.view.writes (Elt F) f11 [_]) _ _ _ (off_bwd1 i) _).trans ?_
    rw [writes_tile arg11.view f11 _ _ _ (off_bwd0 i), hf11]
    exact congrArg (setRows _ _) (by rw [bwdDiag0, rows_setRows_ne _ _ _ _ (Nat.succ_ne_self _) (by omega)])
  iexists _; isplitr
  swap; · iexact H12
  ipureintro
  refine (writes_tile arg12.view (arg12.view.writes (Elt F) f12 [_]) _ _ _ (off_bwd1 i) _).trans ?_
  rw [writes_tile arg12.view f12 _ _ _ (off_bwd0 i), hf12]
  exact congrArg (setRows _ _) (by rw [bwdDiag0, rows_setRows_ne _ _ _ _ (Nat.succ_ne_self _) (by omega)])

end Cert.Proof

end
-- ==== Proof.Region1.lean ====
/-
  The backward region's proof data and the body obligation at each of its points.
-/
module

public import proofs.«01_k».proof.Proof.Bwd
public import proofs.«01_k».proof.Proof.Gen.KernelIdeal.Points
public import proofs.«01_k».proof.Proof.Gen.KernelIdeal.Regions
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it. -/
def blk1 (w : Fin (cfg1 (F := F)).W) (t : Fin (cfg1 (F := F)).N) : (((cfg1 (F := F)).win w).xblock ((cfg1 (F := F)).grid.coords t)).Idx → Elt F ((cfg1 (F := F)).win w).elt :=
  (((cfg1 (F := F)).win w).blk t).view.read (Elt F) (W (Proc.devRef .tc (Pipeline.arrRef spec1 w)))

/-- The row block of point `t`. -/
theorem coords1 : ∀ t : Fin grid1.N, (grid1.coords t 1).val = t.val % 16 := by decide +kernel

/-- The count that point `t` reads. -/
def cntN (t : Fin (cfg1 (F := F)).N) : ℕ := (Scalar.fptosi 32 (k1_pay24 (F := F) (blk1 W 4 t))).toNat

/-- What the body leaves at point `t`, the two slabs found at `dk` and `dv`. -/
def res1 (t : Fin (cfg1 (F := F)).N) (dk dv : Vec F S8192x128 .f32) : BSt F :=
  bwdRes (blk1 W 0 t) (blk1 W 5 t) (blk1 W 6 t) (blk1 W 7 t) (col0 (blk1 W 3 t)) (blk1 W 1 t) (blk1 W 2 t) (grid1.coords t 1).val (cntN W t) dk dv

/-- The two slabs before point `t`. -/
def slabs : ℕ → Vec F S8192x128 .f32 × Vec F S8192x128 .f32
  | 0 => (k1_pay18, k1_pay19)
  | t + 1 => if h : t < (cfg1 (F := F)).N then ((res1 W ⟨t, h⟩ (slabs t).1 (slabs t).2).dk, (res1 W ⟨t, h⟩ (slabs t).1 (slabs t).2).dv) else slabs t

/-- What point `t` leaves. -/
def left1 (t : Fin (cfg1 (F := F)).N) : BSt F := res1 W t (slabs W t.val).1 (slabs W t.val).2

theorem slabs_succ (t : Fin (cfg1 (F := F)).N) : slabs W (t.val + 1) = ((left1 W t).dk, (left1 W t).dv) := by
  show (if h : t.val < (cfg1 (F := F)).N then _ else _) = _
  rw [dif_pos t.isLt]; rfl

/-- At a first row block the slabs found do not matter. -/
theorem res1_first (t : Fin (cfg1 (F := F)).N) (h : t.val % 16 = 0) (dk dv dk' dv' : Vec F S8192x128 .f32) : res1 W t dk dv = res1 W t dk' dv' := by
  have h0 : (grid1.coords t 1).val = 0 := (coords1 t).trans h
  unfold res1 bwdRes bwdWalk bwdInit
  rw [if_pos h0, if_pos h0, if_pos h0, if_pos h0]

/-- The backward region's proof data. -/
def dat1 (c : Dev nD) : Dat τ (Elt F) Unit ℕ (UR sig nD τ) ℕ (cfg1 (F := F)) c where
  A w := W (Proc.devRef .tc (Pipeline.arrRef spec1 w))
  after w t := match w with
    | ⟨0, _⟩ => blk1 W 0 t
    | ⟨1, _⟩ => blk1 W 1 t
    | ⟨2, _⟩ => blk1 W 2 t
    | ⟨3, _⟩ => blk1 W 3 t
    | ⟨4, _⟩ => blk1 W 4 t
    | ⟨5, _⟩ => blk1 W 5 t
    | ⟨6, _⟩ => blk1 W 6 t
    | ⟨7, _⟩ => blk1 W 7 t
    | ⟨8, _⟩ => (left1 W t).dq
    | ⟨9, _⟩ => (left1 W t).dk
    | ⟨10, _⟩ => (left1 W t).dv
  Φ _ := Pipeline.scopedRest spec1 c
  q _ := fullShare
  owed _ := 0

theorem A1_eq (c : Dev nD) (w : Fin (cfg1 (F := F)).W) : (dat1 W c).A w = W (Proc.devRef .tc (Pipeline.arrRef spec1 w)) := by
  dsimp only [dat1]

variable (c : Dev nD) (t : Fin (cfg1 (F := F)).N)

theorem after1_0 : (dat1 W c).after 0 t = blk1 W 0 t := rfl
theorem after1_1 : (dat1 W c).after 1 t = blk1 W 1 t := rfl
theorem after1_2 : (dat1 W c).after 2 t = blk1 W 2 t := rfl
theorem after1_3 : (dat1 W c).after 3 t = blk1 W 3 t := rfl
theorem after1_4 : (dat1 W c).after 4 t = blk1 W 4 t := rfl
theorem after1_5 : (dat1 W c).after 5 t = blk1 W 5 t := rfl
theorem after1_6 : (dat1 W c).after 6 t = blk1 W 6 t := rfl
theorem after1_7 : (dat1 W c).after 7 t = blk1 W 7 t := rfl
theorem after1_8 : (dat1 W c).after 8 t = (left1 W t).dq := rfl
theorem after1_9 : (dat1 W c).after 9 t = (left1 W t).dk := rfl
theorem after1_10 : (dat1 W c).after 10 t = (left1 W t).dv := rfl

theorem before1_0 (d) : (dat1 W c).before 0 t d = blk1 W 0 t :=
  (dat1 W c).before_in_eq_fetched 0 rfl (fun _ => rfl) (fun _ _ _ => rfl) (fun _ => rfl) t d
theorem before1_1 (d) : (dat1 W c).before 1 t d = blk1 W 1 t :=
  (dat1 W c).before_in_eq_fetched 1 rfl (fun _ => rfl) (fun _ _ _ => rfl) (fun _ => rfl) t d
theorem before1_2 (d) : (dat1 W c).before 2 t d = blk1 W 2 t :=
  (dat1 W c).before_in_eq_fetched 2 rfl (fun _ => rfl) (fun _ _ _ => rfl) (fun _ => rfl) t d
theorem before1_3 (d) : (dat1 W c).before 3 t d = blk1 W 3 t :=
  (dat1 W c).before_in_eq_fetched 3 rfl (fun _ => rfl) (fun _ _ _ => rfl) (fun _ => rfl) t d
theorem before1_4 (d) : (dat1 W c).before 4 t d = blk1 W 4 t :=
  (dat1 W c).before_in_eq_fetched 4 rfl (fun _ => rfl) (fun _ _ _ => rfl) (fun _ => rfl) t d
theorem before1_5 (d) : (dat1 W c).before 5 t d = blk1 W 5 t :=
  (dat1 W c).before_in_eq_fetched 5 rfl (fun _ => rfl) (fun _ _ _ => rfl) (fun _ => rfl) t d
theorem before1_6 (d) : (dat1 W c).before 6 t d = blk1 W 6 t :=
  (dat1 W c).before_in_eq_fetched 6 rfl (fun _ => rfl) (fun _ _ _ => rfl) (fun _ => rfl) t d
theorem before1_7 (d) : (dat1 W c).before 7 t d = blk1 W 7 t :=
  (dat1 W c).before_in_eq_fetched 7 rfl (fun _ => rfl) (fun _ _ _ => rfl) (fun _ => rfl) t d

/-- Past a first row block the slab holds what the point before left. -/
theorem before1_9 (h : t.val % 16 ≠ 0) (d) : (dat1 W c).before 9 t d = (slabs W t.val).1 := by
  have ht : t.val ≠ 0 := fun e => h (by rw [e])
  have hN : t.val < (cfg1 (F := F)).N := t.isLt
  rw [(dat1 W c).before_out_kept 9 rfl t ht (Bool.eq_false_iff.mpr fun hf => h (by have := (flush1_9 (F := F) _).mp hf; dsimp only at this; omega))
    (fun _ => rfl) (fun _ _ => rfl) d, after1_9]
  have hs := slabs_succ W ⟨t.val - 1, Nat.lt_of_le_of_lt (Nat.sub_le _ _) t.isLt⟩
  rw [show (⟨t.val - 1, Nat.lt_of_le_of_lt (Nat.sub_le _ _) t.isLt⟩ : Fin (cfg1 (F := F)).N).val + 1 = t.val from Nat.succ_pred_eq_of_pos (Nat.pos_of_ne_zero ht)] at hs
  rw [hs]

/-- Past a first row block the slab holds what the point before left. -/
theorem before1_10 (h : t.val % 16 ≠ 0) (d) : (dat1 W c).before 10 t d = (slabs W t.val).2 := by
  have ht : t.val ≠ 0 := fun e => h (by rw [e])
  have hN : t.val < (cfg1 (F := F)).N := t.isLt
  rw [(dat1 W c).before_out_kept 10 rfl t ht (Bool.eq_false_iff.mpr fun hf => h (by have := (flush1_10 (F := F) _).mp hf; dsimp only at this; omega))
    (fun _ => rfl) (fun _ _ => rfl) d, after1_10]
  have hs := slabs_succ W ⟨t.val - 1, Nat.lt_of_le_of_lt (Nat.sub_le _ _) t.isLt⟩
  rw [show (⟨t.val - 1, Nat.lt_of_le_of_lt (Nat.sub_le _ _) t.isLt⟩ : Fin (cfg1 (F := F)).N).val + 1 = t.val from Nat.succ_pred_eq_of_pos (Nat.pos_of_ne_zero ht)] at hs
  rw [hs]

/-- Whatever the slabs' buffers hold, the body leaves `left1`. -/
theorem res1_before (d9 d10) :
    res1 W t ((dat1 W c).before 9 t d9) ((dat1 W c).before 10 t d10) = left1 W t := by
  by_cases h : t.val % 16 = 0
  · exact res1_first W t h _ _ _ _
  · rw [before1_9 W c t h, before1_10 W c t h]; rfl

/-- What the body is called with at point `t`, -/
def bodyPre1 : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d))
    ∗ (∃ d, owns (c : Thread nD τ) (st1_9 t) fullShare ((dat1 W c).before 9 t d))
    ∗ (∃ d, owns (c : Thread nD τ) (st1_10 t) fullShare ((dat1 W c).before 10 t d)))

/-- and what it returns. -/
def bodyPost1 : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t)
    ∗ owns (c : Thread nD τ) (st1_7 t) fullShare ((dat1 W c).after 7 t)
    ∗ owns (c : Thread nD τ) (st1_8 t) fullShare ((dat1 W c).after 8 t)
    ∗ owns (c : Thread nD τ) (st1_9 t) fullShare ((dat1 W c).after 9 t)
    ∗ owns (c : Thread nD τ) (st1_10 t) fullShare ((dat1 W c).after 10 t))

/-- Every point's count block holds a count of at most two tiles for each earlier row block. -/
def CountsIn : Prop := ∀ t : Fin (cfg1 (F := F)).N, ∃ n, n ≤ 2 * (grid1.coords t 1).val ∧ blk1 W 4 t = k0_pay5 (F := F) (BitVec.ofNat 32 n)

/-- The float values turn a small count into a float and back. -/
def CountExact (F : FTy → Type) [FloatOps F] [Named F] : Prop :=
  ∀ n ≤ 30, Scalar.fptosi 32 (k1_pay24 (F := F) (k0_pay5 (F := F) (BitVec.ofNat 32 n))) = BitVec.ofNat 32 n

theorem cntN_spec (hW : CountsIn W) (hF : CountExact F) (t : Fin (cfg1 (F := F)).N) :
    cntN W t ≤ 2 * (grid1.coords t 1).val ∧ Scalar.fptosi 32 (k1_pay24 (F := F) (blk1 W 4 t)) = BitVec.ofNat 32 (cntN W t) := by
  obtain ⟨n, hn, hb⟩ := hW t
  have hi : (grid1.coords t 1).val < 16 := (grid1.coords t 1).isLt
  have h := hF n (by omega)
  have hc : cntN W t = n := by
    unfold cntN; rw [hb, h]
    exact (BitVec.toNat_ofNat n 32).trans (Nat.mod_eq_of_lt (by omega))
  rw [hc, hb]; exact ⟨hn, h⟩

/-- The body at any point. -/
theorem sound_body1 (hW : CountsIn W) (hF : CountExact F) (c : Dev nD) (t : Fin (cfg1 (F := F)).N) :
    bodyPre1 W c t ⊢ wp frame (wpE (defs₀ (F := F)) Variants.nat (c : Thread nD τ) none) Set.univ (bodyAt1 t) (fun _ => bodyPost1 W c t) := by
  unfold bodyPre1 bodyPost1 bodyAt1
  simp only [before1_0, before1_1, before1_2, before1_3, before1_4, before1_5, before1_6, before1_7]
  rw [show (dat1 W c).Φ t.succ = (dat1 W c).Φ t.castSucc from rfl,
    show (dat1 W c).owesAt () t.succ = (dat1 W c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hr := res1_before W c t d9 d10
  iapply (bwd_sound c Set.univ (grid1.coords t) _ _ _ _ _ _ _ _ _ _ _ _ _ _ _ _ _ _ _ _ _ _ (blk1 W 0 t) (blk1 W 5 t) (blk1 W 6 t) (blk1 W 7 t) (blk1 W 3 t) (blk1 W 4 t)
    (blk1 W 1 t) (blk1 W 2 t) ((dat1 W c).before 9 t d9) ((dat1 W c).before 10 t d10) (cntN W t) (cntN_spec W hW hF t).1 (cntN_spec W hW hF t).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  rw [show bwdRes (blk1 W 0 t) (blk1 W 5 t) (blk1 W 6 t) (blk1 W 7 t) (col0 (blk1 W 3 t)) (blk1 W 1 t) (blk1 W 2 t) (grid1.coords t 1).val (cntN W t)
    ((dat1 W c).before 9 t d9) ((dat1 W c).before 10 t d10) = left1 W t from hr]
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

/-- The body obligation at every point. -/
theorem body_obligation1 (hW : CountsIn W) (hF : CountExact F) (c : Dev nD) :
    BodyObligation (dat1 W c) (defs₀ (F := F)) Variants.nat () Set.univ := fun t => by
  rw [bigSep_W1, bigSep_W1, defs₀_row1]
  exact triple_restated (sound_body1 W hW hF c t) rfl .rfl fun _ => .rfl

end Cert.Proof

end
-- ==== Proof.Between.lean ====
/-
  The buffers' contents between the program's items, and what the backward region reads of the forward region's results.
-/
module

public import proofs.«01_k».proof.Proof.Region0
public import proofs.«01_k».proof.Proof.Region1
public import Idealize.ShloMosaic.Lib.Pipeline.RegionArraysS
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s buffers when the forward region starts, -/
def W1 (c : Dev nD) : Valuation τ sig (Elt F) := V1 m c
/-- when it ends, -/
def W2 (c : Dev nD) : Valuation τ sig (Elt F) := Pipeline.afterRegion (dat0 (W1 m c) c) (W1 m c)
/-- when the backward region starts, -/
def W3 (c : Dev nD) : Valuation τ sig (Elt F) := StableHlo.after hostOps1 (W2 m c)
/-- and at the end. -/
def W4 (c : Dev nD) : Valuation τ sig (Elt F) := Pipeline.afterRegion (dat1 (W3 m c) c) (W3 m c)

theorem inj0 : Function.Injective (Pipeline.arrRef (cfg0 (F := F)).spec) := (launch0 (F := F)).win.arr_inj
theorem inj1 : Function.Injective (Pipeline.arrRef (cfg1 (F := F)).spec) := (launch1 (F := F)).win.arr_inj

/-- The forward region changes its results' arrays only. -/
theorem W2_of (c : Dev nD) (r : Ref sig .tc) (h : r ∉ ([main_v4_0, main_v4_1, main_v4_2] : List (Ref sig .tc))) :
    W2 m c (Proc.devRef .tc r) = W1 m c (Proc.devRef .tc r) := by
  refine Pipeline.afterRegion_keeps (dat0 (W1 m c) c) (W1 m c) inj0 (fun w => A0_eq _ c w) r fun w hw => ?_
  subst hw
  revert h
  exact (by decide : ∀ w : Fin 7, Pipeline.arrRef spec0 w ∉ ([main_v4_0, main_v4_1, main_v4_2] : List (Ref sig .tc)) → (win0 w).isOut = false) w

/-- The backward region changes its results' arrays only. -/
theorem W4_of (c : Dev nD) (r : Ref sig .tc) (h : r ∉ ([main_v13_0, main_v13_1, main_v13_2] : List (Ref sig .tc))) :
    W4 m c (Proc.devRef .tc r) = W3 m c (Proc.devRef .tc r) := by
  refine Pipeline.afterRegion_keeps (dat1 (W3 m c) c) (W3 m c) inj1 (fun w => A1_eq _ c w) r fun w hw => ?_
  subst hw
  revert h
  exact (by decide : ∀ w : Fin 11, Pipeline.arrRef spec1 w ∉ ([main_v13_0, main_v13_1, main_v13_2] : List (Ref sig .tc)) → (win1 w).isOut = false) w

theorem W3_of (c : Dev nD) (r : Ref sig .tc) (h : r ∉ hostOps1_W) : W3 m c (Proc.devRef .tc r) = W2 m c (Proc.devRef .tc r) :=
  StableHlo.after_of_writes_sub hostOps1 _ hostOps1_writes h

theorem W1_of (c : Dev nD) (r : Ref sig .tc) (h : r ∉ hostOps0_W) : W1 m c (Proc.devRef .tc r) = m ((c : Thread nD τ).loc r) :=
  (V1_of m c r h).trans rfl

/-- A buffer that nothing writes holds its launch contents at the backward region's start. -/
theorem W3_arg (c : Dev nD) (r : Ref sig .tc) (h0 : r ∉ hostOps0_W) (h1 : r ∉ ([main_v4_0, main_v4_1, main_v4_2] : List (Ref sig .tc)))
    (h2 : r ∉ hostOps1_W) : W3 m c (Proc.devRef .tc r) = m ((c : Thread nD τ).loc r) :=
  (W3_of m c r h2).trans ((W2_of m c r h1).trans (W1_of m c r h0))

/-- A buffer that nothing writes ends at its launch contents. -/
theorem W4_arg (c : Dev nD) (r : Ref sig .tc) (h0 : r ∉ hostOps0_W) (h1 : r ∉ ([main_v4_0, main_v4_1, main_v4_2] : List (Ref sig .tc)))
    (h2 : r ∉ hostOps1_W) (h3 : r ∉ ([main_v13_0, main_v13_1, main_v13_2] : List (Ref sig .tc))) :
    W4 m c (Proc.devRef .tc r) = m ((c : Thread nD τ).loc r) :=
  (W4_of m c r h3).trans (W3_arg m c r h0 h1 h2)

/-- The backward region finds the forward region's row sums and counts. -/
theorem W3_tot (c : Dev nD) : W3 m c (Proc.devRef .tc main_v4_1) = (dat0 (W1 m c) c).arrAt 5 (cfg0 (F := F)).N :=
  (W3_of m c main_v4_1 (by decide)).trans (Pipeline.afterRegion_arr (dat0 (W1 m c) c) (W1 m c) inj0 (5 : Fin 7))
theorem W3_cnt (c : Dev nD) : W3 m c (Proc.devRef .tc main_v4_2) = (dat0 (W1 m c) c).arrAt 6 (cfg0 (F := F)).N :=
  (W3_of m c main_v4_2 (by decide)).trans (Pipeline.afterRegion_arr (dat0 (W1 m c) c) (W1 m c) inj0 (6 : Fin 7))

theorem index0_5 : ∀ t : Fin grid0.N, win0_5.index t = ![t.val % 16, t.val / 16] := by decide +kernel
theorem index0_6 : ∀ t : Fin grid0.N, win0_6.index t = ![t.val % 16, t.val / 16] := by decide +kernel

/-- The walk does at most the tiles that are left. -/
theorem fwdGo_le (q : Vec F S512x128 .bf16) (x : Vec F S256x256 .bf16) (k v : Vec F S8192x128 .bf16) :
    ∀ (n t : ℕ) (l : FVec F S512x1 .f32) (a : FVec F S512x128 .f32), (fwdGo q x k v n t l a).1 ≤ t + n
  | 0, t, l, a => Nat.le_refl t
  | n + 1, t, l, a => by
    unfold fwdGo
    split
    · exact (fwdGo_le q x k v n (t + 1) _ _).trans (by omega)
    · exact Nat.le_add_right t (n + 1)

/-- The row sums that point `t` of the backward region reads are the ones the forward region's point `t` left. -/
theorem blk1_tot (c : Dev nD) (t : Fin (cfg1 (F := F)).N) : blk1 (W3 m c) 3 t = tot0 (W1 m c) t := by
  have h := (dat0 (W1 m c) c).read_blk_arrAt_eq_flushed (5 : Fin 7)
    (fun t t' _ _ hne => Pipeline.Window.disjoint_blk win0_5 (by rw [index0_5, index0_5]; exact ne_pair fun e => hne (Fin.ext e)) rfl)
    (cfg0 (F := F)).N t t.isLt (flush0_5 t)
  have hb : blk1 (W3 m c) 3 t = (((cfg1 (F := F)).win 3).blk t).view.read (Elt F) ((dat0 (W1 m c) c).arrAt 5 (cfg0 (F := F)).N) := by
    rw [← W3_tot]; rfl
  rw [hb]
  exact h

theorem blk1_cnt (c : Dev nD) (t : Fin (cfg1 (F := F)).N) : blk1 (W3 m c) 4 t = cnt0 (W1 m c) t := by
  have h := (dat0 (W1 m c) c).read_blk_arrAt_eq_flushed (6 : Fin 7)
    (fun t t' _ _ hne => Pipeline.Window.disjoint_blk win0_6 (by rw [index0_6, index0_6]; exact ne_pair fun e => hne (Fin.ext e)) rfl)
    (cfg0 (F := F)).N t t.isLt (flush0_6 t)
  have hb : blk1 (W3 m c) 4 t = (((cfg1 (F := F)).win 4).blk t).view.read (Elt F) ((dat0 (W1 m c) c).arrAt 6 (cfg0 (F := F)).N) := by
    rw [← W3_cnt]; rfl
  rw [hb]
  exact h

/-- The forward region leaves counts of at most two tiles for each earlier row block. -/
theorem counts_in (c : Dev nD) : CountsIn (W3 m c) := fun t =>
  ⟨(fwdRes (grid0.coords t 1).val (blk0 (W1 m c) 0 t) (blk0 (W1 m c) 1 t) (blk0 (W1 m c) 2 t) (blk0 (W1 m c) 3 t)).1, (fwdGo_le _ _ _ _ _ _ _ _).trans (Nat.le_of_eq (Nat.zero_add _)), blk1_cnt m c t⟩

end Cert.Proof

end
-- ==== Proof.Run.lean ====
/-
  The whole run: from any memory, at any float values that turn a small count into a float and back, every execution of the
  program ends, each buffer at the contents of `Between` and every semaphore at zero.
-/
module

public import proofs.«01_k».proof.Proof.Between

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Both regions' proof data. -/
def pdats : (p : Fin 2) → (c : Dev nD) → Dat τ (Elt F) Unit ℕ (UR sig nD τ) ℕ ((cfgs (F := F)) p) c
  | ⟨0, _⟩, c => dat0 (W1 m c) c
  | ⟨1, _⟩, c => dat1 (W3 m c) c

abbrev EP : Emb (UR sig nD τ) 𝕄 := emb₁

/-- The one wait index stands at every TensorCore cell; nothing is ever owed. -/
def waitAt : GSem nD τ sig → Finset Unit := fun g => if g.1.2 = .tc then {()} else ∅
abbrev lev : GSem nD τ sig → Unit → ℕ := fun _ _ => 0
/-- What rides beside the buffers. -/
def rest (_ : Dev nD) : sProp 𝕄 := iprop(emp)
def between (c : Dev nD) : sProp 𝕄 := iprop((∃ O, owes (c : Thread nD τ) (0 : CellTallies nD τ sig Unit) O) ∗ emp ∗ emp)

theorem levelCut (p : Fin 2) : Pipeline.LevelCut (pcfgs (F := F)) adm () waitAt lev p (0 : Dev nD → CellTallies nD τ sig Unit) (fun _ => 0) where
  hι c w s := by unfold waitAt; rw [if_pos rfl]; exact Finset.mem_singleton_self _
  hιb c w s := le_refl _
  hD c g i h := absurd h (Nat.lt_irrefl 0)

theorem rest_in0 (c : Dev nD) : iprop(Pipeline.scopedRest spec0 c ∗ emp) ⊢ (pdats m 0 c).Φ 0 := by
  show iprop(Pipeline.scopedRest spec0 c ∗ emp) ⊢ (Pipeline.scopedRest spec0 c : sProp 𝕄)
  iintro ⟨H, -⟩; iexact H
theorem rest_out0 (c : Dev nD) : (pdats m 0 c).Φ (Fin.last (cfg0 (F := F)).N) ⊢ iprop(Pipeline.scopedRest spec0 c ∗ emp) := by
  show (Pipeline.scopedRest spec0 c : sProp 𝕄) ⊢ iprop(Pipeline.scopedRest spec0 c ∗ emp)
  iintro H
  isplitl [H]
  · iexact H
  iempintro

theorem rest_in1 (c : Dev nD) : iprop(Pipeline.scopedRest spec1 c ∗ emp) ⊢ (pdats m 1 c).Φ 0 := by
  show iprop(Pipeline.scopedRest spec1 c ∗ emp) ⊢ (Pipeline.scopedRest spec1 c : sProp 𝕄)
  iintro ⟨H, -⟩; iexact H
theorem rest_out1 (c : Dev nD) : (pdats m 1 c).Φ (Fin.last (cfg1 (F := F)).N) ⊢ iprop(Pipeline.scopedRest spec1 c ∗ emp) := by
  show (Pipeline.scopedRest spec1 c : sProp 𝕄) ⊢ iprop(Pipeline.scopedRest spec1 c ∗ emp)
  iintro H
  isplitl [H]
  · iexact H
  iempintro

/-- The forward region's record. -/
def region0 : Pipeline.RegionSeg (pcfgs (F := F)) adm (pdats m) () defs₀ Variants.nat waitAt lev 0 :=
  Pipeline.RegionSeg.ofHeldIn (pcfgs (F := F)) adm (pdats m) () defs₀ Variants.nat waitAt lev 0 0 (Pipeline.ucRefs τ sig)
    (fun _ => iprop(emp)) (fun _ => iprop(emp)) (launch0 (F := F)).toP rfl (fun c => (body_obligation0 (W1 m c) c).loose)
    (fun _ _ => rfl) (fun _ => rfl) (fun c => (pdats m 0 c).share_full fun _ => rfl)
    (fun c => rest_in0 m c) (fun c => rest_out0 m c) (fun _ => 0) (levelCut 0) (fun _ => iprop(emp)) (W1 m) (fun _ _ => rfl)

/-- The backward region's record. -/
def region1 (hF : CountExact F) : Pipeline.RegionSeg (pcfgs (F := F)) adm (pdats m) () defs₀ Variants.nat waitAt lev 1 :=
  Pipeline.RegionSeg.ofHeldIn (pcfgs (F := F)) adm (pdats m) () defs₀ Variants.nat waitAt lev 1 0 (Pipeline.ucRefs τ sig)
    (fun _ => iprop(emp)) (fun _ => iprop(emp)) (launch1 (F := F)).toP rfl (fun c => (body_obligation1 (W3 m c) (counts_in m c) hF c).loose)
    (fun _ _ => rfl) (fun _ => rfl) (fun c => (pdats m 1 c).share_full fun _ => rfl)
    (fun c => rest_in1 m c) (fun c => rest_out1 m c) (fun _ => 0) (levelCut 1) (fun _ => iprop(emp)) (W3 m) (fun _ _ => rfl)

/-- The host stretches. -/
def host0 : Pipeline.HostSeg (Ix := Unit) (Name := ℕ) (U := UR sig nD τ) (Lvl := ℕ) (pcfgs (F := F)) defs₀ Variants.nat waitAt lev :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) between
def host1 : Pipeline.HostSeg (Ix := Unit) (Name := ℕ) (U := UR sig nD τ) (Lvl := ℕ) (pcfgs (F := F)) defs₀ Variants.nat waitAt lev :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) between

/-- The program's items. -/
abbrev items (hF : CountExact F) (_ : Dev nD) : List (Pipeline.Seg (pcfgs (F := F)) adm (pdats m) () defs₀ Variants.nat waitAt lev) :=
  [.host (host0 m), .region (region0 m), .host (host1 m), .region (region1 m hF)]

theorem sub0 : Pipeline.arrRefs (τ := τ) (pcfgs (F := F) 0).spec ⊆ Pipeline.ucRefs τ sig := Pipeline.arrRefs_sub_ucRefs _ (by decide : ∀ w : Fin 7, (Pipeline.arrRef spec0 w).isScoped = false)
theorem sub1 : Pipeline.arrRefs (τ := τ) (pcfgs (F := F) 1).spec ⊆ Pipeline.ucRefs τ sig := Pipeline.arrRefs_sub_ucRefs _ (by decide : ∀ w : Fin 11, (Pipeline.arrRef spec1 w).isScoped = false)

theorem host0_post (c : Dev nD) : (host0 m).post c = iprop(StableHlo.held (c.tc : Thread nD τ) (Pipeline.ucRefs τ sig) (W1 m c) ∗ between c) := by
  unfold W1; rfl
theorem host1_post (c : Dev nD) : (host1 m).post c = iprop(StableHlo.held (c.tc : Thread nD τ) (Pipeline.ucRefs τ sig) (W3 m c) ∗ between c) := by
  unfold W3; rfl
theorem enter0 (c : Dev nD) : (host0 m).post c ⊢ (region0 m).pre c := by
  rw [host0_post]
  unfold region0 between
  exact Pipeline.RegionSeg.ofHeldIn_pre (pcs := pcfgs (F := F)) (a := adm) (pdats := pdats m) (ι := ()) (defs₀ := defs₀) (𝒱₀ := Variants.nat) (L := waitAt) (lv := lev) (p := 0) (D := 0)
    (S := Pipeline.ucRefs τ sig) (X := fun _ => iprop(emp)) (Y := fun _ => iprop(emp)) (R := fun _ => iprop(emp)) (W := W1 m) sub0 c
theorem leave0 (c : Dev nD) : (region0 m).post c ⊢ (host1 m).pre c := Pipeline.RegionSeg.ofHeldIn_post sub0 c
theorem enter1 (hF : CountExact F) (c : Dev nD) : (host1 m).post c ⊢ (region1 m hF).pre c := by
  rw [host1_post]
  unfold region1 between
  exact Pipeline.RegionSeg.ofHeldIn_pre (pcs := pcfgs (F := F)) (a := adm) (pdats := pdats m) (ι := ()) (defs₀ := defs₀) (𝒱₀ := Variants.nat) (L := waitAt) (lv := lev) (p := 1) (D := 0)
    (S := Pipeline.ucRefs τ sig) (X := fun _ => iprop(emp)) (Y := fun _ => iprop(emp)) (R := fun _ => iprop(emp)) (W := W3 m) sub1 c
theorem leave1 (hF : CountExact F) (c : Dev nD) : (region1 m hF).post c
    ⊢ iprop(StableHlo.held (c : Thread nD τ) (Pipeline.ucRefs τ sig) (W4 m c) ∗ ∃ O, owes (c : Thread nD τ) (0 : CellTallies nD τ sig Unit) O) := by
  refine (Pipeline.RegionSeg.ofHeldIn_post sub1 c).trans ?_
  iintro ⟨Hh, HO, -⟩
  isplitl [Hh]; · iexact Hh
  iexact HO

set_option backward.isDefEq.respectTransparency.types false in
/-- The run. -/
theorem run_main (hF : CountExact F) : θ_run defs (onTc (τ := τ) (main (F := F))) ⟨m, fun _ => 0, ρ⟩ (fun r =>
    (∀ c : Dev nD, ∀ b ∈ Pipeline.ucRefs τ sig, r.2.mem ((c : Thread nD τ).1, b) = W4 m c b) ∧ r.2.sem = fun _ => 0) := by
  refine Pipeline.θ_run_regions_kit_dev_sems (pcfgs (F := F)) adm (pdats m) () cellOf_inj EP defs₀ Variants.nat waitAt lev m ρ main
    (items m hF)
    (fun c Q => by
      rewrite [main_chain c, Pipeline.Seg.run_eq_chain,
        show (items m hF c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Pipeline.Seg.pipes_host, Pipeline.Seg.pipes_region, Pipeline.Seg.pipes_nil]; decide)
    (O₀ := 0) (hL := fun g hg => if_neg hg) (G := fun _ => iprop(emp))
    (u₀ := initOf (Pipeline.cells (cfgs (F := F)) cellOf_inj) (Pipeline.launchToks (cfgs (F := F)) cellOf_inj))
    (hu₀ := ?_)
    (T₀ := fun c => iprop(StableHlo.held (c : Thread nD τ) (Pipeline.ucRefs τ sig) (V0 m c) ∗ between c))
    (Tₙ := fun c => StableHlo.held (c : Thread nD τ) (Pipeline.ucRefs τ sig) (W4 m c))
    (hch := fun c => ⟨.rfl, enter0 m c, leave0 m c, enter1 m hF c, leave1 m hF c⟩)
    (hinit := ?_)
    (QY := fun c s => ∀ b ∈ Pipeline.ucRefs τ sig, s.mem ((c : Thread nD τ).1, b) = W4 m c b)
    (hfin := fun c s' => ?_) (hQ := fun _ h hz => ⟨h, funext fun g => hz g (.inr (regions_no_unscoped g.2))⟩)
  · iintro Hu
    imodintro
    isplitl [Hu]
    · iapply (show (ownU (initOf (Pipeline.cells (cfgs (F := F)) cellOf_inj) (Pipeline.launchToks (cfgs (F := F)) cellOf_inj)) : sProp 𝕄)
        ⊢ BI.own ((EP (F := F)) (initOf (Pipeline.cells (cfgs (F := F)) cellOf_inj) (Pipeline.launchToks (cfgs (F := F)) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach waitAt lev fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    unfold between
    iintro ⟨⟨Hh, -, HO, -, -, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro; iexact Hr

/-- A TensorCore reference outside the scopes is among the buffers read at the end. -/
theorem mem_uc (r : Ref sig .tc) (h : r.isScoped = false) : (Proc.devRef .tc r : DevRef τ sig) ∈ Pipeline.ucRefs τ sig :=
  Pipeline.devRef_mem_ucRefs h

end Cert.Proof

end
-- ==== Proof.Count.lean ====
/-
  A count of tiles survives its way through a float over the extended reals.
-/
module

public import proofs.«01_k».proof.Proof.Region1
public import Idealize.ShloMosaic.PureOps.BitExact.Laws
public import Idealize.ShloMosaic.PureOps.Ideal.Laws
public import Idealize.ShloMosaic.Lib.NatWordsOrder

@[expose] public section

set_option maxRecDepth 16384

noncomputable section

namespace Cert.Proof

open Cert.KernelIdeal.Gen
open Idealize.ShloMosaic Idealize.ShloMosaic.TcCoe

section

variable {F : FTy → Type} [FloatOps F]

/-- The greatest entry of a block that holds one value everywhere is that value. -/
theorem max_const [Std.Commutative (FloatOps.maximumf (F := F) (φ := .f32))] [Std.Associative (FloatOps.maximumf (F := F) (φ := .f32))]
    (x : F .f32) (h0 : FloatOps.maximumf x (FloatOps.ofBits .f32 0xFF800000#32) = x) (h1 : FloatOps.maximumf x x = x) :
    Cert.KernelIdeal.Gen.k1_pay24 (F := F) (broadcast Cert.KernelIdeal.S8x128 x) = x := by
  have key : ∀ s : Finset (Cert.KernelIdeal.S1x8x128.Idx), s.Nonempty →
      s.fold (FloatOps.maximumf (F := F) (φ := .f32)) (FloatOps.ofBits .f32 0xFF800000#32) (fun _ => x) = x := by
    intro s hs
    induction hs using Finset.Nonempty.cons_induction with
    | singleton a => rw [Finset.fold_singleton]; exact h0
    | cons a s ha hs ih => rw [Finset.fold_cons, ih]; exact h1
  unfold Cert.KernelIdeal.Gen.k1_pay24
  show multiReduction .maximumf [1, 2] Cert.KernelIdeal.S1 (fun _ => x) 0xFF800000#32 Cert.KernelIdeal.Gen.reduces_S1x8x128_S1 (.inl rfl) rfl _ = x
  refine (multiReduction_maximumf_eq_fold _ _ _ _ _ _).trans (key _ ?_)
  refine ⟨fun a => ⟨0, by revert a; decide⟩, Finset.mem_filter.mpr ⟨Finset.mem_univ _, funext fun a => ?_⟩⟩
  apply Fin.ext
  have : ∀ (a : Fin Cert.KernelIdeal.S1.rank) (v : Fin (Cert.KernelIdeal.S1.size a)), v.val = 0 := by decide
  rw [this, this]

end

/-- and over the extended reals. -/
theorem countExact_ideal : CountExact Ideal := by
  intro n hn
  have hb : (FloatOps.ofBits (F := Ideal) .f32 0xFF800000#32 : EReal) = ⊥ := by
    show Ideal.ofBits .f32 0xFF800000#32 = ⊥
    simp [Ideal.ofBits, Ideal.ieee]
  have hc : ∀ x : Ideal .f32, k1_pay24 (F := Ideal) (broadcast Cert.KernelIdeal.S8x128 x) = x := fun x =>
    max_const (F := Ideal) x ((congrArg (max (x : EReal)) hb).trans (max_eq_left bot_le)) (max_self (x : EReal))
  unfold k0_pay5
  dsimp only
  rw [hc, Ideal.scalar_sitofp_def, Ideal.scalar_fptosi_def]
  have hi : ((BitVec.ofNat 32 n).toInt) = (n : ℤ) := by
    rw [BitVec.toInt_eq_toNat_of_lt (by rw [BitVec.toNat_ofNat]; omega), BitVec.toNat_ofNat, Nat.mod_eq_of_lt (by omega)]
  rw [hi, Ideal.fptosi, Ideal.toIntClamped_coe]
  have h0 : (0 : ℝ) ≤ ((n : ℤ) : ℝ) := by positivity
  rw [if_pos h0, Int.floor_intCast, min_eq_right (by norm_num; omega), max_eq_right (by norm_num), BitVec.ofInt_natCast]

end Cert.Proof

end
-- ==== Proof.Device.Fwd.lean ====
/-
  The forward kernel's body before the named constant is read as −∞: its triple. What the body leaves in its results
  is defined in the module of the same name one directory up.
-/
module

public import proofs.«01_k».proof.Proof.Fwd
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions

@[expose] public section

set_option maxRecDepth 16384

noncomputable section

namespace Cert.Proof.Device

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (consume produce)

variable {F : FTy → Type} [FloatOps F]

local notation "𝕄" => MT nD τ sig Unit (Elt F) ℕ (UR sig nD τ) ℕ

/-! ## The walk's offsets and conditions -/

theorem k0_off2_eq (i : grid0.Coords) (t : Fin 30) (ht : t.val < 2 * (i 1).val) :
    k0_off2 i (BitVec.ofNat 32 t.val) = ![256 * (2 * (i 1).val - 1 - t.val), 0] := Cert.Proof.k0_off2_eq i t ht

theorem k0_chk1_of (i : grid0.Coords) (t : Fin 30) (ht : t.val < 2 * (i 1).val) : k0_chk1 i (BitVec.ofNat 32 t.val) :=
  Cert.Proof.k0_chk1_of i t ht

/-! ## The walk's label -/

/-- The walk's specification with `n` tiles left and `t` done: holding both slabs, it returns `fwdGo`'s values and both slabs. -/
def walkSpec (c : Dev nD) (arg3 arg4 : Memref sig .tc .vmem S8192x128 .bf16) (q : Vec F S512x128 .bf16) (m : Vec F S256x256 .bf16)
    (k v : Vec F S8192x128 .bf16) (n t : ℕ) (l : FVec F S512x1 .f32) (a : FVec F S512x128 .f32) :
    sWPT 𝕄 (BitVec 32 × FVec F S512x1 .f32 × FVec F S512x128 .f32) := do
  consume iprop(owns (c : Thread nD τ) arg3 fullShare k ∗ owns (c : Thread nD τ) arg4 fullShare v)
  produce iprop(owns (c : Thread nD τ) arg3 fullShare k ∗ owns (c : Thread nD τ) arg4 fullShare v)
  pure (BitVec.ofNat 32 (fwdGo q m k v n t l a).1, (fwdGo q m k v n t l a).2.1, (fwdGo q m k v n t l a).2.2)

theorem walkSpec_apply (c : Dev nD) (arg3 arg4 : Memref sig .tc .vmem S8192x128 .bf16) (q : Vec F S512x128 .bf16) (m : Vec F S256x256 .bf16)
    (k v : Vec F S8192x128 .bf16) (n t : ℕ) (l : FVec F S512x1 .f32) (a : FVec F S512x128 .f32)
    (K : BitVec 32 × FVec F S512x1 .f32 × FVec F S512x128 .f32 → sProp 𝕄) :
    walkSpec c arg3 arg4 q m k v n t l a K
      = iprop((owns (c : Thread nD τ) arg3 fullShare k ∗ owns (c : Thread nD τ) arg4 fullShare v)
          ∗ ((owns (c : Thread nD τ) arg3 fullShare k ∗ owns (c : Thread nD τ) arg4 fullShare v) -∗
              K (BitVec.ofNat 32 (fwdGo q m k v n t l a).1, (fwdGo q m k v n t l a).2.1, (fwdGo q m k v n t l a).2.2))) := rfl

/-- The walk's body meets its specification, by induction on the tiles left. -/
theorem walk_sound (c : Dev nD) (E : Set ℕ) (i : grid0.Coords) (arg3 : Memref sig .tc .vmem S8192x128 .bf16) (harg3 : arg3.IsWhole)
    (arg4 : Memref sig .tc .vmem S8192x128 .bf16) (harg4 : arg4.IsWhole) (q : Vec F S512x128 .bf16) (m : Vec F S256x256 .bf16)
    (k v : Vec F S8192x128 .bf16) :
    ∀ n t l a K, n + t = 2 * (i 1).val → walkSpec c arg3 arg4 q m k v n t l a K
      ⊢ wp frame (wpE (defs₀ (F := F)) Variants.nat (c : Thread nD τ) (some n)) E
          (defs₀ (F := F) .tc 2 ⟨i, arg3, harg3, arg4, harg4, q, k0_pay11 m, BitVec.ofNat 32 t, l, a⟩) K := by
  have hi : (i 1).val < 16 := (i 1).isLt
  intro n
  induction n with
  | zero =>
    intro t l a K hnt
    rw [walkSpec_apply]
    show _ ⊢ wp frame (wpE (defs₀ (F := F)) Variants.nat (c : Thread nD τ) (some 0)) E
      (cc0_while1 i arg3 harg3 arg4 harg4 q (k0_pay11 m) (BitVec.ofNat 32 t) l a) K
    rw [cc0_while1_eq_skeleton]; unfold cc0_while1_skel
    obtain rfl : t = 2 * (i 1).val := by omega
    simp only [slt_done, andi_zero, Prog.pure_eq_ret]
    rw [if_neg (by decide), show fwdGo q m k v 0 (2 * (i 1).val) l a = (2 * (i 1).val, l, a) from rfl]
    iintro ⟨H, Hk⟩
    rw [wp_ret]; imodintro
    iapply Hk; iexact H
  | succ n ih =>
    intro t l a K hnt
    rw [walkSpec_apply]
    show _ ⊢ wp frame (wpE (defs₀ (F := F)) Variants.nat (c : Thread nD τ) (some (n + 1))) E
      (cc0_while1 i arg3 harg3 arg4 harg4 q (k0_pay11 m) (BitVec.ofNat 32 t) l a) K
    rw [cc0_while1_eq_skeleton]; unfold cc0_while1_skel
    have hts : t < 30 := by omega
    have hlt : t < 2 * (i 1).val := by omega
    have hoff := k0_off2_eq i ⟨t, hts⟩ hlt
    have hchk := k0_chk1_of i ⟨t, hts⟩ hlt
    have hslt := slt_more i ⟨t, hts⟩ hlt
    simp only [Fin.val_mk] at hoff hchk hslt
    rw [show 2 * (i 1).val - 1 - t = n by omega] at hoff
    simp only [hslt, andi_one, addi_one, Prog.lift, Prog.bind_op, Prog.bind_ret, Prog.pure_eq_ret]
    by_cases hal : alive l
    · have hal' : Scalar.cmpf .ogt (k0_pay6 l) (Scalar.ofBits .f32 0xC2D00000#32) = 1#1 := hal
      rw [if_pos hal']
      rw [show fwdGo q m k v (n + 1) t l a
        = fwdGo q m k v n (t + 1) (k0_pay10 q l (rows k n)) (k0_pay9 q (k0_pay11 m) l a (rows k n) (rows v n)) from if_pos hal]
      unfold owns
      iintro ⟨⟨⟨%f3, %hf3, H3⟩, ⟨%f4, %hf4, H4⟩⟩, Hk⟩
      subst hf3 hf4
      iapply (wp_assume Variants.nat (c : Thread nD τ) (some (n + 1)) E hchk)
      iapply (wp_load Variants.nat (c : Thread nD τ) _ E (m := arg3) (View.setOn_subset_set _ _)) $$ H3; iintro H3
      iapply (wp_load Variants.nat (c : Thread nD τ) _ E (m := arg4) (View.setOn_subset_set _ _)) $$ H4; iintro H4
      rw [View.readAt_eq_ld, View.readAt_eq_ld, ld_tile _ _ _ _ hoff, ld_tile _ _ _ _ hoff]
      iapply (wp_call_spec Variants.nat (c : Thread nD τ) (some (n + 1)) E
        (walkSpec c arg3 arg4 q m (arg3.view.read (Elt F) f3) (arg4.view.read (Elt F) f4) n (t + 1) _ _) n
        (fun u hu => by cases hu; exact Nat.lt_succ_self n) (fun K => ih (t + 1) _ _ K (by omega)))
      rw [walkSpec_apply]
      unfold owns
      isplitl [H3 H4]
      · isplitl [H3]
        · iexists f3; isplitr; · ipureintro; rfl
          iexact H3
        · iexists f4; isplitr; · ipureintro; rfl
          iexact H4
      iintro H
      rw [wp_ret]; imodintro
      iapply Hk; iexact H
    · have hal' : ¬ Scalar.cmpf .ogt (k0_pay6 l) (Scalar.ofBits .f32 0xC2D00000#32) = 1#1 := hal
      rw [if_neg hal', show fwdGo q m k v (n + 1) t l a = (t, l, a) from if_neg hal]
      iintro ⟨H, Hk⟩
      rw [wp_ret]; imodintro
      iapply Hk; iexact H

/-! ## The body -/

/-- The diagonal tiles' offsets. -/
theorem off_fwd0 (i : grid0.Coords) : k0_off1 i 0#32 = ![256 * (2 * (i 1).val), 0] := Cert.Proof.off_fwd0 i
theorem off_fwd1 (i : grid0.Coords) : k0_off1 i 256#32 = ![256 * (2 * (i 1).val + 1), 0] := Cert.Proof.off_fwd1 i

/-- The forward body at grid point `i`: from the blocks of `q`, `k`, `v` and the mask it leaves the three results' blocks. -/
theorem fwd_sound (c : Dev nD) (E : Set ℕ) (i : grid0.Coords) (arg2 : Memref sig .tc .vmem S512x128 .bf16) (harg2 : arg2.IsWhole)
    (arg3 : Memref sig .tc .vmem S8192x128 .bf16) (harg3 : arg3.IsWhole) (arg4 : Memref sig .tc .vmem S8192x128 .bf16) (harg4 : arg4.IsWhole)
    (arg5 : Memref sig .tc .vmem S256x256 .bf16) (harg5 : arg5.IsWhole) (arg6 : Memref sig .tc .vmem S512x128 .f32) (harg6 : arg6.IsWhole)
    (arg7 : Memref sig .tc .vmem S512x128 .f32) (harg7 : arg7.IsWhole) (arg8 : Memref sig .tc .vmem S8x128 .f32) (harg8 : arg8.IsWhole)
    (q : Vec F S512x128 .bf16) (k v : Vec F S8192x128 .bf16) (m : Vec F S256x256 .bf16) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare m ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare m ∗ owns (c : Thread nD τ) arg6 fullShare (fwdO (i 1).val q k v m)
            ∗ owns (c : Thread nD τ) arg7 fullShare (fwdTot (i 1).val q k v m)
            ∗ owns (c : Thread nD τ) arg8 fullShare (fwdCnt (i 1).val q k v m)) -∗ K ⟨⟩))
      ⊢ wp frame (wpE (defs₀ (F := F)) Variants.nat (c : Thread nD τ) none) E
          (cc0_sb i arg2 harg2 arg3 harg3 arg4 harg4 arg5 harg5 arg6 harg6 arg7 harg7 arg8 harg8) K := by
  simp only [cc0_sb_eq_skeleton, cc0_sb_skel, k0_part1_eq_skeleton, k0_part1_skel, k0_part2_eq_skeleton, k0_part2_skel,
    Prog.lift, Prog.bind_op, Prog.bind_ret, Prog.pure_eq_ret]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec
  sl_unfold_run_names
  simp only [read512x128, read256x256, readTile _ _ _ _ _ (off_fwd0 i), readTile _ _ _ _ _ (off_fwd1 i)]
  have hw := walk_sound c E i arg3 harg3 arg4 harg4 (arg2.view.read (Elt F) f2) (arg5.view.read (Elt F) f5)
    (arg3.view.read (Elt F) f3) (arg4.view.read (Elt F) f4) (2 * (i 1).val) 0
    (fwdKeep0 (arg2.view.read (Elt F) f2) (rows (arg3.view.read (Elt F) f3) (2 * (i 1).val)) (rows (arg3.view.read (Elt F) f3) (2 * (i 1).val + 1)))
    (fwdAcc0 (arg2.view.read (Elt F) f2) (arg5.view.read (Elt F) f5) (rows (arg3.view.read (Elt F) f3) (2 * (i 1).val))
      (rows (arg4.view.read (Elt F) f4) (2 * (i 1).val)) (rows (arg3.view.read (Elt F) f3) (2 * (i 1).val + 1))
      (rows (arg4.view.read (Elt F) f4) (2 * (i 1).val + 1)))
  iapply (wp_call_spec Variants.nat (c : Thread nD τ) none E _ (2 * (i 1).val) (fun u hu => by cases hu) (fun K => hw K (by omega)))
  rw [walkSpec_apply]
  unfold owns
  isplitl [H3 H4]
  · isplitl [H3]
    · iexists f3; isplitr; · ipureintro; rfl
      iexact H3
    · iexists f4; isplitr; · ipureintro; rfl
      iexact H4
  iintro ⟨H3, H4⟩
  sl_exec
  sl_step
  iapply Hk
  isplitl [H2]
  · iexists f2; isplitr; · ipureintro; rfl
    iexact H2
  isplitl [H3]; · iexact H3
  isplitl [H4]; · iexact H4
  isplitl [H5]
  · iexists f5; isplitr; · ipureintro; rfl
    iexact H5
  isplitl [H6]
  · iexists _; isplitr
    swap; · iexact H6
    ipureintro
    exact writes_whole _ _ _ zero2 _ _
  isplitl [H7]
  · iexists _; isplitr
    swap; · iexact H7
    ipureintro
    exact writes_whole _ _ _ zero2 _ _
  iexists _; isplitr
  swap; · iexact H8
  ipureintro
  exact writes_whole _ _ _ zero2 _ _

end Cert.Proof.Device

end
-- ==== Proof.Device.Words.lean ====
/-
  The backward kernel's counted loop as tile numbers: at row block `i` and count `n` it walks `n` tiles from tile `2 i - n`.
  The words are those of the program with the named constant, where the proofs stand: no float is in them.
-/
module

public import proofs.«01_k».proof.Proof.Words
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions

@[expose] public section

set_option maxRecDepth 16384

noncomputable section

namespace Cert.Proof.Device

open Cert.Kernel Cert.Kernel.Gen
open Idealize.ShloMosaic

/-- The loop's trips. -/
theorem k1_t1_trips (i : grid1.Coords) (n : Fin 31) (hn : n.val ≤ 2 * (i 1).val) :
    (k1_t1_loop i (BitVec.ofNat 32 n.val)).trips = n.val := Cert.Proof.k1_t1_trips i n hn

/-- Its remainder has none. -/
theorem k1_t2_trips (i : grid1.Coords) (w : BitVec 32) : (k1_t2_loop i w).trips = 0 := Cert.Proof.k1_t2_trips i w

/-- The row its trip `t` begins at. -/
theorem k1_off1_eq (i : grid1.Coords) (n : ℕ) (hn : n ≤ 2 * (i 1).val) (t : Fin (k1_t1_loop i (BitVec.ofNat 32 n)).trips) :
    k1_off1 i (BitVec.ofNat 32 n) t = ![256 * (2 * (i 1).val - n + t.val), 0] := Cert.Proof.k1_off1_eq i n hn t

/-- The condition that the body assumes of the count holds of every count up to `2 i`. -/
theorem k1_chk1_of (i : grid1.Coords) (n : ℕ) (hn : n ≤ 2 * (i 1).val) : k1_chk1 i (BitVec.ofNat 32 n) :=
  Cert.Proof.k1_chk1_of i n hn

/-- The two diagonal tiles' offsets. -/
theorem off_bwd0 (i : grid1.Coords) : k1_off3 i 0#32 = ![256 * (2 * (i 1).val), 0] := Cert.Proof.off_bwd0 i
theorem off_bwd1 (i : grid1.Coords) : k1_off3 i 256#32 = ![256 * (2 * (i 1).val + 1), 0] := Cert.Proof.off_bwd1 i

end Cert.Proof.Device

end
-- ==== Proof.Device.Bwd.lean ====
/-
  The backward kernel's body before the named constant is read as −∞: its triple. What the body leaves in its results
  is defined in the module of the same name one directory up.
-/
module

public import proofs.«01_k».proof.Proof.Bwd
public import proofs.«01_k».proof.Proof.Device.Words

@[expose] public section

set_option maxRecDepth 16384

noncomputable section

namespace Cert.Proof.Device

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body -/

/-- The walk's invariant at trip `t`: the carried values and the two slabs are `bwdGo`'s, the operands' slabs as they were. -/
def bwdInv (c : Dev nD) (arg3 arg4 : Memref sig .tc .vmem S8192x128 .bf16) (arg11 arg12 : Memref sig .tc .vmem S8192x128 .f32)
    (q dO : Vec F S512x128 .bf16) (mle mlt : Vec F S256x256 .bf16) (tot : Vec F S512x1 .f32) (k v : Vec F S8192x128 .bf16) (j₀ : ℕ) (s : BSt F)
    (t : ℕ) (acc : FVec F S512x1 .f32 × FVec F S512x1 .f32 × FVec F S512x128 .f32) : sProp 𝕄 :=
  iprop(⌜acc = ((bwdGo q dO mle mlt tot k v j₀ t s).keep, (bwdGo q dO mle mlt tot k v j₀ t s).g, (bwdGo q dO mle mlt tot k v j₀ t s).dq)⌝
    ∗ owns (c : Thread nD τ) arg3 fullShare k ∗ owns (c : Thread nD τ) arg4 fullShare v
    ∗ owns (c : Thread nD τ) arg11 fullShare (bwdGo q dO mle mlt tot k v j₀ t s).dk
    ∗ owns (c : Thread nD τ) arg12 fullShare (bwdGo q dO mle mlt tot k v j₀ t s).dv)

variable (c : Dev nD) (E : Set ℕ) (i : grid1.Coords) (arg2 : Memref sig .tc .vmem S512x128 .bf16) (harg2 : arg2.IsWhole)
    (arg3 : Memref sig .tc .vmem S8192x128 .bf16) (harg3 : arg3.IsWhole) (arg4 : Memref sig .tc .vmem S8192x128 .bf16) (harg4 : arg4.IsWhole)
    (arg5 : Memref sig .tc .vmem S512x128 .f32) (harg5 : arg5.IsWhole) (arg6 : Memref sig .tc .vmem S8x128 .f32) (harg6 : arg6.IsWhole)
    (arg7 : Memref sig .tc .vmem S512x128 .bf16) (harg7 : arg7.IsWhole) (arg8 : Memref sig .tc .vmem S256x256 .bf16) (harg8 : arg8.IsWhole)
    (arg9 : Memref sig .tc .vmem S256x256 .bf16) (harg9 : arg9.IsWhole) (arg10 : Memref sig .tc .vmem S512x128 .f32) (harg10 : arg10.IsWhole)
    (arg11 : Memref sig .tc .vmem S8192x128 .f32) (harg11 : arg11.IsWhole) (arg12 : Memref sig .tc .vmem S8192x128 .f32) (harg12 : arg12.IsWhole)

/-- One trip keeps it. -/
theorem bwd_trip (q dO : Vec F S512x128 .bf16) (mle mlt : Vec F S256x256 .bf16) (tot : Vec F S512x1 .f32) (k v : Vec F S8192x128 .bf16) (s : BSt F)
    (n : ℕ) (hn : n ≤ 2 * (i 1).val) (hw : k1_chk1 i (BitVec.ofNat 32 n)) (v20 : BitVec 32)
    (t : Fin (k1_t1_loop i (BitVec.ofNat 32 n)).trips) (acc : FVec F S512x1 .f32 × FVec F S512x1 .f32 × FVec F S512x128 .f32) :
    bwdInv c arg3 arg4 arg11 arg12 q dO mle mlt tot k v (2 * (i 1).val - n) s t.val acc
      ⊢ wp frame (wpE (defs₀ (F := F)) Variants.nat (c : Thread nD τ) none) E
          (k1_t1_body i arg2 harg2 arg3 harg3 arg4 harg4 arg5 harg5 arg6 harg6 arg7 harg7 arg8 harg8 arg9 harg9 arg10 harg10
            arg11 harg11 arg12 harg12 q dO mle mlt tot (BitVec.ofNat 32 n) hw v20 t acc)
          (bwdInv c arg3 arg4 arg11 arg12 q dO mle mlt tot k v (2 * (i 1).val - n) s (t.val + 1)) := by
  have hoff := k1_off1_eq i n hn t
  have hstep : bwdGo q dO mle mlt tot k v (2 * (i 1).val - n) (t.val + 1) s
    = bwdStep q dO mle mlt tot k v (2 * (i 1).val - n + t.val) (bwdGo q dO mle mlt tot k v (2 * (i 1).val - n) t.val s) := rfl
  unfold bwdInv
  rw [hstep]
  generalize bwdGo q dO mle mlt tot k v (2 * (i 1).val - n) t.val s = s'
  simp only [k1_t1_body, k1_part1_eq_skeleton, k1_part1_skel, Prog.lift, Prog.bind_op, Prog.bind_ret, Prog.pure_eq_ret]
  unfold owns
  iintro ⟨%hacc, ⟨%f3, %hf3, H3⟩, ⟨%f4, %hf4, H4⟩, ⟨%f11, %hf11, H11⟩, ⟨%f12, %hf12, H12⟩⟩
  subst hacc hf3 hf4
  sl_exec
  sl_unfold_run_names
  simp only [readTile _ _ _ _ _ hoff, hf11, hf12]
  sl_step
  isplitr; · ipureintro; rfl
  isplitl [H3]
  · iexists f3; isplitr; · ipureintro; rfl
    iexact H3
  isplitl [H4]
  · iexists f4; isplitr; · ipureintro; rfl
    iexact H4
  isplitl [H11]
  · iexists _; isplitr
    swap; · iexact H11
    ipureintro
    refine (writes_tile _ _ _ _ _ hoff _).trans ?_
    rw [hf11]; rfl
  iexists _; isplitr
  swap; · iexact H12
  ipureintro
  refine (writes_tile _ _ _ _ _ hoff _).trans ?_
  rw [hf12]; rfl

/-- What the first part returns. -/
abbrev Left (F : FTy → Type) [FloatOps F] := Σ' (arg1 : BitVec 32) (v3 : Vec F S512x128 .bf16) (v4 : Vec F S512x128 .bf16) (v6 : FVec F S256x256 .bf16) (v8 : FVec F S256x256 .bf16) (v10 : FVec F S512x1 .f32) (v29_0 : FVec F S512x1 .f32) (v29_1 : FVec F S512x1 .f32) (v29_2 : FVec F S512x128 .f32), BitVec 32

/-- What the first part does once the count's word `w` is read. -/
def bwdWord
    (v3 v4 : Vec F S512x128 .bf16) (v5 v7 : Vec F S256x256 .bf16) (v9 : Vec F S512x1 .f32) (w : BitVec 32) :
    Prog (TpuEff nD τ sig (Elt F) (Λ₀ F) .tc) (Left F) :=
  .op (.assume (k1_chk1 i w) (k1_chk1.dec i w)) fun hw => do
    let x ← Scf.Loop.for (k1_t1_loop i w) (k1_t1_ok i w hw.down) (k1_pay23 (F := F), k1_pay23 (F := F), k1_pay25 (F := F))
      (k1_t1_body i arg2 harg2 arg3 harg3 arg4 harg4 arg5 harg5 arg6 harg6 arg7 harg7 arg8 harg8 arg9 harg9 arg10 harg10 arg11 harg11 arg12 harg12
        v3 v4 v5 v7 v9 w hw.down (Scalar.subi (Scalar.muli (BitVec.ofNat 32 (i 1).val) 2#32) w))
    let x ← Scf.Loop.for (k1_t2_loop i w) (k1_t2_ok i w hw.down) (x.1, x.2.1, x.2.2)
      (k1_t2_body i arg2 harg2 arg3 harg3 arg4 harg4 arg5 harg5 arg6 harg6 arg7 harg7 arg8 harg8 arg9 harg9 arg10 harg10 arg11 harg11 arg12 harg12
        v3 v4 v5 v7 v9 w hw.down (Scalar.addi (Scalar.subi (Scalar.muli (BitVec.ofNat 32 (i 1).val) 2#32) w)
          (Scalar.muli (Scalar.divsi (Scalar.subi (Scalar.muli (BitVec.ofNat 32 (i 1).val) 2#32)
            (Scalar.subi (Scalar.muli (BitVec.ofNat 32 (i 1).val) 2#32) w)) 1#32) 1#32)))
    Prog.ret ⟨BitVec.ofNat 32 (i 1).val, v3, v4, k1_pay20 v5, k1_pay21 v7, k1_pay22 v9, x.1, x.2.1, x.2.2,
      Scalar.addi (Scalar.muli (BitVec.ofNat 32 (i 1).val) 512#32) 0#32⟩

/-- What it does once the slabs are settled. -/
def bwdRead :
    Prog (TpuEff nD τ sig (Elt F) (Λ₀ F) .tc) (Left F) :=
  .op (.load arg2 (Rect.unit (s := S512x128) ![0, 0] S512x128.size inb_S512x128_S512x128_0_0).toLoadRect (View.loadsAt_vmem h_S512x128)) fun v3 =>
  .op (.load arg7 (Rect.unit (s := S512x128) ![0, 0] S512x128.size inb_S512x128_S512x128_0_0).toLoadRect (View.loadsAt_vmem h_S512x128)) fun v4 =>
  .op (.load arg8 (Rect.unit (s := S256x256) ![0, 0] S256x256.size inb_S256x256_S256x256_0_0).toLoadRect (View.loadsAt_vmem h_S256x256)) fun v5 =>
  .op (.load arg9 (Rect.unit (s := S256x256) ![0, 0] S256x256.size inb_S256x256_S256x256_0_0).toLoadRect (View.loadsAt_vmem h_S256x256)) fun v7 =>
  .op (.load arg5 (Rect.unit (s := S512x128) ![0, 0] S512x1.size inb_S512x128_S512x1_0_0).toLoadRect (View.loadsAt_vmem h_S512x1)) fun v9 =>
  .op (.load arg6 (Rect.unit (s := S8x128) ![0, 0] S8x128.size inb_S8x128_S8x128_0_0).toLoadRect (View.loadsAt_vmem h_S8x128)) fun v13 =>
    bwdWord i arg2 harg2 arg3 harg3 arg4 harg4 arg5 harg5 arg6 harg6 arg7 harg7 arg8 harg8 arg9 harg9 arg10 harg10 arg11 harg11 arg12 harg12
      v3 v4 v5 v7 v9 (Scalar.fptosi 32 (k1_pay24 v13))

/-- The whole first part. -/
theorem k1_part3_eq :
    k1_part3 (F := F) i arg2 harg2 arg3 harg3 arg4 harg4 arg5 harg5 arg6 harg6 arg7 harg7 arg8 harg8 arg9 harg9 arg10 harg10 arg11 harg11 arg12 harg12
      = if Scalar.cmpi .ne (Scalar.extui (Scalar.cmpi .eq (BitVec.ofNat 32 (i 1).val) 0#32)) 0#32 = 1#1 then
          .op (.load arg11 (Rect.unit (s := S8192x128) ![0, 0] S8192x128.size inb_S8192x128_S8192x128_0_0).toLoadRect (View.loadsAt_vmem h_S8192x128)) fun _ =>
          .op (.store arg11 (Rect.unit (s := S8192x128) ![0, 0] S8192x128.size inb_S8192x128_S8192x128_0_0) (k1_pay18 (F := F)) Finset.univ (View.stores_vmem_bits_univ h_S8192x128 rfl) (.inl rfl)) fun _ =>
          .op (.load arg12 (Rect.unit (s := S8192x128) ![0, 0] S8192x128.size inb_S8192x128_S8192x128_0_0).toLoadRect (View.loadsAt_vmem h_S8192x128)) fun _ =>
          .op (.store arg12 (Rect.unit (s := S8192x128) ![0, 0] S8192x128.size inb_S8192x128_S8192x128_0_0) (k1_pay19 (F := F)) Finset.univ (View.stores_vmem_bits_univ h_S8192x128 rfl) (.inl rfl)) fun _ =>
            bwdRead i arg2 harg2 arg3 harg3 arg4 harg4 arg5 harg5 arg6 harg6 arg7 harg7 arg8 harg8 arg9 harg9 arg10 harg10 arg11 harg11 arg12 harg12
        else bwdRead i arg2 harg2 arg3 harg3 arg4 harg4 arg5 harg5 arg6 harg6 arg7 harg7 arg8 harg8 arg9 harg9 arg10 harg10 arg11 harg11 arg12 harg12 := by
  rw [k1_part3_eq_skeleton]
  rfl

/-- From the count's word on. -/
theorem bwd_word
    (q dO : Vec F S512x128 .bf16) (mle mlt : Vec F S256x256 .bf16) (tot : Vec F S512x1 .f32) (k v : Vec F S8192x128 .bf16)
    (i0 : ℕ) (dk dv : Vec F S8192x128 .f32) (w : BitVec 32) (n : ℕ) (hn : n ≤ 2 * (i 1).val) (hcw : w = BitVec.ofNat 32 n) (K : _ → sProp 𝕄) :
    iprop(owns (c : Thread nD τ) arg3 fullShare k ∗ owns (c : Thread nD τ) arg4 fullShare v
        ∗ owns (c : Thread nD τ) arg11 fullShare (bwdInit i0 dk dv).dk ∗ owns (c : Thread nD τ) arg12 fullShare (bwdInit i0 dk dv).dv
        ∗ (∀ r, ⌜r = bwdGo q dO mle mlt tot k v (2 * (i 1).val - n) n (bwdInit i0 dk dv)⌝ -∗
            owns (c : Thread nD τ) arg3 fullShare k -∗ owns (c : Thread nD τ) arg4 fullShare v
            -∗ owns (c : Thread nD τ) arg11 fullShare r.dk -∗ owns (c : Thread nD τ) arg12 fullShare r.dv -∗
              K ⟨BitVec.ofNat 32 (i 1).val, q, dO, k1_pay20 mle, k1_pay21 mlt, k1_pay22 tot, r.keep, r.g, r.dq,
                Scalar.addi (Scalar.muli (BitVec.ofNat 32 (i 1).val) 512#32) 0#32⟩))
      ⊢ wp frame (wpE (defs₀ (F := F)) Variants.nat (c : Thread nD τ) none) E
          (bwdWord i arg2 harg2 arg3 harg3 arg4 harg4 arg5 harg5 arg6 harg6 arg7 harg7 arg8 harg8 arg9 harg9 arg10 harg10 arg11 harg11 arg12 harg12 q dO mle mlt tot w) K := by
  unfold bwdWord
  subst hcw
  have hchk := k1_chk1_of i n hn
  have hi : (i 1).val < 16 := (i 1).isLt
  have htr : (k1_t1_loop i (BitVec.ofNat 32 n)).trips = n := k1_t1_trips i ⟨n, by omega⟩ hn
  rw [wp_assume_of Variants.nat (c : Thread nD τ) none E hchk]
  iintro ⟨H3, H4, H11, H12, Hk⟩
  iapply (Scf.wp_for_bind frame (wpE (defs₀ (F := F)) Variants.nat (c : Thread nD τ) none) E _ _ _
    (k1_t1_ok i (BitVec.ofNat 32 n) hchk) _ _
    (bwdInv c arg3 arg4 arg11 arg12 q dO mle mlt tot k v (2 * (i 1).val - n) (bwdInit i0 dk dv))
    (bwd_trip c E i arg2 harg2 arg3 harg3 arg4 harg4 arg5 harg5 arg6 harg6 arg7 harg7 arg8 harg8 arg9 harg9 arg10 harg10
      arg11 harg11 arg12 harg12 q dO mle mlt tot k v (bwdInit i0 dk dv) n hn hchk _)) $$ [H3 H4 H11 H12]
  · unfold bwdInv
    isplitr; · ipureintro; rfl
    isplitl [H3]; · iexact H3
    isplitl [H4]; · iexact H4
    isplitl [H11]; · iexact H11
    iexact H12
  iintro %acc Hinv
  rw [show Scf.Loop.for (k1_t2_loop i (BitVec.ofNat 32 n)) (k1_t2_ok i (BitVec.ofNat 32 n) hchk) (acc.1, acc.2.1, acc.2.2) _
    = .ret (acc.1, acc.2.1, acc.2.2) from Scf.for_eq_ret _ _ _ _ _ _ (k1_t2_trips i _)]
  rw [show Scf.trips (k1_t1_loop i (BitVec.ofNat 32 n)).lb (k1_t1_loop i (BitVec.ofNat 32 n)).ub (k1_t1_loop i (BitVec.ofNat 32 n)).st = n from htr]
  unfold bwdInv
  icases Hinv with ⟨%hacc, H3, H4, H11, H12⟩
  subst hacc
  simp only [Prog.bind_ret]
  rw [wp_ret]; imodintro
  ispecialize Hk $$ %(bwdGo q dO mle mlt tot k v (2 * (i 1).val - n) n (bwdInit i0 dk dv))
  iapply Hk $$ [] H3 H4 H11 H12
  ipureintro; rfl

/-- Over settled slabs it leaves the walk's state. -/
theorem bwd_read
    (q dO : Vec F S512x128 .bf16) (mle mlt : Vec F S256x256 .bf16) (tot : Vec F S512x128 .f32) (cnt : Vec F S8x128 .f32)
    (k v : Vec F S8192x128 .bf16) (dk dv : Vec F S8192x128 .f32) (n : ℕ) (hn : n ≤ 2 * (i 1).val)
    (hcnt : Scalar.fptosi 32 (k1_pay24 cnt) = BitVec.ofNat 32 n) (K : _ → sProp 𝕄) :
    iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt
        ∗ owns (c : Thread nD τ) arg11 fullShare (bwdInit (i 1).val dk dv).dk ∗ owns (c : Thread nD τ) arg12 fullShare (bwdInit (i 1).val dk dv).dv
        ∗ (iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt
        ∗ owns (c : Thread nD τ) arg11 fullShare (bwdWalk q dO mle mlt (col0 tot) k v (i 1).val n dk dv).dk ∗ owns (c : Thread nD τ) arg12 fullShare (bwdWalk q dO mle mlt (col0 tot) k v (i 1).val n dk dv).dv
) -∗
              K ⟨BitVec.ofNat 32 (i 1).val, q, dO, k1_pay20 mle, k1_pay21 mlt, k1_pay22 (col0 tot), (bwdWalk q dO mle mlt (col0 tot) k v (i 1).val n dk dv).keep, (bwdWalk q dO mle mlt (col0 tot) k v (i 1).val n dk dv).g, (bwdWalk q dO mle mlt (col0 tot) k v (i 1).val n dk dv).dq,
                Scalar.addi (Scalar.muli (BitVec.ofNat 32 (i 1).val) 512#32) 0#32⟩))
      ⊢ wp frame (wpE (defs₀ (F := F)) Variants.nat (c : Thread nD τ) none) E
          (bwdRead i arg2 harg2 arg3 harg3 arg4 harg4 arg5 harg5 arg6 harg6 arg7 harg7 arg8 harg8 arg9 harg9 arg10 harg10 arg11 harg11 arg12 harg12) K := by
  unfold bwdRead owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f11, %e11, H11⟩, ⟨%f12, %e12, H12⟩, Hk⟩
  subst hf2 hf3 hf4 hf5 hf6 hf7 hf8 hf9
  sl_step
  sl_step
  sl_step
  sl_step
  sl_step
  sl_step
  simp only [read512x128, read256x256, read8x128]
  rw [show arg5.view.readAt (Elt F) (Rect.unit (s := S512x128) ![0, 0] S512x1.size inb_S512x128_S512x1_0_0).toLoadRect f5
    = col0 (arg5.view.read (Elt F) f5) from rfl]
  iapply (bwd_word c E i arg2 harg2 arg3 harg3 arg4 harg4 arg5 harg5 arg6 harg6 arg7 harg7 arg8 harg8 arg9 harg9 arg10 harg10 arg11 harg11 arg12 harg12 _ _ _ _ _ (arg3.view.read (Elt F) f3) (arg4.view.read (Elt F) f4) (i 1).val dk dv _ n hn hcnt K)
  unfold owns
  isplitl [H3]
  · iexists f3; isplitr; · ipureintro; rfl
    iexact H3
  isplitl [H4]
  · iexists f4; isplitr; · ipureintro; rfl
    iexact H4
  isplitl [H11]
  · iexists f11; isplitr; · ipureintro; exact e11
    iexact H11
  isplitl [H12]
  · iexists f12; isplitr; · ipureintro; exact e12
    iexact H12
  iintro %r %hr H3 H4 H11 H12
  rw [show bwdGo (arg2.view.read (Elt F) f2) (arg7.view.read (Elt F) f7) (arg8.view.read (Elt F) f8) (arg9.view.read (Elt F) f9)
    (col0 (arg5.view.read (Elt F) f5)) (arg3.view.read (Elt F) f3) (arg4.view.read (Elt F) f4) (2 * (i 1).val - n) n (bwdInit (i 1).val dk dv)
    = bwdWalk (arg2.view.read (Elt F) f2) (arg7.view.read (Elt F) f7) (arg8.view.read (Elt F) f8) (arg9.view.read (Elt F) f9)
    (col0 (arg5.view.read (Elt F) f5)) (arg3.view.read (Elt F) f3) (arg4.view.read (Elt F) f4) (i 1).val n dk dv from rfl] at hr
  subst hr
  iapply Hk
  isplitl [H2]
  · iexists f2; isplitr; · ipureintro; rfl
    iexact H2
  isplitl [H3]; · iexact H3
  isplitl [H4]; · iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H11]; · iexact H11
  iexact H12

/-- The first part: at the first row block the slabs are cleared, then the walk over the earlier tiles. -/
theorem bwd_walk
    (q dO : Vec F S512x128 .bf16) (mle mlt : Vec F S256x256 .bf16) (tot : Vec F S512x128 .f32) (cnt : Vec F S8x128 .f32)
    (k v : Vec F S8192x128 .bf16) (dk dv : Vec F S8192x128 .f32) (n : ℕ) (hn : n ≤ 2 * (i 1).val)
    (hcnt : Scalar.fptosi 32 (k1_pay24 cnt) = BitVec.ofNat 32 n) (K : _ → sProp 𝕄) :
    iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt
        ∗ owns (c : Thread nD τ) arg11 fullShare dk ∗ owns (c : Thread nD τ) arg12 fullShare dv
        ∗ (iprop(owns (c : Thread nD τ) arg2 fullShare q ∗ owns (c : Thread nD τ) arg3 fullShare k ∗ owns (c : Thread nD τ) arg4 fullShare v
            ∗ owns (c : Thread nD τ) arg5 fullShare tot ∗ owns (c : Thread nD τ) arg6 fullShare cnt ∗ owns (c : Thread nD τ) arg7 fullShare dO
            ∗ owns (c : Thread nD τ) arg8 fullShare mle ∗ owns (c : Thread nD τ) arg9 fullShare mlt
            ∗ owns (c : Thread nD τ) arg11 fullShare (bwdWalk q dO mle mlt (col0 tot) k v (i 1).val n dk dv).dk
            ∗ owns (c : Thread nD τ) arg12 fullShare (bwdWalk q dO mle mlt (col0 tot) k v (i 1).val n dk dv).dv) -∗
              K ⟨BitVec.ofNat 32 (i 1).val, q, dO, k1_pay20 mle, k1_pay21 mlt, k1_pay22 (col0 tot),
                (bwdWalk q dO mle mlt (col0 tot) k v (i 1).val n dk dv).keep, (bwdWalk q dO mle mlt (col0 tot) k v (i 1).val n dk dv).g,
                (bwdWalk q dO mle mlt (col0 tot) k v (i 1).val n dk dv).dq,
                Scalar.addi (Scalar.muli (BitVec.ofNat 32 (i 1).val) 512#32) 0#32⟩))
      ⊢ wp frame (wpE (defs₀ (F := F)) Variants.nat (c : Thread nD τ) none) E
          (k1_part3 i arg2 harg2 arg3 harg3 arg4 harg4 arg5 harg5 arg6 harg6 arg7 harg7 arg8 harg8 arg9 harg9 arg10 harg10
            arg11 harg11 arg12 harg12) K := by
  rw [k1_part3_eq]
  have hi : (i 1).val < 16 := (i 1).isLt
  by_cases h0 : (i 1).val = 0
  · rw [if_pos (by rw [h0]; decide)]
    unfold owns
    iintro ⟨H2, H3, H4, H5, H6, H7, H8, H9, ⟨%f11, %hf11, H11⟩, ⟨%f12, %hf12, H12⟩, Hk⟩
    sl_step
    sl_step
    sl_step
    sl_step
    iapply (bwd_read c E i arg2 harg2 arg3 harg3 arg4 harg4 arg5 harg5 arg6 harg6 arg7 harg7 arg8 harg8 arg9 harg9 arg10 harg10 arg11 harg11 arg12 harg12 q dO mle mlt tot cnt k v dk dv n hn hcnt K)
    unfold owns
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]
    · iexists _; isplitr
      swap; · iexact H11
      ipureintro
      exact (writes_whole _ _ _ zero2 inb_S8192x128_S8192x128_0_0 _).trans (if_pos h0).symm
    isplitl [H12]
    · iexists _; isplitr
      swap; · iexact H12
      ipureintro
      exact (writes_whole _ _ _ zero2 inb_S8192x128_S8192x128_0_0 _).trans (if_pos h0).symm
    iexact Hk
  · rw [if_neg (by
      have := fun (j : Fin 16) => (by decide +revert : j.val ≠ 0 →
        ¬ Scalar.cmpi .ne ((Scalar.extui (Scalar.cmpi .eq (BitVec.ofNat 32 j.val) 0#32) : BitVec 32)) 0#32 = 1#1)
      exact this ⟨(i 1).val, hi⟩ h0)]
    have h := bwd_read c E i arg2 harg2 arg3 harg3 arg4 harg4 arg5 harg5 arg6 harg6 arg7 harg7 arg8 harg8 arg9 harg9 arg10 harg10 arg11 harg11 arg12 harg12 q dO mle mlt tot cnt k v dk dv n hn hcnt K
    rw [show (bwdInit (i 1).val dk dv).dk = dk from if_neg h0, show (bwdInit (i 1).val dk dv).dv = dv from if_neg h0] at h
    exact h

/-- The backward body at grid point `i`. -/
theorem bwd_sound
    (q dO : Vec F S512x128 .bf16) (mle mlt : Vec F S256x256 .bf16) (tot : Vec F S512x128 .f32) (cnt : Vec F S8x128 .f32)
    (k v : Vec F S8192x128 .bf16) (dk dv : Vec F S8192x128 .f32) (n : ℕ) (hn : n ≤ 2 * (i 1).val)
    (hcnt : Scalar.fptosi 32 (k1_pay24 cnt) = BitVec.ofNat 32 n) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare tot ∗ owns (c : Thread nD τ) arg6 fullShare cnt ∗ owns (c : Thread nD τ) arg7 fullShare dO
        ∗ owns (c : Thread nD τ) arg8 fullShare mle ∗ owns (c : Thread nD τ) arg9 fullShare mlt ∗ (∃ d, owns (c : Thread nD τ) arg10 fullShare d)
        ∗ owns (c : Thread nD τ) arg11 fullShare dk ∗ owns (c : Thread nD τ) arg12 fullShare dv
        ∗ (iprop(owns (c : Thread nD τ) arg2 fullShare q ∗ owns (c : Thread nD τ) arg3 fullShare k ∗ owns (c : Thread nD τ) arg4 fullShare v
            ∗ owns (c : Thread nD τ) arg5 fullShare tot ∗ owns (c : Thread nD τ) arg6 fullShare cnt ∗ owns (c : Thread nD τ) arg7 fullShare dO
            ∗ owns (c : Thread nD τ) arg8 fullShare mle ∗ owns (c : Thread nD τ) arg9 fullShare mlt
            ∗ owns (c : Thread nD τ) arg10 fullShare (bwdRes q dO mle mlt (col0 tot) k v (i 1).val n dk dv).dq
            ∗ owns (c : Thread nD τ) arg11 fullShare (bwdRes q dO mle mlt (col0 tot) k v (i 1).val n dk dv).dk
            ∗ owns (c : Thread nD τ) arg12 fullShare (bwdRes q dO mle mlt (col0 tot) k v (i 1).val n dk dv).dv) -∗ K ⟨⟩))
      ⊢ wp frame (wpE (defs₀ (F := F)) Variants.nat (c : Thread nD τ) none) E
          (cc1_dsb i arg2 harg2 arg3 harg3 arg4 harg4 arg5 harg5 arg6 harg6 arg7 harg7 arg8 harg8 arg9 harg9 arg10 harg10
            arg11 harg11 arg12 harg12) K := by
  have hi : (i 1).val < 16 := (i 1).isLt
  simp only [cc1_dsb_eq_skeleton, cc1_dsb_skel, Prog.lift, Prog.bind_op, Prog.bind_ret, Prog.pure_eq_ret]
  rw [wp_bind]
  iintro ⟨H2, H3, H4, H5, H6, H7, H8, H9, ⟨%d10, H10⟩, H11, H12, Hk⟩
  iapply (bwd_walk c E i arg2 harg2 arg3 harg3 arg4 harg4 arg5 harg5 arg6 harg6 arg7 harg7 arg8 harg8 arg9 harg9 arg10 harg10 arg11 harg11 arg12 harg12 q dO mle mlt tot cnt k v dk dv n hn hcnt)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  unfold owns bwdRes
  generalize bwdWalk q dO mle mlt (col0 tot) k v (i 1).val n dk dv = s
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f11, %hf11, H11⟩, ⟨%f12, %hf12, H12⟩⟩
  icases H10 with ⟨%f10, %hf10, H10⟩
  subst hf2 hf3 hf4 hf5 hf6 hf7 hf8 hf9
  simp only [k1_part4_eq_skeleton, k1_part4_skel, k1_part5_eq_skeleton, k1_part5_skel, k1_part6_eq_skeleton, k1_part6_skel,
    k1_part7_eq_skeleton, k1_part7_skel, Prog.lift, Prog.bind_op, Prog.bind_ret, Prog.pure_eq_ret]
  sl_exec
  sl_unfold_run_names
  simp only [readTile _ _ _ _ _ (off_bwd0 i), readTile _ _ _ _ _ (off_bwd1 i), hf11, hf12]
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro; exact writes_whole _ _ _ zero2 _ _
  isplitl [H11]
  · iexists _; isplitr
    swap; · iexact H11
    ipureintro
    refine (writes_tile arg11.view (arg11.view.writes (Elt F) f11 [_]) _ _ _ (off_bwd1 i) _).trans ?_
    rw [writes_tile arg11.view f11 _ _ _ (off_bwd0 i), hf11]
    exact congrArg (setRows _ _) (by rw [bwdDiag0, rows_setRows_ne _ _ _ _ (Nat.succ_ne_self _) (by omega)]; rfl)
  iexists _; isplitr
  swap; · iexact H12
  ipureintro
  refine (writes_tile arg12.view (arg12.view.writes (Elt F) f12 [_]) _ _ _ (off_bwd1 i) _).trans ?_
  rw [writes_tile arg12.view f12 _ _ _ (off_bwd0 i), hf12]
  exact congrArg (setRows _ _) (by rw [bwdDiag0, rows_setRows_ne _ _ _ _ (Nat.succ_ne_self _) (by omega)]; rfl)

end Cert.Proof.Device

end
-- ==== Proof.Device.Count.lean ====
/-
  A count of tiles survives its way through a float at the device's own floats.
-/
module

public import proofs.«01_k».proof.Proof.Device.Region1
public import proofs.«01_k».proof.Proof.Count
public import Idealize.ShloMosaic.PureOps.BitExact.Laws
public import Idealize.ShloMosaic.PureOps.Ideal.Laws
public import Idealize.ShloMosaic.Lib.NatWordsOrder

@[expose] public section

set_option maxRecDepth 16384

noncomputable section

namespace Cert.Proof.Device

open Cert.Kernel.Gen
open Idealize.ShloMosaic Idealize.ShloMosaic.TcCoe

/-- A count at the device's floats. -/
theorem countExact_bits : CountExact Bits := by
  intro n hn
  have hs : Scalar.sitofp (F := Bits) .f32 (BitVec.ofNat 32 n) = Bits.f32OfNat n := Bits.sitofp32_ofNat (by omega)
  unfold k0_pay5
  rw [hs]
  have h : k1_pay24 (F := Bits) (broadcast Cert.Kernel.S8x128 (Bits.f32OfNat n)) = Bits.f32OfNat n := Cert.Proof.max_const (F := Bits) (Bits.f32OfNat n)
    ((Bits.maxf32_comm _ _).trans (Bits.maxf32_negativeInfinity_nat (by omega)))
    ((Bits.maxf32_nat_le (by omega) (by omega)).trans (by rw [Nat.max_self]))
  show Scalar.fptosi 32 (k1_pay24 (F := Bits) (broadcast Cert.Kernel.S8x128 (Bits.f32OfNat n))) = _
  rw [h]
  exact Bits.fptosi32_nat n (by omega)

end Cert.Proof.Device

end
-- ==== Proof.Frames.lean ====
/-
  The frames of the kernel's two programs: the arguments end as launched, every semaphore at zero.
-/
module

public import proofs.«01_k».proof.Proof.Run
public import proofs.«01_k».proof.Proof.Count
public import proofs.«01_k».proof.Proof.Device.Run
public import proofs.«01_k».proof.Proof.Device.Count
public import proofs.«01_k».proof.Defs

@[expose] public section

set_option maxRecDepth 16384

noncomputable section

namespace Cert.Proof

open Idealize.ShloMosaic Idealize.ShloMosaic.TcCoe Idealize.SL.Sem

section
open Cert.KernelIdeal

/-- The frame of the program over the extended reals. -/
theorem frame_kernelIdeal : Cert.quiescent_KernelIdeal := fun m ρ _ =>
  (θ_run _ _ _).mono (fun _ h => ⟨fun c =>
    ⟨(h.1 c _ (mem_uc main_arg0 rfl)).trans (W4_arg m c main_arg0 (by decide) (by decide) (by decide) (by decide)),
     (h.1 c _ (mem_uc main_arg1 rfl)).trans (W4_arg m c main_arg1 (by decide) (by decide) (by decide) (by decide)),
     (h.1 c _ (mem_uc main_arg2 rfl)).trans (W4_arg m c main_arg2 (by decide) (by decide) (by decide) (by decide)),
     (h.1 c _ (mem_uc main_arg3 rfl)).trans (W4_arg m c main_arg3 (by decide) (by decide) (by decide) (by decide))⟩, h.2⟩)
    (run_main m ρ countExact_ideal)

end

section
open Cert.Kernel

/-- The frame of the program at the device's own floats. -/
theorem frame_kernel : Cert.quiescent_Kernel := fun m ρ _ =>
  (θ_run _ _ _).mono (fun _ h => ⟨fun c =>
    ⟨(h.1 c _ (Device.mem_uc main_arg0 rfl)).trans (Device.W4_arg m c main_arg0 (by decide) (by decide) (by decide) (by decide)),
     (h.1 c _ (Device.mem_uc main_arg1 rfl)).trans (Device.W4_arg m c main_arg1 (by decide) (by decide) (by decide) (by decide)),
     (h.1 c _ (Device.mem_uc main_arg2 rfl)).trans (Device.W4_arg m c main_arg2 (by decide) (by decide) (by decide) (by decide)),
     (h.1 c _ (Device.mem_uc main_arg3 rfl)).trans (Device.W4_arg m c main_arg3 (by decide) (by decide) (by decide) (by decide))⟩, h.2⟩)
    (Device.run_main m ρ Device.countExact_bits)

end

end Cert.Proof

end
-- ==== Proof.RefFrame.lean ====
/-
  The frame of the reference, and the one named constant.
-/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference declares no semaphore and its operations leave the arguments as launched. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The stand-in for the logarithm of zero is −∞ over the extended reals. -/
theorem preserves : Cert.preserves_Kernel_KernelIdeal :=
  IdealRules.named_const.statement Cert.KernelIdeal.κ "log_zero" .f32 0xC2D00000#32 ⊥ rfl

end Cert.Proof

end
-- ==== Proof.Value.Real.lean ====
/-
  The stick-breaking attention of one head and its gradient over the reals, at position `t` of the queries and `s` of the keys.
-/
module

public import Idealize.ShloMosaic.PureOps.Ideal
public import Idealize.ShloMosaic.PureOps.Ideal.Laws

@[expose] public section

noncomputable section

namespace Cert.Proof.Sb

open Idealize.ShloMosaic Finset

/-- The scale both programs write, `128 ^ (-1/2)` rounded to a float. -/
def scale : ℝ := 11863283 / 134217728

/-- The softplus in its stable form, -/
def sp (x : ℝ) : ℝ := max x 0 + Real.log (1 + Real.exp (-|x|))
/-- and its derivative, the sigmoid. -/
def sg (x : ℝ) : ℝ := (if 0 ≤ x then 1 else Real.exp (-|x|)) / (1 + Real.exp (-|x|))

section Head

variable (q k v d : ℕ → ℕ → ℝ)

/-- The scaled score. -/
def z (t s : ℕ) : ℝ := (∑ e ∈ range 128, q t e * k s e) * scale
/-- The logarithm of what a position keeps, zero on and above the diagonal. -/
def lk (t s : ℕ) : ℝ := if s < t then -sp (z q k t s) else 0
/-- Its sum over the first `n` positions. -/
def keepTo (t n : ℕ) : ℝ := ∑ s ∈ range n, lk q k t s
/-- The weight. -/
def wt (t s : ℕ) : ℝ :=
  if s < t then Real.exp (z q k t s + lk q k t s + (keepTo q k t 8192 - keepTo q k t (s + 1))) else 0
/-- The weight times its gradient, -/
def gr (t s : ℕ) : ℝ := wt q k t s * ∑ e ∈ range 128, d t e * v s e
/-- and its sum over the first `n` positions. -/
def grTo (t n : ℕ) : ℝ := ∑ s ∈ range n, gr q k v d t s
/-- The gradient of the unscaled score. -/
def dz (t s : ℕ) : ℝ :=
  if s < t then (gr q k v d t s * (1 - sg (z q k t s)) - grTo q k v d t s * sg (z q k t s)) * scale else 0

/-- The output, -/
def outS (t e : ℕ) : ℝ := ∑ s ∈ range 8192, wt q k t s * v s e
/-- and the three gradients. -/
def dqS (t e : ℕ) : ℝ := ∑ s ∈ range 8192, dz q k v d t s * k s e
def dkS (s e : ℕ) : ℝ := ∑ t ∈ range 8192, dz q k v d t s * q t e
def dvS (s e : ℕ) : ℝ := ∑ t ∈ range 8192, wt q k t s * d t e

theorem lk_zero {t s : ℕ} (h : t ≤ s) : lk q k t s = 0 := if_neg (by omega)
theorem wt_zero {t s : ℕ} (h : t ≤ s) : wt q k t s = 0 := if_neg (by omega)
theorem dz_zero {t s : ℕ} (h : t ≤ s) : dz q k v d t s = 0 := if_neg (by omega)

/-- A sum whose terms are zero from a bound on is the sum up to the bound. -/
theorem sum_past (f : ℕ → ℝ) {a b : ℕ} (h0 : ∀ s, a ≤ s → f s = 0) (h : a ≤ b) : ∑ s ∈ range a, f s = ∑ s ∈ range b, f s :=
  sum_subset (fun s hs => mem_range.mpr (lt_of_lt_of_le (mem_range.mp hs) h)) fun s _ hs => h0 s (by
    rw [mem_range] at hs; omega)

/-- The sum up to any bound past the diagonal is the whole sum. -/
theorem keepTo_full {t n : ℕ} (h : t ≤ n) (hn : n ≤ 8192) : keepTo q k t n = keepTo q k t 8192 := by
  unfold keepTo
  refine sum_subset (range_mono hn) fun s _ hs => lk_zero q k ?_
  simp only [mem_range] at hs; omega

end Head

/-- A sum over the first `a + b` positions, cut at `a`. -/
theorem sum_cut (f : ℕ → ℝ) (a b : ℕ) : ∑ s ∈ range (a + b), f s = ∑ s ∈ range a, f s + ∑ y ∈ range b, f (a + y) :=
  sum_range_add f a b

/-- A masked sum over a tile's columns is the sum over the columns up to the mask. -/
theorem sum_le_mask (f : ℕ → ℝ) {y n : ℕ} (h : y < n) :
    ∑ j ∈ range n, f j * (if j ≤ y then 1 else 0) = ∑ j ∈ range (y + 1), f j := by
  rw [← sum_subset (s₁ := range (y + 1)) (range_mono (by omega))]
  · refine sum_congr rfl fun j hj => ?_
    rw [mem_range] at hj; rw [if_pos (by omega), mul_one]
  · intro j _ hj
    rw [mem_range] at hj; rw [if_neg (by omega), mul_zero]
theorem sum_lt_mask (f : ℕ → ℝ) {y n : ℕ} (h : y < n) :
    ∑ j ∈ range n, f j * (if j < y then 1 else 0) = ∑ j ∈ range y, f j := by
  rw [← sum_subset (s₁ := range y) (range_mono (by omega))]
  · refine sum_congr rfl fun j hj => ?_
    rw [mem_range] at hj; rw [if_pos (by omega), mul_one]
  · intro j _ hj
    rw [mem_range] at hj; rw [if_neg (by omega), mul_zero]

/-! ## The scalar functions over the extended reals -/

theorem ofBits_scale : (FloatOps.ofBits .f32 0x3DB504F3#32 : Ideal .f32) = ((scale : ℝ) : EReal) := by
  show Ideal.ofBits .f32 0x3DB504F3#32 = _
  simp [Ideal.ofBits, Ideal.ieee, scale]
  norm_cast
theorem ofBits_one : (FloatOps.ofBits .f32 0x3F800000#32 : Ideal .f32) = ((1 : ℝ) : EReal) := by
  show Ideal.ofBits .f32 0x3F800000#32 = _
  simp [Ideal.ofBits, Ideal.ieee]
  norm_cast
  norm_num
theorem ofBits_zero : (FloatOps.ofBits .f32 0x00000000#32 : Ideal .f32) = ((0 : ℝ) : EReal) := by
  show Ideal.ofBits .f32 0x00000000#32 = _
  simp [Ideal.ofBits, Ideal.ieee]

theorem coe_max (x y : ℝ) : max (x : EReal) (y : EReal) = ((max x y : ℝ) : EReal) := (EReal.coe_strictMono.monotone.map_max).symm
theorem coe_abs (x : ℝ) : max (x : EReal) (-(x : EReal)) = ((|x| : ℝ) : EReal) := by
  rw [← EReal.coe_neg, coe_max]; rfl
theorem log_pos {x : ℝ} (h : 0 < x) : Ideal.log (x : EReal) = ((Real.log x : ℝ) : EReal) := by
  rw [Ideal.log_coe, if_neg (not_le.mpr h)]
theorem div_pos {x y : ℝ} (h : 0 < y) : Ideal.div (x : EReal) (y : EReal) = ((x / y : ℝ) : EReal) := by
  rw [Ideal.div_coe h.ne', ← EReal.coe_mul, mul_one_div]
theorem one_add_exp_pos (x : ℝ) : 0 < 1 + Real.exp x := by positivity

/-- The sigmoid is the exponential of what is left of the argument above the softplus. -/
theorem exp_sub_sp (x : ℝ) : Real.exp (x - sp x) = sg x := by
  unfold sp sg
  rw [show x - (max x 0 + Real.log (1 + Real.exp (-|x|))) = (x - max x 0) - Real.log (1 + Real.exp (-|x|)) by ring,
    Real.exp_sub, Real.exp_log (one_add_exp_pos _)]
  congr 1
  split
  · next h => rw [max_eq_left h, sub_self, Real.exp_zero]
  · next h => rw [max_eq_right (by linarith), sub_zero, abs_of_neg (by linarith), neg_neg]

end Cert.Proof.Sb

end
-- ==== Proof.Value.Calc.lean ====
/-
  Arrays over the extended reals that hold reals: what the vector operations of the two bodies do to them.
-/
module

public import proofs.«01_k».proof.Proof.Value.Real
public import proofs.«01_k».proof.KernelIdeal
public import proofs.«01_k».proof.Proof.Gen.KernelIdeal
public import proofs.«01_k».proof.Proof.Common
public import Idealize.ShloMosaic.Lib.Pointwise
public import Idealize.ShloMosaic.Lib.ValueIdx

@[expose] public section

set_option maxRecDepth 16384

noncomputable section

namespace Cert.Proof.Sb

open Cert.KernelIdeal Cert.KernelIdeal.Gen
open Idealize.ShloMosaic Idealize.ShloMosaic.TcCoe Finset

/-- The array `X` holds the reals `f`. -/
def Is2 {m n : ℕ} (X : (⟨2, ![m, n]⟩ : Shape).Idx → EReal) (f : ℕ → ℕ → ℝ) : Prop :=
  ∀ i, X i = ((f (i 0).val (i 1).val : ℝ) : EReal)

section Ops

variable {m n : ℕ} {f g : ℕ → ℕ → ℝ}

theorem Is2.congr {X : (⟨2, ![m, n]⟩ : Shape).Idx → EReal} (hX : Is2 X f) (h : ∀ x < m, ∀ y < n, f x y = g x y) : Is2 X g := by
  intro i
  rw [hX i, h _ (i 0).isLt _ (i 1).isLt]

variable {X Y : FVec Ideal ⟨2, ![m, n]⟩ .f32}

theorem Is2.add (hX : Is2 X f) (hY : Is2 Y g) : Is2 (addf (F := Ideal) X Y) (fun x y => f x y + g x y) := by
  intro i; show X i + Y i = _; rw [hX i, hY i, ← EReal.coe_add]
theorem Is2.sub (hX : Is2 X f) (hY : Is2 Y g) : Is2 (subf (F := Ideal) X Y) (fun x y => f x y - g x y) := by
  intro i; show X i - Y i = _; rw [hX i, hY i, ← EReal.coe_sub]
theorem Is2.mul (hX : Is2 X f) (hY : Is2 Y g) : Is2 (mulf (F := Ideal) X Y) (fun x y => f x y * g x y) := by
  intro i; show X i * Y i = _; rw [hX i, hY i, ← EReal.coe_mul]
theorem Is2.abs (hX : Is2 X f) : Is2 (absf (F := Ideal) X) (fun x y => |f x y|) := by
  intro i; show max (X i) (-(X i)) = _; rw [hX i, coe_abs]
theorem Is2.max (hX : Is2 X f) (hY : Is2 Y g) : Is2 (maximumf (F := Ideal) X Y) (fun x y => Max.max (f x y) (g x y)) := by
  intro i; show Max.max (X i) (Y i) = _; rw [hX i, hY i, coe_max]
theorem Is2.exp (hX : Is2 X f) : Is2 (Idealize.ShloMosaic.exp (F := Ideal) X) (fun x y => Real.exp (f x y)) := by
  intro i; show Ideal.exp (X i) = _; rw [hX i, Ideal.exp_coe]
theorem Is2.log (hX : Is2 X f) (h : ∀ x y, 0 < f x y) : Is2 (Idealize.ShloMosaic.log (F := Ideal) X) (fun x y => Real.log (f x y)) := by
  intro i; show Ideal.log (X i) = _; rw [hX i, log_pos (h _ _)]
theorem Is2.div (hX : Is2 X f) (hY : Is2 Y g) (h : ∀ x y, 0 < g x y) : Is2 (divf (F := Ideal) X Y) (fun x y => f x y / g x y) := by
  intro i; show Ideal.div (X i) (Y i) = _; rw [hX i, hY i, div_pos (h _ _)]

theorem is2_zero : Is2 (broadcast (⟨2, ![m, n]⟩ : Shape) (Scalar.ofBits .f32 0x00000000#32 : Ideal .f32)) (fun _ _ => 0) :=
  fun _ => ofBits_zero
theorem is2_one : Is2 (broadcast (⟨2, ![m, n]⟩ : Shape) (Scalar.ofBits .f32 0x3F800000#32 : Ideal .f32)) (fun _ _ => 1) :=
  fun _ => ofBits_one
theorem is2_scale : Is2 (broadcast (⟨2, ![m, n]⟩ : Shape) (Scalar.ofBits .f32 0x3DB504F3#32 : Ideal .f32)) (fun _ _ => scale) :=
  fun _ => ofBits_scale

/-- A select on the sign of the first array. -/
theorem Is2.select_nonneg {Z : FVec Ideal ⟨2, ![m, n]⟩ .f32} {h : ℕ → ℕ → ℝ} (hZ : Is2 Z h) (hX : Is2 X f) (hY : Is2 Y g) :
    Is2 (select (cmpf .oge Z (broadcast (⟨2, ![m, n]⟩ : Shape) (Scalar.ofBits .f32 0x00000000#32 : Ideal .f32))) X Y)
      (fun x y => if 0 ≤ h x y then f x y else g x y) := by
  intro i
  show Scalar.select (BitVec.ofBool (decide ((FloatOps.ofBits .f32 0x00000000#32 : Ideal .f32) ≤ Z i))) (X i) (Y i) = _
  rw [hZ i, hX i, hY i, ofBits_zero]
  simp only [EReal.coe_le_coe_iff]
  show _ = (((if 0 ≤ h (i 0).val (i 1).val then f (i 0).val (i 1).val else g (i 0).val (i 1).val : ℝ)) : EReal)
  by_cases hh : 0 ≤ h (i 0).val (i 1).val
  · rw [if_pos hh, decide_eq_true hh]; rfl
  · rw [if_neg hh, decide_eq_false hh]; rfl

end Ops

/-! ## The mask of the diagonal tiles -/

theorem mask_word (c x y : ℕ) (hc : c ≤ 256) (hx : x < 512) (hy : y < 256) :
    IntOp.cmpi .slt (IntOp.addi (BitVec.ofNat 32 c) (BitVec.ofNat 32 y)) (BitVec.ofNat 32 x) = BitVec.ofBool (decide (c + y < x)) := by
  show BitVec.ofBool ((BitVec.ofNat 32 c + BitVec.ofNat 32 y).slt (BitVec.ofNat 32 x)) = _
  congr 1
  rw [BitVec.slt_eq_decide, ← BitVec.ofNat_add, BitVec.toInt_ofNat', BitVec.toInt_ofNat', decide_eq_decide, Int.bmod_def, Int.bmod_def]
  omega

/-- A select on the mask `c + column < row`. -/
theorem is2_mask {f g : ℕ → ℕ → ℝ} {X Y : FVec Ideal S512x256 .f32} (c : ℕ) (hc : c ≤ 256) (hX : Is2 X f) (hY : Is2 Y g) :
    Is2 (select (cmpi .slt (addi (broadcast S512x256 (BitVec.ofNat 32 c)) (iota .tc S512x256 32 [1] iota_S512x256_d1_w32))
        (iota .tc S512x256 32 [0] iota_S512x256_d0_w32)) X Y)
      (fun x y => if c + y < x then f x y else g x y) := by
  intro i
  have hi : iota .tc S512x256 32 [1] iota_S512x256_d1_w32 i = BitVec.ofNat 32 (i 1).val := by pointwise []
  have hj : iota .tc S512x256 32 [0] iota_S512x256_d0_w32 i = BitVec.ofNat 32 (i 0).val := by pointwise []
  show Scalar.select (IntOp.cmpi .slt (IntOp.addi (BitVec.ofNat 32 c) (iota .tc S512x256 32 [1] iota_S512x256_d1_w32 i))
    (iota .tc S512x256 32 [0] iota_S512x256_d0_w32 i)) (X i) (Y i) = _
  rw [hi, hj, mask_word c _ _ hc (i 0).isLt (i 1).isLt, hX i, hY i]
  show _ = (((if c + (i 1).val < (i 0).val then f (i 0).val (i 1).val else g (i 0).val (i 1).val : ℝ)) : EReal)
  by_cases hh : c + (i 1).val < (i 0).val
  · rw [if_pos hh, decide_eq_true hh]; rfl
  · rw [if_neg hh, decide_eq_false hh]; rfl

/-! ## Sums -/

theorem coe_fin_sum {N : ℕ} (a : Fin N → ℝ) : ((∑ e, a e : ℝ) : EReal) = ∑ e, ((a e : ℝ) : EReal) := by
  classical
  induction (univ : Finset (Fin N)) using Finset.induction_on with
  | empty => simp
  | insert x s hx ih => rw [Finset.sum_insert hx, Finset.sum_insert hx, EReal.coe_add, ih]

/-- A sum of products of reals is the sum over the reals. -/
theorem coe_sum_mul {N : ℕ} (a b : ℕ → ℝ) :
    ∑ e : Fin N, ((a e.val : ℝ) : EReal) * ((b e.val : ℝ) : EReal) = ((∑ e ∈ range N, a e * b e : ℝ) : EReal) := by
  rw [Finset.sum_range fun e => a e * b e, coe_fin_sum]
  exact Finset.sum_congr rfl fun e _ => (EReal.coe_mul _ _).symm
theorem coe_sum {N : ℕ} (a : ℕ → ℝ) : ∑ e : Fin N, ((a e.val : ℝ) : EReal) = ((∑ e ∈ range N, a e : ℝ) : EReal) := by
  rw [Finset.sum_range, coe_fin_sum]

variable {f g : ℕ → ℕ → ℝ}

/-- Rows by rows. -/
theorem is2_nt {φ₁ φ₂ : FTy} {A : FVec Ideal S512x128 φ₁} {B : FVec Ideal S256x128 φ₂} (hA : Is2 A f) (hB : Is2 B g) :
    Is2 (matmul dot_S512x128_S256x128_S512x256_1_1_0_0_n_n none A B (constant S512x256 .f32 0x00000000#32))
      (fun x y => ∑ e ∈ range 128, f x e * g y e) := by
  intro i
  pointwise []
  rw [← coe_sum_mul]
  exact Finset.sum_congr rfl fun e _ => by rw [hA _, hB _]; rfl

/-- A tile by a mask. -/
theorem is2_nm {φ₁ φ₂ : FTy} {A : FVec Ideal S512x256 φ₁} {B : FVec Ideal S256x256 φ₂} (hA : Is2 A f) (hB : Is2 B g) :
    Is2 (matmul dot_S512x256_S256x256_S512x256_1_0_0_1_n_n none A B (constant S512x256 .f32 0x00000000#32))
      (fun x y => ∑ j ∈ range 256, f x j * g j y) := by
  intro i
  pointwise []
  rw [← coe_sum_mul (fun j => f (i 0).val j) (fun j => g j (i 1).val)]
  exact Finset.sum_congr rfl fun e _ => by rw [hA _, hB _]; rfl

/-- A tile by the rows of its columns. -/
theorem is2_nn {φ₁ φ₂ : FTy} {A : FVec Ideal S512x256 φ₁} {B : FVec Ideal S256x128 φ₂} (hA : Is2 A f) (hB : Is2 B g) :
    Is2 (matmul dot_S512x256_S256x128_S512x128_1_0_0_1_n_n none A B (constant S512x128 .f32 0x00000000#32))
      (fun x e => ∑ y ∈ range 256, f x y * g y e) := by
  intro i
  pointwise []
  rw [← coe_sum_mul (fun j => f (i 0).val j) (fun j => g j (i 1).val)]
  exact Finset.sum_congr rfl fun e _ => by rw [hA _, hB _]; rfl

/-- A tile's transpose by the rows of its rows. -/
theorem is2_tn {φ₁ φ₂ : FTy} {A : FVec Ideal S512x256 φ₁} {B : FVec Ideal S512x128 φ₂} (hA : Is2 A f) (hB : Is2 B g) :
    Is2 (matmul dot_S512x256_S512x128_S256x128_0_0_1_1_n_n none A B (constant S256x128 .f32 0x00000000#32))
      (fun y e => ∑ x ∈ range 512, f x y * g x e) := by
  intro i
  pointwise []
  rw [← coe_sum_mul (fun j => f j (i 0).val) (fun j => g j (i 1).val)]
  exact Finset.sum_congr rfl fun e _ => by rw [hA _, hB _]; rfl

/-- The rows' sums. -/
theorem is2_rowsum {A : FVec Ideal S512x256 .f32} (hA : Is2 A f) :
    Is2 (shapeCast S512x1 (multiReduction .add [1] S512 A 0x00000000#32 reduces_S512x256_S512 (.inl rfl) rfl) shapeCasts_S512_S512x1)
      (fun x _ => ∑ y ∈ range 256, f x y) := by
  intro i
  pointwise []
  rw [← coe_sum]
  exact Finset.sum_congr rfl fun e _ => by rw [hA _]; rfl

/-- A column along the rows. -/
theorem is2_along {A : FVec Ideal S512x1 .f32} (hA : Is2 A f) :
    Is2 (broadcastTo S512x256 A broadcasts_S512x1_S512x256) (fun x _ => f x 0) := by
  intro i
  pointwise []
  rw [hA _]; rfl

end Cert.Proof.Sb

end
-- ==== Proof.Value.Tiles.lean ====
/-
  The values of one tile of the two bodies: scores, keep logarithms, sigmoid, weights, weighted gradients and the scores' gradients.
-/
module

public import proofs.«01_k».proof.Proof.Value.Calc
public import proofs.«01_k».proof.Proof.Bwd
public import proofs.«01_k».proof.Proof.Fwd

@[expose] public section

set_option maxRecDepth 16384

noncomputable section

namespace Cert.Proof.Sb

open Cert.KernelIdeal Cert.KernelIdeal.Gen Cert.Proof
open Idealize.ShloMosaic Idealize.ShloMosaic.TcCoe Finset

/-! ## Rounding, which the ideal numbers do not do, and reshapes to the same shape -/

section Id

variable {m n : ℕ} {f : ℕ → ℕ → ℝ}

theorem Is2.trunc {X : FVec Ideal ⟨2, ![m, n]⟩ .f32} (hX : Is2 X f) (h) : Is2 (truncf (F := Ideal) .bf16 X h) f := hX
theorem Is2.ext {X : FVec Ideal ⟨2, ![m, n]⟩ .bf16} (hX : Is2 X f) (h) : Is2 (extf (F := Ideal) .f32 X h) f := hX

theorem Is2.cast_tile {X : FVec Ideal S256x128 .f32} (hX : Is2 X f) : Is2 (shapeCast S256x128 X shapeCasts_S256x128_S256x128) f := by
  intro i; pointwise []; exact hX _
theorem Is2.cast_mask {X : FVec Ideal S256x256 .bf16} (hX : Is2 X f) : Is2 (shapeCast S256x256 X shapeCasts_S256x256_S256x256) f := by
  intro i; pointwise []; exact hX _
theorem Is2.cast_col {X : FVec Ideal S512x1 .f32} (hX : Is2 X f) : Is2 (shapeCast S512x1 X shapeCasts_S512x1_S512x1) f := by
  intro i
  have h : (i 1).val < 1 := (i 1).isLt
  have e : (i 1).val = 0 := by omega
  pointwise []
  rw [hX i, e]

end Id

/-! ## Rows of a slab -/

theorem is2_rows {f : ℕ → ℕ → ℝ} {X : Vec Ideal S8192x128 .bf16} (hX : Is2 (X : S8192x128.Idx → EReal) f) {j : ℕ} (hj : j < 32) :
    Is2 (rows (e := .bf16) X j : S256x128.Idx → EReal) (fun y e => f (256 * j + y) e) := by
  intro i
  have hi : (i 0).val < 256 := (i 0).isLt
  have h0 : ((tileIdx j i) 0).val = 256 * j + (i 0).val := by
    show (256 * j + (i 0).val) % 8192 = _
    omega
  show X (tileIdx j i) = _
  rw [hX (tileIdx j i), h0]; rfl

theorem is2_rows32 {f : ℕ → ℕ → ℝ} {X : Vec Ideal S8192x128 .f32} (hX : Is2 (X : S8192x128.Idx → EReal) f) {j : ℕ} (hj : j < 32) :
    Is2 (rows (e := .f32) X j : S256x128.Idx → EReal) (fun y e => f (256 * j + y) e) := by
  intro i
  have hi : (i 0).val < 256 := (i 0).isLt
  have h0 : ((tileIdx j i) 0).val = 256 * j + (i 0).val := by
    show (256 * j + (i 0).val) % 8192 = _
    omega
  show X (tileIdx j i) = _
  rw [hX (tileIdx j i), h0]; rfl

theorem is2_setRows {f g : ℕ → ℕ → ℝ} {X : Vec Ideal S8192x128 .f32} {w : Vec Ideal S256x128 .f32} (hX : Is2 (X : S8192x128.Idx → EReal) f)
    (hw : Is2 (w : S256x128.Idx → EReal) g) (j : ℕ) :
    Is2 (setRows X j w : S8192x128.Idx → EReal) (fun s e => if s / 256 = j then g (s % 256) e else f s e) := by
  intro i
  show (if (i 0).val / 256 = j then w (inTile i) else X i) = ((if (i 0).val / 256 = j then g ((i 0).val % 256) (i 1).val else f (i 0).val (i 1).val : ℝ) : EReal)
  have h0 : ((inTile i) 0).val = (i 0).val % 256 := by
    show (i 0).val % 256 % 256 = _
    omega
  split
  · rw [hw (inTile i), h0]; rfl
  · rw [hX i]

/-! ## Towers the bodies share -/

section Towers

variable {zf lf gf sf : ℕ → ℕ → ℝ} {mf : ℕ → ℕ → ℝ} {a b : ℕ → ℕ → ℝ}

theorem is2_score {qf kf : ℕ → ℕ → ℝ} {Q : Vec Ideal S512x128 .bf16} {K : Vec Ideal S256x128 .bf16}
    (hQ : Is2 (Q : S512x128.Idx → EReal) qf) (hK : Is2 (K : S256x128.Idx → EReal) kf) :
    Is2 (k1_pay4 Q K) (fun x y => (∑ e ∈ range 128, qf x e * kf y e) * scale) :=
  (is2_nt hQ hK).mul is2_scale

/-- The exponential of minus the absolute value, -/
theorem is2_expAbs {Z : FVec Ideal S512x256 .f32} (hZ : Is2 Z zf) :
    Is2 (exp (subf (broadcast S512x256 (Scalar.ofBits .f32 0x00000000#32)) (absf Z))) (fun x y => Real.exp (-|zf x y|)) :=
  (is2_zero.sub hZ.abs).exp.congr fun x _ y _ => by rw [zero_sub]

/-- the keep logarithm, -/
theorem is2_logKeep {Z E : FVec Ideal S512x256 .f32} (hZ : Is2 Z zf) (hE : Is2 E (fun x y => Real.exp (-|zf x y|))) :
    Is2 (subf (broadcast S512x256 (Scalar.ofBits .f32 0x00000000#32))
      (addf (maximumf Z (broadcast S512x256 (Scalar.ofBits .f32 0x00000000#32)))
        (log (addf (broadcast S512x256 (Scalar.ofBits .f32 0x3F800000#32)) E)))) (fun x y => -sp (zf x y)) :=
  (is2_zero.sub ((hZ.max is2_zero).add ((is2_one.add hE).log fun x y => one_add_exp_pos _))).congr fun x _ y _ => by
    rw [zero_sub]; rfl

/-- and the sigmoid. -/
theorem is2_sigmoid {Z E : FVec Ideal S512x256 .f32} (hZ : Is2 Z zf) (hE : Is2 E (fun x y => Real.exp (-|zf x y|))) :
    Is2 (divf (select (cmpf .oge Z (broadcast S512x256 (Scalar.ofBits .f32 0x00000000#32)))
        (broadcast S512x256 (Scalar.ofBits .f32 0x3F800000#32)) E)
      (addf (broadcast S512x256 (Scalar.ofBits .f32 0x3F800000#32)) E)) (fun x y => sg (zf x y)) :=
  ((hZ.select_nonneg is2_one hE).div (is2_one.add hE) fun x y => one_add_exp_pos _)

/-- What lies between a tile's columns and the row's end. -/
theorem is2_after {L : FVec Ideal S512x256 .f32} {M : FVec Ideal S256x256 .bf16} {T P : FVec Ideal S512x1 .f32}
    (hL : Is2 L lf) (hM : Is2 M mf) (hT : Is2 T a) (hP : Is2 P b) (h₁ h₂) :
    Is2 (subf (broadcastTo S512x256 (subf T P) broadcasts_S512x1_S512x256)
      (addf (matmul dot_S512x256_S256x256_S512x256_1_0_0_1_n_n none (truncf .bf16 L h₁) M (constant S512x256 .f32 0x00000000#32))
        (matmul dot_S512x256_S256x256_S512x256_1_0_0_1_n_n none (truncf .bf16 (subf L (extf .f32 (truncf .bf16 L h₁) h₂)) h₁) M
          (constant S512x256 .f32 0x00000000#32))))
      (fun x y => a x 0 - b x 0 - ∑ j ∈ range 256, lf x j * mf j y) :=
  ((is2_along (hT.sub hP)).sub ((is2_nm (hL.trunc h₁) hM).add (is2_nm ((hL.sub ((hL.trunc h₁).ext h₂)).trunc h₁) hM))).congr
    fun x _ y _ => by simp only [sub_self, zero_mul, sum_const_zero, add_zero]

/-- The score's gradient. -/
theorem is2_grad {G S : FVec Ideal S512x256 .f32} {M : FVec Ideal S256x256 .bf16} {B : FVec Ideal S512x1 .f32}
    (hG : Is2 G gf) (hS : Is2 S sf) (hM : Is2 M mf) (hB : Is2 B b) (h₁) :
    Is2 (mulf (subf (mulf G (subf (broadcast S512x256 (Scalar.ofBits .f32 0x3F800000#32)) S))
        (mulf (addf (broadcastTo S512x256 B broadcasts_S512x1_S512x256)
          (matmul dot_S512x256_S256x256_S512x256_1_0_0_1_n_n none (truncf .bf16 G h₁) M (constant S512x256 .f32 0x00000000#32))) S))
      (broadcast S512x256 (Scalar.ofBits .f32 0x3DB504F3#32)))
      (fun x y => (gf x y * (1 - sf x y) - (b x 0 + ∑ j ∈ range 256, gf x j * mf j y) * sf x y) * scale) :=
  ((hG.mul (is2_one.sub hS)).sub (((is2_along hB).add (is2_nm (hG.trunc h₁) hM)).mul hS)).mul is2_scale

end Towers

/-! ## The tiles of one head -/

section Head

variable {q k v d : ℕ → ℕ → ℝ} {i j : ℕ}

/-- The keep logarithms' partial sum of a tile. -/
theorem keep_tile (x y : ℕ) (hy : y < 256) :
    keepTo q k x (256 * j) + ∑ s ∈ range 256, lk q k x (256 * j + s) * (if s ≤ y then 1 else 0) = keepTo q k x (256 * j + y + 1) := by
  rw [sum_le_mask _ hy, add_assoc]
  exact (sum_cut _ _ _).symm
theorem gr_tile (x y : ℕ) (hy : y < 256) :
    grTo q k v d x (256 * j) + ∑ s ∈ range 256, gr q k v d x (256 * j + s) * (if s < y then 1 else 0) = grTo q k v d x (256 * j + y) := by
  rw [sum_lt_mask _ hy]
  exact (sum_cut _ _ _).symm

variable (q k v d i j)

/-- The blocks a tile's values come from: row block `i` and tile `j` of one head. -/
structure Blocks (Q D : Vec Ideal S512x128 .bf16) (K V : Vec Ideal S256x128 .bf16) : Prop where
  q : Is2 (Q : S512x128.Idx → EReal) (fun x e => q (512 * i + x) e)
  d : Is2 (D : S512x128.Idx → EReal) (fun x e => d (512 * i + x) e)
  k : Is2 (K : S256x128.Idx → EReal) (fun y e => k (256 * j + y) e)
  v : Is2 (V : S256x128.Idx → EReal) (fun y e => v (256 * j + y) e)

/-- A tile's values. -/
def zT (x y : ℕ) : ℝ := z q k (512 * i + x) (256 * j + y)
def lkT (x y : ℕ) : ℝ := lk q k (512 * i + x) (256 * j + y)
def wtT (x y : ℕ) : ℝ := wt q k (512 * i + x) (256 * j + y)
def grT (x y : ℕ) : ℝ := gr q k v d (512 * i + x) (256 * j + y)
def dzT (x y : ℕ) : ℝ := dz q k v d (512 * i + x) (256 * j + y)

variable {q k v d i j}

/-- From the exponent to the weight, below the diagonal. -/
theorem wt_of_exponent {x y : ℕ} (hy : y < 256) (h : 256 * j + y < 512 * i + x) :
    Real.exp (zT q k i j x y + lkT q k i j x y
      + (keepTo q k (512 * i + x) 8192 - keepTo q k (512 * i + x) (256 * j)
        - ∑ s ∈ range 256, lkT q k i j x s * (if s ≤ y then 1 else 0))) = wtT q k i j x y := by
  unfold wtT wt
  rw [if_pos h, ← keep_tile _ _ hy]
  unfold zT lkT
  congr 1; ring

theorem dz_of_parts {x y : ℕ} (hy : y < 256) (h : 256 * j + y < 512 * i + x) :
    (grT q k v d i j x y * (1 - sg (zT q k i j x y))
      - (grTo q k v d (512 * i + x) (256 * j) + ∑ s ∈ range 256, grT q k v d i j x s * (if s < y then 1 else 0)) * sg (zT q k i j x y)) * scale
      = dzT q k v d i j x y := by
  unfold dzT dz
  rw [if_pos h, ← gr_tile _ _ hy]
  rfl

end Head

end Cert.Proof.Sb

end
-- ==== Proof.Value.BwdTiles.lean ====
/-
  The backward body's tiles hold the keep logarithms, weights, weighted gradients and scores' gradients of the head.
-/
module

public import proofs.«01_k».proof.Proof.Value.Tiles

@[expose] public section

set_option maxRecDepth 16384

noncomputable section

namespace Cert.Proof.Sb

open Cert.KernelIdeal Cert.KernelIdeal.Gen Cert.Proof
open Idealize.ShloMosaic Idealize.ShloMosaic.TcCoe Finset

variable {q k v d : ℕ → ℕ → ℝ} {i j : ℕ} {Q D : Vec Ideal S512x128 .bf16} {K V : Vec Ideal S256x128 .bf16}

theorem lkT_low {x y : ℕ} (h : 256 * j + y < 512 * i + x) : lkT q k i j x y = -sp (zT q k i j x y) := if_pos h
theorem lkT_high {x y : ℕ} (h : ¬ 256 * j + y < 512 * i + x) : lkT q k i j x y = 0 := if_neg h
theorem wtT_high {x y : ℕ} (h : ¬ 256 * j + y < 512 * i + x) : wtT q k i j x y = 0 := if_neg h
theorem dzT_high {x y : ℕ} (h : ¬ 256 * j + y < 512 * i + x) : dzT q k v d i j x y = 0 := if_neg h

/-- What the walk carries into tile `j` of row block `i`: the row's whole sum, and the two running sums. -/
structure Carried (q k v d : ℕ → ℕ → ℝ) (i j : ℕ) (mle mlt : Vec Ideal S256x256 .bf16) (T P B : FVec Ideal S512x1 .f32) : Prop where
  le : Is2 (mle : S256x256.Idx → EReal) (fun s y => if s ≤ y then 1 else 0)
  lt : Is2 (mlt : S256x256.Idx → EReal) (fun s y => if s < y then 1 else 0)
  tot : Is2 T (fun x _ => keepTo q k (512 * i + x) 8192)
  keep : Is2 P (fun x _ => keepTo q k (512 * i + x) (256 * j))
  g : Is2 B (fun x _ => grTo q k v d (512 * i + x) (256 * j))

/-- The scores, -/
theorem tile_z (h : Blocks q k v d i j Q D K V) : Is2 (k1_pay4 Q K) (zT q k i j) := is2_score h.q h.k
/-- their exponentials, -/
theorem tile_e (h : Blocks q k v d i j Q D K V) : Is2 (k1_pay5 Q K) (fun x y => Real.exp (-|zT q k i j x y|)) := is2_expAbs (tile_z h)
/-- the keep logarithms without the mask, -/
theorem tile_sp (h : Blocks q k v d i j Q D K V) : Is2 (k1_pay6 Q K) (fun x y => -sp (zT q k i j x y)) := is2_logKeep (tile_z h) (tile_e h)
/-- the sigmoids, -/
theorem tile_sg (h : Blocks q k v d i j Q D K V) : Is2 (k1_pay7 Q K) (fun x y => sg (zT q k i j x y)) := is2_sigmoid (tile_z h) (tile_e h)
/-- and the outputs' gradients against the values. -/
theorem tile_dv (h : Blocks q k v d i j Q D K V) :
    Is2 (matmul (F := Ideal) (φ₁ := .bf16) (φ₂ := .bf16) dot_S512x128_S256x128_S512x256_1_1_0_0_n_n none D V (constant S512x256 .f32 0x00000000#32))
      (fun x y => ∑ e ∈ range 128, d (512 * i + x) e * v (256 * j + y) e) := is2_nt h.d h.v

variable {mle mlt : Vec Ideal S256x256 .bf16} {T P B : FVec Ideal S512x1 .f32}

/-! ## Before the diagonal -/

section Off

variable (h : Blocks q k v d i j Q D K V) (hc : Carried q k v d i j mle mlt T P B) (hj : j < 2 * i)
include h hj

theorem off_lk : Is2 (k1_pay6 Q K) (lkT q k i j) :=
  (tile_sp h).congr fun x _ y _ => (lkT_low (by omega)).symm

include hc

theorem off_wt : Is2 (k1_pay8 Q (k1_pay20 mle) T P K) (wtT q k i j) :=
  (((tile_z h).add (off_lk h hj)).add (is2_after (off_lk h hj) hc.le.cast_mask hc.tot hc.keep _ _)).exp.congr
    fun x _ y hy => wt_of_exponent hy (by omega)

theorem off_gr : Is2 (k1_pay9 Q D (k1_pay20 mle) T P K V) (grT q k v d i j) :=
  (off_wt h hc hj).mul (tile_dv h)

theorem off_dz : Is2 (k1_pay26 mlt B (k1_pay7 Q K) (k1_pay9 Q D (k1_pay20 mle) T P K V) (k1_pay10 Q D (k1_pay20 mle) T P K V)) (dzT q k v d i j) :=
  (is2_grad (off_gr h hc hj) (tile_sg h) hc.lt.cast_mask hc.g bitsLt_bf16_f32).congr fun x _ y hy => dz_of_parts hy (by omega)

end Off

/-! ## The first diagonal tile -/

section Diag0

variable (h : Blocks q k v d i j Q D K V) (hc : Carried q k v d i j mle mlt T P B) (hj : j = 2 * i)
include h hj

theorem d0_lk : Is2 (k1_pay41 Q K) (lkT q k i j) :=
  (is2_mask 0 (by omega) (tile_sp h) is2_zero).congr fun x _ y _ => by
    split
    · exact (lkT_low (by omega)).symm
    · exact (lkT_high (by omega)).symm

include hc

theorem d0_wt : Is2 (k1_pay44 (k1_pay42 Q (k1_pay20 mle) T P K) (k1_pay43 Q K)) (wtT q k i j) :=
  (is2_mask 0 (by omega) (((tile_z h).add (d0_lk h hj)).add (is2_after (d0_lk h hj) hc.le.cast_mask hc.tot hc.keep bitsLt_bf16_f32 bitsLt_bf16_f32)).exp
    is2_zero).congr fun x _ y hy => by
      split
      · exact wt_of_exponent hy (by omega)
      · exact (wtT_high (by omega)).symm

theorem d0_gr : Is2 (k1_pay45 D V (k1_pay42 Q (k1_pay20 mle) T P K) (k1_pay43 Q K)) (grT q k v d i j) :=
  (d0_wt h hc hj).mul (tile_dv h)

theorem d0_dz : Is2 (k1_pay46 D (k1_pay21 mlt) B V (k1_pay40 Q K) (k1_pay42 Q (k1_pay20 mle) T P K) (k1_pay43 Q K)) (dzT q k v d i j) :=
  (is2_mask 0 (by omega) (is2_grad (d0_gr h hc hj) (tile_sg h) hc.lt.cast_mask hc.g bitsLt_bf16_f32) is2_zero).congr fun x _ y hy => by
    split
    · exact dz_of_parts hy (by omega)
    · exact (dzT_high (by omega)).symm

end Diag0

/-! ## The second -/

section Diag1

variable (h : Blocks q k v d i j Q D K V) (hc : Carried q k v d i j mle mlt T P B) (hj : j = 2 * i + 1)
include h hj

theorem d1_lk : Is2 (select k1_pay56 (k1_pay54 Q K) (broadcast S512x256 (Scalar.ofBits .f32 0x00000000#32 : Ideal .f32))) (lkT q k i j) :=
  (is2_mask 256 (by omega) (tile_sp h) is2_zero).congr fun x _ y _ => by
    split
    · exact (lkT_low (by omega)).symm
    · exact (lkT_high (by omega)).symm

include hc

theorem d1_wt : Is2 (k1_pay57 (k1_pay20 mle) T P (k1_pay52 Q K) (k1_pay54 Q K) k1_pay56) (wtT q k i j) :=
  (is2_mask 256 (by omega) (((tile_z h).add (d1_lk h hj)).add (is2_after (d1_lk h hj) hc.le.cast_mask hc.tot hc.keep bitsLt_bf16_f32 bitsLt_bf16_f32)).exp
    is2_zero).congr fun x _ y hy => by
      split
      · exact wt_of_exponent hy (by omega)
      · exact (wtT_high (by omega)).symm

theorem d1_dz : Is2 (k1_pay58 D (k1_pay20 mle) (k1_pay21 mlt) T P B V (k1_pay52 Q K) (k1_pay54 Q K) (k1_pay55 Q K) k1_pay56) (dzT q k v d i j) :=
  (is2_mask 256 (by omega) (is2_grad ((d1_wt h hc hj).mul (tile_dv h)) (tile_sg h) hc.lt.cast_mask hc.g bitsLt_bf16_f32) is2_zero).congr
    fun x _ y hy => by
      split
      · exact dz_of_parts hy (by omega)
      · exact (dzT_high (by omega)).symm

end Diag1

end Cert.Proof.Sb

end
-- ==== Proof.Value.BwdVal.lean ====
/-
  The backward body's walk over the tiles, and over the row blocks: what the query gradient's block and the two slabs hold.
-/
module

public import proofs.«01_k».proof.Proof.Value.BwdTiles

@[expose] public section

set_option maxRecDepth 16384

noncomputable section

namespace Cert.Proof.Sb

open Cert.KernelIdeal Cert.KernelIdeal.Gen Cert.Proof
open Idealize.ShloMosaic Idealize.ShloMosaic.TcCoe Finset

/-! ## The pieces of a step -/

section Pieces

variable {f g : ℕ → ℕ → ℝ} {i j : ℕ}

/-- A running sum past one more tile. -/
theorem is2_run {P : FVec Ideal S512x1 .f32} {L : FVec Ideal S512x256 .f32} {a : ℕ → ℕ → ℝ}
    (hP : Is2 P (fun x _ => ∑ s ∈ range (256 * j), a x s)) (hL : Is2 L (fun x y => a x (256 * j + y))) :
    Is2 (addf P (shapeCast S512x1 (multiReduction .add [1] S512 L 0x00000000#32 reduces_S512x256_S512 (.inl rfl) rfl) shapeCasts_S512_S512x1))
      (fun x _ => ∑ s ∈ range (256 * (j + 1)), a x s) :=
  (hP.add (is2_rowsum hL)).congr fun x _ y _ => by rw [Nat.mul_add, Nat.mul_one, sum_cut]

/-- A block's gradient past one more tile. -/
theorem is2_block {A : FVec Ideal S512x128 .f32} {E : FVec Ideal S512x256 .bf16} {K : FVec Ideal S256x128 .bf16} {a b : ℕ → ℕ → ℝ}
    (hA : Is2 A (fun x e => ∑ s ∈ range (256 * j), a x s * b s e)) (hE : Is2 E (fun x y => a x (256 * j + y)))
    (hK : Is2 K (fun y e => b (256 * j + y) e)) :
    Is2 (addf A (matmul dot_S512x256_S256x128_S512x128_1_0_0_1_n_n none E K (constant S512x128 .f32 0x00000000#32)))
      (fun x e => ∑ s ∈ range (256 * (j + 1)), a x s * b s e) :=
  (hA.add (is2_nn hE hK)).congr fun x _ y _ => by rw [Nat.mul_add, Nat.mul_one, sum_cut]

/-- A slab past one more tile: the tile's rows get the tile's part. -/
theorem is2_slab {X : Vec Ideal S8192x128 .f32} {E : FVec Ideal S512x256 .bf16} {Q : FVec Ideal S512x128 .bf16} {a b : ℕ → ℕ → ℝ} (hj : j < 32)
    (hX : Is2 (X : S8192x128.Idx → EReal) (fun s e => f s e + if s < 256 * j then ∑ x ∈ range 512, a x s * b x e else 0))
    (hE : Is2 E (fun x y => a x (256 * j + y))) (hQ : Is2 Q (fun x e => b x e)) :
    Is2 (setRows X j (addf (shapeCast S256x128 (rows (e := .f32) X j) shapeCasts_S256x128_S256x128)
        (matmul dot_S512x256_S512x128_S256x128_0_0_1_1_n_n none E Q (constant S256x128 .f32 0x00000000#32))) : S8192x128.Idx → EReal)
      (fun s e => f s e + if s < 256 * (j + 1) then ∑ x ∈ range 512, a x s * b x e else 0) := by
  have hr := is2_rows32 hX hj
  refine (is2_setRows hX (hr.cast_tile.add (is2_tn hE hQ)) j).congr fun s _ e _ => ?_
  beta_reduce
  by_cases h : s / 256 = j
  · have hs : 256 * j + s % 256 = s := by omega
    rw [if_pos h, hs, if_neg (by omega), if_pos (by omega), add_zero]
  · rw [if_neg h]
    by_cases h' : s < 256 * j
    · rw [if_pos h', if_pos (by omega)]
    · rw [if_neg h', if_neg (by omega)]

end Pieces

/-! ## The walk -/

variable (q k v d : ℕ → ℕ → ℝ)

/-- The key and value gradients' sums over the first `n` rows. -/
def dkTo (n s e : ℕ) : ℝ := ∑ t ∈ range n, dz q k v d t s * q t e
def dvTo (n s e : ℕ) : ℝ := ∑ t ∈ range n, wt q k t s * d t e

/-- The state before tile `j` of row block `i`. -/
structure Inv (i j : ℕ) (s : BSt Ideal) : Prop where
  keep : Is2 s.keep (fun x _ => keepTo q k (512 * i + x) (256 * j))
  g : Is2 s.g (fun x _ => grTo q k v d (512 * i + x) (256 * j))
  dq : Is2 s.dq (fun x e => ∑ s ∈ range (256 * j), dz q k v d (512 * i + x) s * k s e)
  dk : Is2 (s.dk : S8192x128.Idx → EReal) (fun s e => dkTo q k v d (512 * i) s e
    + if s < 256 * j then ∑ x ∈ range 512, dz q k v d (512 * i + x) s * q (512 * i + x) e else 0)
  dv : Is2 (s.dv : S8192x128.Idx → EReal) (fun s e => dvTo q k d (512 * i) s e
    + if s < 256 * j then ∑ x ∈ range 512, wt q k (512 * i + x) s * d (512 * i + x) e else 0)

variable {q k v d} {i j : ℕ} {Q D : Vec Ideal S512x128 .bf16} {K V : Vec Ideal S8192x128 .bf16} {mle mlt : Vec Ideal S256x256 .bf16}
  {T : Vec Ideal S512x1 .f32} {s : BSt Ideal}

/-- The slabs and blocks of row block `i`. -/
structure Ops (q k v d : ℕ → ℕ → ℝ) (i : ℕ) (Q D : Vec Ideal S512x128 .bf16) (K V : Vec Ideal S8192x128 .bf16) (mle mlt : Vec Ideal S256x256 .bf16)
    (T : Vec Ideal S512x1 .f32) : Prop where
  hq : Is2 (Q : S512x128.Idx → EReal) (fun x e => q (512 * i + x) e)
  hd : Is2 (D : S512x128.Idx → EReal) (fun x e => d (512 * i + x) e)
  hk : Is2 (K : S8192x128.Idx → EReal) k
  hv : Is2 (V : S8192x128.Idx → EReal) v
  le : Is2 (mle : S256x256.Idx → EReal) (fun s y => if s ≤ y then 1 else 0)
  lt : Is2 (mlt : S256x256.Idx → EReal) (fun s y => if s < y then 1 else 0)
  tot : Is2 (T : S512x1.Idx → EReal) (fun x _ => keepTo q k (512 * i + x) 8192)

theorem Ops.blocks (h : Ops q k v d i Q D K V mle mlt T) (hj : j < 32) : Blocks q k v d i j Q D (rows K j) (rows V j) :=
  ⟨h.hq, h.hd, is2_rows h.hk hj, is2_rows h.hv hj⟩
theorem Ops.carried (h : Ops q k v d i Q D K V mle mlt T) (hs : Inv q k v d i j s) :
    Carried q k v d i j mle mlt (k1_pay22 T) s.keep s.g :=
  ⟨h.le, h.lt, Is2.cast_col h.tot, hs.keep, hs.g⟩

/-- One tile before the diagonal. -/
theorem inv_step (h : Ops q k v d i Q D K V mle mlt T) (hi : i < 16) (hj : j < 2 * i) (hs : Inv q k v d i j s) :
    Inv q k v d i (j + 1) (bwdStep Q D mle mlt T K V j s) :=
  have hj' : j < 32 := by omega
  have hb := h.blocks hj'
  have hc := h.carried hs
  ⟨is2_run hs.keep (off_lk hb hj), is2_run hs.g (off_gr hb hc hj), is2_block hs.dq (off_dz hb hc hj) (is2_rows h.hk hj'),
    is2_slab hj' hs.dk (off_dz hb hc hj) h.hq, is2_slab hj' hs.dv ((off_wt hb hc hj).trunc bitsLt_bf16_f32) h.hd⟩

theorem inv_diag0 (h : Ops q k v d i Q D K V mle mlt T) (hi : i < 16) (hs : Inv q k v d i (2 * i) s) :
    Inv q k v d i (2 * i + 1) (bwdDiag0 Q D mle mlt T K V (2 * i) s) :=
  have hj' : 2 * i < 32 := by omega
  have hb := h.blocks hj'
  have hc := h.carried hs
  ⟨is2_run hs.keep (d0_lk hb rfl), is2_run hs.g (d0_gr hb hc rfl), is2_block hs.dq (d0_dz hb hc rfl) (is2_rows h.hk hj'),
    is2_slab hj' hs.dk (d0_dz hb hc rfl) h.hq, is2_slab hj' hs.dv ((d0_wt hb hc rfl).trunc bitsLt_bf16_f32) h.hd⟩

/-- The walk up to the diagonal. -/
theorem inv_go (h : Ops q k v d i Q D K V mle mlt T) (hi : i < 16) (hs : Inv q k v d i 0 s) :
    ∀ n, n ≤ 2 * i → Inv q k v d i n (bwdGo Q D mle mlt T K V 0 n s)
  | 0, _ => hs
  | n + 1, hn => by
    have := inv_step h hi (by omega) (inv_go h hi hs n (by omega))
    rw [show bwdGo Q D mle mlt T K V 0 (n + 1) s = bwdStep Q D mle mlt T K V (0 + n) (bwdGo Q D mle mlt T K V 0 n s) from rfl, Nat.zero_add]
    exact this

/-- What a row block ends with. -/
structure Done (q k v d : ℕ → ℕ → ℝ) (i : ℕ) (s : BSt Ideal) : Prop where
  dq : Is2 s.dq (fun x e => dqS q k v d (512 * i + x) e)
  dk : Is2 (s.dk : S8192x128.Idx → EReal) (dkTo q k v d (512 * (i + 1)))
  dv : Is2 (s.dv : S8192x128.Idx → EReal) (dvTo q k d (512 * (i + 1)))

theorem to_next (a : ℕ → ℕ → ℝ) (b : ℕ → ℕ → ℝ) (h0 : ∀ t s, t ≤ s → a t s = 0) (s e : ℕ) :
    (∑ t ∈ range (512 * i), a t s * b t e) + (if s < 256 * (2 * i + 1 + 1) then ∑ x ∈ range 512, a (512 * i + x) s * b (512 * i + x) e else 0)
      = ∑ t ∈ range (512 * (i + 1)), a t s * b t e := by
  rw [Nat.mul_add 512, Nat.mul_one, sum_cut]
  congr 1
  split
  · rfl
  · refine (sum_eq_zero fun x hx => ?_).symm
    rw [mem_range] at hx
    rw [h0 _ _ (by omega), zero_mul]

theorem done_diag1 (h : Ops q k v d i Q D K V mle mlt T) (hi : i < 16) (hs : Inv q k v d i (2 * i + 1) s) :
    Done q k v d i (bwdDiag1 Q D mle mlt T K V (2 * i + 1) s) := by
  have hj' : 2 * i + 1 < 32 := by omega
  have hb := h.blocks hj'
  have hc := h.carried hs
  refine ⟨Is2.congr (is2_block hs.dq (d1_dz hb hc rfl) (is2_rows h.hk hj')) fun x hx e _ => ?_,
    Is2.congr (is2_slab hj' hs.dk (d1_dz hb hc rfl) h.hq) fun s _ e _ => to_next (dz q k v d) q (fun _ _ => dz_zero q k v d) s e,
    Is2.congr (is2_slab hj' hs.dv ((d1_wt hb hc rfl).trunc bitsLt_bf16_f32) h.hd) fun s _ e _ => to_next (wt q k) d (fun _ _ => wt_zero q k) s e⟩
  refine sum_subset (range_mono (by omega)) fun s _ hs => ?_
  rw [mem_range] at hs
  rw [dz_zero q k v d (by omega), zero_mul]

/-- The body at row block `i`, the slabs holding the rows before it (or anything, at the first). -/
theorem done_res (h : Ops q k v d i Q D K V mle mlt T) (hi : i < 16) {dk dv : Vec Ideal S8192x128 .f32}
    (hk : i ≠ 0 → Is2 (dk : S8192x128.Idx → EReal) (dkTo q k v d (512 * i)))
    (hv : i ≠ 0 → Is2 (dv : S8192x128.Idx → EReal) (dvTo q k d (512 * i))) :
    Done q k v d i (bwdRes Q D mle mlt T K V i (2 * i) dk dv) := by
  have h0 : Inv q k v d i 0 (bwdInit i dk dv) := by
    refine ⟨is2_zero, is2_zero, is2_zero, ?_, ?_⟩
    · refine Is2.congr (f := dkTo q k v d (512 * i)) ?_ fun s _ e _ => by rw [if_neg (by omega), add_zero]
      by_cases hi0 : i = 0
      · subst hi0
        exact is2_zero.congr fun s _ e _ => by simp only [dkTo, dvTo, Nat.mul_zero, range_zero, sum_empty]
      · rw [show (bwdInit i dk dv).dk = dk from if_neg hi0]; exact hk hi0
    · refine Is2.congr (f := dvTo q k d (512 * i)) ?_ fun s _ e _ => by rw [if_neg (by omega), add_zero]
      by_cases hi0 : i = 0
      · subst hi0
        exact is2_zero.congr fun s _ e _ => by simp only [dkTo, dvTo, Nat.mul_zero, range_zero, sum_empty]
      · rw [show (bwdInit i dk dv).dv = dv from if_neg hi0]; exact hv hi0
  unfold bwdRes bwdWalk
  rw [Nat.sub_self]
  exact done_diag1 h hi (inv_diag0 h hi (inv_go h hi h0 _ le_rfl))

end Cert.Proof.Sb

end
-- ==== Proof.Value.Host.lean ====
/-
  The reference's scalar operations on real numbers.
-/
module

public import proofs.«01_k».proof.Proof.Value.Real

@[expose] public section

noncomputable section

namespace Cert.Proof.Sb

open Idealize.ShloMosaic Finset

theorem ofBits_top : (FloatOps.ofBits .f32 0x7F800000#32 : Ideal .f32) = (⊤ : EReal) := by
  show Ideal.ofBits .f32 0x7F800000#32 = _
  simp [Ideal.ofBits, Ideal.ieee]
theorem ofBits_bot : (FloatOps.ofBits .f32 0xFF800000#32 : Ideal .f32) = (⊥ : EReal) := by
  show Ideal.ofBits .f32 0xFF800000#32 = _
  simp [Ideal.ofBits, Ideal.ieee]

/-- A select on a decided proposition. -/
theorem select_if (p : Prop) [Decidable p] {α : Type} (a b : α) : Scalar.select (BitVec.ofBool (decide p)) a b = if p then a else b := by
  by_cases h : p
  · rw [decide_eq_true h, if_pos h]; rfl
  · rw [decide_eq_false h, if_neg h]; rfl

/-- A select on a real number being infinite. -/
theorem select_top (x : ℝ) (a b : Ideal .f32) : Scalar.select (FloatOps.cmpf (F := Ideal) (φ := .f32) .oeq (x : EReal) (FloatOps.ofBits .f32 0x7F800000#32)) a b = b := by
  rw [ofBits_top]
  show Scalar.select (BitVec.ofBool (decide ((x : EReal) = ⊤))) a b = b
  rw [select_if, if_neg (EReal.coe_ne_top x)]
/-- A select on a number differing from itself. -/
theorem select_une (x : Ideal .f32) (a b : Ideal .f32) : Scalar.select (FloatOps.cmpf (F := Ideal) (φ := .f32) .une x x) a b = b := by
  show Scalar.select (BitVec.ofBool (decide (x ≠ x))) a b = b
  rw [select_if, if_neg (fun h => h rfl)]

theorem host_neg (x : ℝ) : FloatOps.hostNegf (F := Ideal) (φ := .f32) (x : EReal) = ((-x : ℝ) : EReal) := (EReal.coe_neg x).symm
theorem host_abs (x : ℝ) : FloatOps.hostAbsf (F := Ideal) (φ := .f32) (x : EReal) = ((|x| : ℝ) : EReal) := coe_abs x
theorem host_exp (x : ℝ) : FloatOps.hostUnary (F := Ideal) (φ := .f32) .exp (x : EReal) = ((Real.exp x : ℝ) : EReal) := Ideal.exp_coe x
theorem host_exp_bot : FloatOps.hostUnary (F := Ideal) (φ := .f32) .exp (⊥ : EReal) = ((0 : ℝ) : EReal) := by
  rfl
theorem host_log1p {x : ℝ} (h : 0 < 1 + x) : FloatOps.hostUnary (F := Ideal) (φ := .f32) .log1p (x : EReal) = ((Real.log (1 + x) : ℝ) : EReal) := by
  show Ideal.log (1 + (x : EReal)) = _
  rw [show (1 : EReal) = ((1 : ℝ) : EReal) from rfl, ← EReal.coe_add, log_pos h]
theorem add_coe (x y : ℝ) : FloatOps.addf (F := Ideal) (φ := .f32) (x : EReal) (y : EReal) = ((x + y : ℝ) : EReal) := (EReal.coe_add x y).symm
theorem sub_coe (x y : ℝ) : FloatOps.subf (F := Ideal) (φ := .f32) (x : EReal) (y : EReal) = ((x - y : ℝ) : EReal) := (EReal.coe_sub x y).symm
theorem mul_coe (x y : ℝ) : FloatOps.mulf (F := Ideal) (φ := .f32) (x : EReal) (y : EReal) = ((x * y : ℝ) : EReal) := (EReal.coe_mul x y).symm
theorem max_coe (x y : ℝ) : FloatOps.maximumf (F := Ideal) (φ := .f32) (x : EReal) (y : EReal) = ((max x y : ℝ) : EReal) := coe_max x y

/-- The sum over the later positions is what the sum up to a position leaves. -/
theorem sum_later (f : ℕ → ℝ) {s n : ℕ} (h : s < n) :
    ∑ j ∈ range n, f j * (if s < j then 1 else 0) = ∑ j ∈ range n, f j - ∑ j ∈ range (s + 1), f j := by
  rw [← sum_le_mask f h, ← sum_sub_distrib]
  refine sum_congr rfl fun j _ => ?_
  by_cases hj : s < j
  · rw [if_pos hj, if_neg (by omega)]; ring
  · rw [if_neg hj, if_pos (by omega)]; ring

end Cert.Proof.Sb

end
-- ==== Proof.Value.FwdVal.lean ====
/-
  The forward body walks every earlier tile: its running sum ends with the row's whole sum, its accumulator with the
  row's weighted sum of the values.
-/
module

public import proofs.«01_k».proof.Proof.Value.BwdVal
public import proofs.«01_k».proof.Proof.Value.Host

@[expose] public section

set_option maxRecDepth 16384

noncomputable section

namespace Cert.Proof.Sb

open Cert.KernelIdeal Cert.KernelIdeal.Gen Cert.Proof
open Idealize.ShloMosaic Idealize.ShloMosaic.TcCoe Finset

/-- The greatest of finitely many rows that are all above `⊥` is above it. -/
theorem bot_lt_max {l : FVec Ideal S512x1 .f32} (hl : ∀ x, (⊥ : EReal) < l x) : (⊥ : EReal) < k0_pay6 (F := Ideal) l := by
  have key : ∀ j, (⊥ : EReal) < multiReduction .maximumf [1, 2] S1 (shapeCast S1x512x1 l shapeCasts_S512x1_S1x512x1) 0xFF800000#32
      reduces_S1x512x1_S1 (.inl rfl) rfl j := fun j => by
    have e := multiReduction_maximumf_eq_fold (F := Ideal) (φ := .f32) (shapeCast S1x512x1 l shapeCasts_S512x1_S1x512x1) 0xFF800000#32
      reduces_S1x512x1_S1 (.inl rfl) rfl j
    refine lt_of_lt_of_eq ?_ e.symm
    refine (Finset.lt_fold_max _).mpr (Or.inr ⟨fun a => ⟨0, by revert a; decide⟩, Finset.mem_filter.mpr ⟨Finset.mem_univ _, funext fun a => ?_⟩, hl _⟩)
    apply Fin.ext
    have : ∀ (a : Fin S1.rank) (v : Fin (S1.size a)), v.val = 0 := by decide
    rw [this, this]
  exact key _

/-- Over finite sums every row is alive. -/
theorem alive_of_finite {l : FVec Ideal S512x1 .f32} {f : ℕ → ℕ → ℝ} (hl : Is2 l f) : alive l := by
  have h : (⊥ : EReal) < k0_pay6 (F := Ideal) l := bot_lt_max fun x => by rw [hl x]; exact EReal.bot_lt_coe _
  show BitVec.ofBool (decide ((Named.named κ "log_zero" 0xC2D00000#32 : Ideal .f32) < k0_pay6 (F := Ideal) l)) = 1#1
  rw [show (Named.named κ "log_zero" 0xC2D00000#32 : Ideal .f32) = (⊥ : EReal) from rfl, decide_eq_true h]
  rfl

variable {q k v : ℕ → ℕ → ℝ} {i : ℕ} {Q : Vec Ideal S512x128 .bf16} {K V : Vec Ideal S8192x128 .bf16} {M : Vec Ideal S256x256 .bf16}

/-- What the forward body reads at row block `i` of one head: the queries' block, both slabs, the mask of later columns. -/
structure FwdOps (q k v : ℕ → ℕ → ℝ) (i : ℕ) (Q : Vec Ideal S512x128 .bf16) (K V : Vec Ideal S8192x128 .bf16) (M : Vec Ideal S256x256 .bf16) : Prop where
  hq : Is2 (Q : S512x128.Idx → EReal) (fun x e => q (512 * i + x) e)
  hk : Is2 (K : S8192x128.Idx → EReal) k
  hv : Is2 (V : S8192x128.Idx → EReal) v
  gt : Is2 (M : S256x256.Idx → EReal) (fun s y => if y < s then 1 else 0)
  hi : i < 16

/-- The running sum when the tiles below `n` are left, -/
def fromTile (q k : ℕ → ℕ → ℝ) (i n x : ℕ) : ℝ := keepTo q k (512 * i + x) (256 * (2 * i + 2)) - keepTo q k (512 * i + x) (256 * n)
/-- and the accumulator. -/
def outFrom (q k v : ℕ → ℕ → ℝ) (i n x e : ℕ) : ℝ :=
  ∑ s ∈ range (256 * (2 * i + 2)), wt q k (512 * i + x) s * v s e - ∑ s ∈ range (256 * n), wt q k (512 * i + x) s * v s e

theorem fromTile_step (n x : ℕ) :
    fromTile q k i (n + 1) x + ∑ y ∈ range 256, lkT q k i n x y = fromTile q k i n x := by
  unfold fromTile
  rw [show keepTo q k (512 * i + x) (256 * (n + 1)) = keepTo q k (512 * i + x) (256 * n) + ∑ y ∈ range 256, lkT q k i n x y by
    rw [Nat.mul_add, Nat.mul_one]; exact sum_cut _ _ _]
  ring

theorem is2_down {P : FVec Ideal S512x1 .f32} {L : FVec Ideal S512x256 .f32} {n : ℕ}
    (hP : Is2 P (fun x _ => fromTile q k i (n + 1) x)) (hL : Is2 L (lkT q k i n)) :
    Is2 (addf P (shapeCast S512x1 (multiReduction .add [1] S512 L 0x00000000#32 reduces_S512x256_S512 (.inl rfl) rfl) shapeCasts_S512_S512x1))
      (fun x _ => fromTile q k i n x) :=
  (hP.add (is2_rowsum hL)).congr fun x _ y _ => fromTile_step n x

/-- The accumulator past the tile `n`. -/
theorem is2_gather {A : FVec Ideal S512x128 .f32} {E : FVec Ideal S512x256 .bf16} {X : FVec Ideal S256x128 .bf16} {n : ℕ}
    (hA : Is2 A (outFrom q k v i (n + 1))) (hE : Is2 E (wtT q k i n)) (hX : Is2 X (fun y e => v (256 * n + y) e)) :
    Is2 (addf A (matmul dot_S512x256_S256x128_S512x128_1_0_0_1_n_n none E X (constant S512x128 .f32 0x00000000#32))) (outFrom q k v i n) :=
  (hA.add (is2_nn hE hX)).congr fun x _ e _ => by
    unfold outFrom
    rw [Nat.mul_add 256 n 1, Nat.mul_one, sum_cut _ (256 * n) 256]
    unfold wtT
    ring

/-- A tile's exponents: the score, what the column keeps, the later columns of the tile, the later tiles. -/
theorem is2_exponent {Z L : FVec Ideal S512x256 .f32} {X : FVec Ideal S256x256 .bf16} {P : FVec Ideal S512x1 .f32} {n : ℕ}
    (hZ : Is2 Z (zT q k i n)) (hL : Is2 L (lkT q k i n)) (hX : Is2 X (fun s y => if y < s then 1 else 0))
    (hP : Is2 P (fun x _ => fromTile q k i (n + 1) x)) (h₁ h₂) :
    Is2 (exp (addf (addf (addf Z L)
        (addf (matmul dot_S512x256_S256x256_S512x256_1_0_0_1_n_n none (truncf .bf16 L h₁) X (constant S512x256 .f32 0x00000000#32))
          (matmul dot_S512x256_S256x256_S512x256_1_0_0_1_n_n none (truncf .bf16 (subf L (extf .f32 (truncf .bf16 L h₁) h₂)) h₁) X
            (constant S512x256 .f32 0x00000000#32))))
        (broadcastTo S512x256 P broadcasts_S512x1_S512x256)))
      (fun x y => Real.exp (zT q k i n x y + lkT q k i n x y
        + (keepTo q k (512 * i + x) (256 * (2 * i + 2)) - keepTo q k (512 * i + x) (256 * n + y + 1)))) :=
  (((hZ.add hL).add ((is2_nm (hL.trunc h₁) hX).add (is2_nm ((hL.sub ((hL.trunc h₁).ext h₂)).trunc h₁) hX))).add (is2_along hP)).exp.congr
    fun x _ y hy => by
      have e : ∑ s ∈ range 256, lkT q k i n x s * (if y < s then 1 else 0)
          = keepTo q k (512 * i + x) (256 * (n + 1)) - keepTo q k (512 * i + x) (256 * n + y + 1) := by
        rw [sum_later _ hy]
        unfold keepTo
        rw [Nat.mul_add 256 n 1, Nat.mul_one, sum_cut _ (256 * n) 256, add_assoc (256 * n) y 1, sum_cut _ (256 * n) (y + 1)]
        unfold lkT
        ring
      simp only [sub_self, zero_mul, sum_const_zero, add_zero, e]
      unfold fromTile
      congr 1; ring

/-- Below the diagonal the exponential is the weight. -/
theorem wt_of_later {n x y : ℕ} (hi : i < 16) (hx : x < 512) (h : 256 * n + y < 512 * i + x) :
    Real.exp (zT q k i n x y + lkT q k i n x y
        + (keepTo q k (512 * i + x) (256 * (2 * i + 2)) - keepTo q k (512 * i + x) (256 * n + y + 1))) = wtT q k i n x y := by
  unfold wtT wt zT lkT
  rw [if_pos h, keepTo_full q k (show 512 * i + x ≤ 256 * (2 * i + 2) by omega) (by omega)]

section

variable (h : FwdOps q k v i Q K V M)
include h

/-- The scores of a tile. -/
theorem fwd_z {n : ℕ} (hn : n < 32) : Is2 (k1_pay4 Q (rows K n)) (zT q k i n) := is2_score h.hq (is2_rows h.hk hn)

/-- The walk does every tile and ends with the whole sums. -/
theorem fwdGo_val :
    ∀ (n : ℕ) (_ : n ≤ 2 * i) (t : ℕ) (l : FVec Ideal S512x1 .f32) (a : FVec Ideal S512x128 .f32), Is2 l (fun x _ => fromTile q k i n x) →
      Is2 a (outFrom q k v i n) →
      (fwdGo Q M K V n t l a).1 = t + n ∧ Is2 (fwdGo Q M K V n t l a).2.1 (fun x _ => fromTile q k i 0 x)
        ∧ Is2 (fwdGo Q M K V n t l a).2.2 (outFrom q k v i 0)
  | 0, _, t, l, a, hl, ha => ⟨rfl, hl, ha⟩
  | n + 1, hn, t, l, a, hl, ha => by
    have hi := h.hi
    have hz := fwd_z h (n := n) (by omega)
    have hlk : Is2 (k0_pay8 Q (rows K n)) (lkT q k i n) :=
      (is2_logKeep hz (is2_expAbs hz)).congr fun x _ y _ => (lkT_low (by omega)).symm
    have hw := (is2_exponent hz hlk h.gt.cast_mask hl bitsLt_bf16_f32 bitsLt_bf16_f32).congr fun x hx y _ => wt_of_later h.hi hx (by omega)
    have ih := fwdGo_val n (by omega) (t + 1) (k0_pay10 Q l (rows K n)) (k0_pay9 Q (k0_pay11 M) l a (rows K n) (rows V n)) (is2_down hl hlk)
      (is2_gather ha (hw.trunc bitsLt_bf16_f32) (is2_rows h.hv (j := n) (by omega)))
    have e : fwdGo Q M K V (n + 1) t l a
        = fwdGo Q M K V n (t + 1) (k0_pay10 Q l (rows K n)) (k0_pay9 Q (k0_pay11 M) l a (rows K n) (rows V n)) := if_pos (alive_of_finite hl)
    rw [e]
    exact ⟨ih.1.trans (by omega), ih.2⟩

/-- The keep logarithms of the diagonal tiles. -/
theorem fwd_l1 : Is2 (k0_pay15 Q (rows K (2 * i + 1))) (lkT q k i (2 * i + 1)) := by
  have hi := h.hi
  have hz := fwd_z h (n := 2 * i + 1) (by omega)
  exact (is2_mask 256 (by omega) (is2_logKeep hz (is2_expAbs hz)) is2_zero).congr fun x _ y _ => by
    split
    · exact (lkT_low (by omega)).symm
    · exact (lkT_high (by omega)).symm
theorem fwd_l0 : Is2 (k0_pay1 (k0_pay22 Q (rows K (2 * i))) rowNo colNo 0#32) (lkT q k i (2 * i)) := by
  have hi := h.hi
  have hz := fwd_z h (n := 2 * i) (by omega)
  exact (is2_mask 0 (by omega) (is2_logKeep hz (is2_expAbs hz)) is2_zero).congr fun x _ y _ => by
    split
    · exact (lkT_low (by omega)).symm
    · exact (lkT_high (by omega)).symm

/-- Nothing is summed before the first diagonal tile, -/
theorem fwd_p2 : Is2 (k0_pay12 (F := Ideal)) (fun x _ => fromTile q k i (2 * i + 1 + 1) x) :=
  is2_zero.congr fun x _ y _ => by unfold fromTile; rw [sub_self]

/-- then one tile, -/
theorem fwdKeep1_val : Is2 (fwdKeep1 Q (rows K (2 * i + 1))) (fun x _ => fromTile q k i (2 * i + 1) x) :=
  is2_down (fwd_p2 h) (fwd_l1 h)
theorem fwdAcc1_val : Is2 (fwdAcc1 Q M (rows K (2 * i + 1)) (rows V (2 * i + 1))) (outFrom q k v i (2 * i + 1)) := by
  have hi := h.hi
  have hw := is2_mask 256 (by omega)
    (is2_exponent (fwd_z h (n := 2 * i + 1) (by omega)) (fwd_l1 h) h.gt.cast_mask (fwd_p2 h) bitsLt_bf16_f32 bitsLt_bf16_f32) is2_zero
  have ha : Is2 (k0_pay13 (F := Ideal)) (outFrom q k v i (2 * i + 1 + 1)) :=
    is2_zero.congr fun x _ y _ => by unfold outFrom; rw [sub_self]
  refine is2_gather ha ((hw.congr fun x hx y _ => ?_).trunc bitsLt_bf16_f32) (is2_rows h.hv (j := 2 * i + 1) (by omega))
  split
  · exact wt_of_later h.hi hx (by omega)
  · exact (wtT_high (by omega)).symm

/-- then both. -/
theorem fwdKeep0_val : Is2 (fwdKeep0 Q (rows K (2 * i)) (rows K (2 * i + 1))) (fun x _ => fromTile q k i (2 * i) x) :=
  is2_down (fwdKeep1_val h) (fwd_l0 h)
theorem fwdAcc0_val : Is2 (fwdAcc0 Q M (rows K (2 * i)) (rows V (2 * i)) (rows K (2 * i + 1)) (rows V (2 * i + 1))) (outFrom q k v i (2 * i)) := by
  have hi := h.hi
  have hw := is2_mask 0 (by omega)
    (is2_exponent (fwd_z h (n := 2 * i) (by omega)) (fwd_l0 h) h.gt.cast_mask (fwdKeep1_val h) bitsLt_bf16_f32 bitsLt_bf16_f32) is2_zero
  refine is2_gather (fwdAcc1_val h) ((hw.congr fun x hx y _ => ?_).trunc bitsLt_bf16_f32) (is2_rows h.hv (j := 2 * i) (by omega))
  split
  · exact wt_of_later h.hi hx (by omega)
  · exact (wtT_high (by omega)).symm

/-- The forward body's count and sums. -/
theorem fwdRes_val : (fwdRes i Q K V M).1 = 0 + 2 * i ∧ Is2 (fwdRes i Q K V M).2.1 (fun x _ => fromTile q k i 0 x)
    ∧ Is2 (fwdRes i Q K V M).2.2 (outFrom q k v i 0) :=
  fwdGo_val h (2 * i) le_rfl 0 _ _ (fwdKeep0_val h) (fwdAcc0_val h)

theorem fwdRes_cnt : (fwdRes i Q K V M).1 = 2 * i := (fwdRes_val h).1.trans (Nat.zero_add _)

theorem fwdTot_val : Is2 (fwdTot i Q K V M : S512x128.Idx → EReal) (fun x _ => keepTo q k (512 * i + x) 8192) := by
  have hi := h.hi
  have h' : Is2 (fwdRes i Q K V M).2.1 (fun x _ => keepTo q k (512 * i + x) 8192) := (fwdRes_val h).2.1.congr fun x hx y _ => by
    unfold fromTile
    rw [keepTo_full q k (by omega) (by omega)]
    simp [keepTo]
  intro y
  unfold fwdTot k0_pay4
  pointwise []
  rw [h' _]; rfl

/-- The block's outputs. -/
theorem fwdO_val : Is2 (fwdO i Q K V M : S512x128.Idx → EReal) (fun x e => outS q k v (512 * i + x) e) :=
  (fwdRes_val h).2.2.congr fun x hx e _ => by
    have hi := h.hi
    unfold outFrom outS
    rw [Nat.mul_zero, sum_range_zero, sub_zero]
    exact sum_past _ (fun s hs => by rw [wt_zero q k (by omega), zero_mul]) (by omega)

end

theorem col0_val {X : Vec Ideal S512x128 .f32} {f : ℕ → ℕ → ℝ} (hX : Is2 (X : S512x128.Idx → EReal) f) :
    Is2 (col0 X : S512x1.Idx → EReal) (fun x _ => f x 0) := by
  intro y
  have hy : (y 1).val < 1 := (y 1).isLt
  show X ((Rect.unit (s := S512x128) ![0, 0] S512x1.size inb_S512x128_S512x1_0_0).emb y) = _
  rw [hX _]
  have e0 : (((Rect.unit (s := S512x128) ![0, 0] S512x1.size inb_S512x128_S512x1_0_0).emb y) 0).val = (y 0).val := by
    show 0 + 1 * (y 0).val = _; omega
  have e1 : (((Rect.unit (s := S512x128) ![0, 0] S512x1.size inb_S512x128_S512x1_0_0).emb y) 1).val = 0 := by
    show 0 + 1 * (y 1).val = _; omega
  rw [e0, e1]

end Cert.Proof.Sb

end
-- ==== Proof.Value.Blocks.lean ====
/-
  The blocks of the two regions as the arguments' entries, and the two triangular masks.
-/
module

public import proofs.«01_k».proof.Proof.Value.FwdVal
public import proofs.«01_k».proof.Proof.Between
public import Idealize.ShloMosaic.Lib.Pipeline.ValueKit.Geometry

@[expose] public section

set_option maxRecDepth 16384

noncomputable section

namespace Cert.Proof.Sb

open Cert.KernelIdeal Cert.KernelIdeal.Gen Cert.Proof
open Idealize.ShloMosaic Idealize.ShloMosaic.TcCoe Finset

variable (W : Valuation τ sig (Elt Ideal)) {f : ℕ → ℕ → ℝ}

/-! ## The operands' blocks -/

theorem ix0_0 : ∀ t : Fin grid0.N, win0_0.index t = ![t.val % 16, t.val / 16] := by decide +kernel
theorem blk0_0_val (t : Fin (cfg0 (F := Ideal)).N) (h : Is2 (W (Proc.devRef .tc main_arg0) : S8192x512.Idx → EReal) f) :
    Is2 (blk0 W 0 t : S512x128.Idx → EReal) (fun x e => f (512 * (t.val % 16) + x) (128 * (t.val / 16) + e)) := by
  intro x
  refine Eq.trans (h ((win0_0.blk t).view.emb x)) ?_
  blk_simp [ix0_0]
  rw [Nat.mul_comm (t.val % 16) 512, Nat.mul_comm (t.val / 16) 128]
theorem ix0_1 : ∀ t : Fin grid0.N, win0_1.index t = ![0, t.val / 16] := by decide +kernel
theorem blk0_1_val (t : Fin (cfg0 (F := Ideal)).N) (h : Is2 (W (Proc.devRef .tc main_arg1) : S8192x512.Idx → EReal) f) :
    Is2 (blk0 W 1 t : S8192x128.Idx → EReal) (fun x e => f x (128 * (t.val / 16) + e)) := by
  intro x
  refine Eq.trans (h ((win0_1.blk t).view.emb x)) ?_
  blk_simp [ix0_1]
  rw [Nat.mul_comm (t.val / 16) 128]
theorem ix0_2 : ∀ t : Fin grid0.N, win0_2.index t = ![0, t.val / 16] := by decide +kernel
theorem blk0_2_val (t : Fin (cfg0 (F := Ideal)).N) (h : Is2 (W (Proc.devRef .tc main_arg2) : S8192x512.Idx → EReal) f) :
    Is2 (blk0 W 2 t : S8192x128.Idx → EReal) (fun x e => f x (128 * (t.val / 16) + e)) := by
  intro x
  refine Eq.trans (h ((win0_2.blk t).view.emb x)) ?_
  blk_simp [ix0_2]
  rw [Nat.mul_comm (t.val / 16) 128]
theorem ix1_0 : ∀ t : Fin grid1.N, win1_0.index t = ![t.val % 16, t.val / 16] := by decide +kernel
theorem blk1_0_val (t : Fin (cfg1 (F := Ideal)).N) (h : Is2 (W (Proc.devRef .tc main_arg0) : S8192x512.Idx → EReal) f) :
    Is2 (blk1 W 0 t : S512x128.Idx → EReal) (fun x e => f (512 * (t.val % 16) + x) (128 * (t.val / 16) + e)) := by
  intro x
  refine Eq.trans (h ((win1_0.blk t).view.emb x)) ?_
  blk_simp [ix1_0]
  rw [Nat.mul_comm (t.val % 16) 512, Nat.mul_comm (t.val / 16) 128]
theorem ix1_1 : ∀ t : Fin grid1.N, win1_1.index t = ![0, t.val / 16] := by decide +kernel
theorem blk1_1_val (t : Fin (cfg1 (F := Ideal)).N) (h : Is2 (W (Proc.devRef .tc main_arg1) : S8192x512.Idx → EReal) f) :
    Is2 (blk1 W 1 t : S8192x128.Idx → EReal) (fun x e => f x (128 * (t.val / 16) + e)) := by
  intro x
  refine Eq.trans (h ((win1_1.blk t).view.emb x)) ?_
  blk_simp [ix1_1]
  rw [Nat.mul_comm (t.val / 16) 128]
theorem ix1_2 : ∀ t : Fin grid1.N, win1_2.index t = ![0, t.val / 16] := by decide +kernel
theorem blk1_2_val (t : Fin (cfg1 (F := Ideal)).N) (h : Is2 (W (Proc.devRef .tc main_arg2) : S8192x512.Idx → EReal) f) :
    Is2 (blk1 W 2 t : S8192x128.Idx → EReal) (fun x e => f x (128 * (t.val / 16) + e)) := by
  intro x
  refine Eq.trans (h ((win1_2.blk t).view.emb x)) ?_
  blk_simp [ix1_2]
  rw [Nat.mul_comm (t.val / 16) 128]
theorem ix1_5 : ∀ t : Fin grid1.N, win1_5.index t = ![t.val % 16, t.val / 16] := by decide +kernel
theorem blk1_5_val (t : Fin (cfg1 (F := Ideal)).N) (h : Is2 (W (Proc.devRef .tc main_arg3) : S8192x512.Idx → EReal) f) :
    Is2 (blk1 W 5 t : S512x128.Idx → EReal) (fun x e => f (512 * (t.val % 16) + x) (128 * (t.val / 16) + e)) := by
  intro x
  refine Eq.trans (h ((win1_5.blk t).view.emb x)) ?_
  blk_simp [ix1_5]
  rw [Nat.mul_comm (t.val % 16) 512, Nat.mul_comm (t.val / 16) 128]

/-! ## The masks -/

theorem mask_le (x y : ℕ) (hx : x < 8192) (hy : y < 8192) :
    IntOp.cmpi .sle (BitVec.ofNat 32 x) (BitVec.ofNat 32 y) = BitVec.ofBool (decide (x ≤ y)) := by
  show BitVec.ofBool ((BitVec.ofNat 32 x).sle (BitVec.ofNat 32 y)) = _
  congr 1
  rw [BitVec.sle_eq_decide, BitVec.toInt_ofNat', BitVec.toInt_ofNat', decide_eq_decide, Int.bmod_def, Int.bmod_def]
  omega
theorem mask_lt (x y : ℕ) (hx : x < 8192) (hy : y < 8192) :
    IntOp.cmpi .slt (BitVec.ofNat 32 x) (BitVec.ofNat 32 y) = BitVec.ofBool (decide (x < y)) := by
  show BitVec.ofBool ((BitVec.ofNat 32 x).slt (BitVec.ofNat 32 y)) = _
  congr 1
  rw [BitVec.slt_eq_decide, BitVec.toInt_ofNat', BitVec.toInt_ofNat', decide_eq_decide, Int.bmod_def, Int.bmod_def]
  omega

/-- A bit as a number. -/
theorem bit_num (p : Prop) [Decidable p] : (FloatOps.uitofp .bf16 (BitVec.ofBool (decide p)) : Ideal .bf16) = (((if p then 1 else 0 : ℝ)) : EReal) := by
  show (((BitVec.ofBool (decide p)).toNat : ℝ) : EReal) = _
  by_cases h : p
  · rw [decide_eq_true h, if_pos h]; simp
  · rw [decide_eq_false h, if_neg h]; simp

theorem mle_after (X : Valuation τ sig (Elt Ideal)) : (StableHlo.after hostOps1 X (Proc.devRef .tc main_v8) : S256x256.Idx → EReal)
    = uitofp (F := Ideal) .bf16 (cmpi .sle (iotaInDim S256x256 32 0) (iotaInDim S256x256 32 1)) := by
  after_results
theorem mlt_after (X : Valuation τ sig (Elt Ideal)) : (StableHlo.after hostOps1 X (Proc.devRef .tc main_v12) : S256x256.Idx → EReal)
    = uitofp (F := Ideal) .bf16 (cmpi .slt (iotaInDim S256x256 32 0) (iotaInDim S256x256 32 1)) := by
  after_results

theorem mle_val (X : Valuation τ sig (Elt Ideal)) :
    Is2 (StableHlo.after hostOps1 X (Proc.devRef .tc main_v8) : S256x256.Idx → EReal) (fun s y => if s ≤ y then 1 else 0) := by
  intro i
  rw [mle_after]
  show (FloatOps.uitofp .bf16 (IntOp.cmpi .sle (BitVec.ofNat 32 (i 0).val) (BitVec.ofNat 32 (i 1).val)) : Ideal .bf16) = _
  rw [mask_le _ _ (lt_trans (i 0).isLt (by decide)) (lt_trans (i 1).isLt (by decide)), bit_num]
theorem mlt_val (X : Valuation τ sig (Elt Ideal)) :
    Is2 (StableHlo.after hostOps1 X (Proc.devRef .tc main_v12) : S256x256.Idx → EReal) (fun s y => if s < y then 1 else 0) := by
  intro i
  rw [mlt_after]
  show (FloatOps.uitofp .bf16 (IntOp.cmpi .slt (BitVec.ofNat 32 (i 0).val) (BitVec.ofNat 32 (i 1).val)) : Ideal .bf16) = _
  rw [mask_lt _ _ (lt_trans (i 0).isLt (by decide)) (lt_trans (i 1).isLt (by decide)), bit_num]

theorem mgt_after (X : Valuation τ sig (Elt Ideal)) : (StableHlo.after hostOps0 X (Proc.devRef .tc main_v3) : S256x256.Idx → EReal)
    = uitofp (F := Ideal) .bf16 (cmpi .sgt (iotaInDim S256x256 32 0) (iotaInDim S256x256 32 1)) := by
  after_results
theorem mgt_val (X : Valuation τ sig (Elt Ideal)) :
    Is2 (StableHlo.after hostOps0 X (Proc.devRef .tc main_v3) : S256x256.Idx → EReal) (fun s y => if y < s then 1 else 0) := by
  intro i
  rw [mgt_after]
  show (FloatOps.uitofp .bf16 (IntOp.cmpi .slt (BitVec.ofNat 32 (i 1).val) (BitVec.ofNat 32 (i 0).val)) : Ideal .bf16) = _
  rw [mask_lt _ _ (lt_trans (i 1).isLt (by decide)) (lt_trans (i 0).isLt (by decide))]
  exact bit_num ((i 1).val < (i 0).val)

theorem ix0_3 : ∀ t : Fin grid0.N, win0_3.index t = ![0, 0] := by decide +kernel
theorem blk0_3_val (t : Fin (cfg0 (F := Ideal)).N) (h : Is2 (W (Proc.devRef .tc main_v3) : S256x256.Idx → EReal) f) :
    Is2 (blk0 W 3 t : S256x256.Idx → EReal) f := by
  intro x
  refine Eq.trans (h ((win0_3.blk t).view.emb x)) ?_
  blk_simp [ix0_3]
theorem ix1_6 : ∀ t : Fin grid1.N, win1_6.index t = ![0, 0] := by decide +kernel
theorem blk1_6_val (t : Fin (cfg1 (F := Ideal)).N) (h : Is2 (W (Proc.devRef .tc main_v8) : S256x256.Idx → EReal) f) :
    Is2 (blk1 W 6 t : S256x256.Idx → EReal) f := by
  intro x
  refine Eq.trans (h ((win1_6.blk t).view.emb x)) ?_
  blk_simp [ix1_6]
theorem ix1_7 : ∀ t : Fin grid1.N, win1_7.index t = ![0, 0] := by decide +kernel
theorem blk1_7_val (t : Fin (cfg1 (F := Ideal)).N) (h : Is2 (W (Proc.devRef .tc main_v12) : S256x256.Idx → EReal) f) :
    Is2 (blk1 W 7 t : S256x256.Idx → EReal) f := by
  intro x
  refine Eq.trans (h ((win1_7.blk t).view.emb x)) ?_
  blk_simp [ix1_7]

end Cert.Proof.Sb

end
-- ==== Proof.Value.Heads.lean ====
/-
  The four heads of an array, side by side in its columns.
-/
module

public import proofs.«01_k».proof.Proof.Value.Real

@[expose] public section

noncomputable section

namespace Cert.Proof.Sb

/-- Head `h` of an array whose columns hold the four heads side by side. -/
def hd (f : ℕ → ℕ → ℝ) (h : ℕ) : ℕ → ℕ → ℝ := fun t e => f t (128 * h + e)

/-- The gradients over all four heads: `f` of a column's head, at its place in the head. -/
def byHead (f : ℕ → ℕ → ℕ → ℝ) : ℕ → ℕ → ℝ := fun t n => f (n / 128) t (n % 128)

theorem byHead_at (f : ℕ → ℕ → ℕ → ℝ) (t h e : ℕ) (he : e < 128) : byHead f t (h * 128 + e) = f h t e := by
  unfold byHead
  rw [show (h * 128 + e) / 128 = h by omega, show (h * 128 + e) % 128 = e by omega]

end Cert.Proof.Sb

end
-- ==== Proof.Value.Arrays.lean ====
/-
  What the run leaves in the four results, of real arguments: the three gradients and the output, head by head.
-/
module

public import proofs.«01_k».proof.Proof.Value.Blocks
public import proofs.«01_k».proof.Proof.Value.Heads
public import proofs.«01_k».proof.Proof.Count

@[expose] public section

set_option maxRecDepth 16384

noncomputable section

namespace Cert.Proof.Sb

open Cert.KernelIdeal Cert.KernelIdeal.Gen Cert.Proof
open Idealize.ShloMosaic Idealize.ShloMosaic.TcCoe Finset
open Idealize.ShloMosaic.Pipeline (Dat Cfg Window)

/-- The four arguments hold real numbers. -/
structure Args (m : (ℓ : Loc nD τ sig) → Buf (Elt Ideal) ℓ) (c : Dev nD) (fq fk fv fd : ℕ → ℕ → ℝ) : Prop where
  q : Is2 (m ((c : Thread nD τ).loc main_arg0) : S8192x512.Idx → EReal) fq
  k : Is2 (m ((c : Thread nD τ).loc main_arg1) : S8192x512.Idx → EReal) fk
  v : Is2 (m ((c : Thread nD τ).loc main_arg2) : S8192x512.Idx → EReal) fv
  d : Is2 (m ((c : Thread nD τ).loc main_arg3) : S8192x512.Idx → EReal) fd

variable {m : (ℓ : Loc nD τ sig) → Buf (Elt Ideal) ℓ} {c : Dev nD} {fq fk fv fd : ℕ → ℕ → ℝ}

theorem coords0 : ∀ t : Fin grid0.N, (grid0.coords t 1).val = t.val % 16 := by decide +kernel

theorem w1_q (h : Args m c fq fk fv fd) : Is2 (W1 m c (Proc.devRef .tc main_arg0) : S8192x512.Idx → EReal) fq := fun i =>
  (congrFun (W1_of m c main_arg0 (by decide)) i).trans (h.q i)
theorem w1_k (h : Args m c fq fk fv fd) : Is2 (W1 m c (Proc.devRef .tc main_arg1) : S8192x512.Idx → EReal) fk := fun i =>
  (congrFun (W1_of m c main_arg1 (by decide)) i).trans (h.k i)
theorem w1_v (h : Args m c fq fk fv fd) : Is2 (W1 m c (Proc.devRef .tc main_arg2) : S8192x512.Idx → EReal) fv := fun i =>
  (congrFun (W1_of m c main_arg2 (by decide)) i).trans (h.v i)
theorem w3_q (h : Args m c fq fk fv fd) : Is2 (W3 m c (Proc.devRef .tc main_arg0) : S8192x512.Idx → EReal) fq := fun i =>
  (congrFun (W3_arg m c main_arg0 (by decide) (by decide) (by decide)) i).trans (h.q i)
theorem w3_k (h : Args m c fq fk fv fd) : Is2 (W3 m c (Proc.devRef .tc main_arg1) : S8192x512.Idx → EReal) fk := fun i =>
  (congrFun (W3_arg m c main_arg1 (by decide) (by decide) (by decide)) i).trans (h.k i)
theorem w3_v (h : Args m c fq fk fv fd) : Is2 (W3 m c (Proc.devRef .tc main_arg2) : S8192x512.Idx → EReal) fv := fun i =>
  (congrFun (W3_arg m c main_arg2 (by decide) (by decide) (by decide)) i).trans (h.v i)
theorem w3_d (h : Args m c fq fk fv fd) : Is2 (W3 m c (Proc.devRef .tc main_arg3) : S8192x512.Idx → EReal) fd := fun i =>
  (congrFun (W3_arg m c main_arg3 (by decide) (by decide) (by decide)) i).trans (h.d i)

/-- The operands of the forward region's point `t`. -/
theorem fwd_ops (h : Args m c fq fk fv fd) (t : Fin (cfg0 (F := Ideal)).N) :
    FwdOps (hd fq (t.val / 16)) (hd fk (t.val / 16)) (hd fv (t.val / 16)) (t.val % 16)
      (blk0 (W1 m c) 0 t) (blk0 (W1 m c) 1 t) (blk0 (W1 m c) 2 t) (blk0 (W1 m c) 3 t) where
  hq := blk0_0_val _ t (w1_q h)
  hk := blk0_1_val _ t (w1_k h)
  hv := blk0_2_val _ t (w1_v h)
  gt := blk0_3_val _ t (mgt_val _)
  hi := Nat.mod_lt _ (by omega)

/-- The forward region's row sums at point `t`. -/
theorem tot_val (h : Args m c fq fk fv fd) (t : Fin (cfg1 (F := Ideal)).N) :
    Is2 (col0 (blk1 (W3 m c) 3 t) : S512x1.Idx → EReal) (fun x _ => keepTo (hd fq (t.val / 16)) (hd fk (t.val / 16)) (512 * (t.val % 16) + x) 8192) := by
  rw [blk1_tot]
  unfold tot0
  rw [coords0 t]
  exact col0_val (fwdTot_val (fwd_ops h t))

/-- The forward region counts every tile left of the diagonal. -/
theorem cnt_val (h : Args m c fq fk fv fd) (t : Fin (cfg1 (F := Ideal)).N) : cntN (W3 m c) t = 2 * (t.val % 16) := by
  unfold cntN
  rw [blk1_cnt]
  unfold cnt0 fwdCnt
  rw [coords0 t, fwdRes_cnt (fwd_ops h t),
    countExact_ideal _ (by omega), BitVec.toNat_ofNat]
  omega

/-- The operands of the backward region's point `t`. -/
theorem ops (h : Args m c fq fk fv fd) (t : Fin (cfg1 (F := Ideal)).N) :
    Ops (hd fq (t.val / 16)) (hd fk (t.val / 16)) (hd fv (t.val / 16)) (hd fd (t.val / 16)) (t.val % 16)
      (blk1 (W3 m c) 0 t) (blk1 (W3 m c) 5 t) (blk1 (W3 m c) 1 t) (blk1 (W3 m c) 2 t) (blk1 (W3 m c) 6 t) (blk1 (W3 m c) 7 t)
      (col0 (blk1 (W3 m c) 3 t)) where
  hq := blk1_0_val _ t (w3_q h)
  hd := blk1_5_val _ t (w3_d h)
  hk := blk1_1_val _ t (w3_k h)
  hv := blk1_2_val _ t (w3_v h)
  le := blk1_6_val _ t (mle_val _)
  lt := blk1_7_val _ t (mlt_val _)
  tot := tot_val h t

/-- What the backward region's point `t` leaves. -/
abbrev DoneAt (m : (ℓ : Loc nD τ sig) → Buf (Elt Ideal) ℓ) (c : Dev nD) (fq fk fv fd : ℕ → ℕ → ℝ) (t : Fin (cfg1 (F := Ideal)).N) : Prop :=
  Done (hd fq (t.val / 16)) (hd fk (t.val / 16)) (hd fv (t.val / 16)) (hd fd (t.val / 16)) (t.val % 16) (left1 (W3 m c) t)

theorem done_at (h : Args m c fq fk fv fd) : ∀ (n : ℕ) (t : Fin (cfg1 (F := Ideal)).N), t.val = n → DoneAt m c fq fk fv fd t
  | n, t, hn => by
    have key : ∀ dk dv : Vec Ideal S8192x128 .f32,
        (t.val % 16 ≠ 0 → Is2 (dk : S8192x128.Idx → EReal) (dkTo (hd fq (t.val / 16)) (hd fk (t.val / 16)) (hd fv (t.val / 16)) (hd fd (t.val / 16)) (512 * (t.val % 16)))) →
        (t.val % 16 ≠ 0 → Is2 (dv : S8192x128.Idx → EReal) (dvTo (hd fq (t.val / 16)) (hd fk (t.val / 16)) (hd fd (t.val / 16)) (512 * (t.val % 16)))) →
        Done (hd fq (t.val / 16)) (hd fk (t.val / 16)) (hd fv (t.val / 16)) (hd fd (t.val / 16)) (t.val % 16) (res1 (W3 m c) t dk dv) := by
      intro dk dv hk hv
      unfold res1
      rw [coords1 t, cnt_val h t]
      exact done_res (ops h t) (Nat.mod_lt _ (by omega)) hk hv
    match n, hn with
    | 0, hn => exact key _ _ (fun h0 => absurd (by rw [hn]) h0) (fun h0 => absurd (by rw [hn]) h0)
    | n + 1, hn =>
      have hN : n < (cfg1 (F := Ideal)).N := by have := t.isLt; omega
      have prev := done_at h n ⟨n, hN⟩ rfl
      have hs : slabs (W3 m c) t.val = ((left1 (W3 m c) ⟨n, hN⟩).dk, (left1 (W3 m c) ⟨n, hN⟩).dv) := by
        rw [hn]; exact slabs_succ (W3 m c) ⟨n, hN⟩
      have e : t.val % 16 ≠ 0 → t.val / 16 = n / 16 ∧ t.val % 16 = n % 16 + 1 := fun h0 => by omega
      refine key _ _ (fun h0 => ?_) (fun h0 => ?_)
      · rw [hs, (e h0).1, (e h0).2]; exact prev.dk
      · rw [hs, (e h0).1, (e h0).2]; exact prev.dv

/-! ## The four results -/

/-- The backward region keeps the forward region's output. -/
theorem W4_out (c : Dev nD) : W4 m c (Proc.devRef .tc main_v4_0) = (dat0 (W1 m c) c).arrAt 4 (cfg0 (F := Ideal)).N :=
  (W4_of m c main_v4_0 (by decide)).trans ((W3_of m c main_v4_0 (by decide)).trans
    (Pipeline.afterRegion_arr (dat0 (W1 m c) c) (W1 m c) inj0 (4 : Fin 7)))

theorem ix0_4 : ∀ t : Fin grid0.N, win0_4.index t = ![t.val % 16, t.val / 16] := by decide +kernel

theorem o_val (h : Args m c fq fk fv fd) :
    Is2 (W4 m c (Proc.devRef .tc main_v4_0) : S8192x512.Idx → EReal) (byHead fun n => outS (hd fq n) (hd fk n) (hd fv n)) := by
  intro i
  refine (congrFun (W4_out c) i).trans ?_
  refine congrFun ((dat0 (W1 m c) c).arrAt_eq_of_covers 4 (fun i => (((byHead fun n => outS (hd fq n) (hd fk n) (hd fv n)) (i 0).val (i 1).val : ℝ) : EReal))
    (by decide +kernel) fun t hf y => ?_) i
  blk_simp
  rw [after0_4]
  unfold out0
  rw [coords0 t]
  refine (fwdO_val (fwd_ops h t) y).trans ?_
  blk_simp [ix0_4]
  rw [byHead_at _ _ _ _ (y 1).isLt, Nat.mul_comm (t.val % 16) 512]

theorem ix1_8 : ∀ t : Fin grid1.N, win1_8.index t = ![t.val % 16, t.val / 16] := by decide +kernel
theorem ix1_9 : ∀ t : Fin grid1.N, win1_9.index t = ![0, t.val / 16] := by decide +kernel
theorem ix1_10 : ∀ t : Fin grid1.N, win1_10.index t = ![0, t.val / 16] := by decide +kernel

theorem dq_val (h : Args m c fq fk fv fd) :
    Is2 (W4 m c (Proc.devRef .tc main_v13_0) : S8192x512.Idx → EReal) (byHead fun n => dqS (hd fq n) (hd fk n) (hd fv n) (hd fd n)) := by
  intro i
  refine (congrFun (Pipeline.afterRegion_arr (dat1 (W3 m c) c) (W3 m c) inj1 (8 : Fin 11)) i).trans ?_
  refine congrFun ((dat1 (W3 m c) c).arrAt_eq_of_covers 8 (fun i => (((byHead fun n => dqS (hd fq n) (hd fk n) (hd fv n) (hd fd n)) (i 0).val (i 1).val : ℝ) : EReal))
    (by decide +kernel) fun t hf y => ?_) i
  blk_simp
  rw [after1_8]
  refine ((done_at h t.val t rfl).dq y).trans ?_
  blk_simp [ix1_8]
  rw [byHead_at _ _ _ _ (y 1).isLt, Nat.mul_comm (t.val % 16) 512]

theorem dk_val (h : Args m c fq fk fv fd) :
    Is2 (W4 m c (Proc.devRef .tc main_v13_1) : S8192x512.Idx → EReal) (byHead fun n => dkS (hd fq n) (hd fk n) (hd fv n) (hd fd n)) := by
  intro i
  refine (congrFun (Pipeline.afterRegion_arr (dat1 (W3 m c) c) (W3 m c) inj1 (9 : Fin 11)) i).trans ?_
  refine congrFun ((dat1 (W3 m c) c).arrAt_eq_of_covers 9 (fun i => (((byHead fun n => dkS (hd fq n) (hd fk n) (hd fv n) (hd fd n)) (i 0).val (i 1).val : ℝ) : EReal))
    (by decide +kernel) fun t hf y => ?_) i
  have h15 : t.val % 16 = 15 := (flush1_9 (F := Ideal) t).mp hf
  blk_simp
  rw [after1_9]
  refine ((done_at h t.val t rfl).dk y).trans ?_
  blk_simp [ix1_9]
  rw [byHead_at _ _ _ _ (y 1).isLt, h15]
  rfl

theorem dv_val (h : Args m c fq fk fv fd) :
    Is2 (W4 m c (Proc.devRef .tc main_v13_2) : S8192x512.Idx → EReal) (byHead fun n => dvS (hd fq n) (hd fk n) (hd fd n)) := by
  intro i
  refine (congrFun (Pipeline.afterRegion_arr (dat1 (W3 m c) c) (W3 m c) inj1 (10 : Fin 11)) i).trans ?_
  refine congrFun ((dat1 (W3 m c) c).arrAt_eq_of_covers 10 (fun i => (((byHead fun n => dvS (hd fq n) (hd fk n) (hd fd n)) (i 0).val (i 1).val : ℝ) : EReal))
    (by decide +kernel) fun t hf y => ?_) i
  have h15 : t.val % 16 = 15 := (flush1_10 (F := Ideal) t).mp hf
  blk_simp
  rw [after1_10]
  refine ((done_at h t.val t rfl).dv y).trans ?_
  blk_simp [ix1_10]
  rw [byHead_at _ _ _ _ (y 1).isLt, h15]
  rfl

end Cert.Proof.Sb

end
-- ==== Proof.Value.RefWeights.lean ====
/-
  The reference's forward lines at an index, of real arguments: scores, what a position keeps, weights.
-/
module

public import proofs.«01_k».proof.Proof.Value.Host
public import proofs.«01_k».proof.Proof.Value.Heads
public import proofs.«01_k».proof.Proof.Value.Blocks
public import proofs.«01_k».proof.Proof.Gen.ReferenceIdeal.Read

@[expose] public section

set_option maxRecDepth 16384

noncomputable section

namespace Cert.Proof.Sb

open Cert.ReferenceIdeal Cert.ReferenceIdeal.Read Idealize.ShloMosaic Finset

/-- An array over three axes holds the real numbers `f`. -/
def Is3 {a b c : ℕ} (X : (⟨3, ![a, b, c]⟩ : Shape).Idx → EReal) (f : ℕ → ℕ → ℕ → ℝ) : Prop :=
  ∀ i, X i = ((f (i 0).val (i 1).val (i 2).val : ℝ) : EReal)

theorem Is3.congr {a b c : ℕ} {X : (⟨3, ![a, b, c]⟩ : Shape).Idx → EReal} {f g : ℕ → ℕ → ℕ → ℝ} (hX : Is3 X f)
    (h : ∀ x < a, ∀ y < b, ∀ w < c, f x y w = g x y w) : Is3 X g := fun i => by
  rw [hX i, h _ (i 0).isLt _ (i 1).isLt _ (i 2).isLt]

abbrev Arr := (⟨S8192x512, .bf16⟩ : BufTy).Contents (Elt Ideal)
variable {A0 A1 A2 A3 : Arr} {fq fk fv fd : ℕ → ℕ → ℝ}

theorem split_row (t h e : ℕ) (hh : h < 4) (he : e < 128) : ((t * 4 + h) * 128 + e) / 512 = t ∧ ((t * 4 + h) * 128 + e) % 512 = 128 * h + e := by omega

/-! ## The heads -/

theorem ref_q (hq : Is2 (A0 : S8192x512.Idx → EReal) fq) : Is3 (val_main_v4 (F := Ideal) A0 : S8192x4x128.Idx → EReal) (fun t h e => hd fq h t e) := by
  intro i
  rw [val_main_v4_apply, val_main_v0_apply]
  refine (hq (idx_main_v4 i)).trans ?_
  show ((fq ((((i 0).val * 4 + (i 1).val) * 128 + (i 2).val) / 512) ((((i 0).val * 4 + (i 1).val) * 128 + (i 2).val) % 512) : ℝ) : EReal) = _
  rw [(split_row _ _ _ (i 1).isLt (i 2).isLt).1, (split_row _ _ _ (i 1).isLt (i 2).isLt).2]; rfl
theorem ref_k (hk : Is2 (A1 : S8192x512.Idx → EReal) fk) : Is3 (val_main_v5 (F := Ideal) A1 : S8192x4x128.Idx → EReal) (fun t h e => hd fk h t e) := by
  intro i
  rw [val_main_v5_apply, val_main_v1_apply]
  refine (hk (idx_main_v5 i)).trans ?_
  show ((fk ((((i 0).val * 4 + (i 1).val) * 128 + (i 2).val) / 512) ((((i 0).val * 4 + (i 1).val) * 128 + (i 2).val) % 512) : ℝ) : EReal) = _
  rw [(split_row _ _ _ (i 1).isLt (i 2).isLt).1, (split_row _ _ _ (i 1).isLt (i 2).isLt).2]; rfl
theorem ref_v (hv : Is2 (A2 : S8192x512.Idx → EReal) fv) : Is3 (val_main_v6 (F := Ideal) A2 : S8192x4x128.Idx → EReal) (fun t h e => hd fv h t e) := by
  intro i
  rw [val_main_v6_apply, val_main_v2_apply]
  refine (hv (idx_main_v6 i)).trans ?_
  show ((fv ((((i 0).val * 4 + (i 1).val) * 128 + (i 2).val) / 512) ((((i 0).val * 4 + (i 1).val) * 128 + (i 2).val) % 512) : ℝ) : EReal) = _
  rw [(split_row _ _ _ (i 1).isLt (i 2).isLt).1, (split_row _ _ _ (i 1).isLt (i 2).isLt).2]; rfl
theorem ref_d (hd' : Is2 (A3 : S8192x512.Idx → EReal) fd) : Is3 (val_main_v27 (F := Ideal) A3 : S4x128x8192.Idx → EReal) (fun h e t => hd fd h t e) := by
  intro i
  rw [val_main_v27_apply, val_main_v26_apply, val_main_v3_apply]
  refine (hd' (idx_main_v26 (idx_main_v27 i))).trans ?_
  show ((fd ((((i 2).val * 4 + (i 0).val) * 128 + (i 1).val) / 512) ((((i 2).val * 4 + (i 0).val) * 128 + (i 1).val) % 512) : ℝ) : EReal) = _
  rw [(split_row _ _ _ (i 0).isLt (i 1).isLt).1, (split_row _ _ _ (i 0).isLt (i 1).isLt).2]; rfl

/-! ## The masks -/

/-- Later positions in a row's block of the mask product. -/
theorem ref_later : Is2 (val_main_v11 (F := Ideal) : S8192x8192.Idx → EReal) (fun x y => if y < x then 1 else 0) := by
  intro i
  rw [val_main_v11_apply, val_main_v10_apply, val_main_v7_apply, val_main_v8_apply]
  show (FloatOps.uitofp (F := Ideal) .f32 (IntOp.cmpi .slt (BitVec.ofNat 32 (i 1).val) (BitVec.ofNat 32 (i 0).val)) : EReal) = _
  rw [mask_lt _ _ (i 1).isLt (i 0).isLt]
  exact bit_num ((i 1).val < (i 0).val)

theorem ref_strict (i : S4x8192x8192.Idx) : val_main_v17_1 (F := Ideal) i = BitVec.ofBool (decide ((i 2).val < (i 1).val)) := by
  rw [val_main_v17_1_apply, val_main_v9_apply, val_main_v7_apply, val_main_v8_apply]
  exact mask_lt _ _ (i 2).isLt (i 1).isLt
theorem ref_strict' (i : S4x8192x8192.Idx) : val_main_v21_1 (F := Ideal) i = BitVec.ofBool (decide ((i 2).val < (i 1).val)) := by
  rw [val_main_v21_1_apply, val_main_v9_apply, val_main_v7_apply, val_main_v8_apply]
  exact mask_lt _ _ (i 2).isLt (i 1).isLt

/-! ## Scores and weights -/

section Weights

variable (hq : Is2 (A0 : S8192x512.Idx → EReal) fq) (hk : Is2 (A1 : S8192x512.Idx → EReal) fk)
include hq hk

theorem ref_z : Is3 (val_main_v14 (F := Ideal) A0 A1 : S4x8192x8192.Idx → EReal) (fun h t s => z (hd fq h) (hd fk h) t s) := by
  intro i
  rw [val_main_v14_apply, val_main_v13_apply, val_main_cst_apply, val_main_v12_apply, ofBits_scale]
  rw [Finset.sum_congr rfl fun k _ => by rw [ref_q hq (lidx_main_v12 i k), ref_k hk (ridx_main_v12 i k)]]
  have e := coe_sum_mul (N := 128) (fun e => hd fq (i 0).val (i 1).val e) (fun e => hd fk (i 0).val (i 2).val e)
  refine Eq.trans (congrArg (fun x : EReal => x * ((scale : ℝ) : EReal)) e) ?_
  exact (EReal.coe_mul _ _).symm

theorem ref_sp : Is3 (val_main_v15_0 (F := Ideal) A0 A1 : S4x8192x8192.Idx → EReal) (fun h t s => sp (z (hd fq h) (hd fk h) t s)) := by
  intro i
  rw [val_main_v15_0_apply, val_main_call0_v4_apply, select_une, val_main_call0_v11_apply, val_main_call0_v1_apply, val_main_call0_v10_apply,
    val_main_call0_v9_apply, val_main_call0_v8_apply, val_main_call0_v7_apply, val_main_call0_v3_apply, val_main_call0_v0_apply,
    val_main_call0_v2_apply, val_main_call0_cst_apply, ref_z hq hk i, ofBits_zero, max_coe, sub_coe, host_abs, host_neg, host_exp,
    host_log1p (one_add_exp_pos _), add_coe, sub_zero]
  rfl

theorem ref_sg : Is3 (val_main_v15_1 (F := Ideal) A0 A1 : S4x8192x8192.Idx → EReal) (fun h t s => sg (z (hd fq h) (hd fk h) t s)) := by
  intro i
  rw [val_main_v15_1_apply, val_main_call0_v21_apply, val_main_call0_v16_apply, val_main_call0_v20_apply, val_main_call0_v14_apply,
    val_main_call0_v18_apply, val_main_call0_v13_apply, val_main_call0_v17_apply, val_main_call0_cst_0_apply, val_main_call0_cst_2_apply,
    ref_z hq hk i, ref_sp hq hk i, select_top, select_top, sub_coe, host_exp, exp_sub_sp]

theorem ref_lk : Is3 (val_main_v17_0 (F := Ideal) A0 A1 : S4x8192x8192.Idx → EReal) (fun h t s => lk (hd fq h) (hd fk h) t s) := by
  intro i
  rw [val_main_v17_0_apply, ref_strict, select_if, val_main_v16_apply, ref_sp hq hk i, host_neg, val_main_call1_v2_apply, val_main_call1_v0_apply,
    val_main_cst_0_apply, ofBits_zero]
  by_cases h : (i 2).val < (i 1).val
  · rw [if_pos h]; exact congrArg Real.toEReal (if_pos h).symm
  · rw [if_neg h]; exact congrArg Real.toEReal (if_neg h).symm

theorem ref_keep : Is3 (val_main_v18 (F := Ideal) A0 A1 : S4x8192x8192.Idx → EReal)
    (fun h t s => keepTo (hd fq h) (hd fk h) t 8192 - keepTo (hd fq h) (hd fk h) t (s + 1)) := by
  intro i
  rw [val_main_v18_apply]
  rw [Finset.sum_congr rfl fun k _ => by rw [ref_lk hq hk (lidx_main_v18 i k), ref_later (ridx_main_v18 i k)]]
  have e := coe_sum_mul (N := 8192) (fun j => lk (hd fq (i 0).val) (hd fk (i 0).val) (i 1).val j) (fun j => if (i 2).val < j then 1 else 0)
  rw [sum_later _ (show (i 2).val < 8192 from (i 2).isLt)] at e
  exact e

theorem ref_wt : Is3 (val_main_v22 (F := Ideal) A0 A1 : S4x8192x8192.Idx → EReal) (fun h t s => wt (hd fq h) (hd fk h) t s) := by
  intro i
  rw [val_main_v22_apply, val_main_v21_0_apply, ref_strict', select_if, val_main_v20_apply, val_main_v19_apply, ref_z hq hk i, ref_lk hq hk i,
    ref_keep hq hk i, add_coe, add_coe, val_main_call2_v2_apply, val_main_call2_v0_apply, val_main_cst_1_apply, ofBits_bot]
  by_cases h : (i 2).val < (i 1).val
  · rw [if_pos h, host_exp]; exact congrArg Real.toEReal (if_pos h).symm
  · rw [if_neg h, host_exp_bot]; exact congrArg Real.toEReal (if_neg h).symm

end Weights

end Cert.Proof.Sb

end
-- ==== Proof.Value.RefGrads.lean ====
/-
  The reference's output and its backward lines at an index, of real arguments: the output and the three gradients, head by head.
-/
module

public import proofs.«01_k».proof.Proof.Value.RefWeights

@[expose] public section

set_option maxRecDepth 16384

noncomputable section

namespace Cert.Proof.Sb

open Cert.ReferenceIdeal Cert.ReferenceIdeal.Read Idealize.ShloMosaic Finset

theorem join_row (t c : ℕ) (hc : c < 512) : (t * 512 + c) / 512 = t ∧ (t * 512 + c) / 128 % 4 = c / 128 ∧ (t * 512 + c) % 128 = c % 128 := by omega

variable {A0 A1 A2 A3 : Arr} {fq fk fv fd : ℕ → ℕ → ℝ}
variable (hq : Is2 (A0 : S8192x512.Idx → EReal) fq) (hk : Is2 (A1 : S8192x512.Idx → EReal) fk)
  (hv : Is2 (A2 : S8192x512.Idx → EReal) fv) (hd' : Is2 (A3 : S8192x512.Idx → EReal) fd)

include hq hk hv in
/-- The output. -/
theorem ref_o : Is2 (val_main_v25 (F := Ideal) A0 A1 A2 : S8192x512.Idx → EReal)
    (byHead fun n => outS (hd fq n) (hd fk n) (hd fv n)) := by
  intro i
  rw [val_main_v25_apply, val_main_v24_apply, val_main_v23_apply]
  rw [Finset.sum_congr rfl fun k _ => by
    rw [ref_v hv (lidx_main_v23 (idx_main_v24 (idx_main_v25 i)) k), ref_wt hq hk (ridx_main_v23 (idx_main_v24 (idx_main_v25 i)) k), mul_comm]]
  obtain ⟨e0, e1, e2⟩ := join_row (i 0).val (i 1).val (i 1).isLt
  have e := coe_sum_mul (N := 8192)
    (fun s => wt (hd fq (((i 0).val * 512 + (i 1).val) / 128 % 4)) (hd fk (((i 0).val * 512 + (i 1).val) / 128 % 4)) (((i 0).val * 512 + (i 1).val) / 512) s)
    (fun s => hd fv (((i 0).val * 512 + (i 1).val) / 128 % 4) s (((i 0).val * 512 + (i 1).val) % 128))
  refine Eq.trans e ?_
  rw [e0, e1, e2]
  rfl

include hv hd' in
/-- The gradient of the weights. -/
theorem ref_dw : Is3 (val_main_v28 (F := Ideal) A2 A3 : S4x8192x8192.Idx → EReal) (fun h t s => ∑ e ∈ range 128, hd fd h t e * hd fv h s e) := by
  intro i
  rw [val_main_v28_apply]
  rw [Finset.sum_congr rfl fun k _ => by rw [ref_d hd' (lidx_main_v28 i k), ref_v hv (ridx_main_v28 i k)]]
  exact coe_sum_mul (N := 128) (fun e => hd fd (i 0).val (i 1).val e) (fun e => hd fv (i 0).val (i 2).val e)

include hq hk hv hd'

theorem ref_gr : Is3 (val_main_v32 (F := Ideal) A0 A1 A2 A3 : S4x8192x8192.Idx → EReal)
    (fun h t s => gr (hd fq h) (hd fk h) (hd fv h) (hd fd h) t s) := by
  intro i
  rw [val_main_v32_apply, ref_strict', select_if, val_main_v31_apply, ref_dw hv hd' i, ref_wt hq hk i, mul_coe, val_main_call3_v0_apply,
    val_main_call3_cst_apply, ofBits_zero]
  by_cases h : (i 2).val < (i 1).val
  · rw [if_pos h]; exact congrArg Real.toEReal (mul_comm _ _)
  · rw [if_neg h]
    refine congrArg Real.toEReal ?_
    show 0 = wt (hd fq (i 0).val) (hd fk (i 0).val) (i 1).val (i 2).val * _
    rw [wt_zero _ _ (by omega), zero_mul]

theorem ref_grTo : Is3 (val_main_v33 (F := Ideal) A0 A1 A2 A3 : S4x8192x8192.Idx → EReal)
    (fun h t s => grTo (hd fq h) (hd fk h) (hd fv h) (hd fd h) t s) := by
  intro i
  rw [val_main_v33_apply]
  rw [Finset.sum_congr rfl fun k _ => by rw [ref_gr hq hk hv hd' (lidx_main_v33 i k), ref_later (ridx_main_v33 i k)]]
  have e := coe_sum_mul (N := 8192) (fun j => gr (hd fq (i 0).val) (hd fk (i 0).val) (hd fv (i 0).val) (hd fd (i 0).val) (i 1).val j)
    (fun j => if j < (i 2).val then 1 else 0)
  rw [sum_lt_mask _ (show (i 2).val < 8192 from (i 2).isLt)] at e
  exact e

/-- The gradient of the unscaled scores. -/
theorem ref_dz : Is3 (val_main_v40 (F := Ideal) A0 A1 A2 A3 : S4x8192x8192.Idx → EReal)
    (fun h t s => dz (hd fq h) (hd fk h) (hd fv h) (hd fd h) t s) := by
  intro i
  rw [val_main_v40_apply, val_main_v39_apply, val_main_cst_2_apply, ofBits_scale, val_main_v38_apply, val_main_v37_apply, val_main_v36_apply,
    val_main_v35_apply, ref_strict, select_if, val_main_v34_apply, ref_gr hq hk hv hd' i, ref_grTo hq hk hv hd' i, ref_sg hq hk i, add_coe,
    val_main_call4_v0_apply, val_main_call4_cst_apply, ofBits_zero]
  by_cases h : (i 2).val < (i 1).val
  · rw [if_pos h, host_neg, mul_coe, add_coe, mul_coe]
    refine congrArg Real.toEReal (Eq.trans ?_ (if_pos h).symm)
    ring
  · rw [if_neg h, host_neg, mul_coe, add_coe, mul_coe]
    refine congrArg Real.toEReal (Eq.trans ?_ (if_neg h).symm)
    show (wt (hd fq (i 0).val) (hd fk (i 0).val) (i 1).val (i 2).val * _ + _) * _ = _
    rw [wt_zero _ _ (by omega)]
    ring

theorem ref_dq : Is2 (val_main_v47 (F := Ideal) A0 A1 A2 A3 : S8192x512.Idx → EReal)
    (byHead fun n => dqS (hd fq n) (hd fk n) (hd fv n) (hd fd n)) := by
  intro i
  rw [val_main_v47_apply, val_main_v44_apply, val_main_v43_apply]
  rw [Finset.sum_congr rfl fun k _ => by rw [ref_dz hq hk hv hd' (lidx_main_v43 (idx_main_v44 (idx_main_v47 i)) k), ref_k hk (ridx_main_v43 (idx_main_v44 (idx_main_v47 i)) k)]]
  obtain ⟨e0, e1, e2⟩ := join_row (i 0).val (i 1).val (i 1).isLt
  have e := coe_sum_mul (N := 8192)
    (fun s => dz (hd fq (((i 0).val * 512 + (i 1).val) / 128 % 4)) (hd fk (((i 0).val * 512 + (i 1).val) / 128 % 4))
      (hd fv (((i 0).val * 512 + (i 1).val) / 128 % 4)) (hd fd (((i 0).val * 512 + (i 1).val) / 128 % 4)) (((i 0).val * 512 + (i 1).val) / 512) s)
    (fun s => hd fk (((i 0).val * 512 + (i 1).val) / 128 % 4) s (((i 0).val * 512 + (i 1).val) % 128))
  refine Eq.trans e ?_
  rw [e0, e1, e2]
  rfl

theorem ref_dk : Is2 (val_main_v46 (F := Ideal) A0 A1 A2 A3 : S8192x512.Idx → EReal)
    (byHead fun n => dkS (hd fq n) (hd fk n) (hd fv n) (hd fd n)) := by
  intro i
  rw [val_main_v46_apply, val_main_v42_apply, val_main_v41_apply]
  rw [Finset.sum_congr rfl fun k _ => by rw [ref_dz hq hk hv hd' (lidx_main_v41 (idx_main_v42 (idx_main_v46 i)) k), ref_q hq (ridx_main_v41 (idx_main_v42 (idx_main_v46 i)) k)]]
  obtain ⟨e0, e1, e2⟩ := join_row (i 0).val (i 1).val (i 1).isLt
  have e := coe_sum_mul (N := 8192)
    (fun t => dz (hd fq (((i 0).val * 512 + (i 1).val) / 128 % 4)) (hd fk (((i 0).val * 512 + (i 1).val) / 128 % 4))
      (hd fv (((i 0).val * 512 + (i 1).val) / 128 % 4)) (hd fd (((i 0).val * 512 + (i 1).val) / 128 % 4)) t (((i 0).val * 512 + (i 1).val) / 512))
    (fun t => hd fq (((i 0).val * 512 + (i 1).val) / 128 % 4) t (((i 0).val * 512 + (i 1).val) % 128))
  refine Eq.trans e ?_
  rw [e0, e1, e2]
  rfl

omit hv in
theorem ref_dv : Is2 (val_main_v45 (F := Ideal) A0 A1 A3 : S8192x512.Idx → EReal)
    (byHead fun n => dvS (hd fq n) (hd fk n) (hd fd n)) := by
  intro i
  rw [val_main_v45_apply, val_main_v30_apply, val_main_v29_apply]
  rw [Finset.sum_congr rfl fun k _ => by
    rw [ref_d hd' (lidx_main_v29 (idx_main_v30 (idx_main_v45 i)) k), ref_wt hq hk (ridx_main_v29 (idx_main_v30 (idx_main_v45 i)) k), mul_comm]]
  obtain ⟨e0, e1, e2⟩ := join_row (i 0).val (i 1).val (i 1).isLt
  have e := coe_sum_mul (N := 8192)
    (fun t => wt (hd fq (((i 0).val * 512 + (i 1).val) / 128 % 4)) (hd fk (((i 0).val * 512 + (i 1).val) / 128 % 4)) t (((i 0).val * 512 + (i 1).val) / 512))
    (fun t => hd fd (((i 0).val * 512 + (i 1).val) / 128 % 4) t (((i 0).val * 512 + (i 1).val) % 128))
  refine Eq.trans e ?_
  rw [e0, e1, e2]
  rfl

end Cert.Proof.Sb

end
-- ==== Proof.Value.Algebraic.lean ====
/-
  The equation: of finite arguments, the kernel's three results and the reference's are the same arrays.
-/
module

public import proofs.«01_k».proof.Defs
public import proofs.«01_k».proof.Proof.Value.Arrays
public import proofs.«01_k».proof.Proof.Value.RefGrads
public import proofs.«01_k».proof.Proof.Run
public import proofs.«01_k».proof.Proof.Gen.Pre_finite

@[expose] public section

set_option maxRecDepth 16384

noncomputable section

namespace Cert.Proof.Sb

open Idealize.ShloMosaic Idealize.ShloMosaic.TcCoe Idealize.SL.Sem Finset

/-- A number of finite absolute value is a real number. -/
theorem real_of_finite {x : EReal} (h : BitVec.ofBool (decide (max x (-x) < ⊤)) = 1#1) : x = ((x.toReal : ℝ) : EReal) := by
  have hlt : max x (-x) < ⊤ := by
    by_contra hc
    rw [decide_eq_false hc] at h
    exact absurd h (by decide)
  rw [max_lt_iff] at hlt
  refine (EReal.coe_toReal (ne_of_lt hlt.1) fun hb => ?_).symm
  rw [hb] at hlt
  exact absurd hlt.2 (by simp)

/-- The entry at row `t` and column `n`. -/
def at2 (A : Arr) (t n : ℕ) : EReal := A (fun a => match a with
  | ⟨0, _⟩ => (Fin.ofNat 8192 t : Fin 8192)
  | ⟨1, _⟩ => (Fin.ofNat 512 n : Fin 512))

theorem at2_self (A : Arr) (i : Cert.ReferenceIdeal.S8192x512.Idx) : at2 A (i 0).val (i 1).val = A i := by
  unfold at2
  congr 1
  funext a
  match a with
  | ⟨0, _⟩ => exact Fin.ext (Nat.mod_eq_of_lt (i 0).isLt)
  | ⟨1, _⟩ => exact Fin.ext (Nat.mod_eq_of_lt (i 1).isLt)

/-- The real numbers of an array. -/
def reals (A : Arr) : ℕ → ℕ → ℝ := fun t n => (at2 A t n).toReal

/-- An array whose entries the precondition finds finite holds real numbers. -/
theorem is2_reals (A : Arr) (h : ∀ i, BitVec.ofBool (decide (max (A i : EReal) (-(A i : EReal)) < ⊤)) = 1#1) :
    Is2 (A : Cert.ReferenceIdeal.S8192x512.Idx → EReal) (reals A) := fun i => by
  unfold reals
  rw [at2_self]
  exact real_of_finite (h i)

/-- The precondition's comparison at an entry. -/
theorem finite_at (A : Arr) (h : (cmpf .olt (Host.absf (extf .f32 A Cert.Pre_finite.Gen.bitsLt_bf16_f32))
    (broadcastInDim Cert.Pre_finite.S8192x512 ![] Cert.Pre_finite.Gen.bcast_S_S8192x512 (constant (F := Ideal) Cert.Pre_finite.S_ .f32 0x7F800000#32))) = fun _ => 1#1)
    (i : Cert.ReferenceIdeal.S8192x512.Idx) : BitVec.ofBool (decide (max (A i : EReal) (-(A i : EReal)) < ⊤)) = 1#1 := by
  have e : BitVec.ofBool (decide (max (A i : EReal) (-(A i : EReal)) < (FloatOps.ofBits .f32 0x7F800000#32 : Ideal .f32))) = 1#1 := congrFun h i
  rw [ofBits_top] at e
  exact e

/-- Two arrays that hold the same real numbers are equal. -/
theorem eq_of_is2 {m n : ℕ} {X Y : (⟨2, ![m, n]⟩ : Shape).Idx → EReal} {f : ℕ → ℕ → ℝ} (hX : Is2 X f) (hY : Is2 Y f) : X = Y :=
  funext fun i => (hX i).trans (hY i).symm

/-- The kernel's ideal program and the reference compute the same three gradients and the same output of finite arguments. -/
theorem algebraic : Cert.algebraic_KernelIdeal_ReferenceIdeal_pre_finite := by
  intro m g m' g' hp hm
  have args : ∀ c : Dev Cert.KernelIdeal.nD, Args m c (reals (m ((c.tc : Thread Cert.KernelIdeal.nD Cert.KernelIdeal.τ).loc Cert.KernelIdeal.main_arg0))) (reals (m ((c.tc : Thread Cert.KernelIdeal.nD Cert.KernelIdeal.τ).loc Cert.KernelIdeal.main_arg1)))
      (reals (m ((c.tc : Thread Cert.KernelIdeal.nD Cert.KernelIdeal.τ).loc Cert.KernelIdeal.main_arg2))) (reals (m ((c.tc : Thread Cert.KernelIdeal.nD Cert.KernelIdeal.τ).loc Cert.KernelIdeal.main_arg3))) := fun c =>
    ⟨is2_reals _ (finite_at _ (hp c).1), is2_reals _ (finite_at _ (hp c).2.1), is2_reals _ (finite_at _ (hp c).2.2.1), is2_reals _ (finite_at _ (hp c).2.2.2)⟩
  refine ⟨fun c => W4 m c (Proc.devRef .tc Cert.KernelIdeal.main_v13_0), fun c => W4 m c (Proc.devRef .tc Cert.KernelIdeal.main_v13_1),
    fun c => W4 m c (Proc.devRef .tc Cert.KernelIdeal.main_v13_2), fun c => W4 m c (Proc.devRef .tc Cert.KernelIdeal.main_v4_0), ?_, ?_⟩
  · exact (θ_run _ _ _).mono (fun _ h c =>
      ⟨h.1 c _ (mem_uc Cert.KernelIdeal.main_v13_0 rfl), h.1 c _ (mem_uc Cert.KernelIdeal.main_v13_1 rfl), h.1 c _ (mem_uc Cert.KernelIdeal.main_v13_2 rfl),
       h.1 c _ (mem_uc Cert.KernelIdeal.main_v4_0 rfl),
       (h.1 c _ (mem_uc Cert.KernelIdeal.main_arg0 rfl)).trans (W4_arg m c Cert.KernelIdeal.main_arg0 (by decide) (by decide) (by decide) (by decide)),
       (h.1 c _ (mem_uc Cert.KernelIdeal.main_arg1 rfl)).trans (W4_arg m c Cert.KernelIdeal.main_arg1 (by decide) (by decide) (by decide) (by decide)),
       (h.1 c _ (mem_uc Cert.KernelIdeal.main_arg2 rfl)).trans (W4_arg m c Cert.KernelIdeal.main_arg2 (by decide) (by decide) (by decide) (by decide)),
       (h.1 c _ (mem_uc Cert.KernelIdeal.main_arg3 rfl)).trans (W4_arg m c Cert.KernelIdeal.main_arg3 (by decide) (by decide) (by decide) (by decide))⟩)
      (run_main m g countExact_ideal)
  · refine (θ_run _ _ _).mono (fun _ h c => ?_) (Cert.ReferenceIdeal.Value.run (F := Ideal) m' g')
    obtain ⟨h47, h46, h45, h25, k0, k1, k2, k3⟩ := h c
    obtain ⟨e0, e1, e2, e3⟩ := hm c
    have a := args c
    refine ⟨h47.trans ?_, h46.trans ?_, h45.trans ?_, h25.trans ?_, k0, k1, k2, k3⟩
    · rw [Cert.ReferenceIdeal.Read.val_main_v47_eq, e0, e1, e2, e3]
      exact eq_of_is2 (ref_dq a.q a.k a.v a.d) (dq_val a)
    · rw [Cert.ReferenceIdeal.Read.val_main_v46_eq, e0, e1, e2, e3]
      exact eq_of_is2 (ref_dk a.q a.k a.v a.d) (dk_val a)
    · rw [Cert.ReferenceIdeal.Read.val_main_v45_eq, e0, e1, e3]
      exact eq_of_is2 (ref_dv a.q a.k a.d) (dv_val a)
    · rw [Cert.ReferenceIdeal.Read.val_main_v25_eq, e0, e1, e2]
      exact eq_of_is2 (ref_o a.q a.k a.v) (o_val a)

end Cert.Proof.Sb

end
-- ==== Proof.Adam.lean ====
/-
  The optimiser's call, once for each shape it is made at. Kernel and reference do the same
  operations on the same literals in the same order, entry by entry: the kernel block by block, the
  reference on whole arrays. The kernel's run gives each result as one function of the arguments'
  entries (`Value.run`), the reference's run as its stages (`Read`), and over the extended reals the
  two are the same term.
-/
module

public import proofs.«01_k».proof.Defs
public import proofs.«01_k».proof.Proof.Gen.Kernel18Ideal.Value
public import proofs.«01_k».proof.Proof.Gen.Reference18Ideal.Read
public import proofs.«01_k».proof.Proof.Gen.Kernel18.Frame
public import proofs.«01_k».proof.Proof.Gen.Kernel19Ideal.Value
public import proofs.«01_k».proof.Proof.Gen.Reference19Ideal.Read
public import proofs.«01_k».proof.Proof.Gen.Kernel19.Frame
public import proofs.«01_k».proof.Proof.Gen.Kernel20Ideal.Value
public import proofs.«01_k».proof.Proof.Gen.Reference20Ideal.Read
public import proofs.«01_k».proof.Proof.Gen.Kernel20.Frame
public import proofs.«01_k».proof.Proof.Gen.Kernel21Ideal.Value
public import proofs.«01_k».proof.Proof.Gen.Reference21Ideal.Read
public import proofs.«01_k».proof.Proof.Gen.Kernel21.Frame
public import proofs.«01_k».proof.Proof.Gen.Kernel22Ideal.Value
public import proofs.«01_k».proof.Proof.Gen.Reference22Ideal.Read
public import proofs.«01_k».proof.Proof.Gen.Kernel22.Frame
public import proofs.«01_k».proof.Proof.Gen.Kernel23Ideal.Value
public import proofs.«01_k».proof.Proof.Gen.Reference23Ideal.Read
public import proofs.«01_k».proof.Proof.Gen.Kernel23.Frame
public import proofs.«01_k».proof.Proof.Gen.Kernel24Ideal.Value
public import proofs.«01_k».proof.Proof.Gen.Reference24Ideal.Read
public import proofs.«01_k».proof.Proof.Gen.Kernel24.Frame
public import proofs.«01_k».proof.Proof.Gen.Kernel25Ideal.Value
public import proofs.«01_k».proof.Proof.Gen.Reference25Ideal.Read
public import proofs.«01_k».proof.Proof.Gen.Kernel25.Frame
public import proofs.«01_k».proof.Proof.Gen.Kernel26Ideal.Value
public import proofs.«01_k».proof.Proof.Gen.Reference26Ideal.Read
public import proofs.«01_k».proof.Proof.Gen.Kernel26.Frame
public import Idealize.ShloMosaic.Lib.Quiescent

@[expose] public section

noncomputable section

namespace Cert.Proof.Adam

open Idealize.ShloMosaic Idealize.ShloMosaic.TcCoe Idealize.SL.Sem

/-! Kernel18: the weights into the feed-forward blocks, 4096 by 1024. -/

section

open Cert.Reference18Ideal.Read

/-- The reference declares no semaphore and leaves its arguments as launched. -/
theorem FfnIn.frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- The step, the new first moment and the new second moment are the reference's. -/
theorem FfnIn.algebraic : Cert.algebraic_Kernel18Ideal_Reference18Ideal := by
  intro m g m' g' _ hm
  refine ⟨_, _, _, Cert.Kernel18Ideal.Value.run m g,
    (θ_run _ _ _).mono (fun _ h c => ?_) (Cert.Reference18Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel19: the weights out of the feed-forward blocks, 2048 by 1024. -/

section

open Cert.Reference19Ideal.Read

/-- The reference declares no semaphore and leaves its arguments as launched. -/
theorem FfnOut.frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The step, the new first moment and the new second moment are the reference's. -/
theorem FfnOut.algebraic : Cert.algebraic_Kernel19Ideal_Reference19Ideal := by
  intro m g m' g' _ hm
  refine ⟨_, _, _, Cert.Kernel19Ideal.Value.run m g,
    (θ_run _ _ _).mono (fun _ h c => ?_) (Cert.Reference19Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel20: the mixer's first weight, 4096 by 1936. -/

section

open Cert.Reference20Ideal.Read

/-- The reference declares no semaphore and leaves its arguments as launched. -/
theorem MixIn.frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- The step, the new first moment and the new second moment are the reference's. -/
theorem MixIn.algebraic : Cert.algebraic_Kernel20Ideal_Reference20Ideal := by
  intro m g m' g' _ hm
  refine ⟨_, _, _, Cert.Kernel20Ideal.Value.run m g,
    (θ_run _ _ _).mono (fun _ h c => ?_) (Cert.Reference20Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel21: the convolution's weight, 124 by 128, in one block. -/

section

open Cert.Reference21Ideal.Read

/-- The reference declares no semaphore and leaves its arguments as launched. -/
theorem Conv.frame_reference : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- The step, the new first moment and the new second moment are the reference's. -/
theorem Conv.algebraic : Cert.algebraic_Kernel21Ideal_Reference21Ideal := by
  intro m g m' g' _ hm
  refine ⟨_, _, _, Cert.Kernel21Ideal.Value.run m g,
    (θ_run _ _ _).mono (fun _ h c => ?_) (Cert.Reference21Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel22: the latent attention's weight up to the queries, 1024 by 192. -/

section

open Cert.Reference22Ideal.Read

/-- The reference declares no semaphore and leaves its arguments as launched. -/
theorem UpQ.frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- The step, the new first moment and the new second moment are the reference's. -/
theorem UpQ.algebraic : Cert.algebraic_Kernel22Ideal_Reference22Ideal := by
  intro m g m' g' _ hm
  refine ⟨_, _, _, Cert.Kernel22Ideal.Value.run m g,
    (θ_run _ _ _).mono (fun _ h c => ?_) (Cert.Reference22Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel23: the latent attention's weight up to the keys and values, 1024 by 256. -/

section

open Cert.Reference23Ideal.Read

/-- The reference declares no semaphore and leaves its arguments as launched. -/
theorem UpKv.frame_reference : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- The step, the new first moment and the new second moment are the reference's. -/
theorem UpKv.algebraic : Cert.algebraic_Kernel23Ideal_Reference23Ideal := by
  intro m g m' g' _ hm
  refine ⟨_, _, _, Cert.Kernel23Ideal.Value.run m g,
    (θ_run _ _ _).mono (fun _ h c => ?_) (Cert.Reference23Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel24: the memory attention's weight and the mixer's last, 1024 by 1024. -/

section

open Cert.Reference24Ideal.Read

/-- The reference declares no semaphore and leaves its arguments as launched. -/
theorem MixOut.frame_reference : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- The step, the new first moment and the new second moment are the reference's. -/
theorem MixOut.algebraic : Cert.algebraic_Kernel24Ideal_Reference24Ideal := by
  intro m g m' g' _ hm
  refine ⟨_, _, _, Cert.Kernel24Ideal.Value.run m g,
    (θ_run _ _ _).mono (fun _ h c => ?_) (Cert.Reference24Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel25: the branches' weight, 8192 by 256. -/

section

open Cert.Reference25Ideal.Read

/-- The reference declares no semaphore and leaves its arguments as launched. -/
theorem Branch.frame_reference : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- The step, the new first moment and the new second moment are the reference's. -/
theorem Branch.algebraic : Cert.algebraic_Kernel25Ideal_Reference25Ideal := by
  intro m g m' g' _ hm
  refine ⟨_, _, _, Cert.Kernel25Ideal.Value.run m g,
    (θ_run _ _ _).mono (fun _ h c => ?_) (Cert.Reference25Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

/-! Kernel26: the small weights, packed to 224 by 128, in one block. -/

section

open Cert.Reference26Ideal.Read

/-- The reference declares no semaphore and leaves its arguments as launched. -/
theorem Small.frame_reference : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- The step, the new first moment and the new second moment are the reference's. -/
theorem Small.algebraic : Cert.algebraic_Kernel26Ideal_Reference26Ideal := by
  intro m g m' g' _ hm
  refine ⟨_, _, _, Cert.Kernel26Ideal.Value.run m g,
    (θ_run _ _ _).mono (fun _ h c => ?_) (Cert.Reference26Ideal.Value.run (F := Ideal) m' g')⟩
  obtain ⟨hd, h1, h2, k⟩ := h c
  obtain ⟨e0, e1, e2, e3⟩ := hm c
  refine ⟨hd.trans ?_, h1.trans ?_, h2.trans ?_, k⟩
  · rw [val_main_v23_eq, e0, e1, e2, e3]; rfl
  · rw [val_main_v4_eq, e1, e2]; rfl
  · rw [val_main_v10_eq, e1, e3]; rfl

end

end Cert.Proof.Adam

end
-- ==== Proof.Gates.Logistic.lean ====
/-
  The logistic function and its slope over the extended reals, as the kernel and the reference write them.
-/
module

public import proofs.«01_k».proof.Proof.Value.Real
public import Idealize.ShloMosaic.PureOps.Ideal
public import Idealize.ShloMosaic.PureOps.Ideal.Laws

@[expose] public section

noncomputable section

namespace Cert.Proof.Gates

open Idealize.ShloMosaic

/-- The literals one and zero of the programs. -/
abbrev one : Ideal .f32 := FloatOps.ofBits .f32 0x3F800000#32
abbrev nil : Ideal .f32 := FloatOps.ofBits .f32 0x00000000#32

theorem one_eq : one = (1 : EReal) := Sb.ofBits_one.trans EReal.coe_one
theorem nil_eq : nil = (0 : EReal) := Sb.ofBits_zero.trans EReal.coe_zero

/-- The kernel negates by subtracting from zero. -/
theorem nil_sub (x : Ideal .f32) : (FloatOps.subf nil x : Ideal .f32) = (-x : EReal) := by
  show nil - x = (-x : EReal)
  rw [nil_eq, sub_eq_add_neg, zero_add]

/-- The kernel's gate is the logistic function. -/
theorem gate_kernel (x : Ideal .f32) :
    FloatOps.divf one (FloatOps.addf one (FloatOps.exp (FloatOps.subf nil x))) = (Ideal.logistic x : Ideal .f32) := by
  rw [nil_sub]
  show Ideal.div one (one + Ideal.exp (-x)) = _
  rw [one_eq]
  rfl

/-- The reference's gate is the logistic function. -/
theorem gate_host (x : Ideal .f32) :
    FloatOps.hostDivf one (FloatOps.addf one (FloatOps.hostUnary .exp (FloatOps.hostNegf x))) = (Ideal.logistic x : Ideal .f32) := by
  show Ideal.div one (one + Ideal.exp (-x)) = _
  rw [one_eq]
  rfl

/-- The slope of the logistic function in the exponential of the argument's negative and in its own value. -/
theorem slope (x : EReal) : Ideal.div 1 ((1 + Ideal.exp (-x)) * (1 + Ideal.exp (-x))) * Ideal.exp (-x)
    = Ideal.logistic x * (1 - Ideal.logistic x) := by
  induction x with
  | bot => simp [Ideal.div, EReal.neg_bot, EReal.add_top_of_ne_bot (show (1 : EReal) ≠ ⊥ from EReal.coe_ne_bot 1)]
  | top =>
    rw [EReal.neg_top, Ideal.exp_bot, Ideal.logistic_top, mul_zero, one_mul, ← EReal.coe_one, ← EReal.coe_sub, sub_self, EReal.coe_zero]
  | coe r =>
    have h : (0 : ℝ) < 1 + Real.exp (-r) := by positivity
    have hd : (1 + (Real.exp (-r) : EReal)) = ((1 + Real.exp (-r) : ℝ) : EReal) := by rw [EReal.coe_add, EReal.coe_one]
    rw [Ideal.logistic_coe, ← EReal.coe_neg, Ideal.exp_coe, hd, ← EReal.coe_mul, Ideal.div_coe (by positivity), one_mul, ← EReal.coe_mul,
      ← EReal.coe_one, ← EReal.coe_sub, ← EReal.coe_mul]
    congr 1
    field_simp
    ring

/-- The kernel's way back through the gate: the incoming cotangent times the slope. -/
theorem back (a x : Ideal .f32) :
    FloatOps.subf nil (FloatOps.mulf (FloatOps.subf nil (FloatOps.mulf (FloatOps.mulf a
      (FloatOps.divf one (FloatOps.mulf (FloatOps.addf one (FloatOps.exp (FloatOps.subf nil x))) (FloatOps.addf one (FloatOps.exp (FloatOps.subf nil x)))))) one))
      (FloatOps.exp (FloatOps.subf nil x)))
    = ((a : EReal) * (Ideal.logistic x * (1 - Ideal.logistic x)) : EReal) := by
  simp only [nil_sub]
  show -(-(a * Ideal.div one ((one + Ideal.exp (-x)) * (one + Ideal.exp (-x))) * one) * Ideal.exp (-x)) = _
  rw [one_eq, mul_one, EReal.neg_mul, neg_neg, mul_assoc, slope]

end Cert.Proof.Gates

end
-- ==== Proof.Gates.Swiglu.lean ====
/-
  The gated product of the feed-forward block, `silu gate * up`, and its cotangent.
-/
module

public import proofs.«01_k».proof.Proof.Ffn.Entries
public import proofs.«01_k».proof.Proof.Gates.Logistic
public import proofs.«01_k».proof.Proof.Gen.Kernel27Ideal.Value
public import proofs.«01_k».proof.Proof.Gen.Reference27Ideal.Read
public import proofs.«01_k».proof.Proof.Gen.Kernel27.Frame

@[expose] public section

noncomputable section

namespace Cert.Proof.Gates.Swiglu

open Cert.Reference27Ideal.Read
open Idealize.ShloMosaic Idealize.ShloMosaic.TcCoe Idealize.SL.Sem

/-- The reference declares no semaphore and leaves its argument as launched. -/
theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- The reference's product is the kernel's function of the argument's entries. -/
theorem ref (x : Cert.Kernel27Ideal.S8192x4096.Idx → EReal) :
    val_main_v5 (F := Ideal) x = Cert.Kernel27Ideal.Value.G2 (F := Ideal) x x := by
  funext i
  have hi : idx_main_v2 i = Cert.Kernel27Ideal.Value.inIdx2_1 i := by
    funext a
    match a with
    | ⟨0, _⟩ => rfl
    | ⟨1, _⟩ => exact Fin.ext (Nat.add_comm _ _)
  rw [val_main_v5_apply, val_main_v4_apply, val_main_v3_apply, val_main_call0_v5_apply, val_main_call0_v3_apply, val_main_call0_v1_apply,
    val_main_call0_v0_apply, val_main_call0_v4_apply, val_main_call0_v2_apply, val_main_call0_cst_apply, val_main_call0_cst_0_apply,
    gate_host, ← gate_kernel, val_main_v1_apply, val_main_v2_apply, hi]
  rfl

/-- The kernel's ideal program and the reference compute the same product. -/
theorem algebraic : Cert.algebraic_Kernel27Ideal_Reference27Ideal := by
  intro m g m' g' _ hm
  refine ⟨_, Cert.Kernel27Ideal.Value.run m g, (θ_run _ _ _).mono (fun _ h c => ?_) (Cert.Reference27Ideal.Value.run (F := Ideal) m' g')⟩
  refine ⟨(h c).1.trans ?_, (h c).2⟩
  rw [val_main_v5_eq, hm c]
  exact ref _

end Cert.Proof.Gates.Swiglu

end
-- ==== Proof.Gates.DSwiglu.lean ====
/-
  The cotangent of the feed-forward block's gated product: the gate's half and the other factor's half,
  written side by side.
-/
module

public import proofs.«01_k».proof.Proof.Ffn.Entries
public import proofs.«01_k».proof.Proof.Gates.Logistic
public import proofs.«01_k».proof.Proof.Gen.Kernel28Ideal.Value
public import proofs.«01_k».proof.Proof.Gen.Reference28Ideal.Read
public import proofs.«01_k».proof.Proof.Gen.Kernel28.Frame

@[expose] public section

set_option maxRecDepth 16384

noncomputable section

namespace Cert.Proof.Gates.DSwiglu

open Cert.Kernel28Ideal Cert.Kernel28Ideal.Gen Cert.Kernel28Ideal.Value Cert.Reference28Ideal.Read
open Idealize.ShloMosaic Idealize.ShloMosaic.TcCoe Idealize.SL.Sem Cert.Proof.Ffn

/-! ## The two halves of an entry -/

/-- The gate's cotangent, of the incoming one, the other factor and the gate. -/
def dGate (d u x : EReal) : EReal := d * u * Ideal.logistic x + x * (d * u) * (Ideal.logistic x * (1 - Ideal.logistic x))
/-- The other factor's cotangent, of the incoming one and the gate. -/
def dUp (d x : EReal) : EReal := x * Ideal.logistic x * d

/-- The entry at row `x` and column `y` of the result, of the entries of the arguments. -/
def entry (u d : ℕ → ℕ → EReal) (x y : ℕ) : EReal :=
  if y / 2048 = 0 then dGate (d x (y % 2048)) (u x (2048 + y % 2048)) (u x (y % 2048)) else dUp (d x (y % 2048)) (u x (y % 2048))

/-! ## The kernel -/

theorem cat_gate (P0 P1 P2 : Vec Ideal S256x2048 .bf16) (j : S256x2048.Idx) :
    (Cat3_0 P0 P1 P2 0 j : Ideal .f32) = dGate (P0 j) (P1 j) (P2 j) :=
  congrArg₂ (fun a b : EReal => a + b) (congrArg (fun s : EReal => (P0 j * P1 j : EReal) * s) (gate_kernel (P2 j))) (back _ (P2 j))
theorem cat_up (P0 P1 P2 : Vec Ideal S256x2048 .bf16) (j : S256x2048.Idx) :
    (Cat3_0 P0 P1 P2 1 j : Ideal .f32) = dUp (P0 j) (P2 j) :=
  congrArg (fun s : EReal => (P2 j : EReal) * s * P0 j) (gate_kernel (P2 j))

variable (m : (ℓ : Loc nD τ sig) → Buf (Elt Ideal) ℓ) (c : Dev nD)

/-- The entries of the arguments. -/
abbrev uu : ℕ → ℕ → EReal := ent (m ((c.tc : Thread nD τ).loc main_arg0) : S8192x4096.Idx → EReal)
abbrev dd : ℕ → ℕ → EReal := ent (m ((c.tc : Thread nD τ).loc main_arg1) : S8192x2048.Idx → EReal)

theorem idx0 : ∀ t : Fin cfg0.N, win0_0.index t = ![t.val, 0] :=
  (by decide +kernel : ∀ t : Fin grid0.N, _)
theorem idx1 : ∀ t : Fin cfg0.N, win0_1.index t = ![t.val, 1] :=
  (by decide +kernel : ∀ t : Fin grid0.N, _)
theorem idx2 : ∀ t : Fin cfg0.N, win0_2.index t = ![t.val, 0] :=
  (by decide +kernel : ∀ t : Fin grid0.N, _)
theorem idx3 : ∀ t : Fin cfg0.N, win0_3.index t = ![t.val, 0] :=
  (by decide +kernel : ∀ t : Fin grid0.N, _)

theorem blk0 (t : Fin cfg0.N) : Has (iblk m c 0 t : S256x2048.Idx → EReal) (fun x y => uu m c (256 * t.val + x) y) := by
  intro j
  blk_simp [iblk]
  exact ent_of _ _ (by blk_simp [idx0 t] <;> omega) (by blk_simp [idx0 t] <;> omega)
theorem blk1 (t : Fin cfg0.N) : Has (iblk m c 1 t : S256x2048.Idx → EReal) (fun x y => uu m c (256 * t.val + x) (2048 + y)) := by
  intro j
  blk_simp [iblk]
  exact ent_of _ _ (by blk_simp [idx1 t] <;> omega) (by blk_simp [idx1 t] <;> omega)
theorem blk2 (t : Fin cfg0.N) : Has (iblk m c 2 t : S256x2048.Idx → EReal) (fun x y => dd m c (256 * t.val + x) y) := by
  intro j
  blk_simp [iblk]
  exact ent_of _ _ (by blk_simp [idx2 t] <;> omega) (by blk_simp [idx2 t] <;> omega)

/-- What a point writes of blocks with given entries. -/
theorem point {f g h : ℕ → ℕ → EReal} {x0 x1 x2 : Vec Ideal S256x2048 .bf16} (h0 : Has (x0 : S256x2048.Idx → EReal) f)
    (h1 : Has (x1 : S256x2048.Idx → EReal) g) (h2 : Has (x2 : S256x2048.Idx → EReal) h) :
    Has (out0_3 x0 x1 x2 : S256x4096.Idx → EReal) (fun x y => if y / 2048 = 0 then dGate (h x (y % 2048)) (g x (y % 2048)) (f x (y % 2048))
      else dUp (h x (y % 2048)) (f x (y % 2048))) := by
  intro y
  unfold out0_3
  rw [canon3_eq, View.ld_unit_zero (S := S256x2048) offsets_zero, View.ld_unit_zero (S := S256x2048) offsets_zero,
    View.ld_unit_zero (S := S256x2048) offsets_zero]
  show (Cat3_0 x2 x1 x0 (csel3_0 y) (ix3_0 y) : Ideal .f32) = _
  beta_reduce
  by_cases hy : (y 1).val / 2048 = 0
  · rw [show csel3_0 y = 0 from Fin.ext hy, cat_gate, if_pos hy, h0, h1, h2] <;> rfl
  · have h4 : (y 1).val < 4096 := (y 1).isLt
    rw [show csel3_0 y = 1 from Fin.ext (show (y 1).val / 2048 = 1 by omega), cat_up, if_neg hy, h0, h2] <;> rfl

/-- The result of the arguments. -/
def G : S8192x4096.Idx → EReal := mat 8192 4096 (entry (uu m c) (dd m c))

/-- What a point writes back is its block of the result. -/
theorem written (t : Fin cfg0.N) : (dats m 0 c).flushed 3 t = ((cfg0.win 3).blk t).view.read (Elt Ideal) (G m c) := by
  rw [flushed3]
  funext y
  have e0 : (((cfg0.win 3).blk t).view.emb y 0).val = 256 * t.val + (y 0).val := by blk_simp [idx3 t] <;> omega
  have e1 : (((cfg0.win 3).blk t).view.emb y 1).val = (y 1).val := by blk_simp [idx3 t] <;> omega
  refine (point (blk0 m c t) (blk1 m c t) (blk2 m c t) ((cfg0.win 3).xinj (grid0.coords t) y)).trans ?_
  rw [View.read_apply]
  unfold G mat entry
  rw [e0, e1]
  rfl

/-- The whole result: its blocks cover it. -/
theorem final : (dats m 0 c).arrAt 3 cfg0.N = G m c :=
  (dats m 0 c).arrAt_eq_of_cover 3 (G m c) (fun t _ => written m c t) ((by decide +kernel : win0_3.Covers).cover _ (Memref.isWhole_whole _))

/-! ## The reference -/

section Reference

variable (u : S8192x4096.Idx → EReal) (d : S8192x2048.Idx → EReal)

theorem ref_gate : Has (val_main_v1 (F := Ideal) u : S8192x2048.Idx → EReal) (ent u) := fun i => by
  rw [val_main_v1_apply]
  exact ent_of u _ rfl rfl
theorem ref_up : Has (val_main_v2 (F := Ideal) u : S8192x2048.Idx → EReal) (fun x y => ent u x (2048 + y)) := fun i => by
  rw [val_main_v2_apply]
  exact ent_of u _ rfl rfl
theorem ref_logistic : Has (val_main_v3_2 (F := Ideal) u : S8192x2048.Idx → EReal) (fun x y => Ideal.logistic (ent u x y)) := fun i => by
  rw [val_main_v3_2_apply, val_main_call0_v3_apply, val_main_call0_v1_apply, val_main_call0_v0_apply, val_main_call0_v4_apply,
    val_main_call0_v2_apply, val_main_call0_cst_apply, val_main_call0_cst_0_apply, gate_host]
  exact congrArg Ideal.logistic (ref_gate u i)

theorem ref_dGate : Has (val_main_v8 (F := Ideal) u d : S8192x2048.Idx → EReal) (fun x y => dGate (ent d x y) (ent u x (2048 + y)) (ent u x y)) := fun i => by
  rw [val_main_v8_apply, val_main_call1_v1_apply, val_main_call1_v2_apply, val_main_call1_v0_apply, val_main_v7_apply, val_main_v5_apply,
    val_main_v3_1_apply, val_main_call0_v7_apply, val_main_call0_v6_apply, val_main_call0_cst_1_apply, ref_logistic u i, ref_gate u i, ref_up u i]
  show d i * _ * _ + _ * (d i * _) * (_ * (one - _)) = _
  rw [one_eq, has_ent d i]
  rfl
theorem ref_dUp : Has (val_main_v6 (F := Ideal) u d : S8192x2048.Idx → EReal) (fun x y => dUp (ent d x y) (ent u x y)) := fun i => by
  rw [val_main_v6_apply, val_main_v3_0_apply, val_main_v5_apply, ref_logistic u i, ref_gate u i]
  exact congrArg (fun s : EReal => ent u (i 0).val (i 1).val * Ideal.logistic (ent u (i 0).val (i 1).val) * s) (has_ent d i)

/-- The reference's result. -/
theorem ref : Has (val_main_v10 (F := Ideal) u d : S8192x4096.Idx → EReal) (entry (ent u) (ent d)) := by
  intro i
  have h4 : (i 1).val < 4096 := (i 1).isLt
  let at' : S8192x2048.Idx := fun a => match a with
    | ⟨0, _⟩ => (i 0 : Fin 8192)
    | ⟨1, _⟩ => (⟨(i 1).val % 2048, Nat.mod_lt _ (by omega)⟩ : Fin 2048)
  have key (n : Fin 2) (hn : (i 1).val / 2048 = n.val) : val_main_v9 (F := Ideal) u d i
      = (![val_main_v8 (F := Ideal) u d, val_main_v6 (F := Ideal) u d] n : S8192x2048.Idx → EReal) at' :=
    concatenate_ofFn_apply (t := S8192x4096) (s₁ := S8192x2048) (1 : Fin 2)
      (![val_main_v8 (F := Ideal) u d, val_main_v6 (F := Ideal) u d] : Fin 2 → S8192x2048.Idx → EReal) _ rfl 2048 rfl i n hn at' rfl
      (fun b hb => match b with | ⟨0, _⟩ => rfl | ⟨1, _⟩ => absurd rfl hb)
  rw [val_main_v10_apply]
  unfold entry
  by_cases hy : (i 1).val / 2048 = 0
  · rw [if_pos hy]
    exact (key 0 hy).trans (ref_dGate u d at')
  · rw [if_neg hy]
    exact (key 1 (show (i 1).val / 2048 = 1 by omega)).trans (ref_dUp u d at')

end Reference

/-! ## The claims -/

/-- The reference declares no semaphore and leaves its arguments as launched. -/
theorem frame_reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- The kernel's ideal program and the reference compute the same cotangent. -/
theorem algebraic : Cert.algebraic_Kernel28Ideal_Reference28Ideal := by
  intro m g m' g' _ hm
  refine ⟨fun c => G m c, (θ_run _ _ _).mono (fun _ h c => ⟨(h c).1.trans (final m c), (h c).2⟩) (Cert.Kernel28Ideal.Value.run_blocks m g), ?_⟩
  refine (θ_run _ _ _).mono (fun _ h c => ?_) (Cert.Reference28Ideal.Value.run (F := Ideal) m' g')
  obtain ⟨hv, k⟩ := h c
  obtain ⟨e0, e1⟩ := hm c
  refine ⟨hv.trans ?_, k⟩
  rw [val_main_v10_eq, e0, e1]
  exact (ref _ _).eq (has_mat _ _ _)

end Cert.Proof.Gates.DSwiglu

end
-- ==== Proof.Gates.Merge.lean ====
/-
  The mixing block's merge: the sum of the four branches, each times the logistic function of its gate.
-/
module

public import proofs.«01_k».proof.Proof.Ffn.Entries
public import proofs.«01_k».proof.Proof.Gates.Logistic
public import proofs.«01_k».proof.Proof.Gen.Kernel29Ideal.Value
public import proofs.«01_k».proof.Proof.Gen.Reference29Ideal.Read
public import proofs.«01_k».proof.Proof.Gen.Kernel29.Frame

@[expose] public section

set_option maxRecDepth 16384

noncomputable section

namespace Cert.Proof.Gates.Merge

open Cert.Kernel29Ideal Cert.Kernel29Ideal.Gen Cert.Kernel29Ideal.Value Cert.Reference29Ideal.Read
open Idealize.ShloMosaic Idealize.ShloMosaic.TcCoe Idealize.SL.Sem Cert.Proof.Ffn

/-- The sum of four products, each gate through the logistic function. -/
def sum4 (g0 g1 g2 g3 p0 p1 p2 p3 : EReal) : EReal :=
  Ideal.logistic g0 * p0 + Ideal.logistic g1 * p1 + Ideal.logistic g2 * p2 + Ideal.logistic g3 * p3

/-- The entry at row `x` and column `y` of the result, of the entries of the arguments: a branch's gates
    are 1024 columns after the branch's before. -/
def entry (u p0 p1 p2 p3 : ℕ → ℕ → EReal) (x y : ℕ) : EReal :=
  sum4 (u x y) (u x (1024 + y)) (u x (2048 + y)) (u x (3072 + y)) (p0 x y) (p1 x y) (p2 x y) (p3 x y)

/-! ## The kernel -/

/-- What a point writes. -/
theorem point (x0 x1 x2 x3 x4 x5 x6 x7 : Vec Ideal S256x1024 .bf16) (j : S256x1024.Idx) :
    (out0_8 x0 x1 x2 x3 x4 x5 x6 x7 j : Ideal .bf16) = sum4 (x0 j) (x1 j) (x2 j) (x3 j) (x4 j) (x5 j) (x6 j) (x7 j) := by
  unfold out0_8
  rw [View.canon_unit_zero offsets_zero]
  simp only [View.ld_unit_zero (S := S256x1024) offsets_zero]
  unfold sum4
  rw [← gate_kernel (x0 j), ← gate_kernel (x1 j), ← gate_kernel (x2 j), ← gate_kernel (x3 j)]
  rfl

variable (m : (ℓ : Loc nD τ sig) → Buf (Elt Ideal) ℓ) (c : Dev nD)

/-- The entries of the arguments. -/
abbrev uu : ℕ → ℕ → EReal := ent (m ((c.tc : Thread nD τ).loc main_arg0) : S8192x8192.Idx → EReal)
abbrev p0 : ℕ → ℕ → EReal := ent (m ((c.tc : Thread nD τ).loc main_arg1) : S8192x1024.Idx → EReal)
abbrev p1 : ℕ → ℕ → EReal := ent (m ((c.tc : Thread nD τ).loc main_arg2) : S8192x1024.Idx → EReal)
abbrev p2 : ℕ → ℕ → EReal := ent (m ((c.tc : Thread nD τ).loc main_arg3) : S8192x1024.Idx → EReal)
abbrev p3 : ℕ → ℕ → EReal := ent (m ((c.tc : Thread nD τ).loc main_arg4) : S8192x1024.Idx → EReal)

/-- The blocks' indices: window `k` of the gates is at column block `k`. -/
theorem idx : ∀ t : Fin cfg0.N,
    win0_0.index t = ![t.val, 0] ∧ win0_1.index t = ![t.val, 1]
    ∧ win0_2.index t = ![t.val, 2] ∧ win0_3.index t = ![t.val, 3]
    ∧ win0_4.index t = ![t.val, 0] ∧ win0_5.index t = ![t.val, 0]
    ∧ win0_6.index t = ![t.val, 0] ∧ win0_7.index t = ![t.val, 0]
    ∧ win0_8.index t = ![t.val, 0] :=
  (by decide +kernel : ∀ t : Fin grid0.N, _)

/-- The blocks a point reads. -/
theorem blks (t : Fin cfg0.N) :
    Has (iblk m c 0 t : S256x1024.Idx → EReal) (fun x y => uu m c (256 * t.val + x) y)
    ∧ Has (iblk m c 1 t : S256x1024.Idx → EReal) (fun x y => uu m c (256 * t.val + x) (1024 + y))
    ∧ Has (iblk m c 2 t : S256x1024.Idx → EReal) (fun x y => uu m c (256 * t.val + x) (2048 + y))
    ∧ Has (iblk m c 3 t : S256x1024.Idx → EReal) (fun x y => uu m c (256 * t.val + x) (3072 + y))
    ∧ Has (iblk m c 4 t : S256x1024.Idx → EReal) (fun x y => p0 m c (256 * t.val + x) y)
    ∧ Has (iblk m c 5 t : S256x1024.Idx → EReal) (fun x y => p1 m c (256 * t.val + x) y)
    ∧ Has (iblk m c 6 t : S256x1024.Idx → EReal) (fun x y => p2 m c (256 * t.val + x) y)
    ∧ Has (iblk m c 7 t : S256x1024.Idx → EReal) (fun x y => p3 m c (256 * t.val + x) y) := by
  refine ⟨?_, ?_, ?_, ?_, ?_, ?_, ?_, ?_⟩ <;>
  · intro j
    blk_simp [iblk]
    exact ent_of _ _ (by blk_simp [idx t] <;> omega) (by blk_simp [idx t] <;> omega)

/-- The result of the arguments. -/
def G : S8192x1024.Idx → EReal := mat 8192 1024 (entry (uu m c) (p0 m c) (p1 m c) (p2 m c) (p3 m c))

/-- What a point writes back is its block of the result. -/
theorem written (t : Fin cfg0.N) : (dats m 0 c).flushed 8 t = ((cfg0.win 8).blk t).view.read (Elt Ideal) (G m c) := by
  rw [flushed8]
  funext y
  have e0 : (((cfg0.win 8).blk t).view.emb y 0).val = 256 * t.val + (y 0).val := by blk_simp [idx t] <;> omega
  have e1 : (((cfg0.win 8).blk t).view.emb y 1).val = (y 1).val := by blk_simp [idx t] <;> omega
  obtain ⟨b0, b1, b2, b3, b4, b5, b6, b7⟩ := blks m c t
  refine (point _ _ _ _ _ _ _ _ ((cfg0.win 8).xinj (grid0.coords t) y)).trans ?_
  rw [View.read_apply, b0, b1, b2, b3, b4, b5, b6, b7]
  unfold G mat entry
  rw [e0, e1]
  rfl

/-- The whole result: its blocks cover it. -/
theorem final : (dats m 0 c).arrAt 8 cfg0.N = G m c :=
  (dats m 0 c).arrAt_eq_of_cover 8 (G m c) (fun t _ => written m c t) ((by decide +kernel : win0_8.Covers).cover _ (Memref.isWhole_whole _))

/-! ## The reference -/

/-- The reference's gates. -/
theorem ref_gates (u : S8192x8192.Idx → EReal) : Has (val_main_v11 (F := Ideal) u : Cert.Reference29Ideal.S8192x4096.Idx → EReal) (fun x y => Ideal.logistic (ent u x y)) := fun i => by
  rw [val_main_v11_apply, val_main_v10_apply, val_main_cst_0_apply, val_main_v9_apply, val_main_v8_apply, val_main_cst_apply, val_main_v7_apply,
    val_main_v6_apply, gate_host, val_main_v1_apply, val_main_v0_apply]
  exact congrArg Ideal.logistic (ent_of u _ rfl rfl)

/-- The reference's result. -/
theorem ref (u : S8192x8192.Idx → EReal) (q0 q1 q2 q3 : S8192x1024.Idx → EReal) :
    Has (val_main_v23 (F := Ideal) u q0 q1 q2 q3 : S8192x1024.Idx → EReal) (entry (ent u) (ent q0) (ent q1) (ent q2) (ent q3)) := fun i => by
  rw [val_main_v23_apply, val_main_v22_apply, val_main_v20_apply, val_main_v18_apply, val_main_v16_apply, val_main_v17_apply, val_main_v19_apply,
    val_main_v21_apply, val_main_v12_apply, val_main_v13_apply, val_main_v14_apply, val_main_v15_apply, ref_gates, ref_gates, ref_gates, ref_gates,
    val_main_v2_apply, val_main_v3_apply, val_main_v4_apply, val_main_v5_apply, has_ent q0 i, has_ent q1 i, has_ent q2 i, has_ent q3 i]
  rfl

/-! ## The claims -/

/-- The reference declares no semaphore and leaves its arguments as launched. -/
theorem frame_reference : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

/-- The kernel's ideal program and the reference compute the same sum. -/
theorem algebraic : Cert.algebraic_Kernel29Ideal_Reference29Ideal := by
  intro m g m' g' _ hm
  refine ⟨fun c => G m c, (θ_run _ _ _).mono (fun _ h c => ⟨(h c).1.trans (final m c), (h c).2⟩) (Cert.Kernel29Ideal.Value.run_blocks m g), ?_⟩
  refine (θ_run _ _ _).mono (fun _ h c => ?_) (Cert.Reference29Ideal.Value.run (F := Ideal) m' g')
  obtain ⟨hv, k⟩ := h c
  obtain ⟨e0, e1, e2, e3, e4⟩ := hm c
  refine ⟨hv.trans ?_, k⟩
  rw [val_main_v23_eq, e0, e1, e2, e3, e4]
  exact (ref _ _ _ _ _).eq (has_mat _ _ _)

end Cert.Proof.Gates.Merge

end
-- ==== Proof.Gates.DMerge.lean ====
/-
  The cotangents of the mixing block's merge: of the four branches' gates, side by side, and of the four
  branches.
-/
module

public import proofs.«01_k».proof.Proof.Ffn.Entries
public import proofs.«01_k».proof.Proof.Gates.Logistic
public import proofs.«01_k».proof.Proof.Gen.Kernel30Ideal.Value
public import proofs.«01_k».proof.Proof.Gen.Reference30Ideal.Read
public import proofs.«01_k».proof.Proof.Gen.Kernel30.Frame

@[expose] public section

set_option maxRecDepth 16384

noncomputable section

namespace Cert.Proof.Gates.DMerge

open Cert.Kernel30Ideal Cert.Kernel30Ideal.Gen Cert.Kernel30Ideal.Value Cert.Reference30Ideal.Read
open Idealize.ShloMosaic Idealize.ShloMosaic.TcCoe Idealize.SL.Sem Cert.Proof.Ffn

/-! ## The entries of the results -/

/-- The cotangent of a gate, of the incoming one, the branch and the gate. -/
def dGate (d p g : EReal) : EReal := d * p * (Ideal.logistic g * (1 - Ideal.logistic g))
/-- The cotangent of a branch, of the gate and the incoming one. -/
def dBranch (g d : EReal) : EReal := Ideal.logistic g * d

/-- The gates' cotangents: column `y` belongs to branch `y / 1024`. -/
def gateEntry (u : ℕ → ℕ → EReal) (p : Fin 4 → ℕ → ℕ → EReal) (d : ℕ → ℕ → EReal) (x y : ℕ) : EReal :=
  dGate (d x (y % 1024)) (p (Fin.ofNat 4 (y / 1024)) x (y % 1024)) (u x y)
/-- The cotangents of branch `n`. -/
def branchEntry (u d : ℕ → ℕ → EReal) (n x y : ℕ) : EReal := dBranch (u x (1024 * n + y)) (d x y)

/-! ## The kernel -/

/-- The operands of the concatenation. -/
theorem cat (x0 x1 x2 x3 x4 x5 x6 x7 x8 : Vec Ideal S256x1024 .bf16) (n : Fin 4) (j : S256x1024.Idx) :
    (Cat9_0 x8 x4 x0 x5 x1 x6 x2 x7 x3 n j : Ideal .f32)
      = dGate (x8 j) ((![x4, x5, x6, x7] : Fin 4 → S256x1024.Idx → EReal) n j) ((![x0, x1, x2, x3] : Fin 4 → S256x1024.Idx → EReal) n j) :=
  match n with
  | 0 => back _ (x0 j)
  | 1 => back _ (x1 j)
  | 2 => back _ (x2 j)
  | 3 => back _ (x3 j)

/-- What a point writes of the gates' cotangents. -/
theorem point9 (x0 x1 x2 x3 x4 x5 x6 x7 x8 : Vec Ideal S256x1024 .bf16) (y : S256x4096.Idx) :
    (out0_9 x0 x1 x2 x3 x4 x5 x6 x7 x8 y : Ideal .bf16) = dGate (x8 (ix9_0 y))
      ((![x4, x5, x6, x7] : Fin 4 → S256x1024.Idx → EReal) (csel9_0 y) (ix9_0 y)) ((![x0, x1, x2, x3] : Fin 4 → S256x1024.Idx → EReal) (csel9_0 y) (ix9_0 y)) := by
  unfold_out out0_9
  simp only [View.ld_unit_zero (S := S256x1024) offsets_zero]
  rw [canon9_eq]
  exact cat x0 x1 x2 x3 x4 x5 x6 x7 x8 _ _

/-- What a point writes of the branches' cotangents. -/
theorem points (x0 x1 x2 x3 x4 x5 x6 x7 x8 : Vec Ideal S256x1024 .bf16) (j : S256x1024.Idx) :
    (out0_10 x0 x1 x2 x3 x4 x5 x6 x7 x8 j : Ideal .bf16) = dBranch (x0 j) (x8 j) ∧ (out0_11 x0 x1 x2 x3 x4 x5 x6 x7 x8 j : Ideal .bf16) = dBranch (x1 j) (x8 j)
    ∧ (out0_12 x0 x1 x2 x3 x4 x5 x6 x7 x8 j : Ideal .bf16) = dBranch (x2 j) (x8 j) ∧ (out0_13 x0 x1 x2 x3 x4 x5 x6 x7 x8 j : Ideal .bf16) = dBranch (x3 j) (x8 j) := by
  refine ⟨?_, ?_, ?_, ?_⟩ <;> [unfold_out out0_10; unfold_out out0_11; unfold_out out0_12; unfold_out out0_13] <;>
  · rw [View.canon_unit_zero offsets_zero, View.ld_unit_zero (S := S256x1024) offsets_zero, View.ld_unit_zero (S := S256x1024) offsets_zero]
    exact congrArg (fun s : EReal => s * x8 j) (gate_kernel _)

variable (m : (ℓ : Loc nD τ sig) → Buf (Elt Ideal) ℓ) (c : Dev nD)

/-- The entries of the arguments. -/
abbrev uu : ℕ → ℕ → EReal := ent (m ((c.tc : Thread nD τ).loc main_arg0) : S8192x8192.Idx → EReal)
abbrev pp : Fin 4 → ℕ → ℕ → EReal := ![ent (m ((c.tc : Thread nD τ).loc main_arg1) : S8192x1024.Idx → EReal),
  ent (m ((c.tc : Thread nD τ).loc main_arg2) : S8192x1024.Idx → EReal), ent (m ((c.tc : Thread nD τ).loc main_arg3) : S8192x1024.Idx → EReal),
  ent (m ((c.tc : Thread nD τ).loc main_arg4) : S8192x1024.Idx → EReal)]
abbrev dd : ℕ → ℕ → EReal := ent (m ((c.tc : Thread nD τ).loc main_arg5) : S8192x1024.Idx → EReal)

/-- The blocks' indices: window `k` of the gates is at column block `k`. -/
theorem idx : ∀ t : Fin cfg0.N,
    win0_0.index t = ![t.val, 0] ∧ win0_1.index t = ![t.val, 1]
    ∧ win0_2.index t = ![t.val, 2] ∧ win0_3.index t = ![t.val, 3]
    ∧ win0_4.index t = ![t.val, 0] ∧ win0_5.index t = ![t.val, 0]
    ∧ win0_6.index t = ![t.val, 0] ∧ win0_7.index t = ![t.val, 0]
    ∧ win0_8.index t = ![t.val, 0] ∧ win0_9.index t = ![t.val, 0]
    ∧ win0_10.index t = ![t.val, 0] ∧ win0_11.index t = ![t.val, 0]
    ∧ win0_12.index t = ![t.val, 0] ∧ win0_13.index t = ![t.val, 0] :=
  (by decide +kernel : ∀ t : Fin grid0.N, _)

/-- The blocks of the gates. -/
theorem gates (t : Fin cfg0.N) :
    Has (iblk m c 0 t : S256x1024.Idx → EReal) (fun x y => uu m c (256 * t.val + x) (1024 * 0 + y))
    ∧ Has (iblk m c 1 t : S256x1024.Idx → EReal) (fun x y => uu m c (256 * t.val + x) (1024 * 1 + y))
    ∧ Has (iblk m c 2 t : S256x1024.Idx → EReal) (fun x y => uu m c (256 * t.val + x) (1024 * 2 + y))
    ∧ Has (iblk m c 3 t : S256x1024.Idx → EReal) (fun x y => uu m c (256 * t.val + x) (1024 * 3 + y)) := by
  refine ⟨?_, ?_, ?_, ?_⟩ <;>
  · intro j
    blk_simp [iblk]
    exact ent_of _ _ (by blk_simp [idx t] <;> omega) (by blk_simp [idx t] <;> omega)
/-- The blocks of the branches and of the incoming cotangent. -/
theorem branches (t : Fin cfg0.N) :
    Has (iblk m c 4 t : S256x1024.Idx → EReal) (fun x y => pp m c 0 (256 * t.val + x) y)
    ∧ Has (iblk m c 5 t : S256x1024.Idx → EReal) (fun x y => pp m c 1 (256 * t.val + x) y)
    ∧ Has (iblk m c 6 t : S256x1024.Idx → EReal) (fun x y => pp m c 2 (256 * t.val + x) y)
    ∧ Has (iblk m c 7 t : S256x1024.Idx → EReal) (fun x y => pp m c 3 (256 * t.val + x) y)
    ∧ Has (iblk m c 8 t : S256x1024.Idx → EReal) (fun x y => dd m c (256 * t.val + x) y) := by
  refine ⟨?_, ?_, ?_, ?_, ?_⟩ <;>
  · intro j
    blk_simp [iblk]
    exact ent_of _ _ (by blk_simp [idx t] <;> omega) (by blk_simp [idx t] <;> omega)

theorem gate_block (t : Fin cfg0.N) (n : Fin 4) :
    Has ((![iblk m c 0 t, iblk m c 1 t, iblk m c 2 t, iblk m c 3 t] : Fin 4 → S256x1024.Idx → EReal) n) (fun x y => uu m c (256 * t.val + x) (1024 * n.val + y)) :=
  match n with
  | 0 => (gates m c t).1
  | 1 => (gates m c t).2.1
  | 2 => (gates m c t).2.2.1
  | 3 => (gates m c t).2.2.2
theorem branch_block (t : Fin cfg0.N) (n : Fin 4) :
    Has ((![iblk m c 4 t, iblk m c 5 t, iblk m c 6 t, iblk m c 7 t] : Fin 4 → S256x1024.Idx → EReal) n) (fun x y => pp m c n (256 * t.val + x) y) :=
  match n with
  | 0 => (branches m c t).1
  | 1 => (branches m c t).2.1
  | 2 => (branches m c t).2.2.1
  | 3 => (branches m c t).2.2.2.1

/-- The results of the arguments. -/
def Ggate : S8192x4096.Idx → EReal := mat 8192 4096 (gateEntry (uu m c) (pp m c) (dd m c))
def Gbranch (n : ℕ) : S8192x1024.Idx → EReal := mat 8192 1024 (branchEntry (uu m c) (dd m c) n)

/-- What a point leaves of the gates' cotangents. -/
theorem has9 (t : Fin cfg0.N) : Has (out0_9 (iblk m c 0 t) (iblk m c 1 t) (iblk m c 2 t) (iblk m c 3 t) (iblk m c 4 t) (iblk m c 5 t) (iblk m c 6 t) (iblk m c 7 t) (iblk m c 8 t) : S256x4096.Idx → EReal)
    (fun x y => gateEntry (uu m c) (pp m c) (dd m c) (256 * t.val + x) y) := by
  intro y
  have h4 : (y 1).val < 4096 := (y 1).isLt
  refine (point9 _ _ _ _ _ _ _ _ _ y).trans ?_
  rw [gate_block m c t, branch_block m c t, (branches m c t).2.2.2.2]
  have hs : Fin.ofNat 4 ((y 1).val / 1024) = csel9_0 y := Fin.ext (Nat.mod_eq_of_lt (by omega))
  have hc : 1024 * (csel9_0 y).val + (ix9_0 y 1).val = (y 1).val := Nat.div_add_mod _ _
  beta_reduce
  unfold gateEntry
  rw [hs, hc]

/-- What a point writes back is its block of the gates' cotangents. -/
theorem written9 (t : Fin cfg0.N) : (dats m 0 c).flushed 9 t = ((cfg0.win 9).blk t).view.read (Elt Ideal) (Ggate m c) := by
  rw [flushed9]
  funext y
  exact (has9 m c t ((cfg0.win 9).xinj (grid0.coords t) y)).trans
    (congrArg₂ (gateEntry (uu m c) (pp m c) (dd m c)) (by show 256 * t.val + (y 0).val = _; blk_simp [idx t] <;> omega) (by blk_simp [idx t] <;> omega))

/-- What a point writes back are its blocks of the branches' cotangents. -/
theorem written (t : Fin cfg0.N) : (dats m 0 c).flushed 10 t = ((cfg0.win 10).blk t).view.read (Elt Ideal) (Gbranch m c 0)
    ∧ (dats m 0 c).flushed 11 t = ((cfg0.win 11).blk t).view.read (Elt Ideal) (Gbranch m c 1)
    ∧ (dats m 0 c).flushed 12 t = ((cfg0.win 12).blk t).view.read (Elt Ideal) (Gbranch m c 2)
    ∧ (dats m 0 c).flushed 13 t = ((cfg0.win 13).blk t).view.read (Elt Ideal) (Gbranch m c 3) := by
  have key (n : ℕ) (j : S256x1024.Idx) (o g d : EReal) (ho : o = dBranch g d) (hg : g = uu m c (256 * t.val + (j 0).val) (1024 * n + (j 1).val))
      (hd : d = dd m c (256 * t.val + (j 0).val) (j 1).val) (a b : ℕ) (ha : 256 * t.val + (j 0).val = a) (hb : (j 1).val = b) :
      o = branchEntry (uu m c) (dd m c) n a b := by
    rw [ho, hg, hd, ← ha, ← hb]
    rfl
  have hd := (branches m c t).2.2.2.2
  obtain ⟨h0, h1, h2, h3⟩ := gates m c t
  refine ⟨(flushed10 m c t).trans (funext fun y => ?_), (flushed11 m c t).trans (funext fun y => ?_),
    (flushed12 m c t).trans (funext fun y => ?_), (flushed13 m c t).trans (funext fun y => ?_)⟩
  · exact key 0 ((cfg0.win 10).xinj (grid0.coords t) y) _ _ _ (points _ _ _ _ _ _ _ _ _ _).1 (h0 _) (hd _) _ _
      (by show 256 * t.val + (y 0).val = _; blk_simp [idx t] <;> omega) (by blk_simp [idx t] <;> omega)
  · exact key 1 ((cfg0.win 11).xinj (grid0.coords t) y) _ _ _ (points _ _ _ _ _ _ _ _ _ _).2.1 (h1 _) (hd _) _ _
      (by show 256 * t.val + (y 0).val = _; blk_simp [idx t] <;> omega) (by blk_simp [idx t] <;> omega)
  · exact key 2 ((cfg0.win 12).xinj (grid0.coords t) y) _ _ _ (points _ _ _ _ _ _ _ _ _ _).2.2.1 (h2 _) (hd _) _ _
      (by show 256 * t.val + (y 0).val = _; blk_simp [idx t] <;> omega) (by blk_simp [idx t] <;> omega)
  · exact key 3 ((cfg0.win 13).xinj (grid0.coords t) y) _ _ _ (points _ _ _ _ _ _ _ _ _ _).2.2.2 (h3 _) (hd _) _ _
      (by show 256 * t.val + (y 0).val = _; blk_simp [idx t] <;> omega) (by blk_simp [idx t] <;> omega)

/-- The whole results: their blocks cover them. -/
theorem final : (dats m 0 c).arrAt 9 cfg0.N = Ggate m c ∧ (dats m 0 c).arrAt 10 cfg0.N = Gbranch m c 0 ∧ (dats m 0 c).arrAt 11 cfg0.N = Gbranch m c 1
    ∧ (dats m 0 c).arrAt 12 cfg0.N = Gbranch m c 2 ∧ (dats m 0 c).arrAt 13 cfg0.N = Gbranch m c 3 :=
  ⟨(dats m 0 c).arrAt_eq_of_cover 9 _ (fun t _ => written9 m c t) ((by decide +kernel : win0_9.Covers).cover _ (Memref.isWhole_whole _)),
    (dats m 0 c).arrAt_eq_of_cover 10 _ (fun t _ => (written m c t).1) ((by decide +kernel : win0_10.Covers).cover _ (Memref.isWhole_whole _)),
    (dats m 0 c).arrAt_eq_of_cover 11 _ (fun t _ => (written m c t).2.1) ((by decide +kernel : win0_11.Covers).cover _ (Memref.isWhole_whole _)),
    (dats m 0 c).arrAt_eq_of_cover 12 _ (fun t _ => (written m c t).2.2.1) ((by decide +kernel : win0_12.Covers).cover _ (Memref.isWhole_whole _)),
    (dats m 0 c).arrAt_eq_of_cover 13 _ (fun t _ => (written m c t).2.2.2) ((by decide +kernel : win0_13.Covers).cover _ (Memref.isWhole_whole _))⟩

/-! ## The reference -/

section Reference

variable (u : S8192x8192.Idx → EReal) (q0 q1 q2 q3 d : S8192x1024.Idx → EReal)

/-- The reference's gates. -/
theorem ref_gates : Has (val_main_v11 (F := Ideal) u : S8192x4096.Idx → EReal) (fun x y => Ideal.logistic (ent u x y)) := fun i => by
  rw [val_main_v11_apply, val_main_v10_apply, val_main_cst_0_apply, val_main_v9_apply, val_main_v8_apply, val_main_cst_apply, val_main_v7_apply,
    val_main_v6_apply, gate_host, val_main_v1_apply, val_main_v0_apply]
  exact congrArg Ideal.logistic (ent_of u _ rfl rfl)

/-- The products the reference sets side by side. -/
theorem ref_products (n : Fin 4) : Has ((![val_main_v34 (F := Ideal) q0 d, val_main_v32 (F := Ideal) q1 d, val_main_v30 (F := Ideal) q2 d,
      val_main_v28 (F := Ideal) q3 d] : Fin 4 → S8192x1024.Idx → EReal) n)
    (fun x y => ent d x y * (![ent q0, ent q1, ent q2, ent q3] : Fin 4 → ℕ → ℕ → EReal) n x y) := fun i =>
  match n with
  | 0 => congrArg₂ (fun a b : EReal => a * b) (has_ent d i) (has_ent q0 i)
  | 1 => congrArg₂ (fun a b : EReal => a * b) (has_ent d i) (has_ent q1 i)
  | 2 => congrArg₂ (fun a b : EReal => a * b) (has_ent d i) (has_ent q2 i)
  | 3 => congrArg₂ (fun a b : EReal => a * b) (has_ent d i) (has_ent q3 i)

/-- The reference's cotangents of the gates. -/
theorem ref_gate : Has (val_main_v37 (F := Ideal) u q0 q1 q2 q3 d : S8192x4096.Idx → EReal)
    (gateEntry (ent u) ![ent q0, ent q1, ent q2, ent q3] (ent d)) := by
  intro i
  have h4 : (i 1).val < 4096 := (i 1).isLt
  let at' : S8192x1024.Idx := fun a => match a with
    | ⟨0, _⟩ => (i 0 : Fin 8192)
    | ⟨1, _⟩ => (⟨(i 1).val % 1024, Nat.mod_lt _ (by omega)⟩ : Fin 1024)
  have key : val_main_v35 (F := Ideal) q0 q1 q2 q3 d i = _ :=
    concatenate_ofFn_apply (t := S8192x4096) (s₁ := S8192x1024) (1 : Fin 2)
      (![val_main_v34 (F := Ideal) q0 d, val_main_v32 (F := Ideal) q1 d, val_main_v30 (F := Ideal) q2 d, val_main_v28 (F := Ideal) q3 d] : Fin 4 → S8192x1024.Idx → EReal)
      _ rfl 1024 rfl i (Fin.ofNat 4 ((i 1).val / 1024)) (Nat.mod_eq_of_lt (by omega)).symm at' rfl
      (fun b hb => match b with | ⟨0, _⟩ => rfl | ⟨1, _⟩ => absurd rfl hb)
  rw [val_main_v37_apply, val_main_v36_apply, key, val_main_v14_apply, val_main_v13_apply, val_main_v12_apply, val_main_cst_1_apply, ref_gates u i,
    ref_products q0 q1 q2 q3 d _ at']
  show _ * (_ * (one - _)) = _
  rw [one_eq]
  rfl

/-- The reference's cotangents of the branches. -/
theorem ref_branch : Has (val_main_v38 (F := Ideal) u d : S8192x1024.Idx → EReal) (branchEntry (ent u) (ent d) 0)
    ∧ Has (val_main_v39 (F := Ideal) u d : S8192x1024.Idx → EReal) (branchEntry (ent u) (ent d) 1)
    ∧ Has (val_main_v40 (F := Ideal) u d : S8192x1024.Idx → EReal) (branchEntry (ent u) (ent d) 2)
    ∧ Has (val_main_v41 (F := Ideal) u d : S8192x1024.Idx → EReal) (branchEntry (ent u) (ent d) 3) := by
  have key (n : ℕ) (i : S8192x1024.Idx) (k : S8192x4096.Idx) (h0 : (k 0).val = (i 0).val) (h1 : (k 1).val = 1024 * n + (i 1).val) :
      (val_main_v11 (F := Ideal) u k * d i : EReal) = branchEntry (ent u) (ent d) n (i 0).val (i 1).val := by
    rw [ref_gates u k, has_ent d i, h0, h1]
    rfl
  refine ⟨fun i => ?_, fun i => ?_, fun i => ?_, fun i => ?_⟩
  · rw [val_main_v38_apply, val_main_v33_apply, val_main_v15_apply]
    exact key 0 i _ rfl (by simp)
  · rw [val_main_v39_apply, val_main_v31_apply, val_main_v16_apply]
    exact key 1 i _ rfl rfl
  · rw [val_main_v40_apply, val_main_v29_apply, val_main_v17_apply]
    exact key 2 i _ rfl rfl
  · rw [val_main_v41_apply, val_main_v27_apply, val_main_v18_apply]
    exact key 3 i _ rfl rfl

end Reference

/-! ## The claims -/

/-- The reference declares no semaphore and leaves its arguments as launched. -/
theorem frame_reference : Cert.quiescent_Reference30Ideal := fun m ρ _ =>
  (θ_run Cert.Reference30Ideal.defs _ _).mono (fun r h => ⟨fun c => (h c).2.2.2.2.2, sem_eq_zero_of_no_sems (by decide) r.2⟩)
    (Cert.Reference30Ideal.Value.run (F := Ideal) m ρ)

/-- The kernel's ideal program and the reference compute the same cotangents. -/
theorem algebraic : Cert.algebraic_Kernel30Ideal_Reference30Ideal := by
  intro m g m' g' _ hm
  refine ⟨fun c => Ggate m c, fun c => Gbranch m c 0, fun c => Gbranch m c 1, fun c => Gbranch m c 2, fun c => Gbranch m c 3,
    (θ_run _ _ _).mono (fun _ h c => ?_) (Cert.Kernel30Ideal.Value.run_blocks m g),
    (θ_run _ _ _).mono (fun _ h c => ?_) (Cert.Reference30Ideal.Value.run (F := Ideal) m' g')⟩
  · obtain ⟨f9, f10, f11, f12, f13⟩ := final m c
    obtain ⟨v9, v10, v11, v12, v13, k⟩ := h c
    exact ⟨v9.trans f9, v10.trans f10, v11.trans f11, v12.trans f12, v13.trans f13, k⟩
  · obtain ⟨v9, v10, v11, v12, v13, k⟩ := h c
    obtain ⟨e0, e1, e2, e3, e4, e5⟩ := hm c
    rw [e0, e5] at v10 v11 v12 v13
    rw [e0, e1, e2, e3, e4, e5] at v9
    obtain ⟨r10, r11, r12, r13⟩ := ref_branch (m ((c.tc : Thread nD τ).loc main_arg0)) (m ((c.tc : Thread nD τ).loc main_arg5))
    exact ⟨v9.trans ((val_main_v37_eq _ _ _ _ _ _).trans ((ref_gate _ _ _ _ _ _).eq (has_mat _ _ _))),
      v10.trans ((val_main_v38_eq _ _).trans (r10.eq (has_mat _ _ _))), v11.trans ((val_main_v39_eq _ _).trans (r11.eq (has_mat _ _ _))),
      v12.trans ((val_main_v40_eq _ _).trans (r12.eq (has_mat _ _ _))), v13.trans ((val_main_v41_eq _ _).trans (r13.eq (has_mat _ _ _))), k⟩

end Cert.Proof.Gates.DMerge

end
-- ==== Proof.Mla.Tile.lean ====
/-
  The tiles of `h` rows of a slab, as what a load of a tile reads and a store over a tile leaves: for any slab and any tile.
-/
module

public import Idealize.ShloMosaic.Lib.Pipeline.FrameBody
public import Idealize.ShloMosaic.Lib.Claim
public import Idealize.ShloMosaic.Lib.LoopRemainder

@[expose] public section

noncomputable section

namespace Cert.Proof.Mla

open Idealize.ShloMosaic Idealize.ShloMosaic.TcCoe
open Idealize.SL Idealize.SL.Sem

variable {F : FTy → Type} [FloatOps F]

/-- A slab of `N` rows and `W` columns. -/
abbrev Sl (N W : ℕ) : Shape := ⟨2, ![N, W]⟩

variable {N W : ℕ} [NeZero N] (h : ℕ) [NeZero h]

/-- The element of a slab in row `h j + x₀`, column `x₁`. -/
def tileIdx (j : ℕ) (x : (Sl h W).Idx) : (Sl N W).Idx :=
  fun a => match a with
    | ⟨0, _⟩ => (Fin.ofNat N (h * j + (x 0).val) : Fin N)
    | ⟨1, _⟩ => (x 1 : Fin W)

/-- Rows `h j … h j + h - 1` of a slab. -/
def rows {e : EltTy} (X : Vec F (Sl N W) e) (j : ℕ) : Vec F (Sl h W) e := fun x => X (tileIdx h j x)

/-- Where a slab's element lies within its tile. -/
def inTile (y : (Sl N W).Idx) : (Sl h W).Idx :=
  fun a => match a with
    | ⟨0, _⟩ => (Fin.ofNat h ((y 0).val % h) : Fin h)
    | ⟨1, _⟩ => (y 1 : Fin W)

/-- The slab with tile `j` replaced. -/
def setRows {e : EltTy} (X : Vec F (Sl N W) e) (j : ℕ) (w : Vec F (Sl h W) e) : Vec F (Sl N W) e :=
  fun y => if (y 0).val / h = j then w (inTile h y) else X y

/-- The rectangle of tile `j` sends `x` to `tileIdx h j x`. -/
theorem emb_tile (off : Fin 2 → ℕ) (hb : ∀ a, off a + (Sl h W).size a ≤ (Sl N W).size a) (j : ℕ) (hoff : off = ![h * j, 0])
    (x : (Sl h W).Idx) : (Rect.unit (s := Sl N W) off (Sl h W).size hb).emb x = tileIdx h j x := by
  subst hoff
  have h0 : h * j + h ≤ N := hb 0
  have hx : (x 0).val < h := (x 0).isLt
  funext a; apply Fin.ext
  match a with
  | ⟨0, _⟩ =>
    show h * j + 1 * (x 0).val = (h * j + (x 0).val) % N
    rw [Nat.mod_eq_of_lt (by omega)]; omega
  | ⟨1, _⟩ => show 0 + 1 * (x 1).val = (x 1).val; omega

/-- A store over tile `j` replaces the tile's rows. -/
theorem overlay_tile {e : EltTy} (X : Vec F (Sl N W) e) (off : Fin 2 → ℕ) (hb : ∀ a, off a + (Sl h W).size a ≤ (Sl N W).size a)
    (j : ℕ) (hoff : off = ![h * j, 0]) (w : Vec F (Sl h W) e) :
    (Rect.unit (s := Sl N W) off (Sl h W).size hb).overlay X w = setRows h X j w := by
  funext y
  have h0 : h * j + h ≤ N := by have := hb 0; rw [hoff] at this; exact this
  have hh : 0 < h := Nat.pos_of_ne_zero (NeZero.ne h)
  by_cases hy : (y 0).val / h = j
  · have he : y = (Rect.unit (s := Sl N W) off (Sl h W).size hb).emb (inTile h y) := by
      rw [emb_tile h off hb j hoff]
      funext a; apply Fin.ext
      match a with
      | ⟨0, _⟩ =>
        show (y 0).val = (h * j + (y 0).val % h % h) % N
        have h8 : (y 0).val < N := (y 0).isLt
        have hd := Nat.div_add_mod (y 0).val h
        rw [hy] at hd
        rw [Nat.mod_mod, hd, Nat.mod_eq_of_lt h8]
      | ⟨1, _⟩ => rfl
    refine (congrArg _ he).trans ((Rect.overlay_emb _ _ _ _).trans ?_)
    unfold setRows; rw [if_pos hy]
  · rw [Rect.overlay_of_not_mem]
    · unfold setRows; rw [if_neg hy]
    · intro hm
      rw [Rect.mem_set_unit] at hm
      have := hm 0
      rw [hoff] at this
      have h1 : h * j ≤ (y 0).val := this.1
      have h2 : (y 0).val < h * j + h := this.2
      exact hy ((Nat.div_eq_iff hh).2 ⟨by rw [Nat.mul_comm]; exact h1, by rw [Nat.mul_comm]; omega⟩)

/-- Another tile's rows once tile `j` is replaced. -/
theorem rows_setRows_ne {e : EltTy} (X : Vec F (Sl N W) e) (j j' : ℕ) (w : Vec F (Sl h W) e) (hne : j' ≠ j) (hj : h * j' + h ≤ N) :
    rows h (setRows h X j w) j' = rows h X j' := by
  funext x
  have hx : (x 0).val < h := (x 0).isLt
  refine if_neg ?_
  show (h * j' + (x 0).val) % N / h ≠ j
  rw [Nat.mod_eq_of_lt (by omega), Nat.mul_add_div (by omega), Nat.div_eq_of_lt hx]
  exact hne

theorem zero2 : (![0, 0] : Fin 2 → ℕ) = fun _ => 0 := by funext a; fin_cases a <;> rfl

variable {sg : RefSig} {κ' : Kind} {sp : Space}

/-- A load of a slab at tile `j` reads the tile's rows. -/
theorem readTile {e : EltTy} (v : View sg κ' sp (Sl N W) e) (f : v.ty.Contents (Elt F)) (off : Fin 2 → ℕ) (hb) (j : ℕ)
    (hoff : off = ![h * j, 0]) :
    v.readAt (Elt F) (Rect.unit (s := Sl N W) off (Sl h W).size hb).toLoadRect f = rows h (v.read (Elt F) f) j := by
  funext x
  show (v.read (Elt F) f) ((Rect.unit (s := Sl N W) off (Sl h W).size hb).emb x) = (v.read (Elt F) f) (tileIdx h j x)
  rw [emb_tile h off hb j hoff]

/-- A store over tile `j` of a slab. -/
theorem writes_tile {e : EltTy} (v : View sg κ' sp (Sl N W) e) (f : v.ty.Contents (Elt F)) (off : Fin 2 → ℕ) (hb)
    (j : ℕ) (hoff : off = ![h * j, 0]) (w : Vec F (Sl h W) e) :
    v.read (Elt F) (v.writes (Elt F) f [⟨Rect.unit (s := Sl N W) off (Sl h W).size hb, w⟩]) = setRows h (v.read (Elt F) f) j w := by
  rw [← overlay_tile h (v.read (Elt F) f) off hb j hoff w]
  funext y
  by_cases hy : y ∈ (Rect.unit (s := Sl N W) off (Sl h W).size hb).set
  · obtain ⟨x, rfl⟩ := (Rect.unit (s := Sl N W) off (Sl h W).size hb).exists_idx_of_mem hy
    exact (View.read_writes_cons_emb _ _ _ _ _ _).trans (Rect.overlay_emb _ _ _ _).symm
  · rw [Rect.overlay_of_not_mem _ _ _ hy]
    exact View.read_writes_apply_of_forall_not_mem _ _ _ _ (fun p hp => by
      rw [List.mem_singleton] at hp; subst hp; exact hy)

/-- A load of a whole buffer reads the buffer, -/
theorem readWhole {e : EltTy} (v : View sg κ' sp (Sl N W) e) (f : v.ty.Contents (Elt F)) (hb) :
    v.readAt (Elt F) (Rect.unit (s := Sl N W) ![0, 0] (Sl N W).size hb).toLoadRect f = v.read (Elt F) f := by
  funext x
  show (v.read (Elt F) f) ((Rect.unit (s := Sl N W) ![0, 0] (Sl N W).size hb).emb x) = _
  congr 1
  funext a; apply Fin.ext
  match a with
  | ⟨0, _⟩ => show 0 + 1 * (x 0).val = (x 0).val; omega
  | ⟨1, _⟩ => show 0 + 1 * (x 1).val = (x 1).val; omega

/-- and a store over it leaves what is stored. -/
theorem writesWhole {e : EltTy} (v : View sg κ' sp (Sl N W) e) (f : v.ty.Contents (Elt F)) (hb) (w : Vec F (Sl N W) e) :
    v.read (Elt F) (v.writes (Elt F) f [⟨Rect.unit (s := Sl N W) ![0, 0] (Sl N W).size hb, w⟩]) = w := by
  have hx : ∀ x, (Rect.unit (s := Sl N W) ![0, 0] (Sl N W).size hb).emb x = x := by
    intro x
    funext a; apply Fin.ext
    match a with
    | ⟨0, _⟩ => show 0 + 1 * (x 0).val = (x 0).val; omega
    | ⟨1, _⟩ => show 0 + 1 * (x 1).val = (x 1).val; omega
  funext x
  conv_lhs => rw [← hx x]
  exact View.read_writes_cons_emb _ _ _ _ _ _

end Cert.Proof.Mla

end
-- ==== Proof.Mla.Fwd.lean ====
/-
  The latent attention's forward body: what it leaves in its two results from the blocks it reads, and its triple.
-/
module

public import proofs.«01_k».proof.Proof.Mla.Tile
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Regions

@[expose] public section

set_option maxRecDepth 16384

noncomputable section

namespace Cert.Proof.Mla

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What the body computes -/

/-- The walk's state: the running maximum, the running sum and the weighted values. -/
abbrev FSt (F : FTy → Type) := FVec F S1024x1 .f32 × FVec F S1024x1 .f32 × FVec F S1024x128 .f32

section Steps

variable (q : Vec F S1024x256 .bf16) (k : Vec F S8192x256 .bf16) (v : Vec F S8192x128 .bf16)

/-- One tile before the diagonal. -/
def fwdStep (j : ℕ) (s : FSt F) : FSt F :=
  (k0_pay8 q s.1 (rows 1024 k j), k0_pay11 q s.1 s.2.1 (rows 1024 k j), k0_pay12 q s.1 s.2.2 (rows 1024 k j) (rows 1024 v j))

/-- The first `n` tiles. -/
def fwdGo : ℕ → FSt F
  | 0 => (k0_pay4, k0_pay5, k0_pay6)
  | n + 1 => fwdStep q k v n (fwdGo n)

/-- The rows' numbers, and the sign of the chunk's length. -/
def rowIota : IVec S1024x1024 32 := iota .tc S1024x1024 32 [0] iota_S1024x1024_d0_w32
def chunkSign : BitVec 32 := Scalar.subi (Scalar.extui (Scalar.cmpi .sgt 64#32 0#32)) (Scalar.extui (Scalar.cmpi .slt 64#32 0#32))

/-- The diagonal tile's maximum, its exponentials, and the rescaling of what came before. -/
def diagMax (i : ℕ) : FVec F S1024x1 .f32 :=
  k0_pay23 (fwdGo q k v i).1 (k0_pay19 q (rows 1024 k i)) rowIota 64#32 k0_pay20 k0_pay21 chunkSign
def diagExp (i : ℕ) : FVec F S1024x1024 .f32 :=
  k0_pay24 (fwdGo q k v i).1 (k0_pay19 q (rows 1024 k i)) rowIota 64#32 k0_pay20 k0_pay21 chunkSign
def diagScale (i : ℕ) : FVec F S1024x1 .f32 :=
  k0_pay25 (fwdGo q k v i).1 (k0_pay19 q (rows 1024 k i)) rowIota 64#32 k0_pay20 k0_pay21 chunkSign

/-- The attention's rows and their log sums. -/
def fwdO (i : ℕ) : FVec F S1024x128 .f32 :=
  k0_pay2 (fwdGo q k v i).2.1 (fwdGo q k v i).2.2 (rows 1024 v i) (diagExp q k v i) (diagScale q k v i)
def fwdLse (i : ℕ) : FVec F S1024x128 .f32 :=
  k0_pay3 (fwdGo q k v i).2.1 (diagMax q k v i) (diagExp q k v i) (diagScale q k v i)

end Steps

/-! ## The loop -/

theorem k0_t1_trips : ∀ i : grid0.Coords, (k0_t1_loop i).trips = (i 1).val := by decide +kernel
theorem k0_t2_trips (i : grid0.Coords) : (k0_t2_loop i).trips = 0 := Nat.le_zero.1 (k0_t2_abs i).2.1

variable (c : Dev nD) (E : Set ℕ) (i : grid0.Coords) (arg2 : Memref sig .tc .vmem S1024x256 .bf16) (harg2 : arg2.IsWhole)
  (arg3 : Memref sig .tc .vmem S8192x256 .bf16) (harg3 : arg3.IsWhole) (arg4 : Memref sig .tc .vmem S8192x128 .bf16) (harg4 : arg4.IsWhole)
  (arg5 : Memref sig .tc .vmem S1024x128 .f32) (harg5 : arg5.IsWhole) (arg6 : Memref sig .tc .vmem S1024x128 .f32) (harg6 : arg6.IsWhole)
  (q : Vec F S1024x256 .bf16) (k : Vec F S8192x256 .bf16) (v : Vec F S8192x128 .bf16)

/-- The walk's invariant at trip `t`. -/
def fwdInv (t : ℕ) (acc : FSt F) : sProp 𝕄 :=
  iprop(⌜acc = fwdGo q k v t⌝ ∗ owns (c : Thread nD τ) arg3 fullShare k ∗ owns (c : Thread nD τ) arg4 fullShare v)

/-- One trip keeps it. -/
theorem fwd_trip (t : Fin (k0_t1_loop i).trips) (acc : FSt F) :
    fwdInv c arg3 arg4 q k v t.val acc
      ⊢ wp frame (wpE (defs₀ (F := F)) Variants.nat (c : Thread nD τ) none) E
          (k0_t1_body i arg2 harg2 arg3 harg3 arg4 harg4 arg5 harg5 arg6 harg6 q t acc)
          (fwdInv c arg3 arg4 q k v (t.val + 1)) := by
  have hoff1 := k0_off1_eq i t
  have hoff2 := k0_off2_eq i t
  unfold fwdInv
  rw [show fwdGo q k v (t.val + 1) = fwdStep q k v t.val (fwdGo q k v t.val) from rfl]
  generalize fwdGo q k v t.val = s'
  simp only [k0_t1_body, Prog.lift, Prog.bind_op, Prog.bind_ret, Prog.pure_eq_ret]
  unfold owns
  iintro ⟨%hacc, ⟨%f3, %hf3, H3⟩, ⟨%f4, %hf4, H4⟩⟩
  subst hacc hf3 hf4
  sl_exec
  sl_unfold_run_names
  sl_step
  isplitr
  · ipureintro
    unfold fwdStep
    have h1 := readTile (F := F) 1024 arg3.view f3 _ (k0_off1_inb i t) t.val hoff1
    have h2 := readTile (F := F) 1024 arg4.view f4 _ (k0_off2_inb i t) t.val hoff2
    rw [← h1, ← h2]
  isplitl [H3]
  · iexists f3; isplitr; · ipureintro; rfl
    iexact H3
  iexists f4; isplitr; · ipureintro; rfl
  iexact H4

/-- The body once its row block is read. -/
def fwdRest : Prog (TpuEff nD τ sig (Elt F) Λ₀ .tc) PUnit := do
  let x ← Scf.Loop.for (k0_t1_loop i) (k0_t1_ok i) (k0_pay4 (F := F), k0_pay5 (F := F), k0_pay6 (F := F))
    (k0_t1_body i arg2 harg2 arg3 harg3 arg4 harg4 arg5 harg5 arg6 harg6 q)
  let y ← Scf.Loop.for (k0_t2_loop i) (k0_t2_ok i) (x.1, x.2.1, x.2.2)
    (k0_t2_body i arg2 harg2 arg3 harg3 arg4 harg4 arg5 harg5 arg6 harg6 q)
  .op (.load arg3 (Rect.unit (s := S8192x256) (k0_off5 i) S1024x256.size (k0_off5_inb i)).toLoadRect (View.loadsAt_vmem h_S1024x256)) fun v16 =>
  .op (.load arg4 (Rect.unit (s := S8192x128) (k0_off6 i) S1024x128.size (k0_off6_inb i)).toLoadRect (View.loadsAt_vmem h_S1024x128)) fun v18 =>
  .op (.load arg5 (Rect.unit (s := S1024x128) ![0, 0] S1024x128.size inb_S1024x128_S1024x128_0_0).toLoadRect (View.loadsAt_vmem h_S1024x128)) fun _ =>
  .op (.store arg5 (Rect.unit (s := S1024x128) ![0, 0] S1024x128.size inb_S1024x128_S1024x128_0_0)
    (k0_pay2 y.2.1 y.2.2 v18 (k0_pay24 y.1 (k0_pay19 q v16) rowIota 64#32 k0_pay20 k0_pay21 chunkSign)
      (k0_pay25 y.1 (k0_pay19 q v16) rowIota 64#32 k0_pay20 k0_pay21 chunkSign)) Finset.univ (View.stores_vmem_bits_univ h_S1024x128 rfl) (.inl rfl)) fun _ =>
  .op (.load arg6 (Rect.unit (s := S1024x128) ![0, 0] S1024x128.size inb_S1024x128_S1024x128_0_0).toLoadRect (View.loadsAt_vmem h_S1024x128)) fun _ =>
  .op (.store arg6 (Rect.unit (s := S1024x128) ![0, 0] S1024x128.size inb_S1024x128_S1024x128_0_0)
    (k0_pay3 y.2.1 (k0_pay23 y.1 (k0_pay19 q v16) rowIota 64#32 k0_pay20 k0_pay21 chunkSign)
      (k0_pay24 y.1 (k0_pay19 q v16) rowIota 64#32 k0_pay20 k0_pay21 chunkSign)
      (k0_pay25 y.1 (k0_pay19 q v16) rowIota 64#32 k0_pay20 k0_pay21 chunkSign)) Finset.univ (View.stores_vmem_bits_univ h_S1024x128 rfl) (.inl rfl)) fun _ =>
    Prog.ret ⟨⟩

/-- The whole body. -/
theorem cc0_eq : cc0_mla (F := F) i arg2 harg2 arg3 harg3 arg4 harg4 arg5 harg5 arg6 harg6
    = .op (.load arg2 (Rect.unit (s := S1024x256) ![0, 0] S1024x256.size inb_S1024x256_S1024x256_0_0).toLoadRect (View.loadsAt_vmem h_S1024x256))
        fun v0 => fwdRest i arg2 harg2 arg3 harg3 arg4 harg4 arg5 harg5 arg6 harg6 v0 := by
  simp only [cc0_mla_eq_skeleton, cc0_mla_skel, k0_part1_eq_skeleton, k0_part1_skel, k0_part2_eq_skeleton, k0_part2_skel, fwdRest, Prog.lift,
    Prog.bind_op, Prog.bind_ret, Prog.pure_eq_ret, Prog.bind_assoc]
  rfl

/-- The forward body at grid point `i`: from the blocks of `q`, `k`, `v` it leaves the two results' blocks. -/
theorem fwd_sound (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare (fwdO q k v (i 1).val) ∗ owns (c : Thread nD τ) arg6 fullShare (fwdLse q k v (i 1).val)) -∗ K ⟨⟩))
      ⊢ wp frame (wpE (defs₀ (F := F)) Variants.nat (c : Thread nD τ) none) E
          (cc0_mla i arg2 harg2 arg3 harg3 arg4 harg4 arg5 harg5 arg6 harg6) K := by
  rw [cc0_eq]
  unfold owns
  iintro ⟨⟨%f2, %hf2, H2⟩, H3, H4, ⟨%d5, %f5, -, H5⟩, ⟨%d6, %f6, -, H6⟩, Hk⟩
  subst hf2
  sl_step
  have hq := readWhole (F := F) arg2.view f2 inb_S1024x256_S1024x256_0_0
  rw [show arg2.view.readAt (Elt F) (Rect.unit (s := S1024x256) ![0, 0] S1024x256.size inb_S1024x256_S1024x256_0_0).toLoadRect f2
    = arg2.view.read (Elt F) f2 from hq]
  unfold fwdRest
  iapply (Scf.wp_for_bind frame (wpE (defs₀ (F := F)) Variants.nat (c : Thread nD τ) none) E _ _ _ (k0_t1_ok i) _ _
    (fwdInv c arg3 arg4 (arg2.view.read (Elt F) f2) k v)
    (fwd_trip c E i arg2 harg2 arg3 harg3 arg4 harg4 arg5 harg5 arg6 harg6 (arg2.view.read (Elt F) f2) k v)) $$ [H3 H4]
  · unfold fwdInv owns
    isplitr; · ipureintro; rfl
    isplitl [H3]; · iexact H3
    iexact H4
  iintro %acc Hinv
  rw [show Scf.Loop.for (k0_t2_loop i) (k0_t2_ok i) (acc.1, acc.2.1, acc.2.2) _ = .ret (acc.1, acc.2.1, acc.2.2)
    from Scf.for_eq_ret _ _ _ _ _ _ (k0_t2_trips i)]
  rw [show Scf.trips (k0_t1_loop i).lb (k0_t1_loop i).ub (k0_t1_loop i).st = (i 1).val from k0_t1_trips i]
  unfold fwdInv owns
  icases Hinv with ⟨%hacc, ⟨%f3, %hf3, H3⟩, ⟨%f4, %hf4, H4⟩⟩
  subst hacc hf3 hf4
  simp only [Prog.bind_ret]
  sl_exec
  sl_unfold_run_names
  sl_step
  have h1 := readTile (F := F) 1024 arg3.view f3 _ (k0_off5_inb i) (i 1).val (k0_off5_eq i)
  have h2 := readTile (F := F) 1024 arg4.view f4 _ (k0_off6_inb i) (i 1).val (k0_off6_eq i)
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (writesWhole _ _ _ _).trans ?_
    unfold fwdO diagExp diagScale
    rw [← h1, ← h2]
  iexists _; isplitr
  swap; · iexact H6
  ipureintro
  refine (writesWhole _ _ _ _).trans ?_
  unfold fwdLse diagMax diagExp diagScale
  rw [← h1]

end Cert.Proof.Mla

end
-- ==== Proof.Mla.Region0.lean ====
/-
  The forward region's proof data and the body obligation at each of its points.
-/
module

public import proofs.«01_k».proof.Proof.Mla.Fwd
public import proofs.«01_k».proof.Proof.Gen.Kernel17Ideal.Points
public import proofs.«01_k».proof.Proof.Gen.Kernel17Ideal.Regions
public import Idealize.ShloMosaic.Lib.Claim

@[expose] public section

set_option maxRecDepth 16384

noncomputable section

namespace Cert.Proof.Mla

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it. -/
def blk0 (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- What the forward body leaves at point `t`: the outputs and the rows' log-sums. -/
def out0 (t : Fin cfg0.N) : Vec F S1024x128 .f32 := fwdO (blk0 W 0 t) (blk0 W 1 t) (blk0 W 2 t) (grid0.coords t 1).val
def lse0 (t : Fin cfg0.N) : Vec F S1024x128 .f32 := fwdLse (blk0 W 0 t) (blk0 W 1 t) (blk0 W 2 t) (grid0.coords t 1).val

/-- The forward region's proof data: each operand's buffer keeps its block, each result's holds what the body leaves. -/
def dat0 (c : Dev nD) : Dat τ (Elt F) Unit ℕ (UR sig nD τ) ℕ cfg0 c where
  A w := W (Proc.devRef .tc (Pipeline.arrRef spec0 w))
  after w t := match w with
    | ⟨0, _⟩ => blk0 W 0 t
    | ⟨1, _⟩ => blk0 W 1 t
    | ⟨2, _⟩ => blk0 W 2 t
    | ⟨3, _⟩ => out0 W t
    | ⟨4, _⟩ => lse0 W t
  Φ _ := Pipeline.scopedRest spec0 c
  q _ := fullShare
  owed _ := 0

theorem A0_eq (c : Dev nD) (w : Fin cfg0.W) : (dat0 W c).A w = W (Proc.devRef .tc (Pipeline.arrRef spec0 w)) := by
  dsimp only [dat0]

variable (c : Dev nD) (t : Fin cfg0.N)

theorem after0_0 : (dat0 W c).after 0 t = blk0 W 0 t := rfl
theorem after0_1 : (dat0 W c).after 1 t = blk0 W 1 t := rfl
theorem after0_2 : (dat0 W c).after 2 t = blk0 W 2 t := rfl
theorem after0_3 : (dat0 W c).after 3 t = out0 W t := rfl
theorem after0_4 : (dat0 W c).after 4 t = lse0 W t := rfl

theorem before0_0 (d) : (dat0 W c).before 0 t d = blk0 W 0 t :=
  (dat0 W c).before_in_eq_fetched 0 rfl (fun _ => rfl) (fun _ _ _ => rfl) (fun _ => rfl) t d
theorem before0_1 (d) : (dat0 W c).before 1 t d = blk0 W 1 t :=
  (dat0 W c).before_in_eq_fetched 1 rfl (fun _ => rfl) (fun _ _ _ => rfl) (fun _ => rfl) t d
theorem before0_2 (d) : (dat0 W c).before 2 t d = blk0 W 2 t :=
  (dat0 W c).before_in_eq_fetched 2 rfl (fun _ => rfl) (fun _ _ _ => rfl) (fun _ => rfl) t d

/-- What the body is called with at point `t`, -/
def bodyPre0 : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d)))

/-- and what it returns. -/
def bodyPost0 : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t))

/-- The body at any point. -/
theorem sound_body0 (c : Dev nD) (t : Fin cfg0.N) :
    bodyPre0 W c t ⊢ wp frame (wpE (defs₀ (F := F)) Variants.nat (c : Thread nD τ) none) Set.univ (bodyAt0 t) (fun _ => bodyPost0 W c t) := by
  unfold bodyPre0 bodyPost0 bodyAt0
  simp only [before0_0, before0_1, before0_2]
  rw [show (dat0 W c).Φ t.succ = (dat0 W c).Φ t.castSucc from rfl,
    show (dat0 W c).owesAt () t.succ = (dat0 W c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (fwd_sound c Set.univ (grid0.coords t) _ _ _ _ _ _ _ _ _ _ (blk0 W 0 t) (blk0 W 1 t) (blk0 W 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 W c) (defs₀ (F := F)) Variants.nat () Set.univ := fun t => by
  rw [bigSep_W0, bigSep_W0, defs₀_row0]
  exact triple_restated (sound_body0 W c t) rfl .rfl fun _ => .rfl

end Cert.Proof.Mla

end
-- ==== Proof.Mla.Bwd.lean ====
/-
  The latent attention's backward body: what it leaves in its three results from the blocks it reads, and its triple.
-/
module

public import proofs.«01_k».proof.Proof.Mla.Fwd

@[expose] public section

set_option maxRecDepth 16384

noncomputable section

namespace Cert.Proof.Mla

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What the body computes -/

/-- The walk's state: the query gradient, and the key and value gradients' slabs. -/
structure BSt (F : FTy → Type) where
  dq : FVec F S1024x256 .f32
  dk : Vec F S8192x256 .f32
  dv : Vec F S8192x128 .f32

/-- Column 0 of a statistics block. -/
def col0 (X : Vec F S1024x128 .f32) : Vec F S1024x1 .f32 :=
  View.ld (Val := Elt F) X (Rect.unit (s := S1024x128) ![0, 0] S1024x1.size inb_S1024x128_S1024x1_0_0)

/-- The two words of the sign of the chunk's length. -/
def sgnPos : BitVec 32 := Scalar.extui (Scalar.cmpi .sgt 64#32 0#32)
def sgnNeg : BitVec 32 := Scalar.extui (Scalar.cmpi .slt 64#32 0#32)

section Steps

variable (q : Vec F S1024x256 .bf16) (k : Vec F S8192x256 .bf16) (v : Vec F S8192x128 .bf16) (o : Vec F S1024x128 .f32)
  (dO : Vec F S1024x128 .bf16) (lse : Vec F S1024x1 .f32)

/-- One tile before the diagonal. -/
def bwdStep (j : ℕ) (s : BSt F) : BSt F where
  dq := k1_pay10 q dO dO o lse s.dq (rows 512 k j) (rows 512 v j)
  dk := setRows 512 s.dk j (k1_pay9 q dO dO o lse (rows 512 k j) (rows 512 v j) (rows 512 s.dk j))
  dv := setRows 512 s.dv j (k1_pay7 q dO lse (rows 512 k j) (rows 512 s.dv j))

/-- The first `n` tiles. -/
def bwdGo : ℕ → BSt F → BSt F
  | 0, s => s
  | n + 1, s => bwdStep q k v o dO lse n (bwdGo n s)

/-- The first diagonal tile, -/
def bwdDiag0 (j : ℕ) (s : BSt F) : BSt F where
  dq := k1_pay28 dO (k1_pay3 dO o) (k1_pay4 lse) s.dq (rows 512 k j) (rows 512 v j) (k1_pay18 (k1_pay16 q (rows 512 k j)) k1_pay17)
    k1_pay19 k1_pay21 k1_pay22 k1_pay23
  dk := setRows 512 s.dk j (k1_pay27 q dO (k1_pay3 dO o) (k1_pay4 lse) (rows 512 v j) (k1_pay18 (k1_pay16 q (rows 512 k j)) k1_pay17)
    k1_pay19 k1_pay21 k1_pay22 k1_pay23 (rows 512 s.dk j))
  dv := setRows 512 s.dv j (k1_pay25 dO (k1_pay4 lse) (k1_pay18 (k1_pay16 q (rows 512 k j)) k1_pay17) k1_pay19 k1_pay21 k1_pay22 k1_pay23
    (rows 512 s.dv j))

/-- and the second. -/
def bwdDiag1 (j : ℕ) (s : BSt F) : BSt F where
  dq := k1_pay38 dO (k1_pay3 dO o) (k1_pay4 lse) s.dq (rows 512 k j) (rows 512 v j) (k1_pay29 q (rows 512 k j))
    k1_pay30 k1_pay31 64#32 k1_pay32 k1_pay33 sgnPos sgnNeg
  dk := setRows 512 s.dk j (k1_pay37 q dO (k1_pay3 dO o) (k1_pay4 lse) (rows 512 v j) (k1_pay29 q (rows 512 k j))
    k1_pay30 k1_pay31 64#32 k1_pay32 k1_pay33 sgnPos sgnNeg (rows 512 s.dk j))
  dv := setRows 512 s.dv j (k1_pay35 dO (k1_pay4 lse) (k1_pay29 q (rows 512 k j))
    k1_pay30 k1_pay31 64#32 k1_pay32 k1_pay33 sgnPos sgnNeg (rows 512 s.dv j))

/-- The state before the first tile, over the slabs' contents: at the first row block the slabs are cleared. -/
def bwdInit (i : ℕ) (dk : Vec F S8192x256 .f32) (dv : Vec F S8192x128 .f32) : BSt F :=
  ⟨k1_pay5, if i = 0 then k1_pay1 else dk, if i = 0 then k1_pay2 else dv⟩

/-- The state after the walk at row block `i`, -/
def bwdWalk (i : ℕ) (dk : Vec F S8192x256 .f32) (dv : Vec F S8192x128 .f32) : BSt F :=
  bwdGo q k v o dO lse (2 * i) (bwdInit i dk dv)

/-- and what the body ends with. -/
def bwdRes (i : ℕ) (dk : Vec F S8192x256 .f32) (dv : Vec F S8192x128 .f32) : BSt F :=
  bwdDiag1 q k v o dO lse (2 * i + 1) (bwdDiag0 q k v o dO lse (2 * i) (bwdWalk q k v o dO lse i dk dv))

end Steps

/-! ## The body -/

theorem k1_t1_trips : ∀ i : grid1.Coords, (k1_t1_loop i).trips = 2 * (i 1).val := by decide +kernel
theorem k1_t2_trips (i : grid1.Coords) : (k1_t2_loop i).trips = 0 := Nat.le_zero.1 (k1_t2_abs i).2.1

/-- The two diagonal tiles' offsets. -/
theorem off_k0 (i : grid1.Coords) : k1_off5 i 0#32 = ![512 * (2 * (i 1).val), 0] :=
  (k1_off5_eq i 0).trans (by
    show (![1024 * (i 1).val + 0, 0] : Fin 2 → ℕ) = _
    rw [show 1024 * (i 1).val + 0 = 512 * (2 * (i 1).val) by omega])
theorem off_k1 (i : grid1.Coords) : k1_off5 i 512#32 = ![512 * (2 * (i 1).val + 1), 0] :=
  (k1_off5_eq i 1).trans (by
    show (![1024 * (i 1).val + 512, 0] : Fin 2 → ℕ) = _
    rw [show 1024 * (i 1).val + 512 = 512 * (2 * (i 1).val + 1) by omega])
theorem off_v0 (i : grid1.Coords) : k1_off6 i 0#32 = ![512 * (2 * (i 1).val), 0] :=
  (k1_off6_eq i 0).trans (by
    show (![1024 * (i 1).val + 0, 0] : Fin 2 → ℕ) = _
    rw [show 1024 * (i 1).val + 0 = 512 * (2 * (i 1).val) by omega])
theorem off_v1 (i : grid1.Coords) : k1_off6 i 512#32 = ![512 * (2 * (i 1).val + 1), 0] :=
  (k1_off6_eq i 1).trans (by
    show (![1024 * (i 1).val + 512, 0] : Fin 2 → ℕ) = _
    rw [show 1024 * (i 1).val + 512 = 512 * (2 * (i 1).val + 1) by omega])

variable (c : Dev nD) (E : Set ℕ) (i : grid1.Coords) (arg2 : Memref sig .tc .vmem S1024x256 .bf16) (harg2 : arg2.IsWhole)
  (arg3 : Memref sig .tc .vmem S8192x256 .bf16) (harg3 : arg3.IsWhole) (arg4 : Memref sig .tc .vmem S8192x128 .bf16) (harg4 : arg4.IsWhole)
  (arg5 : Memref sig .tc .vmem S1024x128 .f32) (harg5 : arg5.IsWhole) (arg6 : Memref sig .tc .vmem S1024x128 .bf16) (harg6 : arg6.IsWhole)
  (arg7 : Memref sig .tc .vmem S1024x128 .f32) (harg7 : arg7.IsWhole) (arg8 : Memref sig .tc .vmem S1024x256 .f32) (harg8 : arg8.IsWhole)
  (arg9 : Memref sig .tc .vmem S8192x256 .f32) (harg9 : arg9.IsWhole) (arg10 : Memref sig .tc .vmem S8192x128 .f32) (harg10 : arg10.IsWhole)
  (q : Vec F S1024x256 .bf16) (k : Vec F S8192x256 .bf16) (v : Vec F S8192x128 .bf16) (o : Vec F S1024x128 .f32) (dO : Vec F S1024x128 .bf16)

/-- The walk's invariant at trip `t`: the carried value and the two slabs are `bwdGo`'s, the operands' slabs as they were. -/
def bwdInv (lse : Vec F S1024x1 .f32) (s : BSt F) (t : ℕ) (acc : FVec F S1024x256 .f32) : sProp 𝕄 :=
  iprop(⌜acc = (bwdGo q k v o dO lse t s).dq⌝
    ∗ owns (c : Thread nD τ) arg3 fullShare k ∗ owns (c : Thread nD τ) arg4 fullShare v
    ∗ owns (c : Thread nD τ) arg9 fullShare (bwdGo q k v o dO lse t s).dk
    ∗ owns (c : Thread nD τ) arg10 fullShare (bwdGo q k v o dO lse t s).dv)

/-- One trip keeps it. -/
theorem bwd_trip (lse : Vec F S1024x1 .f32) (s : BSt F) (t : Fin (k1_t1_loop i).trips) (acc : FVec F S1024x256 .f32) :
    bwdInv c arg3 arg4 arg9 arg10 q k v o dO lse s t.val acc
      ⊢ wp frame (wpE (defs₀ (F := F)) Variants.nat (c : Thread nD τ) none) E
          (k1_t1_body i arg2 harg2 arg3 harg3 arg4 harg4 arg5 harg5 arg6 harg6 arg7 harg7 arg8 harg8 arg9 harg9 arg10 harg10 q dO dO o lse t acc)
          (bwdInv c arg3 arg4 arg9 arg10 q k v o dO lse s (t.val + 1)) := by
  unfold bwdInv
  rw [show bwdGo q k v o dO lse (t.val + 1) s = bwdStep q k v o dO lse t.val (bwdGo q k v o dO lse t.val s) from rfl]
  generalize bwdGo q k v o dO lse t.val s = s'
  simp only [k1_t1_body, Prog.lift, Prog.bind_op, Prog.bind_ret, Prog.pure_eq_ret]
  unfold owns
  iintro ⟨%hacc, ⟨%f3, %hf3, H3⟩, ⟨%f4, %hf4, H4⟩, ⟨%f9, %hf9, H9⟩, ⟨%f10, %hf10, H10⟩⟩
  subst hacc hf3 hf4
  have h1 := readTile (F := F) 512 arg3.view f3 _ (k1_off1_inb i t) t.val (k1_off1_eq i t)
  have h2 := readTile (F := F) 512 arg4.view f4 _ (k1_off2_inb i t) t.val (k1_off2_eq i t)
  have h3 := readTile (F := F) 512 arg9.view f9 _ (k1_off1_inb i t) t.val (k1_off1_eq i t)
  have h4 := readTile (F := F) 512 arg10.view f10 _ (k1_off2_inb i t) t.val (k1_off2_eq i t)
  sl_exec
  sl_unfold_run_names
  sl_step
  isplitr
  · ipureintro
    unfold bwdStep
    dsimp only
  isplitl [H3]
  · iexists f3; isplitr; · ipureintro; rfl
    iexact H3
  isplitl [H4]
  · iexists f4; isplitr; · ipureintro; rfl
    iexact H4
  isplitl [H9]
  · iexists _; isplitr
    swap; · iexact H9
    ipureintro
    refine (writes_tile 512 _ _ _ _ _ (k1_off1_eq i t) _).trans ?_
    unfold bwdStep
    rw [← hf9, ← h1, ← h2, ← h3]
  iexists _; isplitr
  swap; · iexact H10
  ipureintro
  refine (writes_tile 512 _ _ _ _ _ (k1_off2_eq i t) _).trans ?_
  unfold bwdStep
  rw [← hf10, ← h1, ← h4]

/-- What the first part ends with. -/
def partVal (lse : Vec F S1024x1 .f32) (r : FVec F S1024x256 .f32) (k0 : Vec F S512x256 .bf16) (v0 : Vec F S512x128 .bf16) :
    Σ' (arg1 : BitVec 32) (v3 : Vec F S1024x256 .bf16) (v4 : Vec F S1024x128 .bf16) (v11 : FVec F S1024x1 .f32) (v13 : FVec F S1024x1 .f32) (v22 : FVec F S1024x256 .f32) (v25 : BitVec 32) (v27 : Vec F S512x256 .bf16) (v29 : Vec F S512x128 .bf16) (v30 : FVec F S1024x512 .f32), FVec F S1024x512 .f32 :=
  ⟨BitVec.ofNat 32 (i 1).val, q, dO, k1_pay3 dO o, k1_pay4 lse, r,
    Scalar.addi (Scalar.muli (BitVec.ofNat 32 (i 1).val) 1024#32) 0#32, k0, v0, k1_pay16 q k0, k1_pay17⟩

/-- The first part once its row blocks are read, -/
def bwdRest (dO' : Vec F S1024x128 .bf16) (lse : Vec F S1024x1 .f32) : Prog (TpuEff nD τ sig (Elt F) Λ₀ .tc)
    (Σ' (arg1 : BitVec 32) (v3 : Vec F S1024x256 .bf16) (v4 : Vec F S1024x128 .bf16) (v11 : FVec F S1024x1 .f32) (v13 : FVec F S1024x1 .f32) (v22 : FVec F S1024x256 .f32) (v25 : BitVec 32) (v27 : Vec F S512x256 .bf16) (v29 : Vec F S512x128 .bf16) (v30 : FVec F S1024x512 .f32), FVec F S1024x512 .f32) := do
  let x ← Scf.Loop.for (k1_t1_loop i) (k1_t1_ok i) (k1_pay5 (F := F)) (k1_t1_body i arg2 harg2 arg3 harg3 arg4 harg4 arg5 harg5 arg6 harg6 arg7 harg7 arg8 harg8 arg9 harg9 arg10 harg10 q dO dO' o lse)
  let y ← Scf.Loop.for (k1_t2_loop i) (k1_t2_ok i) x (k1_t2_body i arg2 harg2 arg3 harg3 arg4 harg4 arg5 harg5 arg6 harg6 arg7 harg7 arg8 harg8 arg9 harg9 arg10 harg10 q dO dO' o lse)
  .op (.load arg3 (Rect.unit (s := S8192x256) (k1_off5 i 0#32) S512x256.size (k1_off5_inb i 0)).toLoadRect (View.loadsAt_vmem h_S512x256)) fun v27 =>
  .op (.load arg4 (Rect.unit (s := S8192x128) (k1_off6 i 0#32) S512x128.size (k1_off6_inb i 0)).toLoadRect (View.loadsAt_vmem h_S512x128)) fun v29 =>
    Prog.ret ⟨BitVec.ofNat 32 (i 1).val, q, dO, k1_pay3 dO' o, k1_pay4 lse, y,
      Scalar.addi (Scalar.muli (BitVec.ofNat 32 (i 1).val) 1024#32) 0#32, v27, v29, k1_pay16 q v27, k1_pay17⟩

/-- once the slabs are settled, -/
def bwdRead : Prog (TpuEff nD τ sig (Elt F) Λ₀ .tc)
    (Σ' (arg1 : BitVec 32) (v3 : Vec F S1024x256 .bf16) (v4 : Vec F S1024x128 .bf16) (v11 : FVec F S1024x1 .f32) (v13 : FVec F S1024x1 .f32) (v22 : FVec F S1024x256 .f32) (v25 : BitVec 32) (v27 : Vec F S512x256 .bf16) (v29 : Vec F S512x128 .bf16) (v30 : FVec F S1024x512 .f32), FVec F S1024x512 .f32) :=
  .op (.load arg2 (Rect.unit (s := S1024x256) ![0, 0] S1024x256.size inb_S1024x256_S1024x256_0_0).toLoadRect (View.loadsAt_vmem h_S1024x256)) fun v3 =>
  .op (.load arg6 (Rect.unit (s := S1024x128) ![0, 0] S1024x128.size inb_S1024x128_S1024x128_0_0).toLoadRect (View.loadsAt_vmem h_S1024x128)) fun v4 =>
  .op (.load arg6 (Rect.unit (s := S1024x128) ![0, 0] S1024x128.size inb_S1024x128_S1024x128_0_0).toLoadRect (View.loadsAt_vmem h_S1024x128)) fun v5 =>
  .op (.load arg5 (Rect.unit (s := S1024x128) ![0, 0] S1024x128.size inb_S1024x128_S1024x128_0_0).toLoadRect (View.loadsAt_vmem h_S1024x128)) fun v7 =>
  .op (.load arg7 (Rect.unit (s := S1024x128) ![0, 0] S1024x1.size inb_S1024x128_S1024x1_0_0).toLoadRect (View.loadsAt_vmem h_S1024x1)) fun v12 =>
    bwdRest i arg2 harg2 arg3 harg3 arg4 harg4 arg5 harg5 arg6 harg6 arg7 harg7 arg8 harg8 arg9 harg9 arg10 harg10 v3 v7 v4 v5 v12

/-- and the whole first part. -/
theorem k1_part1_eq : k1_part1 (F := F) i arg2 harg2 arg3 harg3 arg4 harg4 arg5 harg5 arg6 harg6 arg7 harg7 arg8 harg8 arg9 harg9 arg10 harg10
    = if Scalar.cmpi .ne (Scalar.extui (Scalar.cmpi .eq (BitVec.ofNat 32 (i 1).val) 0#32)) 0#32 = 1#1 then
        .op (.load arg9 (Rect.unit (s := S8192x256) ![0, 0] S8192x256.size inb_S8192x256_S8192x256_0_0).toLoadRect (View.loadsAt_vmem h_S8192x256)) fun _ =>
        .op (.store arg9 (Rect.unit (s := S8192x256) ![0, 0] S8192x256.size inb_S8192x256_S8192x256_0_0) (k1_pay1 (F := F)) Finset.univ (View.stores_vmem_bits_univ h_S8192x256 rfl) (.inl rfl)) fun _ =>
        .op (.load arg10 (Rect.unit (s := S8192x128) ![0, 0] S8192x128.size inb_S8192x128_S8192x128_0_0).toLoadRect (View.loadsAt_vmem h_S8192x128)) fun _ =>
        .op (.store arg10 (Rect.unit (s := S8192x128) ![0, 0] S8192x128.size inb_S8192x128_S8192x128_0_0) (k1_pay2 (F := F)) Finset.univ (View.stores_vmem_bits_univ h_S8192x128 rfl) (.inl rfl)) fun _ =>
          bwdRead i arg2 harg2 arg3 harg3 arg4 harg4 arg5 harg5 arg6 harg6 arg7 harg7 arg8 harg8 arg9 harg9 arg10 harg10
      else bwdRead i arg2 harg2 arg3 harg3 arg4 harg4 arg5 harg5 arg6 harg6 arg7 harg7 arg8 harg8 arg9 harg9 arg10 harg10 := by
  rw [k1_part1_eq_skeleton]
  rfl

/-- Over settled slabs the first part leaves the walk's state. -/
theorem bwd_read (lse : Vec F S1024x128 .f32) (dk : Vec F S8192x256 .f32) (dv : Vec F S8192x128 .f32) (K : _ → sProp 𝕄) :
    iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare dO ∗ owns (c : Thread nD τ) arg7 fullShare lse
        ∗ owns (c : Thread nD τ) arg9 fullShare (bwdInit (i 1).val dk dv).dk ∗ owns (c : Thread nD τ) arg10 fullShare (bwdInit (i 1).val dk dv).dv
        ∗ (iprop(owns (c : Thread nD τ) arg2 fullShare q ∗ owns (c : Thread nD τ) arg3 fullShare k ∗ owns (c : Thread nD τ) arg4 fullShare v
            ∗ owns (c : Thread nD τ) arg5 fullShare o ∗ owns (c : Thread nD τ) arg6 fullShare dO ∗ owns (c : Thread nD τ) arg7 fullShare lse
            ∗ owns (c : Thread nD τ) arg9 fullShare (bwdWalk q k v o dO (col0 lse) (i 1).val dk dv).dk
            ∗ owns (c : Thread nD τ) arg10 fullShare (bwdWalk q k v o dO (col0 lse) (i 1).val dk dv).dv) -∗
          K (partVal i q o dO (col0 lse) (bwdWalk q k v o dO (col0 lse) (i 1).val dk dv).dq (rows 512 k (2 * (i 1).val)) (rows 512 v (2 * (i 1).val)))))
      ⊢ wp frame (wpE (defs₀ (F := F)) Variants.nat (c : Thread nD τ) none) E
          (bwdRead i arg2 harg2 arg3 harg3 arg4 harg4 arg5 harg5 arg6 harg6 arg7 harg7 arg8 harg8 arg9 harg9 arg10 harg10) K := by
  unfold bwdRead partVal owns
  iintro ⟨⟨%f2, %hf2, H2⟩, H3, H4, ⟨%f5, %hf5, H5⟩, ⟨%f6, %hf6, H6⟩, ⟨%f7, %hf7, H7⟩, H9, H10, Hk⟩
  subst hf2 hf5 hf6 hf7
  sl_step
  sl_step
  sl_step
  sl_step
  sl_step
  rw [show arg2.view.readAt (Elt F) (Rect.unit (s := S1024x256) ![0, 0] S1024x256.size inb_S1024x256_S1024x256_0_0).toLoadRect f2
      = arg2.view.read (Elt F) f2 from readWhole (F := F) arg2.view f2 inb_S1024x256_S1024x256_0_0,
    show arg5.view.readAt (Elt F) (Rect.unit (s := S1024x128) ![0, 0] S1024x128.size inb_S1024x128_S1024x128_0_0).toLoadRect f5
      = arg5.view.read (Elt F) f5 from readWhole (F := F) arg5.view f5 inb_S1024x128_S1024x128_0_0,
    show arg6.view.readAt (Elt F) (Rect.unit (s := S1024x128) ![0, 0] S1024x128.size inb_S1024x128_S1024x128_0_0).toLoadRect f6
      = arg6.view.read (Elt F) f6 from readWhole (F := F) arg6.view f6 inb_S1024x128_S1024x128_0_0,
    show arg7.view.readAt (Elt F) (Rect.unit (s := S1024x128) ![0, 0] S1024x1.size inb_S1024x128_S1024x1_0_0).toLoadRect f7
      = col0 (arg7.view.read (Elt F) f7) from rfl]
  unfold bwdRest
  iapply (Scf.wp_for_bind frame (wpE (defs₀ (F := F)) Variants.nat (c : Thread nD τ) none) E _ _ _ (k1_t1_ok i) _ _
    (bwdInv c arg3 arg4 arg9 arg10 (arg2.view.read (Elt F) f2) k v (arg5.view.read (Elt F) f5) (arg6.view.read (Elt F) f6)
      (col0 (arg7.view.read (Elt F) f7)) (bwdInit (i 1).val dk dv))
    (bwd_trip c E i arg2 harg2 arg3 harg3 arg4 harg4 arg5 harg5 arg6 harg6 arg7 harg7 arg8 harg8 arg9 harg9 arg10 harg10 _ k v _ _ _ (bwdInit (i 1).val dk dv))) $$ [H3 H4 H9 H10]
  · unfold bwdInv owns
    isplitr; · ipureintro; rfl
    isplitl [H3]; · iexact H3
    isplitl [H4]; · iexact H4
    isplitl [H9]; · iexact H9
    iexact H10
  iintro %acc Hinv
  rw [show Scf.Loop.for (k1_t2_loop i) (k1_t2_ok i) acc _ = .ret acc from Scf.for_eq_ret _ _ _ _ _ _ (k1_t2_trips i)]
  rw [show Scf.trips (k1_t1_loop i).lb (k1_t1_loop i).ub (k1_t1_loop i).st = 2 * (i 1).val from k1_t1_trips i]
  unfold bwdInv
  rw [show bwdGo (arg2.view.read (Elt F) f2) k v (arg5.view.read (Elt F) f5) (arg6.view.read (Elt F) f6) (col0 (arg7.view.read (Elt F) f7))
    (2 * (i 1).val) (bwdInit (i 1).val dk dv) = bwdWalk (arg2.view.read (Elt F) f2) k v (arg5.view.read (Elt F) f5) (arg6.view.read (Elt F) f6)
      (col0 (arg7.view.read (Elt F) f7)) (i 1).val dk dv from rfl]
  unfold owns
  icases Hinv with ⟨%hacc, ⟨%f3, %hf3, H3⟩, ⟨%f4, %hf4, H4⟩, H9, H10⟩
  subst hacc hf3 hf4
  simp only [Prog.bind_ret]
  sl_step
  sl_step
  rw [show arg3.view.readAt (Elt F) (Rect.unit (s := S8192x256) (k1_off5 i 0#32) S512x256.size (k1_off5_inb i 0)).toLoadRect f3
      = rows 512 (arg3.view.read (Elt F) f3) (2 * (i 1).val) from readTile (F := F) 512 arg3.view f3 _ (k1_off5_inb i 0) _ (off_k0 i),
    show arg4.view.readAt (Elt F) (Rect.unit (s := S8192x128) (k1_off6 i 0#32) S512x128.size (k1_off6_inb i 0)).toLoadRect f4
      = rows 512 (arg4.view.read (Elt F) f4) (2 * (i 1).val) from readTile (F := F) 512 arg4.view f4 _ (k1_off6_inb i 0) _ (off_v0 i)]
  rw [wp_ret]; imodintro
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]; · iexact H9
  iexact H10

/-- The first part: at the first row block the slabs are cleared, then the walk over the earlier tiles. -/
theorem bwd_walk (lse : Vec F S1024x128 .f32) (dk : Vec F S8192x256 .f32) (dv : Vec F S8192x128 .f32) (K : _ → sProp 𝕄) :
    iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare dO ∗ owns (c : Thread nD τ) arg7 fullShare lse
        ∗ owns (c : Thread nD τ) arg9 fullShare dk ∗ owns (c : Thread nD τ) arg10 fullShare dv
        ∗ (iprop(owns (c : Thread nD τ) arg2 fullShare q ∗ owns (c : Thread nD τ) arg3 fullShare k ∗ owns (c : Thread nD τ) arg4 fullShare v
            ∗ owns (c : Thread nD τ) arg5 fullShare o ∗ owns (c : Thread nD τ) arg6 fullShare dO ∗ owns (c : Thread nD τ) arg7 fullShare lse
            ∗ owns (c : Thread nD τ) arg9 fullShare (bwdWalk q k v o dO (col0 lse) (i 1).val dk dv).dk
            ∗ owns (c : Thread nD τ) arg10 fullShare (bwdWalk q k v o dO (col0 lse) (i 1).val dk dv).dv) -∗
          K (partVal i q o dO (col0 lse) (bwdWalk q k v o dO (col0 lse) (i 1).val dk dv).dq (rows 512 k (2 * (i 1).val)) (rows 512 v (2 * (i 1).val)))))
      ⊢ wp frame (wpE (defs₀ (F := F)) Variants.nat (c : Thread nD τ) none) E
          (k1_part1 i arg2 harg2 arg3 harg3 arg4 harg4 arg5 harg5 arg6 harg6 arg7 harg7 arg8 harg8 arg9 harg9 arg10 harg10) K := by
  rw [k1_part1_eq]
  have hi : (i 1).val < 8 := (i 1).isLt
  have h := bwd_read c E i arg2 harg2 arg3 harg3 arg4 harg4 arg5 harg5 arg6 harg6 arg7 harg7 arg8 harg8 arg9 harg9 arg10 harg10 q k v o dO lse dk dv K
  by_cases h0 : (i 1).val = 0
  · rw [if_pos (by rw [h0]; decide)]
    iintro ⟨H2, H3, H4, H5, H6, H7, H9, H10, Hk⟩
    unfold owns
    icases H9 with ⟨%f9, %hf9, H9⟩
    icases H10 with ⟨%f10, %hf10, H10⟩
    sl_step
    sl_step
    sl_step
    sl_step
    iapply h
    unfold owns
    isplitl [H2]; · iexact H2
    isplitl [H3]; · iexact H3
    isplitl [H4]; · iexact H4
    isplitl [H5]; · iexact H5
    isplitl [H6]; · iexact H6
    isplitl [H7]; · iexact H7
    isplitl [H9]
    · iexists _; isplitr
      swap; · iexact H9
      ipureintro
      exact (writesWhole _ _ inb_S8192x256_S8192x256_0_0 _).trans (if_pos h0).symm
    isplitl [H10]
    · iexists _; isplitr
      swap; · iexact H10
      ipureintro
      exact (writesWhole _ _ inb_S8192x128_S8192x128_0_0 _).trans (if_pos h0).symm
    iexact Hk
  · rw [if_neg (by
      have := fun (j : Fin 8) => (by decide +revert : j.val ≠ 0 →
        ¬ Scalar.cmpi .ne ((Scalar.extui (Scalar.cmpi .eq (BitVec.ofNat 32 j.val) 0#32) : BitVec 32)) 0#32 = 1#1)
      exact this ⟨(i 1).val, hi⟩ h0)]
    rw [show (bwdInit (i 1).val dk dv).dk = dk from if_neg h0, show (bwdInit (i 1).val dk dv).dv = dv from if_neg h0] at h
    exact h

/-- The backward body at grid point `i`. -/
theorem bwd_sound (lse : Vec F S1024x128 .f32) (dk : Vec F S8192x256 .f32) (dv : Vec F S8192x128 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare dO ∗ owns (c : Thread nD τ) arg7 fullShare lse
        ∗ (∃ d, owns (c : Thread nD τ) arg8 fullShare d) ∗ owns (c : Thread nD τ) arg9 fullShare dk ∗ owns (c : Thread nD τ) arg10 fullShare dv
        ∗ (iprop(owns (c : Thread nD τ) arg2 fullShare q ∗ owns (c : Thread nD τ) arg3 fullShare k ∗ owns (c : Thread nD τ) arg4 fullShare v
            ∗ owns (c : Thread nD τ) arg5 fullShare o ∗ owns (c : Thread nD τ) arg6 fullShare dO ∗ owns (c : Thread nD τ) arg7 fullShare lse
            ∗ owns (c : Thread nD τ) arg8 fullShare (bwdRes q k v o dO (col0 lse) (i 1).val dk dv).dq
            ∗ owns (c : Thread nD τ) arg9 fullShare (bwdRes q k v o dO (col0 lse) (i 1).val dk dv).dk
            ∗ owns (c : Thread nD τ) arg10 fullShare (bwdRes q k v o dO (col0 lse) (i 1).val dk dv).dv) -∗ K ⟨⟩))
      ⊢ wp frame (wpE (defs₀ (F := F)) Variants.nat (c : Thread nD τ) none) E
          (cc1_dmla i arg2 harg2 arg3 harg3 arg4 harg4 arg5 harg5 arg6 harg6 arg7 harg7 arg8 harg8 arg9 harg9 arg10 harg10) K := by
  have hi : (i 1).val < 8 := (i 1).isLt
  simp only [cc1_dmla_eq_skeleton, cc1_dmla_skel, k1_part5_eq_skeleton, k1_part5_skel, Prog.lift, Prog.bind_op, Prog.bind_ret, Prog.pure_eq_ret,
    Prog.bind_assoc]
  rw [wp_bind]
  iintro ⟨H2, H3, H4, H5, H6, H7, ⟨%d8, H8⟩, H9, H10, Hk⟩
  iapply (bwd_walk c E i arg2 harg2 arg3 harg3 arg4 harg4 arg5 harg5 arg6 harg6 arg7 harg7 arg8 harg8 arg9 harg9 arg10 harg10 q k v o dO lse dk dv)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  unfold owns bwdRes partVal
  generalize bwdWalk q k v o dO (col0 lse) (i 1).val dk dv = s
  iintro ⟨H2, ⟨%f3, %hf3, H3⟩, ⟨%f4, %hf4, H4⟩, H5, H6, H7, ⟨%f9, %hf9, H9⟩, ⟨%f10, %hf10, H10⟩⟩
  icases H8 with ⟨%f8, %hf8, H8⟩
  subst hf3 hf4
  simp only [k1_part2_eq_skeleton, k1_part2_skel, k1_part3_eq_skeleton, k1_part3_skel, k1_part4_eq_skeleton, k1_part4_skel,
    Prog.lift, Prog.bind_op, Prog.bind_ret, Prog.pure_eq_ret]
  have hk1 := readTile (F := F) 512 arg3.view f3 _ (k1_off5_inb i 1) _ (off_k1 i)
  have hv1 := readTile (F := F) 512 arg4.view f4 _ (k1_off6_inb i 1) _ (off_v1 i)
  have h91 := readTile (F := F) 512 arg9.view f9 _ (k1_off5_inb i 1) _ (off_k1 i)
  have h101 := readTile (F := F) 512 arg10.view f10 _ (k1_off6_inb i 1) _ (off_v1 i)
  have h90 := readTile (F := F) 512 arg9.view f9 _ (k1_off5_inb i 0) _ (off_k0 i)
  have h100 := readTile (F := F) 512 arg10.view f10 _ (k1_off6_inb i 0) _ (off_v0 i)
  sl_exec
  sl_unfold_run_names
  sl_step
  iapply Hk
  isplitl [H2]; · iexact H2
  isplitl [H3]
  · iexists f3; isplitr; · ipureintro; rfl
    iexact H3
  isplitl [H4]
  · iexists f4; isplitr; · ipureintro; rfl
    iexact H4
  isplitl [H5]; · iexact H5
  isplitl [H6]; · iexact H6
  isplitl [H7]; · iexact H7
  isplitl [H8]
  · iexists _; isplitr
    swap; · iexact H8
    ipureintro
    refine (writesWhole _ _ _ _).trans ?_
    unfold bwdDiag1 bwdDiag0
    dsimp only
    rw [← hk1, ← hv1]
    rfl
  isplitl [H9]
  · iexists _; isplitr
    swap; · iexact H9
    ipureintro
    refine (writes_tile 512 arg9.view (arg9.view.writes (Elt F) f9 [_]) _ _ _ (off_k1 i) _).trans ?_
    rw [writes_tile 512 arg9.view f9 _ _ _ (off_k0 i)]
    unfold bwdDiag1 bwdDiag0
    dsimp only
    rw [rows_setRows_ne 512 _ _ _ _ (Nat.succ_ne_self _) (by omega), ← hf9, ← h90, ← h91, ← hk1, ← hv1]
    rfl
  iexists _; isplitr
  swap; · iexact H10
  ipureintro
  refine (writes_tile 512 arg10.view (arg10.view.writes (Elt F) f10 [_]) _ _ _ (off_v1 i) _).trans ?_
  rw [writes_tile 512 arg10.view f10 _ _ _ (off_v0 i)]
  unfold bwdDiag1 bwdDiag0
  dsimp only
  rw [rows_setRows_ne 512 _ _ _ _ (Nat.succ_ne_self _) (by omega), ← hf10, ← h100, ← h101, ← hk1]
  rfl

end Cert.Proof.Mla

end
-- ==== Proof.Mla.Region1.lean ====
/-
  The backward region's proof data and the body obligation at each of its points.
-/
module

public import proofs.«01_k».proof.Proof.Mla.Bwd
public import proofs.«01_k».proof.Proof.Gen.Kernel17Ideal.Points
public import proofs.«01_k».proof.Proof.Gen.Kernel17Ideal.Regions
public import Idealize.ShloMosaic.Lib.Claim

@[expose] public section

set_option maxRecDepth 16384

noncomputable section

namespace Cert.Proof.Mla

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it. -/
def blk1 (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

/-- The row block of point `t`. -/
theorem coords1 : ∀ t : Fin grid1.N, (grid1.coords t 1).val = t.val % 8 := by decide +kernel

/-- What the body leaves at point `t`, the two slabs found at `dk` and `dv`. -/
def res1 (t : Fin cfg1.N) (dk : Vec F S8192x256 .f32) (dv : Vec F S8192x128 .f32) : BSt F :=
  bwdRes (blk1 W 0 t) (blk1 W 1 t) (blk1 W 2 t) (blk1 W 3 t) (blk1 W 4 t) (col0 (blk1 W 5 t)) (grid1.coords t 1).val dk dv

/-- The two slabs before point `t`. -/
def slabs : ℕ → Vec F S8192x256 .f32 × Vec F S8192x128 .f32
  | 0 => (k1_pay1, k1_pay2)
  | t + 1 => if h : t < cfg1.N then ((res1 W ⟨t, h⟩ (slabs t).1 (slabs t).2).dk, (res1 W ⟨t, h⟩ (slabs t).1 (slabs t).2).dv) else slabs t

/-- What point `t` leaves. -/
def left1 (t : Fin cfg1.N) : BSt F := res1 W t (slabs W t.val).1 (slabs W t.val).2

theorem slabs_succ (t : Fin cfg1.N) : slabs W (t.val + 1) = ((left1 W t).dk, (left1 W t).dv) := by
  show (if h : t.val < cfg1.N then _ else _) = _
  rw [dif_pos t.isLt]; rfl

/-- At a first row block the slabs found do not matter. -/
theorem res1_first (t : Fin cfg1.N) (h : t.val % 8 = 0) (dk dk' : Vec F S8192x256 .f32) (dv dv' : Vec F S8192x128 .f32) : res1 W t dk dv = res1 W t dk' dv' := by
  have h0 : (grid1.coords t 1).val = 0 := (coords1 t).trans h
  unfold res1 bwdRes bwdWalk bwdInit
  rw [if_pos h0, if_pos h0, if_pos h0, if_pos h0]

/-- The backward region's proof data. -/
def dat1 (c : Dev nD) : Dat τ (Elt F) Unit ℕ (UR sig nD τ) ℕ cfg1 c where
  A w := W (Proc.devRef .tc (Pipeline.arrRef spec1 w))
  after w t := match w with
    | ⟨0, _⟩ => blk1 W 0 t
    | ⟨1, _⟩ => blk1 W 1 t
    | ⟨2, _⟩ => blk1 W 2 t
    | ⟨3, _⟩ => blk1 W 3 t
    | ⟨4, _⟩ => blk1 W 4 t
    | ⟨5, _⟩ => blk1 W 5 t
    | ⟨6, _⟩ => (left1 W t).dq
    | ⟨7, _⟩ => (left1 W t).dk
    | ⟨8, _⟩ => (left1 W t).dv
  Φ _ := Pipeline.scopedRest spec1 c
  q _ := fullShare
  owed _ := 0

theorem A1_eq (c : Dev nD) (w : Fin cfg1.W) : (dat1 W c).A w = W (Proc.devRef .tc (Pipeline.arrRef spec1 w)) := by
  dsimp only [dat1]

variable (c : Dev nD) (t : Fin cfg1.N)

theorem after1_0 : (dat1 W c).after 0 t = blk1 W 0 t := rfl
theorem after1_1 : (dat1 W c).after 1 t = blk1 W 1 t := rfl
theorem after1_2 : (dat1 W c).after 2 t = blk1 W 2 t := rfl
theorem after1_3 : (dat1 W c).after 3 t = blk1 W 3 t := rfl
theorem after1_4 : (dat1 W c).after 4 t = blk1 W 4 t := rfl
theorem after1_5 : (dat1 W c).after 5 t = blk1 W 5 t := rfl
theorem after1_6 : (dat1 W c).after 6 t = (left1 W t).dq := rfl
theorem after1_7 : (dat1 W c).after 7 t = (left1 W t).dk := rfl
theorem after1_8 : (dat1 W c).after 8 t = (left1 W t).dv := rfl

theorem before1_0 (d) : (dat1 W c).before 0 t d = blk1 W 0 t :=
  (dat1 W c).before_in_eq_fetched 0 rfl (fun _ => rfl) (fun _ _ _ => rfl) (fun _ => rfl) t d
theorem before1_1 (d) : (dat1 W c).before 1 t d = blk1 W 1 t :=
  (dat1 W c).before_in_eq_fetched 1 rfl (fun _ => rfl) (fun _ _ _ => rfl) (fun _ => rfl) t d
theorem before1_2 (d) : (dat1 W c).before 2 t d = blk1 W 2 t :=
  (dat1 W c).before_in_eq_fetched 2 rfl (fun _ => rfl) (fun _ _ _ => rfl) (fun _ => rfl) t d
theorem before1_3 (d) : (dat1 W c).before 3 t d = blk1 W 3 t :=
  (dat1 W c).before_in_eq_fetched 3 rfl (fun _ => rfl) (fun _ _ _ => rfl) (fun _ => rfl) t d
theorem before1_4 (d) : (dat1 W c).before 4 t d = blk1 W 4 t :=
  (dat1 W c).before_in_eq_fetched 4 rfl (fun _ => rfl) (fun _ _ _ => rfl) (fun _ => rfl) t d
theorem before1_5 (d) : (dat1 W c).before 5 t d = blk1 W 5 t :=
  (dat1 W c).before_in_eq_fetched 5 rfl (fun _ => rfl) (fun _ _ _ => rfl) (fun _ => rfl) t d

/-- Past a first row block the slab holds what the point before left. -/
theorem before1_7 (h : t.val % 8 ≠ 0) (d) : (dat1 W c).before 7 t d = (slabs W t.val).1 := by
  have ht : t.val ≠ 0 := fun e => h (by rw [e])
  have hN : t.val < cfg1.N := t.isLt
  rw [(dat1 W c).before_out_kept 7 rfl t ht (Bool.eq_false_iff.mpr fun hf => h (by have := (flush1_7 _).mp hf; dsimp only at this; omega))
    (fun _ => rfl) (fun _ _ => rfl) d, after1_7]
  have hs := slabs_succ W ⟨t.val - 1, Nat.lt_of_le_of_lt (Nat.sub_le _ _) t.isLt⟩
  rw [show (⟨t.val - 1, Nat.lt_of_le_of_lt (Nat.sub_le _ _) t.isLt⟩ : Fin cfg1.N).val + 1 = t.val from Nat.succ_pred_eq_of_pos (Nat.pos_of_ne_zero ht)] at hs
  rw [hs]

/-- Past a first row block the slab holds what the point before left. -/
theorem before1_8 (h : t.val % 8 ≠ 0) (d) : (dat1 W c).before 8 t d = (slabs W t.val).2 := by
  have ht : t.val ≠ 0 := fun e => h (by rw [e])
  have hN : t.val < cfg1.N := t.isLt
  rw [(dat1 W c).before_out_kept 8 rfl t ht (Bool.eq_false_iff.mpr fun hf => h (by have := (flush1_8 _).mp hf; dsimp only at this; omega))
    (fun _ => rfl) (fun _ _ => rfl) d, after1_8]
  have hs := slabs_succ W ⟨t.val - 1, Nat.lt_of_le_of_lt (Nat.sub_le _ _) t.isLt⟩
  rw [show (⟨t.val - 1, Nat.lt_of_le_of_lt (Nat.sub_le _ _) t.isLt⟩ : Fin cfg1.N).val + 1 = t.val from Nat.succ_pred_eq_of_pos (Nat.pos_of_ne_zero ht)] at hs
  rw [hs]

/-- Whatever the slabs' buffers hold, the body leaves `left1`. -/
theorem res1_before (d7 d8) :
    res1 W t ((dat1 W c).before 7 t d7) ((dat1 W c).before 8 t d8) = left1 W t := by
  by_cases h : t.val % 8 = 0
  · exact res1_first W t h _ _ _ _
  · rw [before1_7 W c t h, before1_8 W c t h]; rfl

/-- What the body is called with at point `t`, -/
def bodyPre1 : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d)))

/-- and what it returns. -/
def bodyPost1 : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t)
    ∗ owns (c : Thread nD τ) (st1_7 t) fullShare ((dat1 W c).after 7 t)
    ∗ owns (c : Thread nD τ) (st1_8 t) fullShare ((dat1 W c).after 8 t))

/-- The body at any point. -/
theorem sound_body1 (c : Dev nD) (t : Fin cfg1.N) :
    bodyPre1 W c t ⊢ wp frame (wpE (defs₀ (F := F)) Variants.nat (c : Thread nD τ) none) Set.univ (bodyAt1 t) (fun _ => bodyPost1 W c t) := by
  unfold bodyPre1 bodyPost1 bodyAt1
  simp only [before1_0, before1_1, before1_2, before1_3, before1_4, before1_5]
  rw [show (dat1 W c).Φ t.succ = (dat1 W c).Φ t.castSucc from rfl,
    show (dat1 W c).owesAt () t.succ = (dat1 W c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hr := res1_before W c t d7 d8
  iapply (bwd_sound c Set.univ (grid1.coords t) _ _ _ _ _ _ _ _ _ _ _ _ _ _ _ _ _ _ (blk1 W 0 t) (blk1 W 1 t) (blk1 W 2 t) (blk1 W 3 t) (blk1 W 4 t) (blk1 W 5 t)
    ((dat1 W c).before 7 t d7) ((dat1 W c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  rw [show bwdRes (blk1 W 0 t) (blk1 W 1 t) (blk1 W 2 t) (blk1 W 3 t) (blk1 W 4 t) (col0 (blk1 W 5 t)) (grid1.coords t 1).val
    ((dat1 W c).before 7 t d7) ((dat1 W c).before 8 t d8) = left1 W t from hr]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) :
    BodyObligation (dat1 W c) (defs₀ (F := F)) Variants.nat () Set.univ := fun t => by
  rw [bigSep_W1, bigSep_W1, defs₀_row1]
  exact triple_restated (sound_body1 W c t) rfl .rfl fun _ => .rfl

end Cert.Proof.Mla

end
-- ==== Proof.Mla.Between.lean ====
/-
  The buffers' contents after each of the two regions.
-/
module

public import proofs.«01_k».proof.Proof.Mla.Region0
public import proofs.«01_k».proof.Proof.Mla.Region1
public import Idealize.ShloMosaic.Lib.Pipeline.RegionArraysS
public import Idealize.ShloMosaic.Lib.Pipeline.Value

@[expose] public section

set_option maxRecDepth 16384

noncomputable section

namespace Cert.Proof.Mla

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s buffers when the forward region ends, -/
def W2 (c : Dev nD) : Valuation τ sig (Elt F) := Pipeline.afterRegion (dat0 (V0 m c) c) (V0 m c)
/-- and at the end. -/
def W4 (c : Dev nD) : Valuation τ sig (Elt F) := Pipeline.afterRegion (dat1 (W2 m c) c) (W2 m c)

theorem inj0 : Function.Injective (Pipeline.arrRef cfg0.spec) := launch0.win.arr_inj
theorem inj1 : Function.Injective (Pipeline.arrRef cfg1.spec) := launch1.win.arr_inj

/-- The forward region changes its results' arrays only. -/
theorem W2_of (c : Dev nD) (r : Ref sig .tc) (h : r ∉ ([main_v0_0, main_v0_1] : List (Ref sig .tc))) :
    W2 m c (Proc.devRef .tc r) = V0 m c (Proc.devRef .tc r) := by
  refine Pipeline.afterRegion_keeps (dat0 (V0 m c) c) (V0 m c) inj0 (fun w => A0_eq _ c w) r fun w hw => ?_
  subst hw
  revert h
  exact (by decide : ∀ w : Fin 5, Pipeline.arrRef spec0 w ∉ ([main_v0_0, main_v0_1] : List (Ref sig .tc)) → (win0 w).isOut = false) w

/-- The backward region changes its results' arrays only. -/
theorem W4_of (c : Dev nD) (r : Ref sig .tc) (h : r ∉ ([main_v1_0, main_v1_1, main_v1_2] : List (Ref sig .tc))) :
    W4 m c (Proc.devRef .tc r) = W2 m c (Proc.devRef .tc r) := by
  refine Pipeline.afterRegion_keeps (dat1 (W2 m c) c) (W2 m c) inj1 (fun w => A1_eq _ c w) r fun w hw => ?_
  subst hw
  revert h
  exact (by decide : ∀ w : Fin 9, Pipeline.arrRef spec1 w ∉ ([main_v1_0, main_v1_1, main_v1_2] : List (Ref sig .tc)) → (win1 w).isOut = false) w

/-- A buffer that nothing writes ends at its launch contents. -/
theorem W4_arg (c : Dev nD) (r : Ref sig .tc) (h1 : r ∉ ([main_v0_0, main_v0_1] : List (Ref sig .tc)))
    (h2 : r ∉ ([main_v1_0, main_v1_1, main_v1_2] : List (Ref sig .tc))) : W4 m c (Proc.devRef .tc r) = m ((c : Thread nD τ).loc r) :=
  (W4_of m c r h2).trans ((W2_of m c r h1).trans rfl)

/-- The backward region finds the forward region's results. -/
theorem W2_o (c : Dev nD) : W2 m c (Proc.devRef .tc main_v0_0) = (dat0 (V0 m c) c).arrAt 3 cfg0.N :=
  Pipeline.afterRegion_arr (dat0 (V0 m c) c) (V0 m c) inj0 (3 : Fin 5)
theorem W2_lse (c : Dev nD) : W2 m c (Proc.devRef .tc main_v0_1) = (dat0 (V0 m c) c).arrAt 4 cfg0.N :=
  Pipeline.afterRegion_arr (dat0 (V0 m c) c) (V0 m c) inj0 (4 : Fin 5)

end Cert.Proof.Mla

end
-- ==== Proof.Mla.Run.lean ====
/-
  The whole run: from any memory, at any float values, every execution of the
  program ends, each buffer at the contents of `Between` and every semaphore at zero.
-/
module

public import proofs.«01_k».proof.Proof.Mla.Between

@[expose] public section

set_option maxRecDepth 16384

noncomputable section

namespace Cert.Proof.Mla

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Both regions' proof data. -/
def pdats : (p : Fin 2) → (c : Dev nD) → Dat τ (Elt F) Unit ℕ (UR sig nD τ) ℕ (cfgs p) c
  | ⟨0, _⟩, c => dat0 (V0 m c) c
  | ⟨1, _⟩, c => dat1 (W2 m c) c

abbrev EP : Emb (UR sig nD τ) 𝕄 := emb₁

/-- The one wait index stands at every TensorCore cell; nothing is ever owed. -/
def waitAt : GSem nD τ sig → Finset Unit := fun g => if g.1.2 = .tc then {()} else ∅
abbrev lev : GSem nD τ sig → Unit → ℕ := fun _ _ => 0
/-- What rides beside the buffers. -/
def rest (_ : Dev nD) : sProp 𝕄 := iprop(emp)
def between (c : Dev nD) : sProp 𝕄 := iprop((∃ O, owes (c : Thread nD τ) (0 : CellTallies nD τ sig Unit) O) ∗ emp ∗ emp)

theorem levelCut (p : Fin 2) : Pipeline.LevelCut (pcfgs (F := F)) adm () waitAt lev p (0 : Dev nD → CellTallies nD τ sig Unit) (fun _ => 0) where
  hι c w s := by unfold waitAt; rw [if_pos rfl]; exact Finset.mem_singleton_self _
  hιb c w s := le_refl _
  hD c g i h := absurd h (Nat.lt_irrefl 0)

theorem rest_in0 (c : Dev nD) : iprop(Pipeline.scopedRest spec0 c ∗ emp) ⊢ (pdats m 0 c).Φ 0 := by
  show iprop(Pipeline.scopedRest spec0 c ∗ emp) ⊢ (Pipeline.scopedRest spec0 c : sProp 𝕄)
  iintro ⟨H, -⟩; iexact H
theorem rest_out0 (c : Dev nD) : (pdats m 0 c).Φ (Fin.last cfg0.N) ⊢ iprop(Pipeline.scopedRest spec0 c ∗ emp) := by
  show (Pipeline.scopedRest spec0 c : sProp 𝕄) ⊢ iprop(Pipeline.scopedRest spec0 c ∗ emp)
  iintro H
  isplitl [H]
  · iexact H
  iempintro

theorem rest_in1 (c : Dev nD) : iprop(Pipeline.scopedRest spec1 c ∗ emp) ⊢ (pdats m 1 c).Φ 0 := by
  show iprop(Pipeline.scopedRest spec1 c ∗ emp) ⊢ (Pipeline.scopedRest spec1 c : sProp 𝕄)
  iintro ⟨H, -⟩; iexact H
theorem rest_out1 (c : Dev nD) : (pdats m 1 c).Φ (Fin.last cfg1.N) ⊢ iprop(Pipeline.scopedRest spec1 c ∗ emp) := by
  show (Pipeline.scopedRest spec1 c : sProp 𝕄) ⊢ iprop(Pipeline.scopedRest spec1 c ∗ emp)
  iintro H
  isplitl [H]
  · iexact H
  iempintro

/-- The forward region's record. -/
def region0 : Pipeline.RegionSeg (pcfgs (F := F)) adm (pdats m) () defs₀ Variants.nat waitAt lev 0 :=
  Pipeline.RegionSeg.ofHeldIn (pcfgs (F := F)) adm (pdats m) () defs₀ Variants.nat waitAt lev 0 0 (Pipeline.ucRefs τ sig)
    (fun _ => iprop(emp)) (fun _ => iprop(emp)) launch0.toP rfl (fun c => (body_obligation0 (V0 m c) c).loose)
    (fun _ _ => rfl) (fun _ => rfl) (fun c => (pdats m 0 c).share_full fun _ => rfl)
    (fun c => rest_in0 m c) (fun c => rest_out0 m c) (fun _ => 0) (levelCut 0) (fun _ => iprop(emp)) (V0 m) (fun _ _ => rfl)

/-- The backward region's record. -/
def region1 : Pipeline.RegionSeg (pcfgs (F := F)) adm (pdats m) () defs₀ Variants.nat waitAt lev 1 :=
  Pipeline.RegionSeg.ofHeldIn (pcfgs (F := F)) adm (pdats m) () defs₀ Variants.nat waitAt lev 1 0 (Pipeline.ucRefs τ sig)
    (fun _ => iprop(emp)) (fun _ => iprop(emp)) launch1.toP rfl (fun c => (body_obligation1 (W2 m c) c).loose)
    (fun _ _ => rfl) (fun _ => rfl) (fun c => (pdats m 1 c).share_full fun _ => rfl)
    (fun c => rest_in1 m c) (fun c => rest_out1 m c) (fun _ => 0) (levelCut 1) (fun _ => iprop(emp)) (W2 m) (fun _ _ => rfl)

/-- The program's items. -/
abbrev items (_ : Dev nD) : List (Pipeline.Seg (pcfgs (F := F)) adm (pdats m) () defs₀ Variants.nat waitAt lev) :=
  [.region (region0 m), .region (region1 m)]

theorem sub0 : Pipeline.arrRefs (τ := τ) (pcfgs (F := F) 0).spec ⊆ Pipeline.ucRefs τ sig := Pipeline.arrRefs_sub_ucRefs _ (by decide : ∀ w : Fin 5, (Pipeline.arrRef spec0 w).isScoped = false)
theorem sub1 : Pipeline.arrRefs (τ := τ) (pcfgs (F := F) 1).spec ⊆ Pipeline.ucRefs τ sig := Pipeline.arrRefs_sub_ucRefs _ (by decide : ∀ w : Fin 9, (Pipeline.arrRef spec1 w).isScoped = false)

theorem enter0 (c : Dev nD) : iprop(StableHlo.held (c : Thread nD τ) (Pipeline.ucRefs τ sig) (V0 m c) ∗ between c) ⊢ (region0 m).pre c := by
  unfold region0 between
  exact Pipeline.RegionSeg.ofHeldIn_pre (pcs := pcfgs (F := F)) (a := adm) (pdats := pdats m) (ι := ()) (defs₀ := defs₀) (𝒱₀ := Variants.nat) (L := waitAt) (lv := lev) (p := 0) (D := 0)
    (S := Pipeline.ucRefs τ sig) (X := fun _ => iprop(emp)) (Y := fun _ => iprop(emp)) (R := fun _ => iprop(emp)) (W := V0 m) sub0 c
theorem leave0 (c : Dev nD) : (region0 m).post c ⊢ iprop(StableHlo.held (c : Thread nD τ) (Pipeline.ucRefs τ sig) (W2 m c) ∗ between c) :=
  Pipeline.RegionSeg.ofHeldIn_post sub0 c
theorem enter1 (c : Dev nD) : iprop(StableHlo.held (c : Thread nD τ) (Pipeline.ucRefs τ sig) (W2 m c) ∗ between c) ⊢ (region1 m).pre c := by
  unfold region1 between
  exact Pipeline.RegionSeg.ofHeldIn_pre (pcs := pcfgs (F := F)) (a := adm) (pdats := pdats m) (ι := ()) (defs₀ := defs₀) (𝒱₀ := Variants.nat) (L := waitAt) (lv := lev) (p := 1) (D := 0)
    (S := Pipeline.ucRefs τ sig) (X := fun _ => iprop(emp)) (Y := fun _ => iprop(emp)) (R := fun _ => iprop(emp)) (W := W2 m) sub1 c
theorem leave1 (c : Dev nD) : (region1 m).post c
    ⊢ iprop(StableHlo.held (c : Thread nD τ) (Pipeline.ucRefs τ sig) (W4 m c) ∗ ∃ O, owes (c : Thread nD τ) (0 : CellTallies nD τ sig Unit) O) := by
  refine (Pipeline.RegionSeg.ofHeldIn_post sub1 c).trans ?_
  iintro ⟨Hh, HO, -⟩
  isplitl [Hh]; · iexact Hh
  iexact HO

set_option backward.isDefEq.respectTransparency.types false in
/-- The run. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = W4 m c b) ∧ r.2.sem = fun _ => 0) := by
  refine Pipeline.θ_run_regions_kit_dev_sems (pcfgs (F := F)) adm (pdats m) () cellOf_inj EP defs₀ Variants.nat waitAt lev m ρ main
    (items m)
    (fun c Q => by
      rewrite [main_chain c, Pipeline.Seg.run_eq_chain,
        show (items m c).map Pipeline.Seg.prog = [
          Prog.lift (.customCall (Pipeline.entry 0) ()),
          Prog.lift (.customCall (Pipeline.entry 1) ()) ] from rfl]
      dsimp (config := { failIfUnchanged := false }) only
      exact .rfl)
    (fun c => by simp only [items, Pipeline.Seg.pipes_region, Pipeline.Seg.pipes_nil]; decide)
    (O₀ := 0) (hL := fun g hg => if_neg hg) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ between c))
    (Tₙ := fun c => StableHlo.held (c : Thread nD τ) (Pipeline.ucRefs τ sig) (W4 m c))
    (hch := fun c => ⟨enter0 m c, (leave0 m c).trans (enter1 m c), leave1 m c⟩)
    (hinit := ?_)
    (QY := fun c s => ∀ b ∈ Pipeline.ucRefs τ sig, s.mem ((c : Thread nD τ).1, b) = W4 m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own ((EP (F := F)) (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach waitAt lev fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    unfold between
    iintro ⟨⟨Hh, -, HO, -, -, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro; iexact Hr

/-- A TensorCore reference outside the scopes is among the buffers read at the end. -/
theorem mem_uc (r : Ref sig .tc) (h : r.isScoped = false) : (Proc.devRef .tc r : DevRef τ sig) ∈ Pipeline.ucRefs τ sig :=
  Pipeline.devRef_mem_ucRefs h

end Cert.Proof.Mla

end
-- ==== Proof.Mla.Frames.lean ====
/-
  The latent attention's frames: the arguments end as launched, every semaphore at zero; and the one named constant.
-/
module

public import proofs.«01_k».proof.Proof.Mla.Run
public import proofs.«01_k».proof.Proof.Gen.Kernel17
public import proofs.«01_k».proof.Defs
public import proofs.«01_k».proof.Proof.Gen.Reference17Ideal.Run
public import Idealize.ShloMosaic.Lib.Quiescent

@[expose] public section

set_option maxRecDepth 65536

noncomputable section

namespace Cert.Proof.Mla

open Idealize.ShloMosaic Idealize.ShloMosaic.TcCoe Idealize.SL.Sem

section
open Cert.Kernel17Ideal

/-- The run leaves the arguments as launched, over any float type. -/
theorem frame {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun _ h => ⟨fun c =>
    ⟨(h.1 c _ (mem_uc main_arg0 rfl)).trans (W4_arg m c main_arg0 (by decide) (by decide)),
     (h.1 c _ (mem_uc main_arg1 rfl)).trans (W4_arg m c main_arg1 (by decide) (by decide)),
     (h.1 c _ (mem_uc main_arg2 rfl)).trans (W4_arg m c main_arg2 (by decide) (by decide)),
     (h.1 c _ (mem_uc main_arg3 rfl)).trans (W4_arg m c main_arg3 (by decide) (by decide))⟩, h.2⟩)
    (run_main m ρ)

end

theorem frame_kernelIdeal : Cert.quiescent_Kernel17Ideal := fun m ρ _ => frame m ρ

/-- The named constant read as the word it is written with. -/
abbrev asWritten : Named Bits := ⟨fun _ _ {φ} b => FloatOps.ofBits φ b⟩

/-- With the constant so read the two programs' body tables are one. -/
theorem bodies_eq : Cert.Kernel17.defs₀ (F := Bits) = (letI := asWritten; Cert.Kernel17Ideal.defs₀ (F := Bits)) :=
  congrArg Defs.onTc (funext fun l => funext fun a => match l, a with
    | ⟨0, _⟩, (_, _) => rfl
    | ⟨1, _⟩, (_, _) => rfl
    | ⟨_ + 2, h⟩, _ => absurd h (Nat.not_lt.2 (Nat.le_add_left _ _)))
theorem tables_eq : Cert.Kernel17.defs (F := Bits) = (letI := asWritten; Cert.Kernel17Ideal.defs (F := Bits)) :=
  congrArg (Pipeline.defs (Cert.Kernel17Ideal.pcfgs (F := Bits))) bodies_eq

/-- The frame of the program at the device's own floats: the same run. -/
theorem frame_kernel : Cert.quiescent_Kernel17 := fun m ρ _ =>
  Eq.mpr (congrArg (fun D => θ_run D (onTc (τ := Cert.Kernel17Ideal.τ) (Cert.Kernel17Ideal.main (F := Bits))) ⟨m, fun _ => 0, ρ⟩ _) tables_eq)
    (@frame Bits _ asWritten m ρ)

/-- The reference declares no semaphore and its operations leave the arguments as launched. -/
theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The named constant: in the ideal program it is `⊥`, the weight that no key gets. -/
theorem preserves : Cert.preserves_Kernel17_Kernel17Ideal :=
  IdealRules.named_const.statement Cert.Kernel17Ideal.κ "no_weight" .f32 0xF149F2CA#32 ⊥ rfl

end Cert.Proof.Mla

end
-- ==== Proof.Mla.Value.Math.lean ====
/-
  The chunk-causal softmax attention of one head and its gradient over the reals, at position `t` of the queries and `s` of the keys.
-/
module

public import proofs.«01_k».proof.Proof.Value.Host

@[expose] public section

noncomputable section

namespace Cert.Proof.Mla

open Idealize.ShloMosaic Finset

/-- The scale both programs write, `192 ^ (-1/2)` rounded to a float. -/
def scale : ℝ := 9686330 / 134217728

theorem ofBits_scale : (FloatOps.ofBits .f32 0x3D93CD3A#32 : Ideal .f32) = ((scale : ℝ) : EReal) := by
  show Ideal.ofBits .f32 0x3D93CD3A#32 = _
  simp [Ideal.ofBits, Ideal.ieee, scale]
  norm_cast

/-- A key is seen by the queries of its own chunk of 64 and by later ones. -/
abbrev Sees (t s : ℕ) : Prop := s / 64 ≤ t / 64

section Head

variable (q k v d : ℕ → ℕ → ℝ)

/-- The scaled score, -/
def sc (t s : ℕ) : ℝ := (∑ e ∈ range 256, q t e * k s e) * scale
/-- its exponential where the key is seen, -/
def ew (t s : ℕ) : ℝ := if Sees t s then Real.exp (sc q k t s) else 0
/-- the exponentials' sum over the first `n` keys, -/
def ewTo (t n : ℕ) : ℝ := ∑ s ∈ range n, ew q k t s
/-- and the weight. -/
def wt (t s : ℕ) : ℝ := ew q k t s / ewTo q k t 8192
/-- The weight's gradient, -/
def dw (t s : ℕ) : ℝ := ∑ e ∈ range 128, d t e * v s e
/-- its weighted sum over the row, -/
def del (t : ℕ) : ℝ := ∑ s ∈ range 8192, wt q k t s * dw v d t s
/-- and the gradient of the unscaled score. -/
def ds (t s : ℕ) : ℝ := wt q k t s * (dw v d t s - del q k v d t) * scale

/-- The output, -/
def outS (t e : ℕ) : ℝ := ∑ s ∈ range 8192, wt q k t s * v s e
/-- and the three gradients. -/
def dqS (t e : ℕ) : ℝ := ∑ s ∈ range 8192, ds q k v d t s * k s e
def dkS (s e : ℕ) : ℝ := ∑ t ∈ range 8192, ds q k v d t s * q t e
def dvS (s e : ℕ) : ℝ := ∑ t ∈ range 8192, wt q k t s * d t e

variable {q k v d}

theorem ew_unseen {t s : ℕ} (h : ¬ Sees t s) : ew q k t s = 0 := if_neg h
theorem ew_seen {t s : ℕ} (h : Sees t s) : ew q k t s = Real.exp (sc q k t s) := if_pos h
theorem wt_unseen {t s : ℕ} (h : ¬ Sees t s) : wt q k t s = 0 := by rw [wt, ew_unseen h, zero_div]
theorem ds_unseen {t s : ℕ} (h : ¬ Sees t s) : ds q k v d t s = 0 := by rw [ds, wt_unseen h, zero_mul, zero_mul]
theorem ew_nonneg (t s : ℕ) : 0 ≤ ew q k t s := by
  unfold ew; split
  · exact (Real.exp_pos _).le
  · exact le_rfl

/-- A row sees its first key. -/
theorem ewTo_pos {t n : ℕ} (h : 0 < n) : 0 < ewTo q k t n :=
  sum_pos' (fun s _ => ew_nonneg t s) ⟨0, mem_range.mpr h, by rw [ew_seen (by unfold Sees; omega)]; exact Real.exp_pos _⟩

/-- The sum up to any bound past the row's chunk is the whole sum. -/
theorem ewTo_full {t n : ℕ} (h : 64 * (t / 64 + 1) ≤ n) (hn : n ≤ 8192) : ewTo q k t n = ewTo q k t 8192 :=
  Sb.sum_past _ (fun s hs => ew_unseen (by unfold Sees; omega)) hn

/-- The exponential of the score less the logarithm of the row's sum is the weight. -/
theorem exp_sub_log {t s : ℕ} (h : Sees t s) : Real.exp (sc q k t s - Real.log (ewTo q k t 8192)) = wt q k t s := by
  rw [Real.exp_sub, Real.exp_log (ewTo_pos (by omega)), wt, ew_seen h]

/-- The output against its gradient is the weighted sum of the weights' gradients. -/
theorem sum_d_out (t : ℕ) : ∑ e ∈ range 128, d t e * outS q k v t e = del q k v d t := by
  unfold outS del dw
  simp only [mul_sum]
  rw [sum_comm]
  exact sum_congr rfl fun s _ => sum_congr rfl fun e _ => by ring

end Head

/-- Head `h` of an array whose columns hold the heads side by side, `w` columns each, -/
def hd (w : ℕ) (f : ℕ → ℕ → ℝ) (h : ℕ) : ℕ → ℕ → ℝ := fun t e => f t (w * h + e)
/-- and an array of all heads: `f` of a column's head, at its place in the head. -/
def byHead (w : ℕ) (f : ℕ → ℕ → ℕ → ℝ) : ℕ → ℕ → ℝ := fun t n => f (n / w) t (n % w)

theorem byHead_at (w : ℕ) (f : ℕ → ℕ → ℕ → ℝ) (t h e : ℕ) (he : e < w) : byHead w f t (h * w + e) = f h t e := by
  unfold byHead
  rw [Nat.mul_comm h w, Nat.mul_add_div (by omega), Nat.div_eq_of_lt he, Nat.mul_add_mod, Nat.mod_eq_of_lt he, Nat.add_zero]

end Cert.Proof.Mla

end
-- ==== Proof.Mla.Value.Ops.lean ====
/-
  What the vector operations of the two bodies do to arrays that hold reals, some entries masked.
-/
module

public import proofs.«01_k».proof.Proof.Value.Blocks
public import proofs.«01_k».proof.Proof.Mla.Value.Math
public import proofs.«01_k».proof.Proof.Mla.Bwd
public import proofs.«01_k».proof.Proof.Mla.Fwd

@[expose] public section

set_option maxRecDepth 16384

noncomputable section

namespace Cert.Proof.Mla

open Cert.Kernel17Ideal Cert.Kernel17Ideal.Gen Cert.Proof.Sb
open Idealize.ShloMosaic Idealize.ShloMosaic.TcCoe Finset

/-! ## Rows of a slab -/

section Slabs

variable {N W : ℕ} [NeZero N] (h : ℕ) [NeZero h] {f g : ℕ → ℕ → ℝ}

theorem is2_rows {X : Vec Ideal (Sl N W) .bf16} (hX : Is2 (X : (Sl N W).Idx → EReal) f) {j : ℕ} (hj : h * j + h ≤ N) :
    Is2 (rows h X j : (Sl h W).Idx → EReal) (fun y e => f (h * j + y) e) := by
  intro i
  have hi : (i 0).val < h := (i 0).isLt
  have h0 : ((tileIdx (N := N) h j i) 0).val = h * j + (i 0).val := by
    show (h * j + (i 0).val) % N = _
    exact Nat.mod_eq_of_lt (by omega)
  show X (tileIdx h j i) = _
  rw [hX (tileIdx h j i), h0]; rfl
theorem is2_rows32 {X : Vec Ideal (Sl N W) .f32} (hX : Is2 (X : (Sl N W).Idx → EReal) f) {j : ℕ} (hj : h * j + h ≤ N) :
    Is2 (rows h X j : (Sl h W).Idx → EReal) (fun y e => f (h * j + y) e) := by
  intro i
  have hi : (i 0).val < h := (i 0).isLt
  have h0 : ((tileIdx (N := N) h j i) 0).val = h * j + (i 0).val := by
    show (h * j + (i 0).val) % N = _
    exact Nat.mod_eq_of_lt (by omega)
  show X (tileIdx h j i) = _
  rw [hX (tileIdx h j i), h0]; rfl

theorem is2_setRows {X : Vec Ideal (Sl N W) .f32} {w : Vec Ideal (Sl h W) .f32} (hX : Is2 (X : (Sl N W).Idx → EReal) f)
    (hw : Is2 (w : (Sl h W).Idx → EReal) g) (j : ℕ) : Is2 (setRows h X j w : (Sl N W).Idx → EReal) (fun s e => if s / h = j then g (s % h) e else f s e) := by
  intro i
  show (if (i 0).val / h = j then w (inTile h i) else X i) = ((if (i 0).val / h = j then g ((i 0).val % h) (i 1).val else f (i 0).val (i 1).val : ℝ) : EReal)
  have h0 : ((inTile h i) 0).val = (i 0).val % h := by
    show (i 0).val % h % h = _
    exact Nat.mod_mod _ _
  split
  · rw [hw (inTile h i), h0]; rfl
  · rw [hX i]

end Slabs

/-! ## Sums -/

variable {f g : ℕ → ℕ → ℝ}

theorem is2_scale {m n : ℕ} : Is2 (broadcast (⟨2, ![m, n]⟩ : Shape) (Scalar.ofBits .f32 0x3D93CD3A#32 : Ideal .f32)) (fun _ _ => scale) :=
  fun _ => ofBits_scale

section Products

variable {φ₁ φ₂ : FTy}

/-- Rows by rows, -/
theorem nt_q1024 {A : FVec Ideal S1024x256 φ₁} {B : FVec Ideal S1024x256 φ₂} (hA : Is2 A f) (hB : Is2 B g) :
    Is2 (matmul dot_S1024x256_S1024x256_S1024x1024_1_1_0_0_n_n none A B (constant S1024x1024 .f32 0x00000000#32))
      (fun x y => ∑ e ∈ range 256, f x e * g y e) := by
  intro i
  pointwise []
  rw [← coe_sum_mul]
  exact Finset.sum_congr rfl fun e _ => by rw [hA _, hB _]; rfl
theorem nt_q512 {A : FVec Ideal S1024x256 φ₁} {B : FVec Ideal S512x256 φ₂} (hA : Is2 A f) (hB : Is2 B g) :
    Is2 (matmul dot_S1024x256_S512x256_S1024x512_1_1_0_0_n_n none A B (constant S1024x512 .f32 0x00000000#32))
      (fun x y => ∑ e ∈ range 256, f x e * g y e) := by
  intro i
  pointwise []
  rw [← coe_sum_mul]
  exact Finset.sum_congr rfl fun e _ => by rw [hA _, hB _]; rfl
theorem nt_v512 {A : FVec Ideal S1024x128 φ₁} {B : FVec Ideal S512x128 φ₂} (hA : Is2 A f) (hB : Is2 B g) :
    Is2 (matmul dot_S1024x128_S512x128_S1024x512_1_1_0_0_n_n none A B (constant S1024x512 .f32 0x00000000#32))
      (fun x y => ∑ e ∈ range 128, f x e * g y e) := by
  intro i
  pointwise []
  rw [← coe_sum_mul]
  exact Finset.sum_congr rfl fun e _ => by rw [hA _, hB _]; rfl

/-- a tile by the rows of its columns, -/
theorem nn_v1024 {A : FVec Ideal S1024x1024 φ₁} {B : FVec Ideal S1024x128 φ₂} (hA : Is2 A f) (hB : Is2 B g) :
    Is2 (matmul dot_S1024x1024_S1024x128_S1024x128_1_0_0_1_n_n none A B (constant S1024x128 .f32 0x00000000#32))
      (fun x e => ∑ y ∈ range 1024, f x y * g y e) := by
  intro i
  pointwise []
  rw [← coe_sum_mul (fun j => f (i 0).val j) (fun j => g j (i 1).val)]
  exact Finset.sum_congr rfl fun e _ => by rw [hA _, hB _]; rfl
theorem nn_k512 {A : FVec Ideal S1024x512 φ₁} {B : FVec Ideal S512x256 φ₂} (hA : Is2 A f) (hB : Is2 B g) :
    Is2 (matmul dot_S1024x512_S512x256_S1024x256_1_0_0_1_n_n none A B (constant S1024x256 .f32 0x00000000#32))
      (fun x e => ∑ y ∈ range 512, f x y * g y e) := by
  intro i
  pointwise []
  rw [← coe_sum_mul (fun j => f (i 0).val j) (fun j => g j (i 1).val)]
  exact Finset.sum_congr rfl fun e _ => by rw [hA _, hB _]; rfl

/-- and a tile's transpose by the rows of its rows. -/
theorem tn_q512 {A : FVec Ideal S1024x512 φ₁} {B : FVec Ideal S1024x256 φ₂} (hA : Is2 A f) (hB : Is2 B g) :
    Is2 (matmul dot_S1024x512_S1024x256_S512x256_0_0_1_1_n_n none A B (constant S512x256 .f32 0x00000000#32))
      (fun y e => ∑ x ∈ range 1024, f x y * g x e) := by
  intro i
  pointwise []
  rw [← coe_sum_mul (fun j => f j (i 0).val) (fun j => g j (i 1).val)]
  exact Finset.sum_congr rfl fun e _ => by rw [hA _, hB _]; rfl
theorem tn_v512 {A : FVec Ideal S1024x512 φ₁} {B : FVec Ideal S1024x128 φ₂} (hA : Is2 A f) (hB : Is2 B g) :
    Is2 (matmul dot_S1024x512_S1024x128_S512x128_0_0_1_1_n_n none A B (constant S512x128 .f32 0x00000000#32))
      (fun y e => ∑ x ∈ range 1024, f x y * g x e) := by
  intro i
  pointwise []
  rw [← coe_sum_mul (fun j => f j (i 0).val) (fun j => g j (i 1).val)]
  exact Finset.sum_congr rfl fun e _ => by rw [hA _, hB _]; rfl

end Products

/-- The rows' sums. -/
theorem rowsum1024 {A : FVec Ideal S1024x1024 .f32} (hA : Is2 A f) :
    Is2 (shapeCast S1024x1 (multiReduction .add [1] S1024 A 0x00000000#32 reduces_S1024x1024_S1024 (.inl rfl) rfl) shapeCasts_S1024_S1024x1)
      (fun x _ => ∑ y ∈ range 1024, f x y) := by
  intro i
  pointwise []
  rw [← coe_sum]
  exact Finset.sum_congr rfl fun e _ => by rw [hA _]; rfl
theorem rowsum128 {A : FVec Ideal S1024x128 .f32} (hA : Is2 A f) :
    Is2 (shapeCast S1024x1 (multiReduction .add [1] S1024 A 0x00000000#32 reduces_S1024x128_S1024 (.inl rfl) rfl) shapeCasts_S1024_S1024x1)
      (fun x _ => ∑ y ∈ range 128, f x y) := by
  intro i
  pointwise []
  rw [← coe_sum]
  exact Finset.sum_congr rfl fun e _ => by rw [hA _]; rfl

/-- A column along the rows. -/
theorem along128 {A : FVec Ideal S1024x1 .f32} (hA : Is2 A f) : Is2 (broadcastTo S1024x128 A broadcasts_S1024x1_S1024x128) (fun x _ => f x 0) := by
  intro i
  pointwise []
  rw [hA _]; rfl
theorem along512 {A : FVec Ideal S1024x1 .f32} (hA : Is2 A f) : Is2 (broadcastTo S1024x512 A broadcasts_S1024x1_S1024x512) (fun x _ => f x 0) := by
  intro i
  pointwise []
  rw [hA _]; rfl
theorem along1024 {A : FVec Ideal S1024x1 .f32} (hA : Is2 A f) : Is2 (broadcastTo S1024x1024 A broadcasts_S1024x1_S1024x1024) (fun x _ => f x 0) := by
  intro i
  pointwise []
  rw [hA _]; rfl

/-- Reshapes to the same shape. -/
theorem cast_o {X : FVec Ideal S1024x128 .f32} (hX : Is2 X f) : Is2 (shapeCast S1024x128 X shapeCasts_S1024x128_S1024x128) f := by
  intro i; pointwise []; exact hX _
theorem cast_k {X : FVec Ideal S512x256 .f32} (hX : Is2 X f) : Is2 (shapeCast S512x256 X shapeCasts_S512x256_S512x256) f := by
  intro i; pointwise []; exact hX _
theorem cast_v {X : FVec Ideal S512x128 .f32} (hX : Is2 X f) : Is2 (shapeCast S512x128 X shapeCasts_S512x128_S512x128) f := by
  intro i; pointwise []; exact hX _
theorem cast_col {X : FVec Ideal S1024x1 .f32} (hX : Is2 X f) : Is2 (shapeCast S1024x1 X shapeCasts_S1024x1_S1024x1) f := by
  intro i
  have h : (i 1).val < 1 := (i 1).isLt
  have e : (i 1).val = 0 := by omega
  pointwise []
  rw [hX i, e]

/-! ## Masked arrays -/

/-- The array holds the reals `f` where `p` holds, and `⊥` elsewhere. -/
def IsM {m n : ℕ} (X : (⟨2, ![m, n]⟩ : Shape).Idx → EReal) (p : ℕ → ℕ → Prop) [∀ x y, Decidable (p x y)] (f : ℕ → ℕ → ℝ) : Prop :=
  ∀ i, X i = if p (i 0).val (i 1).val then ((f (i 0).val (i 1).val : ℝ) : EReal) else ⊥

section Masked

variable {m n : ℕ} {X Y : FVec Ideal ⟨2, ![m, n]⟩ .f32} {p : ℕ → ℕ → Prop} [∀ x y, Decidable (p x y)]

/-- Nothing is masked where the mask holds. -/
theorem Is2.masked (hX : Is2 X f) (h : ∀ x < m, ∀ y < n, p x y) : IsM X p f := fun i => by
  rw [if_pos (h _ (i 0).isLt _ (i 1).isLt)]; exact hX i

/-- The exponential of a masked array less an array of reals is zero where masked. -/
theorem IsM.exp_sub (hX : IsM X p f) (hY : Is2 Y g) :
    Is2 (Idealize.ShloMosaic.exp (F := Ideal) (subf X Y)) (fun x y => if p x y then Real.exp (f x y - g x y) else 0) := by
  intro i
  show Ideal.exp (X i - Y i) = ((if p (i 0).val (i 1).val then Real.exp (f (i 0).val (i 1).val - g (i 0).val (i 1).val) else 0 : ℝ) : EReal)
  rw [hX i, hY i]
  split
  · rw [← EReal.coe_sub, Ideal.exp_coe]
  · rfl

end Masked

/-! ## The chunks' mask -/

/-- The chunk of a word, as the bodies divide: rounded down, of a word's sign and of 64's. -/
def chunk (w : BitVec 32) : BitVec 32 :=
  Scalar.select (IntOp.andi
      (IntOp.cmpi .ne (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem chunk_word : ∀ n : Fin 1024, chunk (BitVec.ofNat 32 n.val) = BitVec.ofNat 32 (n.val / 64) := by decide +kernel

/-- The comparison of two chunks. -/
theorem sees_word {c x y : ℕ} (hx : x < 1024) (hy : c + y < 1024) :
    IntOp.cmpi .sle (chunk (IntOp.addi (BitVec.ofNat 32 c) (BitVec.ofNat 32 y))) (chunk (BitVec.ofNat 32 x)) = BitVec.ofBool (decide (Sees x (c + y))) := by
  rw [show IntOp.addi (BitVec.ofNat 32 c) (BitVec.ofNat 32 y) = BitVec.ofNat 32 (c + y) from (BitVec.ofNat_add _ _).symm,
    chunk_word ⟨_, hy⟩, chunk_word ⟨_, hx⟩]
  exact mask_le _ _ (by show (c + y) / 64 < _; omega) (by show x / 64 < _; omega)

/-- The masked scores of the forward body's diagonal tile, -/
theorem mask_fwd {S : FVec Ideal S1024x1024 .f32} (hS : Is2 S f) :
    IsM (k0_pay22 S rowIota 64#32 k0_pay20 k0_pay21 chunkSign) (fun x y => Sees x (0 + y)) f := by
  intro i
  have hi : iota .tc S1024x1024 32 [1] iota_S1024x1024_d1_w32 i = BitVec.ofNat 32 (i 1).val := by pointwise []
  have hj : iota .tc S1024x1024 32 [0] iota_S1024x1024_d0_w32 i = BitVec.ofNat 32 (i 0).val := by pointwise []
  show Scalar.select (IntOp.cmpi .sle (chunk (IntOp.addi (BitVec.ofNat 32 0) (iota .tc S1024x1024 32 [1] iota_S1024x1024_d1_w32 i)))
    (chunk (iota .tc S1024x1024 32 [0] iota_S1024x1024_d0_w32 i))) (S i) ⊥ = _
  rw [hi, hj, sees_word (i 0).isLt (by have : (i 1).val < 1024 := (i 1).isLt; omega), select_if, hS i]

/-- of the backward body's first diagonal tile, -/
theorem mask_bwd0 {S : FVec Ideal S1024x512 .f32} (hS : Is2 S f) {L : FVec Ideal S1024x1 .f32} (hL : Is2 L g) :
    Is2 (k1_pay24 L S k1_pay19 k1_pay21 k1_pay22 k1_pay23) (fun x y => if Sees x (0 + y) then Real.exp (f x y - g x 0) else 0) := by
  refine IsM.exp_sub (X := fun i => Scalar.select (IntOp.cmpi .sle (chunk (IntOp.addi (BitVec.ofNat 32 0) (iota .tc S1024x512 32 [1] iota_S1024x512_d1_w32 i)))
    (chunk (iota .tc S1024x512 32 [0] iota_S1024x512_d0_w32 i))) (S i) ⊥) (p := fun x y => Sees x (0 + y)) (fun i => ?_) (along512 hL)
  have hi : iota .tc S1024x512 32 [1] iota_S1024x512_d1_w32 i = BitVec.ofNat 32 (i 1).val := by pointwise []
  have hj : iota .tc S1024x512 32 [0] iota_S1024x512_d0_w32 i = BitVec.ofNat 32 (i 0).val := by pointwise []
  beta_reduce
  rw [hi, hj, sees_word (i 0).isLt (by have : (i 1).val < 512 := (i 1).isLt; omega), select_if, hS i]

/-- and of the second. -/
theorem mask_bwd1 {S : FVec Ideal S1024x512 .f32} (hS : Is2 S f) {L : FVec Ideal S1024x1 .f32} (hL : Is2 L g) :
    Is2 (k1_pay34 L S k1_pay30 k1_pay31 64#32 k1_pay32 k1_pay33 sgnPos sgnNeg)
      (fun x y => if Sees x (512 + y) then Real.exp (f x y - g x 0) else 0) := by
  refine IsM.exp_sub (X := fun i => Scalar.select (IntOp.cmpi .sle (chunk (IntOp.addi (BitVec.ofNat 32 512) (iota .tc S1024x512 32 [1] iota_S1024x512_d1_w32 i)))
    (chunk (iota .tc S1024x512 32 [0] iota_S1024x512_d0_w32 i))) (S i) ⊥) (p := fun x y => Sees x (512 + y)) (fun i => ?_) (along512 hL)
  have hi : iota .tc S1024x512 32 [1] iota_S1024x512_d1_w32 i = BitVec.ofNat 32 (i 1).val := by pointwise []
  have hj : iota .tc S1024x512 32 [0] iota_S1024x512_d0_w32 i = BitVec.ofNat 32 (i 0).val := by pointwise []
  beta_reduce
  rw [hi, hj, sees_word (i 0).isLt (by have : (i 1).val < 512 := (i 1).isLt; omega), select_if, hS i]

end Cert.Proof.Mla

end
-- ==== Proof.Mla.Value.FwdVal.lean ====
/-
  The forward body over the reals: the walk keeps a running maximum, and what it has summed so far scaled down by its exponential.
-/
module

public import proofs.«01_k».proof.Proof.Mla.Value.Ops

@[expose] public section

set_option maxRecDepth 16384

noncomputable section

namespace Cert.Proof.Mla

open Cert.Kernel17Ideal Cert.Kernel17Ideal.Gen Cert.Proof.Sb
open Idealize.ShloMosaic Idealize.ShloMosaic.TcCoe Finset

/-! ## One tile -/

section Tile

/-- The running maximum after a tile of scores, -/
def mx (m : FVec Ideal S1024x1 .f32) (S : FVec Ideal S1024x1024 .f32) : FVec Ideal S1024x1 .f32 :=
  maximumf m (shapeCast S1024x1 (multiReduction .maximumf [1] S1024 S 0xFF800000#32 reduces_S1024x1024_S1024 (.inl rfl) rfl) shapeCasts_S1024_S1024x1)
/-- the scaled exponentials, -/
def pe (m : FVec Ideal S1024x1 .f32) (S : FVec Ideal S1024x1024 .f32) : FVec Ideal S1024x1024 .f32 :=
  exp (subf S (broadcastTo S1024x1024 (mx m S) broadcasts_S1024x1_S1024x1024))
/-- the rescaling of what came before, -/
def al (m : FVec Ideal S1024x1 .f32) (S : FVec Ideal S1024x1024 .f32) : FVec Ideal S1024x1 .f32 := exp (subf m (mx m S))
/-- the running sum -/
def ls (m l : FVec Ideal S1024x1 .f32) (S : FVec Ideal S1024x1024 .f32) : FVec Ideal S1024x1 .f32 :=
  addf (mulf l (al m S)) (shapeCast S1024x1 (multiReduction .add [1] S1024 (pe m S) 0x00000000#32 reduces_S1024x1024_S1024 (.inl rfl) rfl) shapeCasts_S1024_S1024x1)
/-- and the weighted values. -/
def ac (m : FVec Ideal S1024x1 .f32) (a : FVec Ideal S1024x128 .f32) (S : FVec Ideal S1024x1024 .f32) (V : FVec Ideal S1024x128 .bf16) : FVec Ideal S1024x128 .f32 :=
  addf (mulf a (broadcastTo S1024x128 (al m S) broadcasts_S1024x1_S1024x128))
    (matmul dot_S1024x1024_S1024x128_S1024x128_1_0_0_1_n_n none (truncf .bf16 (pe m S) bitsLt_bf16_f32) V (constant S1024x128 .f32 0x00000000#32))

/-- An array of one column whose entries are all real holds some reals. -/
theorem is2_some {X : FVec Ideal S1024x1 .f32} (h : ∀ i, ⊥ < X i ∧ X i < (⊤ : EReal)) : ∃ M : ℕ → ℝ, Is2 X (fun x _ => M x) := by
  refine ⟨fun x => (X fun a => match a with | ⟨0, _⟩ => (Fin.ofNat 1024 x : Fin 1024) | ⟨1, _⟩ => (0 : Fin 1)).toReal, fun i => ?_⟩
  have e : (fun a => match a with | ⟨0, _⟩ => (Fin.ofNat 1024 (i 0).val : Fin 1024) | ⟨1, _⟩ => (0 : Fin 1) : S1024x1.Idx) = i := by
    have h0 : (i 0).val < 1024 := (i 0).isLt
    have h1 : (i 1).val < 1 := (i 1).isLt
    funext a; apply Fin.ext
    match a with
    | ⟨0, _⟩ => exact Nat.mod_eq_of_lt h0
    | ⟨1, _⟩ => show 0 = (i 1).val; omega
  beta_reduce
  rw [e]
  exact (EReal.coe_toReal (h i).2.ne (h i).1.ne').symm

variable {m : FVec Ideal S1024x1 .f32} {S : FVec Ideal S1024x1024 .f32} {p : ℕ → ℕ → Prop} [∀ x y, Decidable (p x y)] {f : ℕ → ℕ → ℝ}

/-- A row's maximum is real when the row sees its first entry. -/
theorem rowmax_real (hS : IsM S p f) (hp : ∀ x, p x 0) (j : S1024.Idx) :
    ⊥ < multiReduction .maximumf [1] S1024 S 0xFF800000#32 reduces_S1024x1024_S1024 (.inl rfl) rfl j
      ∧ multiReduction .maximumf [1] S1024 S 0xFF800000#32 reduces_S1024x1024_S1024 (.inl rfl) rfl j < (⊤ : EReal) := by
  have e := multiReduction_maximumf_eq_fold (F := Ideal) (φ := .f32) S 0xFF800000#32 reduces_S1024x1024_S1024 (.inl rfl) rfl j
  constructor
  · refine lt_of_lt_of_eq ?_ e.symm
    refine (Finset.lt_fold_max _).mpr (Or.inr ⟨(reduces_S1024x1024_S1024).lift j (0 : Fin 1024),
      Finset.mem_filter.mpr ⟨Finset.mem_univ _, Shape.Reduces.drop_lift _ _ _⟩, ?_⟩)
    rw [hS _, if_pos]
    · exact EReal.bot_lt_coe _
    · exact hp _
  · refine lt_of_eq_of_lt e ((Finset.fold_max_lt _).mpr ⟨lt_of_eq_of_lt ofBits_bot bot_lt_top, fun i _ => ?_⟩)
    rw [hS i]
    split
    · exact EReal.coe_lt_top _
    · exact bot_lt_top

theorem mx_real (hS : IsM S p f) (hp : ∀ x, p x 0) (hm : ∀ i, m i < (⊤ : EReal)) : ∃ M : ℕ → ℝ, Is2 (mx m S) (fun x _ => M x) :=
  is2_some fun i => by
    have h := rowmax_real hS hp
    exact ⟨lt_of_lt_of_le (h _).1 (le_max_right (m i) _), max_lt (hm i) (h _).2⟩

end Tile

/-! ## The walk -/

section Walk

variable (q k v : ℕ → ℕ → ℝ) (i : ℕ)

/-- The weighted values of the first `n` keys. -/
def evTo (t n e : ℕ) : ℝ := ∑ s ∈ range n, ew q k t s * v s e

/-- The walk's state after `n` keys: the maximum starts masked and then holds reals, the sums are scaled down by its exponential. -/
structure FInv (n : ℕ) (s : FSt Ideal) (M : ℕ → ℝ) : Prop where
  m0 : n = 0 → ∀ x, s.1 x = (⊥ : EReal)
  m1 : n ≠ 0 → Is2 s.1 (fun x _ => M x)
  l : Is2 s.2.1 (fun x _ => ewTo q k (1024 * i + x) n * Real.exp (-M x))
  a : Is2 s.2.2 (fun x e => evTo q k v (1024 * i + x) n e * Real.exp (-M x))

variable {q k v i}

theorem rescale {E M M' a : ℝ} (h : E = 0 ∨ a = Real.exp (M - M')) : E * Real.exp (-M) * a = E * Real.exp (-M') := by
  rcases h with h | h
  · rw [h]; ring
  · rw [h, mul_assoc, ← Real.exp_add]; congr 2; ring

/-- One tile more. -/
theorem FInv.step {n : ℕ} {s : FSt Ideal} {M : ℕ → ℝ} (h : FInv q k v i n s M) {S : FVec Ideal S1024x1024 .f32} {p : ℕ → ℕ → Prop}
    [∀ x y, Decidable (p x y)] (hS : IsM S p fun x y => sc q k (1024 * i + x) (n + y)) (hp : ∀ x, p x 0)
    (hs : ∀ x < 1024, ∀ y < 1024, p x y ↔ Sees (1024 * i + x) (n + y)) {V : FVec Ideal S1024x128 .bf16} (hV : Is2 V (fun y e => v (n + y) e)) :
    ∃ M', FInv q k v i (n + 1024) (mx s.1 S, ls s.1 s.2.1 S, ac s.1 s.2.2 S V) M' := by
  obtain ⟨M', hM⟩ := mx_real (m := s.1) hS hp fun x => by
    by_cases hn : n = 0
    · rw [h.m0 hn]; exact bot_lt_top
    · rw [h.m1 hn]; exact EReal.coe_lt_top _
  have hP : Is2 (pe s.1 S) (fun x y => ew q k (1024 * i + x) (n + y) * Real.exp (-M' x)) := (hS.exp_sub (along1024 hM)).congr fun x hx y hy => by
    rw [ew, ite_congr (propext (hs x hx y hy)) (fun _ => rfl) (fun _ => rfl)]
    split
    · rw [← Real.exp_add, sub_eq_add_neg]
    · rw [zero_mul]
  have hA : ∃ a : ℕ → ℝ, Is2 (al s.1 S) (fun x _ => a x) ∧ (n = 0 ∨ ∀ x, a x = Real.exp (M x - M' x)) := by
    by_cases hn : n = 0
    · refine ⟨fun _ => 0, fun x => ?_, Or.inl hn⟩
      show Ideal.exp (s.1 x - mx s.1 S x) = _
      rw [h.m0 hn, hM x]; rfl
    · exact ⟨_, ((h.m1 hn).sub hM).exp, Or.inr fun _ => rfl⟩
  obtain ⟨a, hA, ha⟩ := hA
  refine ⟨M', fun h0 => absurd h0 (by omega), fun _ => hM, ?_, ?_⟩
  · refine ((h.l.mul hA).add (rowsum1024 hP)).congr fun x _ _ _ => ?_
    rw [ewTo, ewTo, sum_cut, add_mul, rescale (ha.imp (fun h0 => by rw [h0, range_zero, sum_empty]) fun h1 => h1 x), sum_mul (range 1024)]
  · refine ((h.a.mul (along128 hA)).add (nn_v1024 (hP.trunc bitsLt_bf16_f32) hV)).congr fun x _ e _ => ?_
    rw [evTo, evTo, sum_cut, add_mul, rescale (ha.imp (fun h0 => by rw [h0, range_zero, sum_empty]) fun h1 => h1 x), sum_mul (range 1024)]
    exact congrArg _ (sum_congr rfl fun y _ => by ring)

/-- What the forward body reads at row block `i` of one head. -/
structure FwdOps (q k v : ℕ → ℕ → ℝ) (i : ℕ) (Q : Vec Ideal S1024x256 .bf16) (K : Vec Ideal S8192x256 .bf16) (V : Vec Ideal S8192x128 .bf16) : Prop where
  hq : Is2 (Q : S1024x256.Idx → EReal) (fun x e => q (1024 * i + x) e)
  hk : Is2 (K : S8192x256.Idx → EReal) k
  hv : Is2 (V : S8192x128.Idx → EReal) v
  hi : i < 8

variable {Q : Vec Ideal S1024x256 .bf16} {K : Vec Ideal S8192x256 .bf16} {V : Vec Ideal S8192x128 .bf16} (h : FwdOps q k v i Q K V)
include h

/-- A tile's scores. -/
theorem fwd_sc {j : ℕ} (hj : j < 8) : Is2 (k0_pay7 Q (rows 1024 K j)) (fun x y => sc q k (1024 * i + x) (1024 * j + y)) :=
  (nt_q1024 h.hq (is2_rows 1024 h.hk (j := j) (by omega))).mul is2_scale

/-- The tiles before the diagonal are seen whole. -/
theorem fwdGo_val : ∀ n ≤ i, ∃ M, FInv q k v i (1024 * n) (fwdGo Q K V n) M
  | 0, _ => ⟨fun _ => 0, fun _ _ => rfl, fun h0 => absurd rfl h0,
      is2_zero.congr fun x _ _ _ => by rw [ewTo, mul_zero, range_zero, sum_empty, zero_mul],
      is2_zero.congr fun x _ _ _ => by rw [evTo, mul_zero, range_zero, sum_empty, zero_mul]⟩
  | n + 1, hn => by
    have hi := h.hi
    obtain ⟨M, ih⟩ := fwdGo_val n (by omega)
    rw [Nat.mul_add, Nat.mul_one]
    exact ih.step (Is2.masked (fwd_sc h (j := n) (by omega)) (p := fun _ _ => True) fun _ _ _ _ => trivial) (fun _ => trivial)
      (fun x _ y hy => ⟨fun _ => by show (1024 * n + y) / 64 ≤ (1024 * i + x) / 64; omega, fun _ => trivial⟩) (is2_rows 1024 h.hv (j := n) (by omega))

/-- After the diagonal tile every seen key is in. -/
theorem fwd_diag : ∃ M, FInv q k v i (1024 * i + 1024) (diagMax Q K V i,
    ls (fwdGo Q K V i).1 (fwdGo Q K V i).2.1 (k0_pay22 (k0_pay19 Q (rows 1024 K i)) rowIota 64#32 k0_pay20 k0_pay21 chunkSign),
    ac (fwdGo Q K V i).1 (fwdGo Q K V i).2.2 (k0_pay22 (k0_pay19 Q (rows 1024 K i)) rowIota 64#32 k0_pay20 k0_pay21 chunkSign) (rows 1024 V i)) M := by
  have hi := h.hi
  obtain ⟨M, ih⟩ := fwdGo_val h i le_rfl
  exact ih.step (mask_fwd (fwd_sc h (j := i) (by omega))) (fun x => by show (0 + 0) / 64 ≤ _; omega)
    (fun x _ y _ => by show (0 + y) / 64 ≤ x / 64 ↔ (1024 * i + y) / 64 ≤ (1024 * i + x) / 64; omega) (is2_rows 1024 h.hv (j := i) (by omega))

/-- The attention's rows. -/
theorem fwdO_val : Is2 (fwdO Q K V i) (fun x e => outS q k v (1024 * i + x) e) := by
  have hi := h.hi
  obtain ⟨M, hM⟩ := fwd_diag h
  have e : fwdO Q K V i = divf (ac (fwdGo Q K V i).1 (fwdGo Q K V i).2.2 (k0_pay22 (k0_pay19 Q (rows 1024 K i)) rowIota 64#32 k0_pay20 k0_pay21 chunkSign) (rows 1024 V i))
      (broadcastTo S1024x128 (ls (fwdGo Q K V i).1 (fwdGo Q K V i).2.1 (k0_pay22 (k0_pay19 Q (rows 1024 K i)) rowIota 64#32 k0_pay20 k0_pay21 chunkSign)) broadcasts_S1024x1_S1024x128) := rfl
  rw [e]
  refine (hM.a.div (along128 hM.l) fun x _ => mul_pos (ewTo_pos (by omega)) (Real.exp_pos _)).congr fun x hx e _ => ?_
  rw [mul_div_mul_right _ _ (Real.exp_pos _).ne', ewTo_full (by omega) (by omega), outS, evTo, sum_div,
    sum_past _ (fun s hs => by rw [ew_unseen (by show ¬ s / 64 ≤ (1024 * i + x) / 64; omega), zero_mul, zero_div]) (show 1024 * i + 1024 ≤ 8192 by omega)]
  exact sum_congr rfl fun s _ => by rw [wt]; ring

/-- Its log sums. -/
theorem fwdLse_val : Is2 (fwdLse Q K V i) (fun x _ => Real.log (ewTo q k (1024 * i + x) 8192)) := by
  have hi := h.hi
  obtain ⟨M, hM⟩ := fwd_diag h
  have e : fwdLse Q K V i = broadcastTo S1024x128 (shapeCast S1024x1 (addf (diagMax Q K V i)
      (log (ls (fwdGo Q K V i).1 (fwdGo Q K V i).2.1 (k0_pay22 (k0_pay19 Q (rows 1024 K i)) rowIota 64#32 k0_pay20 k0_pay21 chunkSign)))) shapeCasts_S1024x1_S1024x1)
      broadcasts_S1024x1_S1024x128 := rfl
  rw [e]
  refine (along128 (cast_col ((hM.m1 (by omega)).add (hM.l.log fun x _ => mul_pos (ewTo_pos (by omega)) (Real.exp_pos _))))).congr fun x hx _ _ => ?_
  rw [Real.log_mul (ewTo_pos (by omega)).ne' (Real.exp_pos _).ne', Real.log_exp, ewTo_full (by omega) (by omega)]
  ring

end Walk

end Cert.Proof.Mla

end
-- ==== Proof.Mla.Value.BwdVal.lean ====
/-
  The backward body's walk over the key tiles, and over the row blocks: what the query gradient's block and the two slabs hold.
-/
module

public import proofs.«01_k».proof.Proof.Mla.Value.Ops

@[expose] public section

set_option maxRecDepth 16384

noncomputable section

namespace Cert.Proof.Mla

open Cert.Kernel17Ideal Cert.Kernel17Ideal.Gen Cert.Proof.Sb
open Idealize.ShloMosaic Idealize.ShloMosaic.TcCoe Finset

/-! ## The pieces of a step -/

section Pieces

variable {f g : ℕ → ℕ → ℝ} {i j : ℕ}

/-- The query gradient's block past one more tile. -/
theorem is2_block {A : FVec Ideal S1024x256 .f32} {E : FVec Ideal S1024x512 .bf16} {K : FVec Ideal S512x256 .bf16} {a b : ℕ → ℕ → ℝ}
    (hA : Is2 A (fun x e => ∑ s ∈ range (512 * j), a x s * b s e)) (hE : Is2 E (fun x y => a x (512 * j + y)))
    (hK : Is2 K (fun y e => b (512 * j + y) e)) :
    Is2 (addf A (matmul dot_S1024x512_S512x256_S1024x256_1_0_0_1_n_n none E K (constant S1024x256 .f32 0x00000000#32)))
      (fun x e => ∑ s ∈ range (512 * (j + 1)), a x s * b s e) :=
  (hA.add (nn_k512 hE hK)).congr fun x _ y _ => by rw [Nat.mul_add, Nat.mul_one, sum_cut]

/-- A slab's entry past one more tile: the tile's rows get the tile's part. -/
theorem slab_entry (p : ℕ → ℕ → ℝ) (s e : ℕ) :
    (if s / 512 = j then (f (512 * j + s % 512) e + if 512 * j + s % 512 < 512 * j then p (512 * j + s % 512) e else 0) + p (512 * j + s % 512) e
      else f s e + if s < 512 * j then p s e else 0) = f s e + if s < 512 * (j + 1) then p s e else 0 := by
  by_cases h : s / 512 = j
  · have hs : 512 * j + s % 512 = s := by omega
    rw [if_pos h, hs, if_neg (by omega), if_pos (by omega), add_zero]
  · rw [if_neg h]
    by_cases h' : s < 512 * j
    · rw [if_pos h', if_pos (by omega)]
    · rw [if_neg h', if_neg (by omega)]

/-- The key gradient's slab past one more tile, -/
theorem is2_slabK {X : Vec Ideal S8192x256 .f32} {E : FVec Ideal S1024x512 .bf16} {Q : FVec Ideal S1024x256 .bf16} {a b : ℕ → ℕ → ℝ} (hj : j < 16)
    (hX : Is2 (X : S8192x256.Idx → EReal) (fun s e => f s e + if s < 512 * j then ∑ x ∈ range 1024, a x s * b x e else 0))
    (hE : Is2 E (fun x y => a x (512 * j + y))) (hQ : Is2 Q (fun x e => b x e)) :
    Is2 (setRows (F := Ideal) (e := .f32) (W := 256) (N := 8192) 512 X j (addf (shapeCast S512x256 (rows (e := .f32) 512 X j) shapeCasts_S512x256_S512x256)
        (matmul dot_S1024x512_S1024x256_S512x256_0_0_1_1_n_n none E Q (constant S512x256 .f32 0x00000000#32))) : S8192x256.Idx → EReal)
      (fun s e => f s e + if s < 512 * (j + 1) then ∑ x ∈ range 1024, a x s * b x e else 0) :=
  Is2.congr (is2_setRows 512 hX ((cast_k (is2_rows32 512 hX (by omega))).add (tn_q512 hE hQ)) j) fun s _ e _ =>
    slab_entry (fun s e => ∑ x ∈ range 1024, a x s * b x e) s e
/-- and the value gradient's. -/
theorem is2_slabV {X : Vec Ideal S8192x128 .f32} {E : FVec Ideal S1024x512 .bf16} {D : FVec Ideal S1024x128 .bf16} {a b : ℕ → ℕ → ℝ} (hj : j < 16)
    (hX : Is2 (X : S8192x128.Idx → EReal) (fun s e => f s e + if s < 512 * j then ∑ x ∈ range 1024, a x s * b x e else 0))
    (hE : Is2 E (fun x y => a x (512 * j + y))) (hD : Is2 D (fun x e => b x e)) :
    Is2 (setRows (F := Ideal) (e := .f32) (W := 128) (N := 8192) 512 X j (addf (shapeCast S512x128 (rows (e := .f32) 512 X j) shapeCasts_S512x128_S512x128)
        (matmul dot_S1024x512_S1024x128_S512x128_0_0_1_1_n_n none E D (constant S512x128 .f32 0x00000000#32))) : S8192x128.Idx → EReal)
      (fun s e => f s e + if s < 512 * (j + 1) then ∑ x ∈ range 1024, a x s * b x e else 0) :=
  Is2.congr (is2_setRows 512 hX ((cast_v (is2_rows32 512 hX (by omega))).add (tn_v512 hE hD)) j) fun s _ e _ =>
    slab_entry (fun s e => ∑ x ∈ range 1024, a x s * b x e) s e

/-- Column 0 of a block that repeats its row's statistic. -/
theorem is2_col0 {X : Vec Ideal S1024x128 .f32} (hX : Is2 (X : S1024x128.Idx → EReal) f) : Is2 (col0 X : S1024x1.Idx → EReal) (fun x _ => f x 0) := fun x => by
  have h1 : (x 1).val < 1 := (x 1).isLt
  have e0 : ((Rect.unit (s := S1024x128) ![0, 0] S1024x1.size inb_S1024x128_S1024x1_0_0).emb x 0).val = (x 0).val := by
    show 0 + 1 * (x 0).val = _; omega
  have e1 : ((Rect.unit (s := S1024x128) ![0, 0] S1024x1.size inb_S1024x128_S1024x1_0_0).emb x 1).val = 0 := by
    show 0 + 1 * (x 1).val = _; omega
  show X ((Rect.unit (s := S1024x128) ![0, 0] S1024x1.size inb_S1024x128_S1024x1_0_0).emb x) = _
  rw [hX _, e0, e1]

end Pieces

/-! ## A step over a tile's weights -/

/-- The weights' gradient of a tile, -/
def dsT (P : FVec Ideal S1024x512 .f32) (D : FVec Ideal S1024x128 .bf16) (O : FVec Ideal S1024x128 .f32) (Vj : FVec Ideal S512x128 .bf16) : FVec Ideal S1024x512 .bf16 :=
  truncf .bf16 (mulf (mulf P (subf (matmul dot_S1024x128_S512x128_S1024x512_1_1_0_0_n_n none D Vj (constant S1024x512 .f32 0x00000000#32))
      (broadcastTo S1024x512 (k1_pay3 D O) broadcasts_S1024x1_S1024x512))) (broadcast S1024x512 (Scalar.ofBits .f32 0x3D93CD3A#32 : Ideal .f32))) bitsLt_bf16_f32

/-- and the state past the tile. -/
def stepT (P : FVec Ideal S1024x512 .f32) (Q : Vec Ideal S1024x256 .bf16) (K : Vec Ideal S8192x256 .bf16) (V : Vec Ideal S8192x128 .bf16)
    (O : Vec Ideal S1024x128 .f32) (D : Vec Ideal S1024x128 .bf16) (j : ℕ) (s : BSt Ideal) : BSt Ideal where
  dq := addf s.dq (matmul (φ₂ := .bf16) dot_S1024x512_S512x256_S1024x256_1_0_0_1_n_n none (dsT P D O (rows 512 V j)) (rows 512 K j) (constant S1024x256 .f32 0x00000000#32))
  dk := setRows 512 s.dk j (addf (shapeCast S512x256 (rows (e := .f32) 512 s.dk j) shapeCasts_S512x256_S512x256)
    (matmul (φ₂ := .bf16) dot_S1024x512_S1024x256_S512x256_0_0_1_1_n_n none (dsT P D O (rows 512 V j)) Q (constant S512x256 .f32 0x00000000#32)))
  dv := setRows 512 s.dv j (addf (shapeCast S512x128 (rows (e := .f32) 512 s.dv j) shapeCasts_S512x128_S512x128)
    (matmul (φ₂ := .bf16) dot_S1024x512_S1024x128_S512x128_0_0_1_1_n_n none (truncf .bf16 P bitsLt_bf16_f32) D (constant S512x128 .f32 0x00000000#32)))

section Forms

variable (Q : Vec Ideal S1024x256 .bf16) (K : Vec Ideal S8192x256 .bf16) (V : Vec Ideal S8192x128 .bf16)
  (O : Vec Ideal S1024x128 .f32) (D : Vec Ideal S1024x128 .bf16) (L : Vec Ideal S1024x1 .f32) (j : ℕ) (s : BSt Ideal)

theorem bwdStep_eq : bwdStep Q K V O D L j s = stepT (k1_pay6 Q L (rows 512 K j)) Q K V O D j s := rfl
theorem bwdDiag0_eq : bwdDiag0 Q K V O D L j s
    = stepT (k1_pay24 (k1_pay4 L) (k1_pay18 (k1_pay16 Q (rows 512 K j)) k1_pay17) k1_pay19 k1_pay21 k1_pay22 k1_pay23) Q K V O D j s := rfl
theorem bwdDiag1_eq : bwdDiag1 Q K V O D L j s
    = stepT (k1_pay34 (k1_pay4 L) (k1_pay29 Q (rows 512 K j)) k1_pay30 k1_pay31 64#32 k1_pay32 k1_pay33 sgnPos sgnNeg) Q K V O D j s := rfl

end Forms

/-! ## The walk -/

variable (q k v d : ℕ → ℕ → ℝ)

/-- The key and value gradients' sums over the first `n` rows. -/
def dkTo (n s e : ℕ) : ℝ := ∑ t ∈ range n, ds q k v d t s * q t e
def dvTo (n s e : ℕ) : ℝ := ∑ t ∈ range n, wt q k t s * d t e

/-- The state before tile `j` of row block `i`. -/
structure Inv (i j : ℕ) (s : BSt Ideal) : Prop where
  dq : Is2 s.dq (fun x e => ∑ s ∈ range (512 * j), ds q k v d (1024 * i + x) s * k s e)
  dk : Is2 (s.dk : S8192x256.Idx → EReal) (fun s e => dkTo q k v d (1024 * i) s e
    + if s < 512 * j then ∑ x ∈ range 1024, ds q k v d (1024 * i + x) s * q (1024 * i + x) e else 0)
  dv : Is2 (s.dv : S8192x128.Idx → EReal) (fun s e => dvTo q k d (1024 * i) s e
    + if s < 512 * j then ∑ x ∈ range 1024, wt q k (1024 * i + x) s * d (1024 * i + x) e else 0)

/-- The slabs and blocks of row block `i`: the queries, keys, values, what the forward body left, and the output's gradient. -/
structure Ops (q k v d : ℕ → ℕ → ℝ) (i : ℕ) (Q : Vec Ideal S1024x256 .bf16) (K : Vec Ideal S8192x256 .bf16) (V : Vec Ideal S8192x128 .bf16)
    (O : Vec Ideal S1024x128 .f32) (D : Vec Ideal S1024x128 .bf16) (L : Vec Ideal S1024x1 .f32) : Prop where
  hq : Is2 (Q : S1024x256.Idx → EReal) (fun x e => q (1024 * i + x) e)
  hk : Is2 (K : S8192x256.Idx → EReal) k
  hv : Is2 (V : S8192x128.Idx → EReal) v
  ho : Is2 (O : S1024x128.Idx → EReal) (fun x e => outS q k v (1024 * i + x) e)
  hd : Is2 (D : S1024x128.Idx → EReal) (fun x e => d (1024 * i + x) e)
  hl : Is2 (L : S1024x1.Idx → EReal) (fun x _ => Real.log (ewTo q k (1024 * i + x) 8192))
  hi : i < 8

variable {q k v d} {i j : ℕ} {Q : Vec Ideal S1024x256 .bf16} {K : Vec Ideal S8192x256 .bf16} {V : Vec Ideal S8192x128 .bf16}
  {O : Vec Ideal S1024x128 .f32} {D : Vec Ideal S1024x128 .bf16} {L : Vec Ideal S1024x1 .f32} {s : BSt Ideal}
  (h : Ops q k v d i Q K V O D L)
include h

/-- The weights' gradients of a tile. -/
theorem dsT_val (hj : j < 16) {P : FVec Ideal S1024x512 .f32} (hP : Is2 P (fun x y => wt q k (1024 * i + x) (512 * j + y))) :
    Is2 (dsT P D O (rows 512 V j)) (fun x y => ds q k v d (1024 * i + x) (512 * j + y)) := by
  have hdel : Is2 (k1_pay3 D O) (fun x _ => del q k v d (1024 * i + x)) :=
    (rowsum128 ((Is2.ext h.hd bitsLt_bf16_f32).mul (cast_o h.ho))).congr fun x _ _ _ => sum_d_out _
  exact ((hP.mul ((nt_v512 h.hd (is2_rows 512 h.hv (j := j) (by omega))).sub (along512 hdel))).mul is2_scale).trunc bitsLt_bf16_f32

/-- Past a tile whose weights are known. -/
theorem inv_stepT (hj : j < 16) (hs : Inv q k v d i j s) {P : FVec Ideal S1024x512 .f32}
    (hP : Is2 P (fun x y => wt q k (1024 * i + x) (512 * j + y))) : Inv q k v d i (j + 1) (stepT P Q K V O D j s) :=
  ⟨is2_block hs.dq (dsT_val h hj hP) (is2_rows 512 h.hk (j := j) (by omega)), is2_slabK hj hs.dk (dsT_val h hj hP) h.hq,
    is2_slabV hj hs.dv (hP.trunc bitsLt_bf16_f32) h.hd⟩

/-- A tile's scores. -/
theorem bwd_sc (hj : j < 16) : Is2 (k1_pay29 Q (rows 512 K j)) (fun x y => sc q k (1024 * i + x) (512 * j + y)) :=
  (nt_q512 h.hq (is2_rows 512 h.hk (j := j) (by omega))).mul is2_scale

/-- One tile before the diagonal. -/
theorem inv_step (hj : j < 2 * i) (hs : Inv q k v d i j s) : Inv q k v d i (j + 1) (bwdStep Q K V O D L j s) := by
  have hi := h.hi
  rw [bwdStep_eq]
  refine inv_stepT h (by omega) hs (((bwd_sc h (by omega)).sub (along512 (cast_col h.hl))).exp.congr fun x _ y hy => ?_)
  exact exp_sub_log (by show (512 * j + y) / 64 ≤ (1024 * i + x) / 64; omega)

/-- The walk up to the diagonal. -/
theorem inv_go (hs : Inv q k v d i 0 s) : ∀ n, n ≤ 2 * i → Inv q k v d i n (bwdGo Q K V O D L n s)
  | 0, _ => hs
  | n + 1, hn => inv_step h (by omega) (inv_go hs n (by omega))

/-- The two diagonal tiles. -/
theorem inv_diag0 (hs : Inv q k v d i (2 * i) s) : Inv q k v d i (2 * i + 1) (bwdDiag0 Q K V O D L (2 * i) s) := by
  have hi := h.hi
  rw [bwdDiag0_eq]
  refine inv_stepT h (by omega) hs ((mask_bwd0 (bwd_sc h (by omega)) (cast_col h.hl)).congr fun x hx y hy => ?_)
  beta_reduce
  split
  · next hp =>
    have hp : (0 + y) / 64 ≤ x / 64 := hp
    exact exp_sub_log (by show (512 * (2 * i) + y) / 64 ≤ (1024 * i + x) / 64; omega)
  · next hp =>
    have hp : ¬ (0 + y) / 64 ≤ x / 64 := hp
    exact (wt_unseen (by show ¬ (512 * (2 * i) + y) / 64 ≤ (1024 * i + x) / 64; omega)).symm
theorem inv_diag1 (hs : Inv q k v d i (2 * i + 1) s) : Inv q k v d i (2 * i + 1 + 1) (bwdDiag1 Q K V O D L (2 * i + 1) s) := by
  have hi := h.hi
  rw [bwdDiag1_eq]
  refine inv_stepT h (by omega) hs ((mask_bwd1 (bwd_sc h (by omega)) (cast_col h.hl)).congr fun x hx y hy => ?_)
  beta_reduce
  split
  · next hp =>
    have hp : (512 + y) / 64 ≤ x / 64 := hp
    exact exp_sub_log (by show (512 * (2 * i + 1) + y) / 64 ≤ (1024 * i + x) / 64; omega)
  · next hp =>
    have hp : ¬ (512 + y) / 64 ≤ x / 64 := hp
    exact (wt_unseen (by show ¬ (512 * (2 * i + 1) + y) / 64 ≤ (1024 * i + x) / 64; omega)).symm

omit h in
/-- Rows of the block see nothing past the diagonal. -/
theorem to_next (a b : ℕ → ℕ → ℝ) (h0 : ∀ t s, ¬ Sees t s → a t s = 0) (s e : ℕ) :
    (∑ t ∈ range (1024 * i), a t s * b t e) + (if s < 512 * (2 * i + 1 + 1) then ∑ x ∈ range 1024, a (1024 * i + x) s * b (1024 * i + x) e else 0)
      = ∑ t ∈ range (1024 * (i + 1)), a t s * b t e := by
  rw [Nat.mul_add 1024, Nat.mul_one, sum_cut]
  congr 1
  split
  · rfl
  · refine (sum_eq_zero fun x hx => ?_).symm
    rw [mem_range] at hx
    rw [h0 _ _ (by show ¬ s / 64 ≤ (1024 * i + x) / 64; omega), zero_mul]

/-- What a row block ends with. -/
structure Done (q k v d : ℕ → ℕ → ℝ) (i : ℕ) (s : BSt Ideal) : Prop where
  dq : Is2 s.dq (fun x e => dqS q k v d (1024 * i + x) e)
  dk : Is2 (s.dk : S8192x256.Idx → EReal) (dkTo q k v d (1024 * (i + 1)))
  dv : Is2 (s.dv : S8192x128.Idx → EReal) (dvTo q k d (1024 * (i + 1)))

/-- The body at row block `i`, the slabs holding the rows before it (or anything, at the first). -/
theorem done_res {dk : Vec Ideal S8192x256 .f32} {dv : Vec Ideal S8192x128 .f32}
    (hk : i ≠ 0 → Is2 (dk : S8192x256.Idx → EReal) (dkTo q k v d (1024 * i)))
    (hv : i ≠ 0 → Is2 (dv : S8192x128.Idx → EReal) (dvTo q k d (1024 * i))) : Done q k v d i (bwdRes Q K V O D L i dk dv) := by
  have hi := h.hi
  have h0 : Inv q k v d i 0 (bwdInit i dk dv) := by
    refine ⟨is2_zero, ?_, ?_⟩
    · refine Is2.congr (f := dkTo q k v d (1024 * i)) ?_ fun s _ e _ => by rw [if_neg (by omega), add_zero]
      by_cases hi0 : i = 0
      · subst hi0
        exact is2_zero.congr fun s _ e _ => by simp only [dkTo, Nat.mul_zero, range_zero, sum_empty]
      · rw [show (bwdInit i dk dv).dk = dk from if_neg hi0]; exact hk hi0
    · refine Is2.congr (f := dvTo q k d (1024 * i)) ?_ fun s _ e _ => by rw [if_neg (by omega), add_zero]
      by_cases hi0 : i = 0
      · subst hi0
        exact is2_zero.congr fun s _ e _ => by simp only [dvTo, Nat.mul_zero, range_zero, sum_empty]
      · rw [show (bwdInit i dk dv).dv = dv from if_neg hi0]; exact hv hi0
  have hs := inv_diag1 h (inv_diag0 h (inv_go h h0 _ le_rfl))
  refine ⟨Is2.congr hs.dq fun x hx e _ => ?_, Is2.congr hs.dk fun s _ e _ => to_next (ds q k v d) q (fun _ _ => ds_unseen) s e,
    Is2.congr hs.dv fun s _ e _ => to_next (wt q k) d (fun _ _ => wt_unseen) s e⟩
  refine sum_subset (range_mono (by omega)) fun s _ hs => ?_
  rw [mem_range] at hs
  rw [ds_unseen (by show ¬ s / 64 ≤ (1024 * i + x) / 64; omega), zero_mul]

end Cert.Proof.Mla

end
-- ==== Proof.Mla.Value.Arrays.lean ====
/-
  What the run leaves in the four results, of real arguments: the three gradients and the output, head by head.
-/
module

public import proofs.«01_k».proof.Proof.Mla.Value.FwdVal
public import proofs.«01_k».proof.Proof.Mla.Value.BwdVal
public import proofs.«01_k».proof.Proof.Mla.Between
public import Idealize.ShloMosaic.Lib.Pipeline.ValueKit.Geometry

@[expose] public section

set_option maxRecDepth 16384

noncomputable section

namespace Cert.Proof.Mla

open Cert.Kernel17Ideal Cert.Kernel17Ideal.Gen Cert.Proof.Sb
open Idealize.ShloMosaic Idealize.ShloMosaic.TcCoe Finset
open Idealize.ShloMosaic.Pipeline (Dat Cfg Window)

/-! ## The operands' blocks -/

section Blocks

variable (W : Valuation τ sig (Elt Ideal)) {f : ℕ → ℕ → ℝ}

theorem ix0_0 : ∀ t : Fin grid0.N, win0_0.index t = ![t.val % 8, t.val / 8] := by decide +kernel
theorem blk0_0_val (t : Fin cfg0.N) (h : Is2 (W (Proc.devRef .tc main_arg0) : S8192x1024.Idx → EReal) f) :
    Is2 (blk0 W 0 t : S1024x256.Idx → EReal) (fun x e => hd 256 f (t.val / 8) (1024 * (t.val % 8) + x) e) := by
  intro x
  refine Eq.trans (h ((win0_0.blk t).view.emb x)) ?_
  blk_simp [ix0_0, hd]
  rw [Nat.mul_comm (t.val % 8) 1024, Nat.mul_comm (t.val / 8) 256]
theorem ix0_1 : ∀ t : Fin grid0.N, win0_1.index t = ![0, t.val / 8] := by decide +kernel
theorem blk0_1_val (t : Fin cfg0.N) (h : Is2 (W (Proc.devRef .tc main_arg1) : S8192x1024.Idx → EReal) f) :
    Is2 (blk0 W 1 t : S8192x256.Idx → EReal) (hd 256 f (t.val / 8)) := by
  intro x
  refine Eq.trans (h ((win0_1.blk t).view.emb x)) ?_
  blk_simp [ix0_1, hd]
  rw [Nat.mul_comm (t.val / 8) 256]
theorem ix0_2 : ∀ t : Fin grid0.N, win0_2.index t = ![0, t.val / 8] := by decide +kernel
theorem blk0_2_val (t : Fin cfg0.N) (h : Is2 (W (Proc.devRef .tc main_arg2) : S8192x512.Idx → EReal) f) :
    Is2 (blk0 W 2 t : S8192x128.Idx → EReal) (hd 128 f (t.val / 8)) := by
  intro x
  refine Eq.trans (h ((win0_2.blk t).view.emb x)) ?_
  blk_simp [ix0_2, hd]
  rw [Nat.mul_comm (t.val / 8) 128]
theorem ix1_0 : ∀ t : Fin grid1.N, win1_0.index t = ![t.val % 8, t.val / 8] := by decide +kernel
theorem blk1_0_val (t : Fin cfg1.N) (h : Is2 (W (Proc.devRef .tc main_arg0) : S8192x1024.Idx → EReal) f) :
    Is2 (blk1 W 0 t : S1024x256.Idx → EReal) (fun x e => hd 256 f (t.val / 8) (1024 * (t.val % 8) + x) e) := by
  intro x
  refine Eq.trans (h ((win1_0.blk t).view.emb x)) ?_
  blk_simp [ix1_0, hd]
  rw [Nat.mul_comm (t.val % 8) 1024, Nat.mul_comm (t.val / 8) 256]
theorem ix1_1 : ∀ t : Fin grid1.N, win1_1.index t = ![0, t.val / 8] := by decide +kernel
theorem blk1_1_val (t : Fin cfg1.N) (h : Is2 (W (Proc.devRef .tc main_arg1) : S8192x1024.Idx → EReal) f) :
    Is2 (blk1 W 1 t : S8192x256.Idx → EReal) (hd 256 f (t.val / 8)) := by
  intro x
  refine Eq.trans (h ((win1_1.blk t).view.emb x)) ?_
  blk_simp [ix1_1, hd]
  rw [Nat.mul_comm (t.val / 8) 256]
theorem ix1_2 : ∀ t : Fin grid1.N, win1_2.index t = ![0, t.val / 8] := by decide +kernel
theorem blk1_2_val (t : Fin cfg1.N) (h : Is2 (W (Proc.devRef .tc main_arg2) : S8192x512.Idx → EReal) f) :
    Is2 (blk1 W 2 t : S8192x128.Idx → EReal) (hd 128 f (t.val / 8)) := by
  intro x
  refine Eq.trans (h ((win1_2.blk t).view.emb x)) ?_
  blk_simp [ix1_2, hd]
  rw [Nat.mul_comm (t.val / 8) 128]
theorem ix1_4 : ∀ t : Fin grid1.N, win1_4.index t = ![t.val % 8, t.val / 8] := by decide +kernel
theorem blk1_4_val (t : Fin cfg1.N) (h : Is2 (W (Proc.devRef .tc main_arg3) : S8192x512.Idx → EReal) f) :
    Is2 (blk1 W 4 t : S1024x128.Idx → EReal) (fun x e => hd 128 f (t.val / 8) (1024 * (t.val % 8) + x) e) := by
  intro x
  refine Eq.trans (h ((win1_4.blk t).view.emb x)) ?_
  blk_simp [ix1_4, hd]
  rw [Nat.mul_comm (t.val % 8) 1024, Nat.mul_comm (t.val / 8) 128]

end Blocks

/-! ## What the forward region left -/

section Left

variable (m : (ℓ : Loc nD τ sig) → Buf (Elt Ideal) ℓ) (c : Dev nD)

theorem ix0_3 : ∀ t : Fin grid0.N, win0_3.index t = ![t.val % 8, t.val / 8] := by decide +kernel
theorem ix0_4 : ∀ t : Fin grid0.N, win0_4.index t = ![t.val % 8, t.val / 8] := by decide +kernel

theorem ne_pair {a b : ℕ} (h : a ≠ b) : (![a % 8, a / 8] : Fin 2 → ℕ) ≠ ![b % 8, b / 8] := fun e => by
  have h0 : a % 8 = b % 8 := congrFun e 0
  have h1 : a / 8 = b / 8 := congrFun e 1
  omega

/-- The backward region's point reads the output rows that the forward region's same point left, -/
theorem blk1_o (t : Fin cfg1.N) : blk1 (W2 m c) 3 t = out0 (V0 m c) t := by
  have h := (dat0 (V0 m c) c).read_blk_arrAt_eq_flushed (3 : Fin 5)
    (fun t t' _ _ hne => Pipeline.Window.disjoint_blk win0_3 (by rw [ix0_3, ix0_3]; exact ne_pair fun e => hne (Fin.ext e)) rfl)
    cfg0.N t t.isLt (flush0_3 t)
  have hb : blk1 (W2 m c) 3 t = ((cfg1.win 3).blk t).view.read (Elt Ideal) ((dat0 (V0 m c) c).arrAt 3 cfg0.N) := by
    rw [← W2_o]; rfl
  rw [hb]
  exact h
/-- and its log sums. -/
theorem blk1_lse (t : Fin cfg1.N) : blk1 (W2 m c) 5 t = lse0 (V0 m c) t := by
  have h := (dat0 (V0 m c) c).read_blk_arrAt_eq_flushed (4 : Fin 5)
    (fun t t' _ _ hne => Pipeline.Window.disjoint_blk win0_4 (by rw [ix0_4, ix0_4]; exact ne_pair fun e => hne (Fin.ext e)) rfl)
    cfg0.N t t.isLt (flush0_4 t)
  have hb : blk1 (W2 m c) 5 t = ((cfg1.win 5).blk t).view.read (Elt Ideal) ((dat0 (V0 m c) c).arrAt 4 cfg0.N) := by
    rw [← W2_lse]; rfl
  rw [hb]
  exact h

end Left

/-! ## The two regions at a point -/

/-- The four arguments hold real numbers. -/
structure Args (m : (ℓ : Loc nD τ sig) → Buf (Elt Ideal) ℓ) (c : Dev nD) (fq fk fv fd : ℕ → ℕ → ℝ) : Prop where
  q : Is2 (m ((c : Thread nD τ).loc main_arg0) : S8192x1024.Idx → EReal) fq
  k : Is2 (m ((c : Thread nD τ).loc main_arg1) : S8192x1024.Idx → EReal) fk
  v : Is2 (m ((c : Thread nD τ).loc main_arg2) : S8192x512.Idx → EReal) fv
  d : Is2 (m ((c : Thread nD τ).loc main_arg3) : S8192x512.Idx → EReal) fd

variable {m : (ℓ : Loc nD τ sig) → Buf (Elt Ideal) ℓ} {c : Dev nD} {fq fk fv fd : ℕ → ℕ → ℝ}

theorem coords0 : ∀ t : Fin grid0.N, (grid0.coords t 1).val = t.val % 8 := by decide +kernel

/-- The operands of the forward region's point `t`. -/
theorem fwd_ops (h : Args m c fq fk fv fd) (t : Fin cfg0.N) :
    FwdOps (hd 256 fq (t.val / 8)) (hd 256 fk (t.val / 8)) (hd 128 fv (t.val / 8)) (t.val % 8)
      (blk0 (V0 m c) 0 t) (blk0 (V0 m c) 1 t) (blk0 (V0 m c) 2 t) where
  hq := blk0_0_val _ t h.q
  hk := blk0_1_val _ t h.k
  hv := blk0_2_val _ t h.v
  hi := Nat.mod_lt _ (by omega)

/-- The operands of the backward region's point `t`. -/
theorem ops (h : Args m c fq fk fv fd) (t : Fin cfg1.N) :
    Ops (hd 256 fq (t.val / 8)) (hd 256 fk (t.val / 8)) (hd 128 fv (t.val / 8)) (hd 128 fd (t.val / 8)) (t.val % 8)
      (blk1 (W2 m c) 0 t) (blk1 (W2 m c) 1 t) (blk1 (W2 m c) 2 t) (blk1 (W2 m c) 3 t) (blk1 (W2 m c) 4 t) (col0 (blk1 (W2 m c) 5 t)) where
  hq := blk1_0_val _ t fun i => (congrFun (W2_of m c main_arg0 (by decide)) i).trans (h.q i)
  hk := blk1_1_val _ t fun i => (congrFun (W2_of m c main_arg1 (by decide)) i).trans (h.k i)
  hv := blk1_2_val _ t fun i => (congrFun (W2_of m c main_arg2 (by decide)) i).trans (h.v i)
  ho := by
    rw [blk1_o]; unfold out0; rw [coords0 t]
    exact fwdO_val (fwd_ops h t)
  hd := blk1_4_val _ t fun i => (congrFun (W2_of m c main_arg3 (by decide)) i).trans (h.d i)
  hl := by
    rw [blk1_lse]; unfold lse0; rw [coords0 t]
    exact is2_col0 (fwdLse_val (fwd_ops h t))
  hi := Nat.mod_lt _ (by omega)

/-- What the backward region's point `t` leaves. -/
abbrev DoneAt (m : (ℓ : Loc nD τ sig) → Buf (Elt Ideal) ℓ) (c : Dev nD) (fq fk fv fd : ℕ → ℕ → ℝ) (t : Fin cfg1.N) : Prop :=
  Done (hd 256 fq (t.val / 8)) (hd 256 fk (t.val / 8)) (hd 128 fv (t.val / 8)) (hd 128 fd (t.val / 8)) (t.val % 8) (left1 (W2 m c) t)

theorem done_at (h : Args m c fq fk fv fd) : ∀ (n : ℕ) (t : Fin cfg1.N), t.val = n → DoneAt m c fq fk fv fd t
  | n, t, hn => by
    have key : ∀ (dk : Vec Ideal S8192x256 .f32) (dv : Vec Ideal S8192x128 .f32),
        (t.val % 8 ≠ 0 → Is2 (dk : S8192x256.Idx → EReal) (dkTo (hd 256 fq (t.val / 8)) (hd 256 fk (t.val / 8)) (hd 128 fv (t.val / 8)) (hd 128 fd (t.val / 8)) (1024 * (t.val % 8)))) →
        (t.val % 8 ≠ 0 → Is2 (dv : S8192x128.Idx → EReal) (dvTo (hd 256 fq (t.val / 8)) (hd 256 fk (t.val / 8)) (hd 128 fd (t.val / 8)) (1024 * (t.val % 8)))) →
        Done (hd 256 fq (t.val / 8)) (hd 256 fk (t.val / 8)) (hd 128 fv (t.val / 8)) (hd 128 fd (t.val / 8)) (t.val % 8) (res1 (W2 m c) t dk dv) := by
      intro dk dv hk hv
      unfold res1
      rw [coords1 t]
      exact done_res (ops h t) hk hv
    match n, hn with
    | 0, hn => exact key _ _ (fun h0 => absurd (by rw [hn]) h0) (fun h0 => absurd (by rw [hn]) h0)
    | n + 1, hn =>
      have hN : n < cfg1.N := by have := t.isLt; omega
      have prev := done_at h n ⟨n, hN⟩ rfl
      have hs : slabs (W2 m c) t.val = ((left1 (W2 m c) ⟨n, hN⟩).dk, (left1 (W2 m c) ⟨n, hN⟩).dv) := by
        rw [hn]; exact slabs_succ (W2 m c) ⟨n, hN⟩
      have e : t.val % 8 ≠ 0 → t.val / 8 = n / 8 ∧ t.val % 8 = n % 8 + 1 := fun h0 => by omega
      refine key _ _ (fun h0 => ?_) (fun h0 => ?_)
      · rw [hs, (e h0).1, (e h0).2]; exact prev.dk
      · rw [hs, (e h0).1, (e h0).2]; exact prev.dv

/-! ## The four results -/

theorem o_val (h : Args m c fq fk fv fd) :
    Is2 (W4 m c (Proc.devRef .tc main_v0_0) : S8192x512.Idx → EReal) (byHead 128 fun n => outS (hd 256 fq n) (hd 256 fk n) (hd 128 fv n)) := by
  intro i
  refine (congrFun ((W4_of m c main_v0_0 (by decide)).trans (W2_o m c)) i).trans ?_
  refine congrFun ((dat0 (V0 m c) c).arrAt_eq_of_covers 3 (fun i => (((byHead 128 fun n => outS (hd 256 fq n) (hd 256 fk n) (hd 128 fv n)) (i 0).val (i 1).val : ℝ) : EReal))
    (by decide +kernel) fun t hf y => ?_) i
  blk_simp
  rw [after0_3]
  unfold out0
  rw [coords0 t]
  refine (fwdO_val (fwd_ops h t) y).trans ?_
  blk_simp [ix0_3]
  rw [byHead_at _ _ _ _ _ (show (y 1).val < 128 from (y 1).isLt), Nat.mul_comm (t.val % 8) 1024]

theorem ix1_6 : ∀ t : Fin grid1.N, win1_6.index t = ![t.val % 8, t.val / 8] := by decide +kernel
theorem ix1_7 : ∀ t : Fin grid1.N, win1_7.index t = ![0, t.val / 8] := by decide +kernel
theorem ix1_8 : ∀ t : Fin grid1.N, win1_8.index t = ![0, t.val / 8] := by decide +kernel

theorem dq_val (h : Args m c fq fk fv fd) :
    Is2 (W4 m c (Proc.devRef .tc main_v1_0) : S8192x1024.Idx → EReal) (byHead 256 fun n => dqS (hd 256 fq n) (hd 256 fk n) (hd 128 fv n) (hd 128 fd n)) := by
  intro i
  refine (congrFun (Pipeline.afterRegion_arr (dat1 (W2 m c) c) (W2 m c) inj1 (6 : Fin 9)) i).trans ?_
  refine congrFun ((dat1 (W2 m c) c).arrAt_eq_of_covers 6 (fun i => (((byHead 256 fun n => dqS (hd 256 fq n) (hd 256 fk n) (hd 128 fv n) (hd 128 fd n)) (i 0).val (i 1).val : ℝ) : EReal))
    (by decide +kernel) fun t hf y => ?_) i
  blk_simp
  rw [after1_6]
  refine ((done_at h t.val t rfl).dq y).trans ?_
  blk_simp [ix1_6]
  rw [byHead_at _ _ _ _ _ (show (y 1).val < 256 from (y 1).isLt), Nat.mul_comm (t.val % 8) 1024]

theorem dk_val (h : Args m c fq fk fv fd) :
    Is2 (W4 m c (Proc.devRef .tc main_v1_1) : S8192x1024.Idx → EReal) (byHead 256 fun n => dkS (hd 256 fq n) (hd 256 fk n) (hd 128 fv n) (hd 128 fd n)) := by
  intro i
  refine (congrFun (Pipeline.afterRegion_arr (dat1 (W2 m c) c) (W2 m c) inj1 (7 : Fin 9)) i).trans ?_
  refine congrFun ((dat1 (W2 m c) c).arrAt_eq_of_covers 7 (fun i => (((byHead 256 fun n => dkS (hd 256 fq n) (hd 256 fk n) (hd 128 fv n) (hd 128 fd n)) (i 0).val (i 1).val : ℝ) : EReal))
    (by decide +kernel) fun t hf y => ?_) i
  have h7 : t.val % 8 = 7 := (flush1_7 t).mp hf
  blk_simp
  rw [after1_7]
  refine ((done_at h t.val t rfl).dk y).trans ?_
  blk_simp [ix1_7]
  rw [byHead_at _ _ _ _ _ (show (y 1).val < 256 from (y 1).isLt), h7]
  rfl

theorem dv_val (h : Args m c fq fk fv fd) :
    Is2 (W4 m c (Proc.devRef .tc main_v1_2) : S8192x512.Idx → EReal) (byHead 128 fun n => dvS (hd 256 fq n) (hd 256 fk n) (hd 128 fd n)) := by
  intro i
  refine (congrFun (Pipeline.afterRegion_arr (dat1 (W2 m c) c) (W2 m c) inj1 (8 : Fin 9)) i).trans ?_
  refine congrFun ((dat1 (W2 m c) c).arrAt_eq_of_covers 8 (fun i => (((byHead 128 fun n => dvS (hd 256 fq n) (hd 256 fk n) (hd 128 fd n)) (i 0).val (i 1).val : ℝ) : EReal))
    (by decide +kernel) fun t hf y => ?_) i
  have h7 : t.val % 8 = 7 := (flush1_8 t).mp hf
  blk_simp
  rw [after1_8]
  refine ((done_at h t.val t rfl).dv y).trans ?_
  blk_simp [ix1_8]
  rw [byHead_at _ _ _ _ _ (show (y 1).val < 128 from (y 1).isLt), h7]
  rfl

end Cert.Proof.Mla

end
-- ==== Proof.Mla.Value.RefWeights.lean ====
/-
  The latent-attention reference's forward lines at an index, of real arguments: scores, row maxima, row sums, weights.
-/
module

public import proofs.«01_k».proof.Proof.Mla.Value.Math
public import proofs.«01_k».proof.Proof.Value.RefWeights
public import proofs.«01_k».proof.Proof.Gen.Reference17Ideal.Read

@[expose] public section

set_option maxRecDepth 16384

noncomputable section

namespace Cert.Proof.Mla

open Cert.Reference17Ideal Cert.Reference17Ideal.Gen Cert.Reference17Ideal.Read Cert.Proof.Sb Idealize.ShloMosaic Finset

/-- The arrays of the queries and keys, and of the values and the output's gradient. -/
abbrev Wide := (⟨S8192x1024, .bf16⟩ : BufTy).Contents (Elt Ideal)
abbrev Narrow := (⟨S8192x512, .bf16⟩ : BufTy).Contents (Elt Ideal)

variable {A0 A1 : Wide} {A2 A3 : Narrow} {fq fk fv fd : ℕ → ℕ → ℝ}

theorem host_div {x y : ℝ} (h : 0 < y) : FloatOps.hostDivf (F := Ideal) (φ := .f32) (x : EReal) (y : EReal) = ((x / y : ℝ) : EReal) := Sb.div_pos h

/-- Flat positions of the head-wise arrays. -/
theorem split_wide (t h e : ℕ) (hh : h < 4) (he : e < 256) : ((t * 4 + h) * 256 + e) / 1024 = t ∧ ((t * 4 + h) * 256 + e) % 1024 = 256 * h + e := by omega
theorem split_narrow (t h e : ℕ) (hh : h < 4) (he : e < 128) : ((t * 4 + h) * 128 + e) / 512 = t ∧ ((t * 4 + h) * 128 + e) % 512 = 128 * h + e := by omega

/-! ## The heads -/

theorem ref_q (hq : Is2 (A0 : S8192x1024.Idx → EReal) fq) : Is3 (val_main_v4 (F := Ideal) A0 : S8192x4x256.Idx → EReal) (fun t h e => hd 256 fq h t e) := by
  intro i
  rw [val_main_v4_apply, val_main_v0_apply]
  refine (hq (idx_main_v4 i)).trans ?_
  show ((fq ((((i 0).val * 4 + (i 1).val) * 256 + (i 2).val) / 1024) ((((i 0).val * 4 + (i 1).val) * 256 + (i 2).val) % 1024) : ℝ) : EReal) = _
  rw [(split_wide _ _ _ (i 1).isLt (i 2).isLt).1, (split_wide _ _ _ (i 1).isLt (i 2).isLt).2]; rfl
theorem ref_k (hk : Is2 (A1 : S8192x1024.Idx → EReal) fk) : Is3 (val_main_v5 (F := Ideal) A1 : S8192x4x256.Idx → EReal) (fun t h e => hd 256 fk h t e) := by
  intro i
  rw [val_main_v5_apply, val_main_v1_apply]
  refine (hk (idx_main_v5 i)).trans ?_
  show ((fk ((((i 0).val * 4 + (i 1).val) * 256 + (i 2).val) / 1024) ((((i 0).val * 4 + (i 1).val) * 256 + (i 2).val) % 1024) : ℝ) : EReal) = _
  rw [(split_wide _ _ _ (i 1).isLt (i 2).isLt).1, (split_wide _ _ _ (i 1).isLt (i 2).isLt).2]; rfl
theorem ref_v (hv : Is2 (A2 : S8192x512.Idx → EReal) fv) : Is3 (val_main_v6 (F := Ideal) A2 : S8192x4x128.Idx → EReal) (fun t h e => hd 128 fv h t e) := by
  intro i
  rw [val_main_v6_apply, val_main_v2_apply]
  refine (hv (idx_main_v6 i)).trans ?_
  show ((fv ((((i 0).val * 4 + (i 1).val) * 128 + (i 2).val) / 512) ((((i 0).val * 4 + (i 1).val) * 128 + (i 2).val) % 512) : ℝ) : EReal) = _
  rw [(split_narrow _ _ _ (i 1).isLt (i 2).isLt).1, (split_narrow _ _ _ (i 1).isLt (i 2).isLt).2]; rfl
theorem ref_d (hd' : Is2 (A3 : S8192x512.Idx → EReal) fd) : Is3 (val_main_v50 (F := Ideal) A3 : S4x128x8192.Idx → EReal) (fun h e t => hd 128 fd h t e) := by
  intro i
  rw [val_main_v50_apply, val_main_v49_apply, val_main_v3_apply]
  refine (hd' (idx_main_v49 (idx_main_v50 i))).trans ?_
  show ((fd ((((i 2).val * 4 + (i 0).val) * 128 + (i 1).val) / 512) ((((i 2).val * 4 + (i 0).val) * 128 + (i 1).val) % 512) : ℝ) : EReal) = _
  rw [(split_narrow _ _ _ (i 0).isLt (i 1).isLt).1, (split_narrow _ _ _ (i 0).isLt (i 1).isLt).2]; rfl

/-! ## The mask -/

/-- A position's chunk. -/
theorem chunk_of (x : ℕ) (hx : x < 8192) : IntOp.divsi .host (BitVec.ofNat 32 x) 64#32 = BitVec.ofNat 32 (x / 64) := by
  unfold IntOp.divsi
  rw [if_neg (by unfold IntOp.SDivCorner; rintro (h | h); exact absurd h (by decide); exact absurd h.2 (by decide)), BitVec.sdiv_eq]
  have h0 : (BitVec.ofNat 32 x).msb = false := by
    rw [BitVec.msb_eq_decide, BitVec.toNat_ofNat, decide_eq_false]
    omega
  rw [h0, show (64#32).msb = false by decide]
  apply BitVec.eq_of_toNat_eq
  show (BitVec.ofNat 32 x / 64#32).toNat = _
  rw [BitVec.toNat_udiv, BitVec.toNat_ofNat, BitVec.toNat_ofNat, BitVec.toNat_ofNat, Nat.mod_eq_of_lt (show x < 2 ^ 32 by omega),
    Nat.mod_eq_of_lt (show x / 64 < 2 ^ 32 by omega)]

theorem ref_sees (i : S4x8192x8192.Idx) : val_main_v17_1 (F := Ideal) i = BitVec.ofBool (decide (Sees (i 1).val (i 2).val)) := by
  rw [val_main_v17_1_apply, val_main_v16_apply, val_main_v12_apply, val_main_v9_apply, val_main_v10_apply, val_main_v7_apply, val_main_v11_apply,
    val_main_v8_apply, val_main_c_apply, val_main_c_0_apply]
  have h1 : (i 1).val < 8192 := (i 1).isLt
  have h2 : (i 2).val < 8192 := (i 2).isLt
  show IntOp.cmpi .sle (IntOp.divsi .host (BitVec.ofNat 32 (i 2).val) 64#32) (IntOp.divsi .host (BitVec.ofNat 32 (i 1).val) 64#32) = _
  rw [chunk_of _ h1, chunk_of _ h2]
  exact mask_le _ _ (by omega) (by omega)

/-! ## Scores, maxima, sums, weights -/

section Weights

variable (hq : Is2 (A0 : S8192x1024.Idx → EReal) fq) (hk : Is2 (A1 : S8192x1024.Idx → EReal) fk)
include hq hk

theorem ref_sc : Is3 (val_main_v15 (F := Ideal) A0 A1 : S4x8192x8192.Idx → EReal) (fun h t s => sc (hd 256 fq h) (hd 256 fk h) t s) := by
  intro i
  rw [val_main_v15_apply, val_main_v14_apply, val_main_cst_apply, val_main_v13_apply, ofBits_scale]
  rw [Finset.sum_congr rfl fun k _ => by rw [ref_q hq (lidx_main_v13 i k), ref_k hk (ridx_main_v13 i k)]]
  have e := coe_sum_mul (N := 256) (fun e => hd 256 fq (i 0).val (i 1).val e) (fun e => hd 256 fk (i 0).val (i 2).val e)
  refine Eq.trans (congrArg (fun x : EReal => x * ((scale : ℝ) : EReal)) e) ?_
  exact (EReal.coe_mul _ _).symm

/-- The scores with the unseen keys masked. -/
theorem ref_masked (i : S4x8192x8192.Idx) : val_main_v17_0 (F := Ideal) A0 A1 i
    = if Sees (i 1).val (i 2).val then ((sc (hd 256 fq (i 0).val) (hd 256 fk (i 0).val) (i 1).val (i 2).val : ℝ) : EReal) else ⊥ := by
  rw [val_main_v17_0_apply, ref_sees, select_if, ref_sc hq hk i, val_main_call0_v2_apply, val_main_call0_v0_apply, val_main_cst_1_apply, ofBits_bot]

/-- A row's maximum is real: the row sees its first key. -/
theorem ref_max (j : S4x8192.Idx) : (⊥ : EReal) < val_main_v18 (F := Ideal) A0 A1 j ∧ val_main_v18 (F := Ideal) A0 A1 j < (⊤ : EReal) := by
  have hr : S4x8192x8192.Reduces [2] S4x8192 := by decide
  have e := Host.reduce_eq_fold_single (FloatOps.maximumf (F := Ideal) (φ := .f32)) (val_main_v17_0 (F := Ideal) A0 A1) (val_main_cst_2 (F := Ideal))
    reducesTo_S4x8192x8192_S4x8192_d2 hr h_S_ j
  constructor
  · refine lt_of_lt_of_eq ?_ e.symm
    refine (Finset.lt_fold_max _).mpr (Or.inr ⟨(0 : Fin 8192), Finset.mem_univ _, ?_⟩)
    show ⊥ < val_main_v17_0 (F := Ideal) A0 A1 (hr.lift j (0 : Fin 8192))
    rw [ref_masked hq hk, if_pos]
    · exact EReal.bot_lt_coe _
    · show 0 / 64 ≤ _
      omega
  · refine lt_of_eq_of_lt e ((Finset.fold_max_lt _).mpr ⟨lt_of_eq_of_lt ofBits_bot bot_lt_top, fun x _ => ?_⟩)
    show val_main_v17_0 (F := Ideal) A0 A1 (hr.lift j x) < ⊤
    rw [ref_masked hq hk]
    split
    · exact EReal.coe_lt_top _
    · exact bot_lt_top

/-- Row `t` of head `h`, -/
def rowIdx (h t : ℕ) : S4x8192.Idx := fun a => match a with
  | ⟨0, _⟩ => (Fin.ofNat 4 h : Fin 4)
  | ⟨1, _⟩ => (Fin.ofNat 8192 t : Fin 8192)
/-- and its maximum. -/
def mref (A0 A1 : Wide) (h t : ℕ) : ℝ := (val_main_v18 (F := Ideal) A0 A1 (rowIdx h t) : EReal).toReal

theorem ref_m : Is2 (val_main_v25 (F := Ideal) A0 A1 : S4x8192.Idx → EReal) (mref A0 A1) := by
  intro j
  have e : rowIdx (j 0).val (j 1).val = j := by
    funext a; apply Fin.ext
    match a with
    | ⟨0, _⟩ => exact Nat.mod_eq_of_lt (j 0).isLt
    | ⟨1, _⟩ => exact Nat.mod_eq_of_lt (j 1).isLt
  have h := ref_max hq hk j
  rw [val_main_v25_apply, val_main_v24_apply, val_main_cst_4_apply, ofBits_bot]
  unfold mref
  rw [e]
  show max ⊥ (val_main_v18 (F := Ideal) A0 A1 j : EReal) = _
  rw [max_eq_right bot_le]
  exact (EReal.coe_toReal h.2.ne h.1.ne').symm

/-- The exponential of a masked score less the row's maximum, -/
theorem ref_e : Is3 (val_main_v38 (F := Ideal) A0 A1 : S4x8192x8192.Idx → EReal)
    (fun h t s => ew (hd 256 fq h) (hd 256 fk h) t s * Real.exp (-mref A0 A1 h t)) := by
  intro i
  rw [val_main_v38_apply, val_main_v37_apply, val_main_v36_apply, val_main_v35_apply, ref_m hq hk _, ref_masked hq hk]
  show FloatOps.hostUnary (F := Ideal) (φ := .f32) .exp (FloatOps.subf (F := Ideal) (φ := .f32) _ ((mref A0 A1 (i 0).val (i 1).val : ℝ) : EReal))
    = ((ew (hd 256 fq (i 0).val) (hd 256 fk (i 0).val) (i 1).val (i 2).val * Real.exp (-mref A0 A1 (i 0).val (i 1).val) : ℝ) : EReal)
  by_cases h : Sees (i 1).val (i 2).val
  · rw [if_pos h, sub_coe, host_exp, ew_seen h, ← Real.exp_add, sub_eq_add_neg]
  · rw [if_neg h, ew_unseen h, zero_mul, show FloatOps.subf (F := Ideal) (φ := .f32) (⊥ : EReal) ((mref A0 A1 (i 0).val (i 1).val : ℝ) : EReal) = (⊥ : EReal) from rfl]
    exact host_exp_bot

/-- and the row's sum of them, which is positive. -/
def lref (A0 A1 : Wide) (fq fk : ℕ → ℕ → ℝ) (h t : ℕ) : ℝ := ewTo (hd 256 fq h) (hd 256 fk h) t 8192 * Real.exp (-mref A0 A1 h t)

omit hq hk in
theorem lref_pos (h t : ℕ) : 0 < lref A0 A1 fq fk h t := mul_pos (ewTo_pos (by omega)) (Real.exp_pos _)

omit hq hk in
/-- The exponential over the sum is the weight. -/
theorem e_div_l (h t s : ℕ) : ew (hd 256 fq h) (hd 256 fk h) t s * Real.exp (-mref A0 A1 h t) / lref A0 A1 fq fk h t = wt (hd 256 fq h) (hd 256 fk h) t s :=
  mul_div_mul_right _ _ (Real.exp_pos _).ne'

theorem ref_l : Is2 (val_main_v39 (F := Ideal) A0 A1 : S4x8192.Idx → EReal) (lref A0 A1 fq fk) := by
  intro i
  rw [val_main_v39_apply, val_main_cst_10_apply, ofBits_zero, Finset.sum_congr rfl fun k _ => ref_e hq hk (idx_main_v39 i k)]
  have e := Sb.coe_sum (N := 8192) (fun s => ew (hd 256 fq (i 0).val) (hd 256 fk (i 0).val) (i 1).val s * Real.exp (-mref A0 A1 (i 0).val (i 1).val))
  refine Eq.trans (congrArg (fun x : EReal => ((0 : ℝ) : EReal) + x) e) ?_
  rw [← EReal.coe_add, zero_add, ← sum_mul]
  rfl

theorem ref_wt : Is3 (val_main_v42 (F := Ideal) A0 A1 : S4x8192x8192.Idx → EReal) (fun h t s => wt (hd 256 fq h) (hd 256 fk h) t s) := by
  intro i
  rw [val_main_v42_apply, val_main_v41_apply, val_main_v40_apply, ref_e hq hk i, ref_l hq hk _]
  exact (host_div (lref_pos _ _)).trans (congrArg Real.toEReal (e_div_l (A0 := A0) (A1 := A1) _ _ _))

end Weights

end Cert.Proof.Mla

end
-- ==== Proof.Mla.Value.RefGrads.lean ====
/-
  The latent-attention reference's output and its backward lines at an index, of real arguments, head by head.
-/
module

public import proofs.«01_k».proof.Proof.Mla.Value.RefWeights

@[expose] public section

set_option maxRecDepth 16384

noncomputable section

namespace Cert.Proof.Mla

open Cert.Reference17Ideal Cert.Reference17Ideal.Gen Cert.Reference17Ideal.Read Cert.Proof.Sb Idealize.ShloMosaic Finset

theorem join_wide (t c : ℕ) (hc : c < 1024) : (t * 1024 + c) / 1024 = t ∧ (t * 1024 + c) / 256 % 4 = c / 256 ∧ (t * 1024 + c) % 256 = c % 256 := by omega
theorem join_narrow (t c : ℕ) (hc : c < 512) : (t * 512 + c) / 512 = t ∧ (t * 512 + c) / 128 % 4 = c / 128 ∧ (t * 512 + c) % 128 = c % 128 := by omega

variable {A0 A1 : Wide} {A2 A3 : Narrow} {fq fk fv fd : ℕ → ℕ → ℝ}
variable (hq : Is2 (A0 : S8192x1024.Idx → EReal) fq) (hk : Is2 (A1 : S8192x1024.Idx → EReal) fk)
  (hv : Is2 (A2 : S8192x512.Idx → EReal) fv) (hd' : Is2 (A3 : S8192x512.Idx → EReal) fd)

include hq hk hv in
/-- The output. -/
theorem ref_o : Is2 (val_main_v48 (F := Ideal) A0 A1 A2 : S8192x512.Idx → EReal)
    (byHead 128 fun n => outS (hd 256 fq n) (hd 256 fk n) (hd 128 fv n)) := by
  intro i
  rw [val_main_v48_apply, val_main_v47_apply, val_main_v46_apply]
  rw [Finset.sum_congr rfl fun k _ => by
    rw [ref_v hv (lidx_main_v46 (idx_main_v47 (idx_main_v48 i)) k), ref_wt hq hk (ridx_main_v46 (idx_main_v47 (idx_main_v48 i)) k), mul_comm]]
  obtain ⟨e0, e1, e2⟩ := join_narrow (i 0).val (i 1).val (i 1).isLt
  have e := coe_sum_mul (N := 8192)
    (fun s => wt (hd 256 fq (((i 0).val * 512 + (i 1).val) / 128 % 4)) (hd 256 fk (((i 0).val * 512 + (i 1).val) / 128 % 4)) (((i 0).val * 512 + (i 1).val) / 512) s)
    (fun s => hd 128 fv (((i 0).val * 512 + (i 1).val) / 128 % 4) s (((i 0).val * 512 + (i 1).val) % 128))
  refine Eq.trans e ?_
  rw [e0, e1, e2]
  rfl

include hq hk hd' in
/-- The values' gradient. -/
theorem ref_dv : Is2 (val_main_v73 (F := Ideal) A0 A1 A3 : S8192x512.Idx → EReal)
    (byHead 128 fun n => dvS (hd 256 fq n) (hd 256 fk n) (hd 128 fd n)) := by
  intro i
  rw [val_main_v73_apply, val_main_v53_apply, val_main_v52_apply]
  rw [Finset.sum_congr rfl fun k _ => by
    rw [ref_d hd' (lidx_main_v52 (idx_main_v53 (idx_main_v73 i)) k), ref_wt hq hk (ridx_main_v52 (idx_main_v53 (idx_main_v73 i)) k), mul_comm]]
  obtain ⟨e0, e1, e2⟩ := join_narrow (i 0).val (i 1).val (i 1).isLt
  have e := coe_sum_mul (N := 8192)
    (fun t => wt (hd 256 fq (((i 0).val * 512 + (i 1).val) / 128 % 4)) (hd 256 fk (((i 0).val * 512 + (i 1).val) / 128 % 4)) t (((i 0).val * 512 + (i 1).val) / 512))
    (fun t => hd 128 fd (((i 0).val * 512 + (i 1).val) / 128 % 4) t (((i 0).val * 512 + (i 1).val) % 128))
  refine Eq.trans e ?_
  rw [e0, e1, e2]
  rfl

include hv hd' in
/-- The gradient of the weights. -/
theorem ref_dw : Is3 (val_main_v51 (F := Ideal) A2 A3 : S4x8192x8192.Idx → EReal) (fun h t s => dw (hd 128 fv h) (hd 128 fd h) t s) := by
  intro i
  rw [val_main_v51_apply]
  rw [Finset.sum_congr rfl fun k _ => by rw [ref_d hd' (lidx_main_v51 i k), ref_v hv (ridx_main_v51 i k)]]
  exact coe_sum_mul (N := 128) (fun e => hd 128 fd (i 0).val (i 1).val e) (fun e => hd 128 fv (i 0).val (i 2).val e)

include hq hk in
/-- The reciprocal of the squared sum. -/
theorem ref_inv (j : S4x8192x1.Idx) : val_main_v45 (F := Ideal) A0 A1 j
    = ((1 / (lref A0 A1 fq fk (j 0).val (j 1).val * lref A0 A1 fq fk (j 0).val (j 1).val) : ℝ) : EReal) := by
  rw [val_main_v45_apply, val_main_v44_apply, val_main_cst_11_apply, val_main_v43_apply, val_main_v40_apply, ref_l hq hk _, ofBits_one, mul_coe]
  exact host_div (mul_pos (lref_pos _ _) (lref_pos _ _))

include hq hk hv hd'

/-- The weighted sum of the weights' gradients, over the row's sum. -/
theorem ref_del : Is2 (val_main_v57 (F := Ideal) A0 A1 A2 A3 : S4x8192.Idx → EReal)
    (fun h t => del (hd 256 fq h) (hd 256 fk h) (hd 128 fv h) (hd 128 fd h) t / lref A0 A1 fq fk h t) := by
  intro i
  have hs : ∀ k : Fin 8192, val_main_v56 (F := Ideal) A0 A1 A2 A3 (idx_main_v57 i k)
      = ((wt (hd 256 fq (i 0).val) (hd 256 fk (i 0).val) (i 1).val k.val * dw (hd 128 fv (i 0).val) (hd 128 fd (i 0).val) (i 1).val k.val
        / lref A0 A1 fq fk (i 0).val (i 1).val : ℝ) : EReal) := fun k => by
    rw [val_main_v56_apply, val_main_v55_apply, val_main_v54_apply, ref_inv hq hk, ref_e hq hk _, ref_dw hv hd' _, mul_coe, mul_coe]
    refine congrArg Real.toEReal ?_
    show dw (hd 128 fv (i 0).val) (hd 128 fd (i 0).val) (i 1).val k.val
        * (1 / (lref A0 A1 fq fk (i 0).val (i 1).val * lref A0 A1 fq fk (i 0).val (i 1).val))
        * (ew (hd 256 fq (i 0).val) (hd 256 fk (i 0).val) (i 1).val k.val * Real.exp (-mref A0 A1 (i 0).val (i 1).val)) = _
    rw [← e_div_l (A0 := A0) (A1 := A1)]
    have := (lref_pos (A0 := A0) (A1 := A1) (fq := fq) (fk := fk) (i 0).val (i 1).val).ne'
    field_simp
  rw [val_main_v57_apply, val_main_cst_12_apply, ofBits_zero, Finset.sum_congr rfl fun k _ => hs k]
  have e := Sb.coe_sum (N := 8192) (fun s => wt (hd 256 fq (i 0).val) (hd 256 fk (i 0).val) (i 1).val s
    * dw (hd 128 fv (i 0).val) (hd 128 fd (i 0).val) (i 1).val s / lref A0 A1 fq fk (i 0).val (i 1).val)
  refine Eq.trans (congrArg (fun x : EReal => ((0 : ℝ) : EReal) + x) e) ?_
  rw [← EReal.coe_add, zero_add, ← sum_div]
  rfl

/-- The same, negated. -/
theorem ref_neg : Is2 (val_main_v62 (F := Ideal) A0 A1 A2 A3 : S4x8192.Idx → EReal)
    (fun h t => -(del (hd 256 fq h) (hd 256 fk h) (hd 128 fv h) (hd 128 fd h) t / lref A0 A1 fq fk h t)) := by
  intro i
  rw [val_main_v62_apply, val_main_cst_13_apply, ofBits_zero, Fin.sum_univ_one, val_main_v59_apply, val_main_v58_apply, ref_del hq hk hv hd' _, host_neg,
    ← EReal.coe_add, zero_add]
  have h1 : (i 1).val < 8192 := (i 1).isLt
  have e0 : (((i 0).val * 8192 + (i 1).val) * 1 + 0) / 8192 = (i 0).val := by omega
  have e1 : (((i 0).val * 8192 + (i 1).val) * 1 + 0) % 8192 = (i 1).val := by omega
  show ((-(del (hd 256 fq ((((i 0).val * 8192 + (i 1).val) * 1 + 0) / 8192)) (hd 256 fk ((((i 0).val * 8192 + (i 1).val) * 1 + 0) / 8192))
    (hd 128 fv ((((i 0).val * 8192 + (i 1).val) * 1 + 0) / 8192)) (hd 128 fd ((((i 0).val * 8192 + (i 1).val) * 1 + 0) / 8192))
    ((((i 0).val * 8192 + (i 1).val) * 1 + 0) % 8192)
    / lref A0 A1 fq fk ((((i 0).val * 8192 + (i 1).val) * 1 + 0) / 8192) ((((i 0).val * 8192 + (i 1).val) * 1 + 0) % 8192)) : ℝ) : EReal) = _
  rw [e0, e1]

/-- The gradient of the unscaled scores. -/
theorem ref_ds : Is3 (val_main_v68 (F := Ideal) A0 A1 A2 A3 : S4x8192x8192.Idx → EReal)
    (fun h t s => ds (hd 256 fq h) (hd 256 fk h) (hd 128 fv h) (hd 128 fd h) t s) := by
  intro i
  have hw : val_main_v65 (F := Ideal) A0 A1 A2 A3 i = ((wt (hd 256 fq (i 0).val) (hd 256 fk (i 0).val) (i 1).val (i 2).val
      * (dw (hd 128 fv (i 0).val) (hd 128 fd (i 0).val) (i 1).val (i 2).val
        - del (hd 256 fq (i 0).val) (hd 256 fk (i 0).val) (hd 128 fv (i 0).val) (hd 128 fd (i 0).val) (i 1).val) : ℝ) : EReal) := by
    rw [val_main_v65_apply, val_main_v64_apply, val_main_v63_apply, val_main_v61_apply, val_main_v60_apply, val_main_v40_apply, ref_e hq hk i,
      ref_neg hq hk hv hd' _, ref_dw hv hd' i, ref_l hq hk _, host_div (lref_pos _ _), add_coe, mul_coe]
    refine congrArg Real.toEReal ?_
    show (dw (hd 128 fv (i 0).val) (hd 128 fd (i 0).val) (i 1).val (i 2).val / lref A0 A1 fq fk (i 0).val (i 1).val
        + -(del (hd 256 fq (i 0).val) (hd 256 fk (i 0).val) (hd 128 fv (i 0).val) (hd 128 fd (i 0).val) (i 1).val / lref A0 A1 fq fk (i 0).val (i 1).val))
        * (ew (hd 256 fq (i 0).val) (hd 256 fk (i 0).val) (i 1).val (i 2).val * Real.exp (-mref A0 A1 (i 0).val (i 1).val)) = _
    rw [← e_div_l (A0 := A0) (A1 := A1) _ _ (i 2).val]
    ring
  rw [val_main_v68_apply, val_main_v67_apply, val_main_cst_14_apply, ofBits_scale, val_main_v66_apply, ref_sees, select_if, hw,
    val_main_call1_v0_apply, val_main_call1_cst_apply, ofBits_zero]
  by_cases h : Sees (i 1).val (i 2).val
  · rw [if_pos h, mul_coe]; rfl
  · rw [if_neg h, mul_coe, zero_mul]; exact congrArg Real.toEReal (ds_unseen h).symm

theorem ref_dq : Is2 (val_main_v75 (F := Ideal) A0 A1 A2 A3 : S8192x1024.Idx → EReal)
    (byHead 256 fun n => dqS (hd 256 fq n) (hd 256 fk n) (hd 128 fv n) (hd 128 fd n)) := by
  intro i
  rw [val_main_v75_apply, val_main_v72_apply, val_main_v71_apply]
  rw [Finset.sum_congr rfl fun k _ => by rw [ref_ds hq hk hv hd' (lidx_main_v71 (idx_main_v72 (idx_main_v75 i)) k), ref_k hk (ridx_main_v71 (idx_main_v72 (idx_main_v75 i)) k)]]
  obtain ⟨e0, e1, e2⟩ := join_wide (i 0).val (i 1).val (i 1).isLt
  have e := coe_sum_mul (N := 8192)
    (fun s => ds (hd 256 fq (((i 0).val * 1024 + (i 1).val) / 256 % 4)) (hd 256 fk (((i 0).val * 1024 + (i 1).val) / 256 % 4))
      (hd 128 fv (((i 0).val * 1024 + (i 1).val) / 256 % 4)) (hd 128 fd (((i 0).val * 1024 + (i 1).val) / 256 % 4)) (((i 0).val * 1024 + (i 1).val) / 1024) s)
    (fun s => hd 256 fk (((i 0).val * 1024 + (i 1).val) / 256 % 4) s (((i 0).val * 1024 + (i 1).val) % 256))
  refine Eq.trans e ?_
  rw [e0, e1, e2]
  rfl

theorem ref_dk : Is2 (val_main_v74 (F := Ideal) A0 A1 A2 A3 : S8192x1024.Idx → EReal)
    (byHead 256 fun n => dkS (hd 256 fq n) (hd 256 fk n) (hd 128 fv n) (hd 128 fd n)) := by
  intro i
  rw [val_main_v74_apply, val_main_v70_apply, val_main_v69_apply]
  rw [Finset.sum_congr rfl fun k _ => by rw [ref_ds hq hk hv hd' (lidx_main_v69 (idx_main_v70 (idx_main_v74 i)) k), ref_q hq (ridx_main_v69 (idx_main_v70 (idx_main_v74 i)) k)]]
  obtain ⟨e0, e1, e2⟩ := join_wide (i 0).val (i 1).val (i 1).isLt
  have e := coe_sum_mul (N := 8192)
    (fun t => ds (hd 256 fq (((i 0).val * 1024 + (i 1).val) / 256 % 4)) (hd 256 fk (((i 0).val * 1024 + (i 1).val) / 256 % 4))
      (hd 128 fv (((i 0).val * 1024 + (i 1).val) / 256 % 4)) (hd 128 fd (((i 0).val * 1024 + (i 1).val) / 256 % 4)) t (((i 0).val * 1024 + (i 1).val) / 1024))
    (fun t => hd 256 fq (((i 0).val * 1024 + (i 1).val) / 256 % 4) t (((i 0).val * 1024 + (i 1).val) % 256))
  refine Eq.trans e ?_
  rw [e0, e1, e2]
  rfl

end Cert.Proof.Mla

end
-- ==== Proof.Mla.Value.Algebraic.lean ====
/-
  The equation: of finite arguments, the latent-attention kernel's four results and the reference's are the same arrays.
-/
module

public import proofs.«01_k».proof.Defs
public import proofs.«01_k».proof.Proof.Mla.Value.Arrays
public import proofs.«01_k».proof.Proof.Mla.Value.RefGrads
public import proofs.«01_k».proof.Proof.Mla.Run
public import proofs.«01_k».proof.Proof.Value.Algebraic
public import proofs.«01_k».proof.Proof.Gen.Pre_finite17

@[expose] public section

set_option maxRecDepth 16384

noncomputable section

namespace Cert.Proof.Mla

open Cert.Proof.Sb
open Idealize.ShloMosaic Idealize.ShloMosaic.TcCoe Idealize.SL.Sem Finset

/-- An array all of whose entries are finite holds real numbers. -/
theorem exists_reals {a b : ℕ} [NeZero a] [NeZero b] (X : (⟨2, ![a, b]⟩ : Shape).Idx → EReal)
    (h : ∀ i, BitVec.ofBool (decide (max (X i) (-(X i)) < ⊤)) = 1#1) : ∃ f, Is2 X f := by
  refine ⟨fun t n => (X fun x => match x with
    | ⟨0, _⟩ => (Fin.ofNat a t : Fin a)
    | ⟨1, _⟩ => (Fin.ofNat b n : Fin b)).toReal, fun i => (real_of_finite (h i)).trans ?_⟩
  refine congrArg (fun j => ((X j).toReal : EReal)) (funext fun x => ?_)
  match x with
  | ⟨0, _⟩ => exact Fin.ext (Nat.mod_eq_of_lt (i 0).isLt).symm
  | ⟨1, _⟩ => exact Fin.ext (Nat.mod_eq_of_lt (i 1).isLt).symm

/-- The precondition's comparison at an entry of the queries or keys. -/
theorem finite_wide (A : Wide) (h : (cmpf .olt (Host.absf (extf .f32 A Cert.Pre_finite17.Gen.bitsLt_bf16_f32))
    (broadcastInDim Cert.Pre_finite17.S8192x1024 ![] Cert.Pre_finite17.Gen.bcast_S_S8192x1024 (constant (F := Ideal) Cert.Pre_finite17.S_ .f32 0x7F800000#32))) = fun _ => 1#1)
    (i : Cert.Reference17Ideal.S8192x1024.Idx) : BitVec.ofBool (decide (max (A i : EReal) (-(A i : EReal)) < ⊤)) = 1#1 := by
  have e : BitVec.ofBool (decide (max (A i : EReal) (-(A i : EReal)) < (FloatOps.ofBits .f32 0x7F800000#32 : Ideal .f32))) = 1#1 := congrFun h i
  rw [ofBits_top] at e
  exact e

/-- Finite arguments hold real numbers. -/
theorem args_of_finite {m : (ℓ : Loc Cert.Kernel17Ideal.nD Cert.Kernel17Ideal.τ Cert.Kernel17Ideal.sig) → Buf (Elt Ideal) ℓ}
    (hp : Cert.Pre_Kernel17Ideal_finite17 m) (c : Dev Cert.Kernel17Ideal.nD) : ∃ fq fk fv fd, Args m c fq fk fv fd := by
  obtain ⟨fq, hq⟩ := exists_reals (a := 8192) (b := 1024) _ (finite_wide _ (hp c).1)
  obtain ⟨fk, hk⟩ := exists_reals (a := 8192) (b := 1024) _ (finite_wide _ (hp c).2.1)
  obtain ⟨fv, hv⟩ := exists_reals (a := 8192) (b := 512) _ (finite_at _ (hp c).2.2.1)
  obtain ⟨fd, hd'⟩ := exists_reals (a := 8192) (b := 512) _ (finite_at _ (hp c).2.2.2)
  exact ⟨fq, fk, fv, fd, hq, hk, hv, hd'⟩

/-- The kernel's ideal program and the reference compute the same three gradients and the same output of finite arguments. -/
theorem algebraic : Cert.algebraic_Kernel17Ideal_Reference17Ideal_pre_finite17 := by
  intro m g m' g' hp hm
  refine ⟨fun c => W4 m c (Proc.devRef .tc Cert.Kernel17Ideal.main_v1_0), fun c => W4 m c (Proc.devRef .tc Cert.Kernel17Ideal.main_v1_1),
    fun c => W4 m c (Proc.devRef .tc Cert.Kernel17Ideal.main_v1_2), fun c => W4 m c (Proc.devRef .tc Cert.Kernel17Ideal.main_v0_0), ?_, ?_⟩
  · exact (θ_run _ _ _).mono (fun _ h c =>
      ⟨h.1 c _ (mem_uc Cert.Kernel17Ideal.main_v1_0 rfl), h.1 c _ (mem_uc Cert.Kernel17Ideal.main_v1_1 rfl), h.1 c _ (mem_uc Cert.Kernel17Ideal.main_v1_2 rfl),
       h.1 c _ (mem_uc Cert.Kernel17Ideal.main_v0_0 rfl),
       (h.1 c _ (mem_uc Cert.Kernel17Ideal.main_arg0 rfl)).trans (W4_arg m c Cert.Kernel17Ideal.main_arg0 (by decide) (by decide)),
       (h.1 c _ (mem_uc Cert.Kernel17Ideal.main_arg1 rfl)).trans (W4_arg m c Cert.Kernel17Ideal.main_arg1 (by decide) (by decide)),
       (h.1 c _ (mem_uc Cert.Kernel17Ideal.main_arg2 rfl)).trans (W4_arg m c Cert.Kernel17Ideal.main_arg2 (by decide) (by decide)),
       (h.1 c _ (mem_uc Cert.Kernel17Ideal.main_arg3 rfl)).trans (W4_arg m c Cert.Kernel17Ideal.main_arg3 (by decide) (by decide))⟩)
      (run_main m g)
  · refine (θ_run _ _ _).mono (fun _ h c => ?_) (Cert.Reference17Ideal.Value.run (F := Ideal) m' g')
    obtain ⟨h75, h74, h73, h48, k0, k1, k2, k3⟩ := h c
    obtain ⟨e0, e1, e2, e3⟩ := hm c
    obtain ⟨fq, fk, fv, fd, a⟩ := args_of_finite hp c
    refine ⟨h75.trans ?_, h74.trans ?_, h73.trans ?_, h48.trans ?_, k0, k1, k2, k3⟩
    · rw [Cert.Reference17Ideal.Read.val_main_v75_eq, e0, e1, e2, e3]
      exact eq_of_is2 (ref_dq a.q a.k a.v a.d) (dq_val a)
    · rw [Cert.Reference17Ideal.Read.val_main_v74_eq, e0, e1, e2, e3]
      exact eq_of_is2 (ref_dk a.q a.k a.v a.d) (dk_val a)
    · rw [Cert.Reference17Ideal.Read.val_main_v73_eq, e0, e1, e3]
      exact eq_of_is2 (ref_dv a.q a.k a.d) (dv_val a)
    · rw [Cert.Reference17Ideal.Read.val_main_v48_eq, e0, e1, e2]
      exact eq_of_is2 (ref_o a.q a.k a.v) (o_val a)

end Cert.Proof.Mla

end
-- ==== Proof.lean ====
module

public import proofs.«01_k».proof.Defs
public import proofs.«01_k».proof.Proof.Ffn.Da
public import proofs.«01_k».proof.Proof.Ffn.Dwin
public import proofs.«01_k».proof.Proof.Ffn.Dh
public import proofs.«01_k».proof.Proof.Ffn.Dwout
public import proofs.«01_k».proof.Proof.Mix.Dwin
public import proofs.«01_k».proof.Proof.Mix.Dh
public import proofs.«01_k».proof.Proof.Mix.Dwout
public import proofs.«01_k».proof.Proof.Mix.Dmerged
public import proofs.«01_k».proof.Proof.Mix.Dwbranch
public import proofs.«01_k».proof.Proof.Mix.Dbranch
public import proofs.«01_k».proof.Proof.Ffn.In
public import proofs.«01_k».proof.Proof.Ffn.Out
public import proofs.«01_k».proof.Proof.Mix.In
public import proofs.«01_k».proof.Proof.Mix.Out
public import proofs.«01_k».proof.Proof.Mix.Branch
public import proofs.«01_k».proof.Proof.Frames
public import proofs.«01_k».proof.Proof.RefFrame
public import proofs.«01_k».proof.Proof.Value.Algebraic
public import proofs.«01_k».proof.Proof.Adam
public import proofs.«01_k».proof.Proof.Gates.Swiglu
public import proofs.«01_k».proof.Proof.Gates.DSwiglu
public import proofs.«01_k».proof.Proof.Gates.Merge
public import proofs.«01_k».proof.Proof.Gates.DMerge
public import proofs.«01_k».proof.Proof.Mla.Frames
public import proofs.«01_k».proof.Proof.Mla.Value.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Pre_finite
public import proofs.«01_k».proof.Proof.Gen.Kernel17
public import proofs.«01_k».proof.Proof.Gen.Kernel17Ideal
public import proofs.«01_k».proof.Proof.Gen.Reference17Ideal
public import proofs.«01_k».proof.Proof.Gen.Reference17Ideal.Read
public import proofs.«01_k».proof.Proof.Gen.Pre_finite17

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Pre_finite.Gen.facts, Cert.Pre_finite17.Gen.facts,
  frame_kernel, frame_kernelIdeal, fun m ρ _ => frame_kernelIdeal m ρ trivial, frame_reference, fun m ρ _ => frame_reference m ρ trivial,
  fun m ρ _ => Cert.Kernel2.Gen.frame m ρ, fun m ρ _ => Cert.Kernel2Ideal.Gen.frame m ρ, Ffn.Da.frame_reference,
  fun m ρ _ => Cert.Kernel3.Gen.frame m ρ, fun m ρ _ => Cert.Kernel3Ideal.Gen.frame m ρ, Ffn.Dwin.frame_reference,
  fun m ρ _ => Cert.Kernel4.Gen.frame m ρ, fun m ρ _ => Cert.Kernel4Ideal.Gen.frame m ρ, Ffn.Dh.frame_reference,
  fun m ρ _ => Cert.Kernel5.Gen.frame m ρ, fun m ρ _ => Cert.Kernel5Ideal.Gen.frame m ρ, Ffn.Dwout.frame_reference,
  fun m ρ _ => Cert.Kernel6.Gen.frame m ρ, fun m ρ _ => Cert.Kernel6Ideal.Gen.frame m ρ, Mix.Dwin.frame_reference,
  fun m ρ _ => Cert.Kernel7.Gen.frame m ρ, fun m ρ _ => Cert.Kernel7Ideal.Gen.frame m ρ, Mix.Dh.frame_reference,
  fun m ρ _ => Cert.Kernel8.Gen.frame m ρ, fun m ρ _ => Cert.Kernel8Ideal.Gen.frame m ρ, Mix.Dwout.frame_reference,
  fun m ρ _ => Cert.Kernel9.Gen.frame m ρ, fun m ρ _ => Cert.Kernel9Ideal.Gen.frame m ρ, Mix.Dmerged.frame_reference,
  fun m ρ _ => Cert.Kernel10.Gen.frame m ρ, fun m ρ _ => Cert.Kernel10Ideal.Gen.frame m ρ, Mix.Dwbranch.frame_reference,
  fun m ρ _ => Cert.Kernel11.Gen.frame m ρ, fun m ρ _ => Cert.Kernel11Ideal.Gen.frame m ρ, Mix.Dbranch.frame_reference,
  fun m ρ _ => Cert.Kernel12.Gen.frame m ρ, fun m ρ _ => Cert.Kernel12Ideal.Gen.frame m ρ, Ffn.In.frame_reference,
  fun m ρ _ => Cert.Kernel13.Gen.frame m ρ, fun m ρ _ => Cert.Kernel13Ideal.Gen.frame m ρ, Ffn.Out.frame_reference,
  fun m ρ _ => Cert.Kernel14.Gen.frame m ρ, fun m ρ _ => Cert.Kernel14Ideal.Gen.frame m ρ, Mix.In.frame_reference,
  fun m ρ _ => Cert.Kernel15.Gen.frame m ρ, fun m ρ _ => Cert.Kernel15Ideal.Gen.frame m ρ, Mix.Out.frame_reference,
  fun m ρ _ => Cert.Kernel16.Gen.frame m ρ, fun m ρ _ => Cert.Kernel16Ideal.Gen.frame m ρ, Mix.Branch.frame_reference,
  Mla.frame_kernel, Mla.frame_kernelIdeal, fun m ρ _ => Mla.frame_kernelIdeal m ρ trivial, Mla.frame_reference, fun m ρ _ => Mla.frame_reference m ρ trivial,
  fun m ρ _ => Cert.Kernel18.Gen.frame m ρ, fun m ρ _ => Cert.Kernel18Ideal.Gen.frame m ρ, Adam.FfnIn.frame_reference,
  fun m ρ _ => Cert.Kernel19.Gen.frame m ρ, fun m ρ _ => Cert.Kernel19Ideal.Gen.frame m ρ, Adam.FfnOut.frame_reference,
  fun m ρ _ => Cert.Kernel20.Gen.frame m ρ, fun m ρ _ => Cert.Kernel20Ideal.Gen.frame m ρ, Adam.MixIn.frame_reference,
  fun m ρ _ => Cert.Kernel21.Gen.frame m ρ, fun m ρ _ => Cert.Kernel21Ideal.Gen.frame m ρ, Adam.Conv.frame_reference,
  fun m ρ _ => Cert.Kernel22.Gen.frame m ρ, fun m ρ _ => Cert.Kernel22Ideal.Gen.frame m ρ, Adam.UpQ.frame_reference,
  fun m ρ _ => Cert.Kernel23.Gen.frame m ρ, fun m ρ _ => Cert.Kernel23Ideal.Gen.frame m ρ, Adam.UpKv.frame_reference,
  fun m ρ _ => Cert.Kernel24.Gen.frame m ρ, fun m ρ _ => Cert.Kernel24Ideal.Gen.frame m ρ, Adam.MixOut.frame_reference,
  fun m ρ _ => Cert.Kernel25.Gen.frame m ρ, fun m ρ _ => Cert.Kernel25Ideal.Gen.frame m ρ, Adam.Branch.frame_reference,
  fun m ρ _ => Cert.Kernel26.Gen.frame m ρ, fun m ρ _ => Cert.Kernel26Ideal.Gen.frame m ρ, Adam.Small.frame_reference,
  fun m ρ _ => Cert.Kernel27.Gen.frame m ρ, fun m ρ _ => Cert.Kernel27Ideal.Gen.frame m ρ, Gates.Swiglu.frame_reference,
  fun m ρ _ => Cert.Kernel28.Gen.frame m ρ, fun m ρ _ => Cert.Kernel28Ideal.Gen.frame m ρ, Gates.DSwiglu.frame_reference,
  fun m ρ _ => Cert.Kernel29.Gen.frame m ρ, fun m ρ _ => Cert.Kernel29Ideal.Gen.frame m ρ, Gates.Merge.frame_reference,
  fun m ρ _ => Cert.Kernel30.Gen.frame m ρ, fun m ρ _ => Cert.Kernel30Ideal.Gen.frame m ρ, Gates.DMerge.frame_reference,
  preserves, Sb.algebraic,
  trivial, Ffn.Da.algebraic,
  trivial, Ffn.Dwin.algebraic,
  trivial, Ffn.Dh.algebraic,
  trivial, Ffn.Dwout.algebraic,
  trivial, Mix.Dwin.algebraic,
  trivial, Mix.Dh.algebraic,
  trivial, Mix.Dwout.algebraic,
  trivial, Mix.Dmerged.algebraic,
  trivial, Mix.Dwbranch.algebraic,
  trivial, Mix.Dbranch.algebraic,
  trivial, Ffn.In.algebraic,
  trivial, Ffn.Out.algebraic,
  trivial, Mix.In.algebraic,
  trivial, Mix.Out.algebraic,
  trivial, Mix.Branch.algebraic,
  Mla.preserves, Mla.algebraic,
  trivial, Adam.FfnIn.algebraic,
  trivial, Adam.FfnOut.algebraic,
  trivial, Adam.MixIn.algebraic,
  trivial, Adam.Conv.algebraic,
  trivial, Adam.UpQ.algebraic,
  trivial, Adam.UpKv.algebraic,
  trivial, Adam.MixOut.algebraic,
  trivial, Adam.Branch.algebraic,
  trivial, Adam.Small.algebraic,
  trivial, Gates.Swiglu.algebraic,
  trivial, Gates.DSwiglu.algebraic,
  trivial, Gates.Merge.algebraic,
  trivial, Gates.DMerge.algebraic⟩

end Cert.Proof

end
